-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_weights [hPre_finite_weights : Cert.Pre_finite_weights.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_weights.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_weights [hPre_finite_weights : Cert.Pre_finite_weights.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_weights.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_weights5 [hPre_finite_weights5 : Cert.Pre_finite_weights5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_weights5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_weights5 [hPre_finite_weights5 : Cert.Pre_finite_weights5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_weights5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_weights6 [hPre_finite_weights6 : Cert.Pre_finite_weights6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_weights6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_weights6 [hPre_finite_weights6 : Cert.Pre_finite_weights6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_weights6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_weights8 [hPre_finite_weights8 : Cert.Pre_finite_weights8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_weights8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_weights8 [hPre_finite_weights8 : Cert.Pre_finite_weights8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_weights8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite_weights9 [hPre_finite_weights9 : Cert.Pre_finite_weights9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite_weights9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite_weights9 [hPre_finite_weights9 : Cert.Pre_finite_weights9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite_weights9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite_weights [hKernel2Ideal : Cert.Kernel2Ideal.Facts] [hPre_finite_weights : Cert.Pre_finite_weights.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_weights m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite_weights [hReference2Ideal : Cert.Reference2Ideal.Facts] [hPre_finite_weights : Cert.Pre_finite_weights.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_weights m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16)
      ∧ r.2.mem ((c.tc : Thread Cert.Kernel3.nD Cert.Kernel3.τ).loc Cert.Kernel3.main_arg17) = m ((c.tc : Thread Cert.Kernel3.nD Cert.Kernel3.τ).loc Cert.Kernel3.main_arg17))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
      ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16)
      ∧ r.2.mem ((c.tc : Thread Cert.Reference3Ideal.nD Cert.Reference3Ideal.τ).loc Cert.Reference3Ideal.main_arg17) = m ((c.tc : Thread Cert.Reference3Ideal.nD Cert.Reference3Ideal.τ).loc Cert.Reference3Ideal.main_arg17))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite_weights5 [hKernel5Ideal : Cert.Kernel5Ideal.Facts] [hPre_finite_weights5 : Cert.Pre_finite_weights5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_weights5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite_weights5 [hReference5Ideal : Cert.Reference5Ideal.Facts] [hPre_finite_weights5 : Cert.Pre_finite_weights5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_weights5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite_weights6 [hKernel6Ideal : Cert.Kernel6Ideal.Facts] [hPre_finite_weights6 : Cert.Pre_finite_weights6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_weights6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite_weights6 [hReference6Ideal : Cert.Reference6Ideal.Facts] [hPre_finite_weights6 : Cert.Pre_finite_weights6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_weights6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13)
      ∧ r.2.mem ((c.tc : Thread Cert.Kernel7.nD Cert.Kernel7.τ).loc Cert.Kernel7.main_arg14) = m ((c.tc : Thread Cert.Kernel7.nD Cert.Kernel7.τ).loc Cert.Kernel7.main_arg14)
      ∧ r.2.mem ((c.tc : Thread Cert.Kernel7.nD Cert.Kernel7.τ).loc Cert.Kernel7.main_arg15) = m ((c.tc : Thread Cert.Kernel7.nD Cert.Kernel7.τ).loc Cert.Kernel7.main_arg15)
      ∧ r.2.mem ((c.tc : Thread Cert.Kernel7.nD Cert.Kernel7.τ).loc Cert.Kernel7.main_arg16) = m ((c.tc : Thread Cert.Kernel7.nD Cert.Kernel7.τ).loc Cert.Kernel7.main_arg16)
      ∧ r.2.mem ((c.tc : Thread Cert.Kernel7.nD Cert.Kernel7.τ).loc Cert.Kernel7.main_arg17) = m ((c.tc : Thread Cert.Kernel7.nD Cert.Kernel7.τ).loc Cert.Kernel7.main_arg17))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
      ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
      ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15)
      ∧ r.2.mem ((c.tc : Thread Cert.Kernel7Ideal.nD Cert.Kernel7Ideal.τ).loc Cert.Kernel7Ideal.main_arg16) = m ((c.tc : Thread Cert.Kernel7Ideal.nD Cert.Kernel7Ideal.τ).loc Cert.Kernel7Ideal.main_arg16)
      ∧ r.2.mem ((c.tc : Thread Cert.Kernel7Ideal.nD Cert.Kernel7Ideal.τ).loc Cert.Kernel7Ideal.main_arg17) = m ((c.tc : Thread Cert.Kernel7Ideal.nD Cert.Kernel7Ideal.τ).loc Cert.Kernel7Ideal.main_arg17))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13)
      ∧ r.2.mem ((c.tc : Thread Cert.Reference7Ideal.nD Cert.Reference7Ideal.τ).loc Cert.Reference7Ideal.main_arg14) = m ((c.tc : Thread Cert.Reference7Ideal.nD Cert.Reference7Ideal.τ).loc Cert.Reference7Ideal.main_arg14)
      ∧ r.2.mem ((c.tc : Thread Cert.Reference7Ideal.nD Cert.Reference7Ideal.τ).loc Cert.Reference7Ideal.main_arg15) = m ((c.tc : Thread Cert.Reference7Ideal.nD Cert.Reference7Ideal.τ).loc Cert.Reference7Ideal.main_arg15)
      ∧ r.2.mem ((c.tc : Thread Cert.Reference7Ideal.nD Cert.Reference7Ideal.τ).loc Cert.Reference7Ideal.main_arg16) = m ((c.tc : Thread Cert.Reference7Ideal.nD Cert.Reference7Ideal.τ).loc Cert.Reference7Ideal.main_arg16)
      ∧ r.2.mem ((c.tc : Thread Cert.Reference7Ideal.nD Cert.Reference7Ideal.τ).loc Cert.Reference7Ideal.main_arg17) = m ((c.tc : Thread Cert.Reference7Ideal.nD Cert.Reference7Ideal.τ).loc Cert.Reference7Ideal.main_arg17))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_finite_weights8 [hKernel8Ideal : Cert.Kernel8Ideal.Facts] [hPre_finite_weights8 : Cert.Pre_finite_weights8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_weights8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_finite_weights8 [hReference8Ideal : Cert.Reference8Ideal.Facts] [hPre_finite_weights8 : Cert.Pre_finite_weights8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_weights8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Kernel9Ideal_pre_finite_weights9 [hKernel9Ideal : Cert.Kernel9Ideal.Facts] [hPre_finite_weights9 : Cert.Pre_finite_weights9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite_weights9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Reference9Ideal_pre_finite_weights9 [hReference9Ideal : Cert.Reference9Ideal.Facts] [hPre_finite_weights9 : Cert.Pre_finite_weights9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite_weights9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_v47) = v3 c
          ∧ r.2.mem ((c.tc : Thread Cert.ReferenceIdeal.nD Cert.ReferenceIdeal.τ).loc Cert.ReferenceIdeal.main_v50) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite_weights [hKernel2Ideal : Cert.Kernel2Ideal.Facts] [hReference2Ideal : Cert.Reference2Ideal.Facts] [hPre_finite_weights : Cert.Pre_finite_weights.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_weights m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v31_0)) (v1 : (c : Dev Cert.Kernel2Ideal.nD) → Buf (Elt Ideal) ((c.tc : Thread Cert.Kernel2Ideal.nD Cert.Kernel2Ideal.τ).loc Cert.Kernel2Ideal.main_v31_1)) (v2 : (c : Dev Cert.Kernel2Ideal.nD) → Buf (Elt Ideal) ((c.tc : Thread Cert.Kernel2Ideal.nD Cert.Kernel2Ideal.τ).loc Cert.Kernel2Ideal.main_v31_2)) (v3 : (c : Dev Cert.Kernel2Ideal.nD) → Buf (Elt Ideal) ((c.tc : Thread Cert.Kernel2Ideal.nD Cert.Kernel2Ideal.τ).loc Cert.Kernel2Ideal.main_v31_5)) (v4 : (c : Dev Cert.Kernel2Ideal.nD) → Buf (Elt Ideal) ((c.tc : Thread Cert.Kernel2Ideal.nD Cert.Kernel2Ideal.τ).loc Cert.Kernel2Ideal.main_v38)) (v5 : (c : Dev Cert.Kernel2Ideal.nD) → Buf (Elt Ideal) ((c.tc : Thread Cert.Kernel2Ideal.nD Cert.Kernel2Ideal.τ).loc Cert.Kernel2Ideal.main_v45)) (v6 : (c : Dev Cert.Kernel2Ideal.nD) → Buf (Elt Ideal) ((c.tc : Thread Cert.Kernel2Ideal.nD Cert.Kernel2Ideal.τ).loc Cert.Kernel2Ideal.main_v52)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v31_0) = v0 c
          ∧ r.2.mem ((c.tc : Thread Cert.Kernel2Ideal.nD Cert.Kernel2Ideal.τ).loc Cert.Kernel2Ideal.main_v31_1) = v1 c
          ∧ r.2.mem ((c.tc : Thread Cert.Kernel2Ideal.nD Cert.Kernel2Ideal.τ).loc Cert.Kernel2Ideal.main_v31_2) = v2 c
          ∧ r.2.mem ((c.tc : Thread Cert.Kernel2Ideal.nD Cert.Kernel2Ideal.τ).loc Cert.Kernel2Ideal.main_v31_5) = v3 c
          ∧ r.2.mem ((c.tc : Thread Cert.Kernel2Ideal.nD Cert.Kernel2Ideal.τ).loc Cert.Kernel2Ideal.main_v38) = v4 c
          ∧ r.2.mem ((c.tc : Thread Cert.Kernel2Ideal.nD Cert.Kernel2Ideal.τ).loc Cert.Kernel2Ideal.main_v45) = v5 c
          ∧ r.2.mem ((c.tc : Thread Cert.Kernel2Ideal.nD Cert.Kernel2Ideal.τ).loc Cert.Kernel2Ideal.main_v52) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v132) = v0 c
          ∧ r.2.mem ((c.tc : Thread Cert.Reference2Ideal.nD Cert.Reference2Ideal.τ).loc Cert.Reference2Ideal.main_v133) = v1 c
          ∧ r.2.mem ((c.tc : Thread Cert.Reference2Ideal.nD Cert.Reference2Ideal.τ).loc Cert.Reference2Ideal.main_v134) = v2 c
          ∧ r.2.mem ((c.tc : Thread Cert.Reference2Ideal.nD Cert.Reference2Ideal.τ).loc Cert.Reference2Ideal.main_v136) = v3 c
          ∧ r.2.mem ((c.tc : Thread Cert.Reference2Ideal.nD Cert.Reference2Ideal.τ).loc Cert.Reference2Ideal.main_v113) = v4 c
          ∧ r.2.mem ((c.tc : Thread Cert.Reference2Ideal.nD Cert.Reference2Ideal.τ).loc Cert.Reference2Ideal.main_v121) = v5 c
          ∧ r.2.mem ((c.tc : Thread Cert.Reference2Ideal.nD Cert.Reference2Ideal.τ).loc Cert.Reference2Ideal.main_v129) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)
      ∧ m' ((c.tc : Thread Cert.Reference3Ideal.nD Cert.Reference3Ideal.τ).loc Cert.Reference3Ideal.main_arg17) = m ((c.tc : Thread Cert.Kernel3Ideal.nD Cert.Kernel3Ideal.τ).loc Cert.Kernel3Ideal.main_arg17)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
          ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16)
          ∧ r.2.mem ((c.tc : Thread Cert.Reference3Ideal.nD Cert.Reference3Ideal.τ).loc Cert.Reference3Ideal.main_arg17) = m' ((c.tc : Thread Cert.Reference3Ideal.nD Cert.Reference3Ideal.τ).loc Cert.Reference3Ideal.main_arg17))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_finite_weights5 [hKernel5Ideal : Cert.Kernel5Ideal.Facts] [hReference5Ideal : Cert.Reference5Ideal.Facts] [hPre_finite_weights5 : Cert.Pre_finite_weights5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_weights5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v31_0)) (v1 : (c : Dev Cert.Kernel5Ideal.nD) → Buf (Elt Ideal) ((c.tc : Thread Cert.Kernel5Ideal.nD Cert.Kernel5Ideal.τ).loc Cert.Kernel5Ideal.main_v31_1)) (v2 : (c : Dev Cert.Kernel5Ideal.nD) → Buf (Elt Ideal) ((c.tc : Thread Cert.Kernel5Ideal.nD Cert.Kernel5Ideal.τ).loc Cert.Kernel5Ideal.main_v31_2)) (v3 : (c : Dev Cert.Kernel5Ideal.nD) → Buf (Elt Ideal) ((c.tc : Thread Cert.Kernel5Ideal.nD Cert.Kernel5Ideal.τ).loc Cert.Kernel5Ideal.main_v31_5)) (v4 : (c : Dev Cert.Kernel5Ideal.nD) → Buf (Elt Ideal) ((c.tc : Thread Cert.Kernel5Ideal.nD Cert.Kernel5Ideal.τ).loc Cert.Kernel5Ideal.main_v31_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v31_0) = v0 c
          ∧ r.2.mem ((c.tc : Thread Cert.Kernel5Ideal.nD Cert.Kernel5Ideal.τ).loc Cert.Kernel5Ideal.main_v31_1) = v1 c
          ∧ r.2.mem ((c.tc : Thread Cert.Kernel5Ideal.nD Cert.Kernel5Ideal.τ).loc Cert.Kernel5Ideal.main_v31_2) = v2 c
          ∧ r.2.mem ((c.tc : Thread Cert.Kernel5Ideal.nD Cert.Kernel5Ideal.τ).loc Cert.Kernel5Ideal.main_v31_5) = v3 c
          ∧ r.2.mem ((c.tc : Thread Cert.Kernel5Ideal.nD Cert.Kernel5Ideal.τ).loc Cert.Kernel5Ideal.main_v31_6) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v107) = v0 c
          ∧ r.2.mem ((c.tc : Thread Cert.Reference5Ideal.nD Cert.Reference5Ideal.τ).loc Cert.Reference5Ideal.main_v108) = v1 c
          ∧ r.2.mem ((c.tc : Thread Cert.Reference5Ideal.nD Cert.Reference5Ideal.τ).loc Cert.Reference5Ideal.main_v109) = v2 c
          ∧ r.2.mem ((c.tc : Thread Cert.Reference5Ideal.nD Cert.Reference5Ideal.τ).loc Cert.Reference5Ideal.main_v111) = v3 c
          ∧ r.2.mem ((c.tc : Thread Cert.Reference5Ideal.nD Cert.Reference5Ideal.τ).loc Cert.Reference5Ideal.main_v116) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite_weights6 [hKernel6Ideal : Cert.Kernel6Ideal.Facts] [hReference6Ideal : Cert.Reference6Ideal.Facts] [hPre_finite_weights6 : Cert.Pre_finite_weights6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_weights6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v32_0)) (v1 : (c : Dev Cert.Kernel6Ideal.nD) → Buf (Elt Ideal) ((c.tc : Thread Cert.Kernel6Ideal.nD Cert.Kernel6Ideal.τ).loc Cert.Kernel6Ideal.main_v32_1)) (v2 : (c : Dev Cert.Kernel6Ideal.nD) → Buf (Elt Ideal) ((c.tc : Thread Cert.Kernel6Ideal.nD Cert.Kernel6Ideal.τ).loc Cert.Kernel6Ideal.main_v32_2)) (v3 : (c : Dev Cert.Kernel6Ideal.nD) → Buf (Elt Ideal) ((c.tc : Thread Cert.Kernel6Ideal.nD Cert.Kernel6Ideal.τ).loc Cert.Kernel6Ideal.main_v32_5)) (v4 : (c : Dev Cert.Kernel6Ideal.nD) → Buf (Elt Ideal) ((c.tc : Thread Cert.Kernel6Ideal.nD Cert.Kernel6Ideal.τ).loc Cert.Kernel6Ideal.main_v32_6)) (v5 : (c : Dev Cert.Kernel6Ideal.nD) → Buf (Elt Ideal) ((c.tc : Thread Cert.Kernel6Ideal.nD Cert.Kernel6Ideal.τ).loc Cert.Kernel6Ideal.main_v34)) (v6 : (c : Dev Cert.Kernel6Ideal.nD) → Buf (Elt Ideal) ((c.tc : Thread Cert.Kernel6Ideal.nD Cert.Kernel6Ideal.τ).loc Cert.Kernel6Ideal.main_v35)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v32_0) = v0 c
          ∧ r.2.mem ((c.tc : Thread Cert.Kernel6Ideal.nD Cert.Kernel6Ideal.τ).loc Cert.Kernel6Ideal.main_v32_1) = v1 c
          ∧ r.2.mem ((c.tc : Thread Cert.Kernel6Ideal.nD Cert.Kernel6Ideal.τ).loc Cert.Kernel6Ideal.main_v32_2) = v2 c
          ∧ r.2.mem ((c.tc : Thread Cert.Kernel6Ideal.nD Cert.Kernel6Ideal.τ).loc Cert.Kernel6Ideal.main_v32_5) = v3 c
          ∧ r.2.mem ((c.tc : Thread Cert.Kernel6Ideal.nD Cert.Kernel6Ideal.τ).loc Cert.Kernel6Ideal.main_v32_6) = v4 c
          ∧ r.2.mem ((c.tc : Thread Cert.Kernel6Ideal.nD Cert.Kernel6Ideal.τ).loc Cert.Kernel6Ideal.main_v34) = v5 c
          ∧ r.2.mem ((c.tc : Thread Cert.Kernel6Ideal.nD Cert.Kernel6Ideal.τ).loc Cert.Kernel6Ideal.main_v35) = v6 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v107) = v0 c
          ∧ r.2.mem ((c.tc : Thread Cert.Reference6Ideal.nD Cert.Reference6Ideal.τ).loc Cert.Reference6Ideal.main_v108) = v1 c
          ∧ r.2.mem ((c.tc : Thread Cert.Reference6Ideal.nD Cert.Reference6Ideal.τ).loc Cert.Reference6Ideal.main_v109) = v2 c
          ∧ r.2.mem ((c.tc : Thread Cert.Reference6Ideal.nD Cert.Reference6Ideal.τ).loc Cert.Reference6Ideal.main_v111) = v3 c
          ∧ r.2.mem ((c.tc : Thread Cert.Reference6Ideal.nD Cert.Reference6Ideal.τ).loc Cert.Reference6Ideal.main_v147) = v4 c
          ∧ r.2.mem ((c.tc : Thread Cert.Reference6Ideal.nD Cert.Reference6Ideal.τ).loc Cert.Reference6Ideal.main_v176) = v5 c
          ∧ r.2.mem ((c.tc : Thread Cert.Reference6Ideal.nD Cert.Reference6Ideal.τ).loc Cert.Reference6Ideal.main_v177) = v6 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)
      ∧ m' ((c.tc : Thread Cert.Reference7Ideal.nD Cert.Reference7Ideal.τ).loc Cert.Reference7Ideal.main_arg14) = m ((c.tc : Thread Cert.Kernel7Ideal.nD Cert.Kernel7Ideal.τ).loc Cert.Kernel7Ideal.main_arg14)
      ∧ m' ((c.tc : Thread Cert.Reference7Ideal.nD Cert.Reference7Ideal.τ).loc Cert.Reference7Ideal.main_arg15) = m ((c.tc : Thread Cert.Kernel7Ideal.nD Cert.Kernel7Ideal.τ).loc Cert.Kernel7Ideal.main_arg15)
      ∧ m' ((c.tc : Thread Cert.Reference7Ideal.nD Cert.Reference7Ideal.τ).loc Cert.Reference7Ideal.main_arg16) = m ((c.tc : Thread Cert.Kernel7Ideal.nD Cert.Kernel7Ideal.τ).loc Cert.Kernel7Ideal.main_arg16)
      ∧ m' ((c.tc : Thread Cert.Reference7Ideal.nD Cert.Reference7Ideal.τ).loc Cert.Reference7Ideal.main_arg17) = m ((c.tc : Thread Cert.Kernel7Ideal.nD Cert.Kernel7Ideal.τ).loc Cert.Kernel7Ideal.main_arg17)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
          ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
          ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15)
          ∧ r.2.mem ((c.tc : Thread Cert.Kernel7Ideal.nD Cert.Kernel7Ideal.τ).loc Cert.Kernel7Ideal.main_arg16) = m ((c.tc : Thread Cert.Kernel7Ideal.nD Cert.Kernel7Ideal.τ).loc Cert.Kernel7Ideal.main_arg16)
          ∧ r.2.mem ((c.tc : Thread Cert.Kernel7Ideal.nD Cert.Kernel7Ideal.τ).loc Cert.Kernel7Ideal.main_arg17) = m ((c.tc : Thread Cert.Kernel7Ideal.nD Cert.Kernel7Ideal.τ).loc Cert.Kernel7Ideal.main_arg17))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v38) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13)
          ∧ r.2.mem ((c.tc : Thread Cert.Reference7Ideal.nD Cert.Reference7Ideal.τ).loc Cert.Reference7Ideal.main_arg14) = m' ((c.tc : Thread Cert.Reference7Ideal.nD Cert.Reference7Ideal.τ).loc Cert.Reference7Ideal.main_arg14)
          ∧ r.2.mem ((c.tc : Thread Cert.Reference7Ideal.nD Cert.Reference7Ideal.τ).loc Cert.Reference7Ideal.main_arg15) = m' ((c.tc : Thread Cert.Reference7Ideal.nD Cert.Reference7Ideal.τ).loc Cert.Reference7Ideal.main_arg15)
          ∧ r.2.mem ((c.tc : Thread Cert.Reference7Ideal.nD Cert.Reference7Ideal.τ).loc Cert.Reference7Ideal.main_arg16) = m' ((c.tc : Thread Cert.Reference7Ideal.nD Cert.Reference7Ideal.τ).loc Cert.Reference7Ideal.main_arg16)
          ∧ r.2.mem ((c.tc : Thread Cert.Reference7Ideal.nD Cert.Reference7Ideal.τ).loc Cert.Reference7Ideal.main_arg17) = m' ((c.tc : Thread Cert.Reference7Ideal.nD Cert.Reference7Ideal.τ).loc Cert.Reference7Ideal.main_arg17))

def preserves_Kernel8_Kernel8Ideal : Prop :=
  True

def algebraic_Kernel8Ideal_Reference8Ideal_pre_finite_weights8 [hKernel8Ideal : Cert.Kernel8Ideal.Facts] [hReference8Ideal : Cert.Reference8Ideal.Facts] [hPre_finite_weights8 : Cert.Pre_finite_weights8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_weights8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v34_0)) (v1 : (c : Dev Cert.Kernel8Ideal.nD) → Buf (Elt Ideal) ((c.tc : Thread Cert.Kernel8Ideal.nD Cert.Kernel8Ideal.τ).loc Cert.Kernel8Ideal.main_v34_1)) (v2 : (c : Dev Cert.Kernel8Ideal.nD) → Buf (Elt Ideal) ((c.tc : Thread Cert.Kernel8Ideal.nD Cert.Kernel8Ideal.τ).loc Cert.Kernel8Ideal.main_v34_2)) (v3 : (c : Dev Cert.Kernel8Ideal.nD) → Buf (Elt Ideal) ((c.tc : Thread Cert.Kernel8Ideal.nD Cert.Kernel8Ideal.τ).loc Cert.Kernel8Ideal.main_v34_5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v34_0) = v0 c
          ∧ r.2.mem ((c.tc : Thread Cert.Kernel8Ideal.nD Cert.Kernel8Ideal.τ).loc Cert.Kernel8Ideal.main_v34_1) = v1 c
          ∧ r.2.mem ((c.tc : Thread Cert.Kernel8Ideal.nD Cert.Kernel8Ideal.τ).loc Cert.Kernel8Ideal.main_v34_2) = v2 c
          ∧ r.2.mem ((c.tc : Thread Cert.Kernel8Ideal.nD Cert.Kernel8Ideal.τ).loc Cert.Kernel8Ideal.main_v34_5) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v109) = v0 c
          ∧ r.2.mem ((c.tc : Thread Cert.Reference8Ideal.nD Cert.Reference8Ideal.τ).loc Cert.Reference8Ideal.main_v110) = v1 c
          ∧ r.2.mem ((c.tc : Thread Cert.Reference8Ideal.nD Cert.Reference8Ideal.τ).loc Cert.Reference8Ideal.main_v111) = v2 c
          ∧ r.2.mem ((c.tc : Thread Cert.Reference8Ideal.nD Cert.Reference8Ideal.τ).loc Cert.Reference8Ideal.main_v113) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal_pre_finite_weights9 [hKernel9Ideal : Cert.Kernel9Ideal.Facts] [hReference9Ideal : Cert.Reference9Ideal.Facts] [hPre_finite_weights9 : Cert.Pre_finite_weights9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite_weights9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v35_0)) (v1 : (c : Dev Cert.Kernel9Ideal.nD) → Buf (Elt Ideal) ((c.tc : Thread Cert.Kernel9Ideal.nD Cert.Kernel9Ideal.τ).loc Cert.Kernel9Ideal.main_v35_1)) (v2 : (c : Dev Cert.Kernel9Ideal.nD) → Buf (Elt Ideal) ((c.tc : Thread Cert.Kernel9Ideal.nD Cert.Kernel9Ideal.τ).loc Cert.Kernel9Ideal.main_v35_2)) (v3 : (c : Dev Cert.Kernel9Ideal.nD) → Buf (Elt Ideal) ((c.tc : Thread Cert.Kernel9Ideal.nD Cert.Kernel9Ideal.τ).loc Cert.Kernel9Ideal.main_v35_5)) (v4 : (c : Dev Cert.Kernel9Ideal.nD) → Buf (Elt Ideal) ((c.tc : Thread Cert.Kernel9Ideal.nD Cert.Kernel9Ideal.τ).loc Cert.Kernel9Ideal.main_v35_6)) (v5 : (c : Dev Cert.Kernel9Ideal.nD) → Buf (Elt Ideal) ((c.tc : Thread Cert.Kernel9Ideal.nD Cert.Kernel9Ideal.τ).loc Cert.Kernel9Ideal.main_v37)) (v6 : (c : Dev Cert.Kernel9Ideal.nD) → Buf (Elt Ideal) ((c.tc : Thread Cert.Kernel9Ideal.nD Cert.Kernel9Ideal.τ).loc Cert.Kernel9Ideal.main_v38)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v35_0) = v0 c
          ∧ r.2.mem ((c.tc : Thread Cert.Kernel9Ideal.nD Cert.Kernel9Ideal.τ).loc Cert.Kernel9Ideal.main_v35_1) = v1 c
          ∧ r.2.mem ((c.tc : Thread Cert.Kernel9Ideal.nD Cert.Kernel9Ideal.τ).loc Cert.Kernel9Ideal.main_v35_2) = v2 c
          ∧ r.2.mem ((c.tc : Thread Cert.Kernel9Ideal.nD Cert.Kernel9Ideal.τ).loc Cert.Kernel9Ideal.main_v35_5) = v3 c
          ∧ r.2.mem ((c.tc : Thread Cert.Kernel9Ideal.nD Cert.Kernel9Ideal.τ).loc Cert.Kernel9Ideal.main_v35_6) = v4 c
          ∧ r.2.mem ((c.tc : Thread Cert.Kernel9Ideal.nD Cert.Kernel9Ideal.τ).loc Cert.Kernel9Ideal.main_v37) = v5 c
          ∧ r.2.mem ((c.tc : Thread Cert.Kernel9Ideal.nD Cert.Kernel9Ideal.τ).loc Cert.Kernel9Ideal.main_v38) = v6 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v109) = v0 c
          ∧ r.2.mem ((c.tc : Thread Cert.Reference9Ideal.nD Cert.Reference9Ideal.τ).loc Cert.Reference9Ideal.main_v110) = v1 c
          ∧ r.2.mem ((c.tc : Thread Cert.Reference9Ideal.nD Cert.Reference9Ideal.τ).loc Cert.Reference9Ideal.main_v111) = v2 c
          ∧ r.2.mem ((c.tc : Thread Cert.Reference9Ideal.nD Cert.Reference9Ideal.τ).loc Cert.Reference9Ideal.main_v113) = v3 c
          ∧ r.2.mem ((c.tc : Thread Cert.Reference9Ideal.nD Cert.Reference9Ideal.τ).loc Cert.Reference9Ideal.main_v151) = v4 c
          ∧ r.2.mem ((c.tc : Thread Cert.Reference9Ideal.nD Cert.Reference9Ideal.τ).loc Cert.Reference9Ideal.main_v180) = v5 c
          ∧ r.2.mem ((c.tc : Thread Cert.Reference9Ideal.nD Cert.Reference9Ideal.τ).loc Cert.Reference9Ideal.main_v181) = v6 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v10) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v10) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v10) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite_weights : Cert.Pre_finite_weights.Facts) (hPre_finite_weights5 : Cert.Pre_finite_weights5.Facts) (hPre_finite_weights6 : Cert.Pre_finite_weights6.Facts) (hPre_finite_weights8 : Cert.Pre_finite_weights8.Facts) (hPre_finite_weights9 : Cert.Pre_finite_weights9.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite_weights (hKernel2Ideal := hKernel2Ideal) (hPre_finite_weights := hPre_finite_weights)
    ∧ quiescent_Reference2Ideal (hReference2Ideal := hReference2Ideal)
    ∧ quiescent_Reference2Ideal_pre_finite_weights (hReference2Ideal := hReference2Ideal) (hPre_finite_weights := hPre_finite_weights)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_weights5 (hKernel5Ideal := hKernel5Ideal) (hPre_finite_weights5 := hPre_finite_weights5)
    ∧ quiescent_Reference5Ideal (hReference5Ideal := hReference5Ideal)
    ∧ quiescent_Reference5Ideal_pre_finite_weights5 (hReference5Ideal := hReference5Ideal) (hPre_finite_weights5 := hPre_finite_weights5)
    ∧ quiescent_Kernel6 (hKernel6 := hKernel6)
    ∧ quiescent_Kernel6Ideal (hKernel6Ideal := hKernel6Ideal)
    ∧ quiescent_Kernel6Ideal_pre_finite_weights6 (hKernel6Ideal := hKernel6Ideal) (hPre_finite_weights6 := hPre_finite_weights6)
    ∧ quiescent_Reference6Ideal (hReference6Ideal := hReference6Ideal)
    ∧ quiescent_Reference6Ideal_pre_finite_weights6 (hReference6Ideal := hReference6Ideal) (hPre_finite_weights6 := hPre_finite_weights6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_weights8 (hKernel8Ideal := hKernel8Ideal) (hPre_finite_weights8 := hPre_finite_weights8)
    ∧ quiescent_Reference8Ideal (hReference8Ideal := hReference8Ideal)
    ∧ quiescent_Reference8Ideal_pre_finite_weights8 (hReference8Ideal := hReference8Ideal) (hPre_finite_weights8 := hPre_finite_weights8)
    ∧ quiescent_Kernel9 (hKernel9 := hKernel9)
    ∧ quiescent_Kernel9Ideal (hKernel9Ideal := hKernel9Ideal)
    ∧ quiescent_Kernel9Ideal_pre_finite_weights9 (hKernel9Ideal := hKernel9Ideal) (hPre_finite_weights9 := hPre_finite_weights9)
    ∧ quiescent_Reference9Ideal (hReference9Ideal := hReference9Ideal)
    ∧ quiescent_Reference9Ideal_pre_finite_weights9 (hReference9Ideal := hReference9Ideal) (hPre_finite_weights9 := hPre_finite_weights9)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite_weights (hKernel2Ideal := hKernel2Ideal) (hReference2Ideal := hReference2Ideal) (hPre_finite_weights := hPre_finite_weights)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_weights5 (hKernel5Ideal := hKernel5Ideal) (hReference5Ideal := hReference5Ideal) (hPre_finite_weights5 := hPre_finite_weights5)
    ∧ preserves_Kernel6_Kernel6Ideal
    ∧ algebraic_Kernel6Ideal_Reference6Ideal_pre_finite_weights6 (hKernel6Ideal := hKernel6Ideal) (hReference6Ideal := hReference6Ideal) (hPre_finite_weights6 := hPre_finite_weights6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_weights8 (hKernel8Ideal := hKernel8Ideal) (hReference8Ideal := hReference8Ideal) (hPre_finite_weights8 := hPre_finite_weights8)
    ∧ preserves_Kernel9_Kernel9Ideal
    ∧ algebraic_Kernel9Ideal_Reference9Ideal_pre_finite_weights9 (hKernel9Ideal := hKernel9Ideal) (hReference9Ideal := hReference9Ideal) (hPre_finite_weights9 := hPre_finite_weights9)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite_weights.lean ====
abbrev S2x8192x1024 : Shape := ⟨3, ![2, 8192, 1024]⟩
abbrev S1024 : Shape := ⟨1, ![1024]⟩
abbrev S1024x2816 : Shape := ⟨2, ![1024, 2816]⟩
abbrev S64 : Shape := ⟨1, ![64]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x2816 : S_.BroadcastsInDim S1024x2816 (![] : Fin 0 → Fin S1024x2816.rank)
  reducesTo_S1024x2816_S_d0_1 : S1024x2816.ReducesTo [0, 1] S_

variable [Facts]

def fn {F : FTy → Type} [FloatOps F] (main_arg0 : FVec F S2x8192x1024 .f32) (main_arg1 : FVec F S1024 .f32) (main_arg2 : FVec F S1024x2816 .f32) (main_arg3 : FVec F S64 .f32) (main_arg4 : FVec F S64 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x2816 .f32 := Host.absf main_arg2
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  main_v8
-- ==== Pre_finite_weights5.lean ====
abbrev S2x8192x1024 : Shape := ⟨3, ![2, 8192, 1024]⟩
abbrev S1024 : Shape := ⟨1, ![1024]⟩
abbrev S1024x2560 : Shape := ⟨2, ![1024, 2560]⟩
abbrev S64 : Shape := ⟨1, ![64]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x2560 : S_.BroadcastsInDim S1024x2560 (![] : Fin 0 → Fin S1024x2560.rank)
  reducesTo_S1024x2560_S_d0_1 : S1024x2560.ReducesTo [0, 1] S_

variable [Facts]

def fn {F : FTy → Type} [FloatOps F] (main_arg0 : FVec F S2x8192x1024 .f32) (main_arg1 : FVec F S1024 .f32) (main_arg2 : FVec F S1024x2560 .f32) (main_arg3 : FVec F S64 .f32) (main_arg4 : FVec F S64 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x2560 .f32 := Host.absf main_arg2
  let main_cst_0 : FVec F S_ .f32 := constant S_ .f32 0x7F800000#32
  let main_v5 : FVec F S1024x2560 .f32 := broadcastInDim S1024x2560 ![] bcast_S_S1024x2560 main_cst_0
  let main_v6 : IVec S1024x2560 1 := cmpf .olt main_v4 main_v5
  let main_c_1 : IVec S_ 1 := constantI S_ 1 1#1
  let main_v7 : IVec S_ 1 := (fun x v => Host.reduce IntOp.andi x v reducesTo_S1024x2560_S_d0_1 h_S_) main_v6 main_c_1
  let main_v8 : IVec S_ 1 := andi main_v3 main_v7
  main_v8
-- ==== Pre_finite_weights6.lean ====
abbrev S2x8192x1024 : Shape := ⟨3, ![2, 8192, 1024]⟩
abbrev S1024 : Shape := ⟨1, ![1024]⟩
abbrev S1024x3144 : Shape := ⟨2, ![1024, 3144]⟩
abbrev S64 : Shape := ⟨1, ![64]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x3144 : S_.BroadcastsInDim S1024x3144 (![] : Fin 0 → Fin S1024x3144.rank)
  reducesTo_S1024x3144_S_d0_1 : S1024x3144.ReducesTo [0, 1] S_

variable [Facts]

def fn {F : FTy → Type} [FloatOps F] (main_arg0 : FVec F S2x8192x1024 .f32) (main_arg1 : FVec F S1024 .f32) (main_arg2 : FVec F S1024x3144 .f32) (main_arg3 : FVec F S64 .f32) (main_arg4 : FVec F S64 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x3144 .f32 := Host.absf main_arg2
  let main_cst_0 : FVec F S_ .f32 := constant S_ .f32 0x7F800000#32
  let main_v5 : FVec F S1024x3144 .f32 := broadcastInDim S1024x3144 ![] bcast_S_S1024x3144 main_cst_0
  let main_v6 : IVec S1024x3144 1 := cmpf .olt main_v4 main_v5
  let main_c_1 : IVec S_ 1 := constantI S_ 1 1#1
  let main_v7 : IVec S_ 1 := (fun x v => Host.reduce IntOp.andi x v reducesTo_S1024x3144_S_d0_1 h_S_) main_v6 main_c_1
  let main_v8 : IVec S_ 1 := andi main_v3 main_v7
  main_v8
-- ==== Pre_finite_weights8.lean ====
abbrev S128x8x1024 : Shape := ⟨3, ![128, 8, 1024]⟩
abbrev S1024 : Shape := ⟨1, ![1024]⟩
abbrev S1024x2560 : Shape := ⟨2, ![1024, 2560]⟩
abbrev S64 : Shape := ⟨1, ![64]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x2560 : S_.BroadcastsInDim S1024x2560 (![] : Fin 0 → Fin S1024x2560.rank)
  reducesTo_S1024x2560_S_d0_1 : S1024x2560.ReducesTo [0, 1] S_

variable [Facts]

def fn {F : FTy → Type} [FloatOps F] (main_arg0 : FVec F S128x8x1024 .f32) (main_arg1 : FVec F S1024 .f32) (main_arg2 : FVec F S1024x2560 .f32) (main_arg3 : FVec F S64 .f32) (main_arg4 : FVec F S64 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x2560 .f32 := Host.absf main_arg2
  let main_cst_0 : FVec F S_ .f32 := constant S_ .f32 0x7F800000#32
  let main_v5 : FVec F S1024x2560 .f32 := broadcastInDim S1024x2560 ![] bcast_S_S1024x2560 main_cst_0
  let main_v6 : IVec S1024x2560 1 := cmpf .olt main_v4 main_v5
  let main_c_1 : IVec S_ 1 := constantI S_ 1 1#1
  let main_v7 : IVec S_ 1 := (fun x v => Host.reduce IntOp.andi x v reducesTo_S1024x2560_S_d0_1 h_S_) main_v6 main_c_1
  let main_v8 : IVec S_ 1 := andi main_v3 main_v7
  main_v8
-- ==== Pre_finite_weights9.lean ====
abbrev S128x8x1024 : Shape := ⟨3, ![128, 8, 1024]⟩
abbrev S1024 : Shape := ⟨1, ![1024]⟩
abbrev S1024x3144 : Shape := ⟨2, ![1024, 3144]⟩
abbrev S64 : Shape := ⟨1, ![64]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x3144 : S_.BroadcastsInDim S1024x3144 (![] : Fin 0 → Fin S1024x3144.rank)
  reducesTo_S1024x3144_S_d0_1 : S1024x3144.ReducesTo [0, 1] S_

variable [Facts]

def fn {F : FTy → Type} [FloatOps F] (main_arg0 : FVec F S128x8x1024 .f32) (main_arg1 : FVec F S1024 .f32) (main_arg2 : FVec F S1024x3144 .f32) (main_arg3 : FVec F S64 .f32) (main_arg4 : FVec F S64 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x3144 .f32 := Host.absf main_arg2
  let main_cst_0 : FVec F S_ .f32 := constant S_ .f32 0x7F800000#32
  let main_v5 : FVec F S1024x3144 .f32 := broadcastInDim S1024x3144 ![] bcast_S_S1024x3144 main_cst_0
  let main_v6 : IVec S1024x3144 1 := cmpf .olt main_v4 main_v5
  let main_c_1 : IVec S_ 1 := constantI S_ 1 1#1
  let main_v7 : IVec S_ 1 := (fun x v => Host.reduce IntOp.andi x v reducesTo_S1024x3144_S_d0_1 h_S_) main_v6 main_c_1
  let main_v8 : IVec S_ 1 := andi main_v3 main_v7
  main_v8
-- ==== Kernel.lean ====
abbrev S2x8192x1536 : Shape := ⟨3, ![2, 8192, 1536]⟩
abbrev S2x8192x384 : Shape := ⟨3, ![2, 8192, 384]⟩
abbrev S_ : Shape := ⟨0, ![]⟩
abbrev S2x8192x128 : Shape := ⟨3, ![2, 8192, 128]⟩
abbrev S1x128x128 : Shape := ⟨3, ![1, 128, 128]⟩
abbrev S128x256 : Shape := ⟨2, ![128, 256]⟩
abbrev S512x256 : Shape := ⟨2, ![512, 256]⟩
abbrev S128x128 : Shape := ⟨2, ![128, 128]⟩
abbrev S128x512 : Shape := ⟨2, ![128, 512]⟩
abbrev S256x128 : Shape := ⟨2, ![256, 128]⟩
abbrev S256x64 : Shape := ⟨2, ![256, 64]⟩
abbrev S128x64 : Shape := ⟨2, ![128, 64]⟩
abbrev S512x64 : Shape := ⟨2, ![512, 64]⟩
abbrev S512 : Shape := ⟨1, ![512]⟩
abbrev S512x1 : Shape := ⟨2, ![512, 1]⟩
abbrev S128x1 : Shape := ⟨2, ![128, 1]⟩
abbrev S128x16 : Shape := ⟨2, ![128, 16]⟩

abbrev nBuf : Space → Nat
  | .hbm => 11
  | .vmem => 26
  | .smem => 0
  | _ => 0

abbrev bufTy : (tb : Table) → Fin (tcTables nBuf tb) → BufTy
  | .hbm, ⟨0, _⟩ => ⟨S2x8192x1536, .f32⟩
  | .hbm, ⟨1, _⟩ => ⟨S2x8192x384, .f32⟩
  | .hbm, ⟨2, _⟩ => ⟨S2x8192x384, .f32⟩
  | .hbm, ⟨3, _⟩ => ⟨S_, .f32⟩
  | .hbm, ⟨4, _⟩ => ⟨S2x8192x1536, .f32⟩
  | .hbm, ⟨5, _⟩ => ⟨S2x8192x1536, .f32⟩
  | .hbm, ⟨6, _⟩ => ⟨S2x8192x128, .f32⟩
  | .hbm, ⟨7, _⟩ => ⟨S2x8192x128, .f32⟩
  | .hbm, ⟨8, _⟩ => ⟨S2x8192x128, .f32⟩
  | .hbm, ⟨9, _⟩ => ⟨S2x8192x128, .f32⟩
  | .hbm, ⟨10, _⟩ => ⟨S2x8192x128, .f32⟩
  | .local _ .vmem, ⟨0, _⟩ => ⟨S1x128x128, .f32⟩
  | .local _ .vmem, ⟨1, _⟩ => ⟨S1x128x128, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S1x128x128, .f32⟩
  | .local _ .vmem, ⟨15, _⟩ => ⟨S1x128x128, .f32⟩
  | .local _ .vmem, ⟨16, _⟩ => ⟨S1x128x128, .f32⟩
  | .local _ .vmem, ⟨17, _⟩ => ⟨S1x128x128, .f32⟩
  | .local _ .vmem, ⟨18, _⟩ => ⟨S1x128x128, .f32⟩
  | .local _ .vmem, ⟨19, _⟩ => ⟨S1x128x128, .f32⟩
  | .local _ .vmem, ⟨20, _⟩ => ⟨S1x128x128, .f32⟩
  | .local _ .vmem, ⟨21, _⟩ => ⟨S1x128x128, .f32⟩
  | .local _ .vmem, ⟨22, _⟩ => ⟨S1x128x128, .f32⟩
  | .local _ .vmem, ⟨23, _⟩ => ⟨S1x128x128, .f32⟩
  | .local _ .vmem, ⟨24, _⟩ => ⟨S1x128x128, .f32⟩
  | .local _ .vmem, ⟨25, _⟩ => ⟨S1x128x128, .f32⟩
  | _, _ => ⟨S2x8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S2x8192x1536 : Shape := ⟨3, ![2, 8192, 1536]⟩
abbrev S2x8192x384 : Shape := ⟨3, ![2, 8192, 384]⟩
abbrev S2x8192x3x2x4x64 : Shape := ⟨6, ![2, 8192, 3, 2, 4, 64]⟩
abbrev S2x8192x1x2x4x64 : Shape := ⟨6, ![2, 8192, 1, 2, 4, 64]⟩
abbrev S2x8192x2x4x64 : Shape := ⟨5, ![2, 8192, 2, 4, 64]⟩
abbrev S2x8192x3x2x64 : Shape := ⟨5, ![2, 8192, 3, 2, 64]⟩
abbrev S2x8192x1x2x64 : Shape := ⟨5, ![2, 8192, 1, 2, 64]⟩
abbrev S2x8192x2x64 : Shape := ⟨4, ![2, 8192, 2, 64]⟩
abbrev S8192 : Shape := ⟨1, ![8192]⟩
abbrev S129 : Shape := ⟨1, ![129]⟩
abbrev S_ : Shape := ⟨0, ![]⟩
abbrev S8192x1 : Shape := ⟨2, ![8192, 1]⟩
abbrev S1x129 : Shape := ⟨2, ![1, 129]⟩
abbrev S8192x129 : Shape := ⟨2, ![8192, 129]⟩
abbrev S8192x129x1 : Shape := ⟨3, ![8192, 129, 1]⟩
abbrev S2x8192x129x2x64 : Shape := ⟨5, ![2, 8192, 129, 2, 64]⟩
abbrev S2x8192x2x4x129 : Shape := ⟨5, ![2, 8192, 2, 4, 129]⟩
abbrev S1x8192x1x1x129 : Shape := ⟨5, ![1, 8192, 1, 1, 129]⟩
abbrev S2x8192x2x4 : Shape := ⟨4, ![2, 8192, 2, 4]⟩
abbrev S2x8192x2x4x1 : Shape := ⟨5, ![2, 8192, 2, 4, 1]⟩
abbrev S2x8192x512 : Shape := ⟨3, ![2, 8192, 512]⟩
abbrev S2x8192x8 : Shape := ⟨3, ![2, 8192, 8]⟩
abbrev S2x8192x128 : Shape := ⟨3, ![2, 8192, 128]⟩
abbrev S2x8192x8x1 : Shape := ⟨4, ![2, 8192, 8, 1]⟩
abbrev S2x8192x8x16 : Shape := ⟨4, ![2, 8192, 8, 16]⟩

abbrev nBuf : Space → Nat
  | .hbm => 66
  | .vmem => 0
  | .smem => 0
  | _ => 0

abbrev bufTy : (tb : Table) → Fin (tcTables nBuf tb) → BufTy
  | .hbm, ⟨0, _⟩ => ⟨S2x8192x1536, .f32⟩
  | .hbm, ⟨1, _⟩ => ⟨S2x8192x384, .f32⟩
  | .hbm, ⟨2, _⟩ => ⟨S2x8192x384, .f32⟩
  | .hbm, ⟨3, _⟩ => ⟨S2x8192x3x2x4x64, .f32⟩
  | .hbm, ⟨4, _⟩ => ⟨S2x8192x1x2x4x64, .f32⟩
  | .hbm, ⟨5, _⟩ => ⟨S2x8192x2x4x64, .f32⟩
  | .hbm, ⟨6, _⟩ => ⟨S2x8192x3x2x64, .f32⟩
  | .hbm, ⟨7, _⟩ => ⟨S2x8192x1x2x64, .f32⟩
  | .hbm, ⟨8, _⟩ => ⟨S2x8192x2x64, .f32⟩
  | .hbm, ⟨9, _⟩ => ⟨S2x8192x3x2x64, .f32⟩
  | .hbm, ⟨10, _⟩ => ⟨S2x8192x1x2x64, .f32⟩
  | .hbm, ⟨11, _⟩ => ⟨S2x8192x2x64, .f32⟩
  | .hbm, ⟨12, _⟩ => ⟨S8192, .i32⟩
  | .hbm, ⟨13, _⟩ => ⟨S129, .i32⟩
  | .hbm, ⟨14, _⟩ => ⟨S_, .i32⟩
  | .hbm, ⟨15, _⟩ => ⟨S129, .i32⟩
  | .hbm, ⟨16, _⟩ => ⟨S129, .i32⟩
  | .hbm, ⟨17, _⟩ => ⟨S8192x1, .i32⟩
  | .hbm, ⟨18, _⟩ => ⟨S1x129, .i32⟩
  | .hbm, ⟨19, _⟩ => ⟨S8192x129, .i32⟩
  | .hbm, ⟨20, _⟩ => ⟨S8192x129, .i32⟩
  | .hbm, ⟨21, _⟩ => ⟨S8192x129, .i32⟩
  | .hbm, ⟨22, _⟩ => ⟨S_, .i32⟩
  | .hbm, ⟨23, _⟩ => ⟨S8192x129, .i32⟩
  | .hbm, ⟨24, _⟩ => ⟨S8192x129, .i1⟩
  | .hbm, ⟨25, _⟩ => ⟨S_, .i32⟩
  | .hbm, ⟨26, _⟩ => ⟨S8192x129, .i32⟩
  | .hbm, ⟨27, _⟩ => ⟨S8192x129, .i32⟩
  | .hbm, ⟨28, _⟩ => ⟨S8192x129x1, .i32⟩
  | .hbm, ⟨29, _⟩ => ⟨S2x8192x129x2x64, .f32⟩
  | .hbm, ⟨30, _⟩ => ⟨S8192x129x1, .i32⟩
  | .hbm, ⟨31, _⟩ => ⟨S2x8192x129x2x64, .f32⟩
  | .hbm, ⟨32, _⟩ => ⟨S2x8192x2x4x129, .f32⟩
  | .hbm, ⟨33, _⟩ => ⟨S_, .f32⟩
  | .hbm, ⟨34, _⟩ => ⟨S2x8192x2x4x129, .f32⟩
  | .hbm, ⟨35, _⟩ => ⟨S2x8192x2x4x129, .f32⟩
  | .hbm, ⟨36, _⟩ => ⟨S1x8192x1x1x129, .i1⟩
  | .hbm, ⟨37, _⟩ => ⟨S_, .f32⟩
  | .hbm, ⟨38, _⟩ => ⟨S_, .f32⟩
  | .hbm, ⟨39, _⟩ => ⟨S2x8192x2x4x129, .i1⟩
  | .hbm, ⟨40, _⟩ => ⟨S2x8192x2x4x129, .f32⟩
  | .hbm, ⟨41, _⟩ => ⟨S2x8192x2x4x129, .f32⟩
  | .hbm, ⟨42, _⟩ => ⟨S_, .f32⟩
  | .hbm, ⟨43, _⟩ => ⟨S2x8192x2x4, .f32⟩
  | .hbm, ⟨44, _⟩ => ⟨S2x8192x2x4x1, .f32⟩
  | .hbm, ⟨45, _⟩ => ⟨S2x8192x2x4x129, .f32⟩
  | .hbm, ⟨46, _⟩ => ⟨S2x8192x2x4x129, .f32⟩
  | .hbm, ⟨47, _⟩ => ⟨S2x8192x2x4x129, .f32⟩
  | .hbm, ⟨48, _⟩ => ⟨S_, .f32⟩
  | .hbm, ⟨49, _⟩ => ⟨S2x8192x2x4, .f32⟩
  | .hbm, ⟨50, _⟩ => ⟨S2x8192x2x4x64, .f32⟩
  | .hbm, ⟨51, _⟩ => ⟨S2x8192x2x4x1, .f32⟩
  | .hbm, ⟨52, _⟩ => ⟨S2x8192x2x4x64, .f32⟩
  | .hbm, ⟨53, _⟩ => ⟨S2x8192x2x4x64, .f32⟩
  | .hbm, ⟨54, _⟩ => ⟨S2x8192x2x4, .f32⟩
  | .hbm, ⟨55, _⟩ => ⟨S2x8192x2x4, .f32⟩
  | .hbm, ⟨56, _⟩ => ⟨S2x8192x2x4, .f32⟩
  | .hbm, ⟨57, _⟩ => ⟨S2x8192x512, .f32⟩
  | .hbm, ⟨58, _⟩ => ⟨S2x8192x8, .f32⟩
  | .hbm, ⟨59, _⟩ => ⟨S2x8192x128, .f32⟩
  | .hbm, ⟨60, _⟩ => ⟨S2x8192x128, .f32⟩
  | .hbm, ⟨61, _⟩ => ⟨S2x8192x128, .f32⟩
  | .hbm, ⟨62, _⟩ => ⟨S2x8192x128, .f32⟩
  | .hbm, ⟨63, _⟩ => ⟨S2x8192x8x1, .f32⟩
  | .hbm, ⟨64, _⟩ => ⟨S2x8192x8x16, .f32⟩
  | .hbm, ⟨65, _⟩ => ⟨S2x8192x128, .f32⟩
  | _, _ => ⟨S2x8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c_0 : Ref sig .tc := ⟨.hbm, 22, rfl⟩
abbrev main_v18 : Ref sig .tc := ⟨.hbm, 23, rfl⟩
abbrev main_v19 : Ref sig .tc := ⟨.hbm, 24, rfl⟩
abbrev main_c_1 : Ref sig .tc := ⟨.hbm, 25, rfl⟩
abbrev main_v20 : Ref sig .tc := ⟨.hbm, 26, rfl⟩
abbrev main_v21 : Ref sig .tc := ⟨.hbm, 27, rfl⟩
abbrev main_call0_v0 : Ref sig .tc := ⟨.hbm, 28, rfl⟩
abbrev main_v22 : Ref sig .tc := ⟨.hbm, 29, rfl⟩
abbrev main_call1_v0 : Ref sig .tc := ⟨.hbm, 30, rfl⟩
abbrev main_v23 : Ref sig .tc := ⟨.hbm, 31, rfl⟩
abbrev main_v24 : Ref sig .tc := ⟨.hbm, 32, rfl⟩
abbrev main_cst : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩

abbrev nD : Nat := 1
abbrev τ : Topo := Topo.v7x

variable {F : FTy → Type} [FloatOps F]
-- ==== Kernel2.lean ====
abbrev S2x8192x1024 : Shape := ⟨3, ![2, 8192, 1024]⟩
abbrev S1024 : Shape := ⟨1, ![1024]⟩
abbrev S1024x2816 : Shape := ⟨2, ![1024, 2816]⟩
abbrev S64 : Shape := ⟨1, ![64]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S16384x1024 : Shape := ⟨2, ![16384, 1024]⟩
abbrev S1x1024 : Shape := ⟨2, ![1, 1024]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S16384x1536 : Shape := ⟨2, ![16384, 1536]⟩
abbrev S16384x384 : Shape := ⟨2, ![16384, 384]⟩
abbrev S16384x512 : Shape := ⟨2, ![16384, 512]⟩
abbrev S256x1024 : Shape := ⟨2, ![256, 1024]⟩
abbrev S256x128 : Shape := ⟨2, ![256, 128]⟩
abbrev S256x1536 : Shape := ⟨2, ![256, 1536]⟩
abbrev S256x384 : Shape := ⟨2, ![256, 384]⟩
abbrev S256x512 : Shape := ⟨2, ![256, 512]⟩
abbrev S256 : Shape := ⟨1, ![256]⟩
abbrev S256x1 : Shape := ⟨2, ![256, 1]⟩
abbrev S128x128 : Shape := ⟨2, ![128, 128]⟩
abbrev S1024x1536 : Shape := ⟨2, ![1024, 1536]⟩
abbrev S1024x384 : Shape := ⟨2, ![1024, 384]⟩
abbrev S1024x512 : Shape := ⟨2, ![1024, 512]⟩
abbrev S2x8192x384 : Shape := ⟨3, ![2, 8192, 384]⟩
abbrev S2x128x128 : Shape := ⟨3, ![2, 128, 128]⟩
abbrev S2x128x1x2x64 : Shape := ⟨5, ![2, 128, 1, 2, 64]⟩
abbrev S2x128x2x2x64 : Shape := ⟨5, ![2, 128, 2, 2, 64]⟩
abbrev S2x512x128 : Shape := ⟨3, ![2, 512, 128]⟩
abbrev S2x512x1x2x64 : Shape := ⟨5, ![2, 512, 1, 2, 64]⟩
abbrev S2x512x2x2x64 : Shape := ⟨5, ![2, 512, 2, 2, 64]⟩
abbrev S2x2048x128 : Shape := ⟨3, ![2, 2048, 128]⟩
abbrev S2x2048x1x2x64 : Shape := ⟨5, ![2, 2048, 1, 2, 64]⟩
abbrev S2x2048x2x2x64 : Shape := ⟨5, ![2, 2048, 2, 2, 64]⟩

abbrev nBuf : Space → Nat
  | .hbm => 65
  | .vmem => 22
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2816, .f32⟩
  | .hbm, ⟨3, _⟩ => ⟨S64, .f32⟩
  | .hbm, ⟨4, _⟩ => ⟨S64, .f32⟩
  | .hbm, ⟨5, _⟩ => ⟨S8192, .i32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S8192, .f32⟩
  | .hbm, ⟨15, _⟩ => ⟨S8192x1, .f32⟩
  | .hbm, ⟨16, _⟩ => ⟨S1x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S8192x32, .f32⟩
  | .hbm, ⟨22, _⟩ => ⟨S1x8192x1x32, .f32⟩
  | .hbm, ⟨23, _⟩ => ⟨S1x8192x4x32, .f32⟩
  | .hbm, ⟨24, _⟩ => ⟨S8192x128, .f32⟩
  | .hbm, ⟨25, _⟩ => ⟨S8192x32, .f32⟩
  | .hbm, ⟨26, _⟩ => ⟨S8192x128, .f32⟩
  | .hbm, ⟨27, _⟩ => ⟨S16384x1024, .f32⟩
  | .hbm, ⟨28, _⟩ => ⟨S1x1024, .f32⟩
  | .hbm, ⟨29, _⟩ => ⟨S1024x2816, .bf16⟩
  | .hbm, ⟨30, _⟩ => ⟨S1x64, .f32⟩
  | .hbm, ⟨31, _⟩ => ⟨S2x64, .f32⟩
  | .hbm, ⟨32, _⟩ => ⟨S128, .f32⟩
  | .hbm, ⟨33, _⟩ => ⟨S1x128, .f32⟩
  | .hbm, ⟨34, _⟩ => ⟨S1x64, .f32⟩
  | .hbm, ⟨35, _⟩ => ⟨S2x64, .f32⟩
  | .hbm, ⟨36, _⟩ => ⟨S128, .f32⟩
  | .hbm, ⟨37, _⟩ => ⟨S1x128, .f32⟩
  | .hbm, ⟨38, _⟩ => ⟨S16384x1536, .f32⟩
  | .hbm, ⟨39, _⟩ => ⟨S16384x384, .f32⟩
  | .hbm, ⟨40, _⟩ => ⟨S16384x384, .f32⟩
  | .hbm, ⟨41, _⟩ => ⟨S16384x384, .bf16⟩
  | .hbm, ⟨42, _⟩ => ⟨S16384x384, .bf16⟩
  | .hbm, ⟨43, _⟩ => ⟨S16384x512, .f32⟩
  | .hbm, ⟨44, _⟩ => ⟨S2x8192x384, .f32⟩
  | .hbm, ⟨45, _⟩ => ⟨S2x128x128, .f32⟩
  | .hbm, ⟨46, _⟩ => ⟨S2x128x1x2x64, .f32⟩
  | .hbm, ⟨47, _⟩ => ⟨S2x8192x384, .f32⟩
  | .hbm, ⟨48, _⟩ => ⟨S2x128x128, .f32⟩
  | .hbm, ⟨49, _⟩ => ⟨S2x128x1x2x64, .f32⟩
  | .hbm, ⟨50, _⟩ => ⟨S2x128x2x2x64, .f32⟩
  | .hbm, ⟨51, _⟩ => ⟨S2x8192x384, .f32⟩
  | .hbm, ⟨52, _⟩ => ⟨S2x512x128, .f32⟩
  | .hbm, ⟨53, _⟩ => ⟨S2x512x1x2x64, .f32⟩
  | .hbm, ⟨54, _⟩ => ⟨S2x8192x384, .f32⟩
  | .hbm, ⟨55, _⟩ => ⟨S2x512x128, .f32⟩
  | .hbm, ⟨56, _⟩ => ⟨S2x512x1x2x64, .f32⟩
  | .hbm, ⟨57, _⟩ => ⟨S2x512x2x2x64, .f32⟩
  | .hbm, ⟨58, _⟩ => ⟨S2x8192x384, .f32⟩
  | .hbm, ⟨59, _⟩ => ⟨S2x2048x128, .f32⟩
  | .hbm, ⟨60, _⟩ => ⟨S2x2048x1x2x64, .f32⟩
  | .hbm, ⟨61, _⟩ => ⟨S2x8192x384, .f32⟩
  | .hbm, ⟨62, _⟩ => ⟨S2x2048x128, .f32⟩
  | .hbm, ⟨63, _⟩ => ⟨S2x2048x1x2x64, .f32⟩
  | .hbm, ⟨64, _⟩ => ⟨S2x2048x2x2x64, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2816, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1x128, .f32⟩
  | .local _ .vmem, ⟨9, _⟩ => ⟨S1x128, .f32⟩
  | .local _ .vmem, ⟨10, _⟩ => ⟨S256x1536, .f32⟩
  | .local _ .vmem, ⟨11, _⟩ => ⟨S256x1536, .f32⟩
  | .local _ .vmem, ⟨12, _⟩ => ⟨S256x384, .f32⟩
  | .local _ .vmem, ⟨13, _⟩ => ⟨S256x384, .f32⟩
  | .local _ .vmem, ⟨14, _⟩ => ⟨S256x384, .f32⟩
  | .local _ .vmem, ⟨15, _⟩ => ⟨S256x384, .f32⟩
  | .local _ .vmem, ⟨16, _⟩ => ⟨S256x384, .bf16⟩
  | .local _ .vmem, ⟨17, _⟩ => ⟨S256x384, .bf16⟩
  | .local _ .vmem, ⟨18, _⟩ => ⟨S256x384, .bf16⟩
  | .local _ .vmem, ⟨19, _⟩ => ⟨S256x384, .bf16⟩
  | .local _ .vmem, ⟨20, _⟩ => ⟨S256x512, .f32⟩
  | .local _ .vmem, ⟨21, _⟩ => ⟨S256x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31_0 : Ref sig .tc := ⟨.hbm, 38, rfl⟩
abbrev main_v31_1 : Ref sig .tc := ⟨.hbm, 39, rfl⟩
abbrev main_v31_2 : Ref sig .tc := ⟨.hbm, 40, rfl⟩
abbrev main_v31_3 : Ref sig .tc := ⟨.hbm, 41, rfl⟩
abbrev main_v31_4 : Ref sig .tc := ⟨.hbm, 42, rfl⟩
abbrev main_v31_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x384 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x384 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S2x8192x1024 : Shape := ⟨3, ![2, 8192, 1024]⟩
abbrev S1024 : Shape := ⟨1, ![1024]⟩
abbrev S1024x2816 : Shape := ⟨2, ![1024, 2816]⟩
abbrev S64 : Shape := ⟨1, ![64]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2816 : Shape := ⟨3, ![2, 8192, 2816]⟩
abbrev S2x8192x1536 : Shape := ⟨3, ![2, 8192, 1536]⟩
abbrev S2x8192x384 : Shape := ⟨3, ![2, 8192, 384]⟩
abbrev S2x8192x512 : Shape := ⟨3, ![2, 8192, 512]⟩
abbrev S8192 : Shape := ⟨1, ![8192]⟩
abbrev S2x8192x24x64 : Shape := ⟨4, ![2, 8192, 24, 64]⟩
abbrev S2x8192x24 : Shape := ⟨3, ![2, 8192, 24]⟩
abbrev S2x8192x24x1 : Shape := ⟨4, ![2, 8192, 24, 1]⟩
abbrev S1x1x1x64 : Shape := ⟨4, ![1, 1, 1, 64]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S2x8192x24x32 : Shape := ⟨4, ![2, 8192, 24, 32]⟩
abbrev S2x8192x3x2x64 : Shape := ⟨5, ![2, 8192, 3, 2, 64]⟩
abbrev S2x8192x3x2 : Shape := ⟨4, ![2, 8192, 3, 2]⟩
abbrev S2x8192x3x2x1 : Shape := ⟨5, ![2, 8192, 3, 2, 1]⟩
abbrev S1x1x1x1x64 : Shape := ⟨5, ![1, 1, 1, 1, 64]⟩
abbrev S1x8192x1x1x32 : Shape := ⟨5, ![1, 8192, 1, 1, 32]⟩
abbrev S2x8192x3x2x32 : Shape := ⟨5, ![2, 8192, 3, 2, 32]⟩
abbrev S2x8192x1x2x64 : Shape := ⟨5, ![2, 8192, 1, 2, 64]⟩
abbrev S2x8192x2x64 : Shape := ⟨4, ![2, 8192, 2, 64]⟩
abbrev S2x8192x2x2x64 : Shape := ⟨5, ![2, 8192, 2, 2, 64]⟩
abbrev S2x128x2x2x64 : Shape := ⟨5, ![2, 128, 2, 2, 64]⟩
abbrev S2x512x2x2x64 : Shape := ⟨5, ![2, 512, 2, 2, 64]⟩
abbrev S2x2048x2x2x64 : Shape := ⟨5, ![2, 2048, 2, 2, 64]⟩
abbrev S16384x1536 : Shape := ⟨2, ![16384, 1536]⟩
abbrev S16384x384 : Shape := ⟨2, ![16384, 384]⟩
abbrev S16384x512 : Shape := ⟨2, ![16384, 512]⟩

abbrev nBuf : Space → Nat
  | .hbm => 164
  | .vmem => 0
  | .smem => 0
  | _ => 0

abbrev hbmTy0_0 (i : Nat) : BufTy := match i % 128 with
  | 0 => ⟨S2x8192x1024, .f32⟩
  | 1 => ⟨S1024, .f32⟩
  | 2 => ⟨S1024x2816, .f32⟩
  | 3 => ⟨S64, .f32⟩
  | 4 => ⟨S64, .f32⟩
  | 5 => ⟨S2x8192x1024, .f32⟩
  | 6 => ⟨S_, .f32⟩
  | 7 => ⟨S2x8192, .f32⟩
  | 8 => ⟨S2x8192x1, .f32⟩
  | 9 => ⟨S_, .f32⟩
  | 10 => ⟨S2x8192x1, .f32⟩
  | 11 => ⟨S2x8192x1, .f32⟩
  | 12 => ⟨S_, .f32⟩
  | 13 => ⟨S2x8192x1, .f32⟩
  | 14 => ⟨S2x8192x1, .f32⟩
  | 15 => ⟨S2x8192x1, .f32⟩
  | 16 => ⟨S2x8192x1024, .f32⟩
  | 17 => ⟨S2x8192x1024, .f32⟩
  | 18 => ⟨S1x1x1024, .f32⟩
  | 19 => ⟨S2x8192x1024, .f32⟩
  | 20 => ⟨S2x8192x1024, .f32⟩
  | 21 => ⟨S2x8192x2816, .f32⟩
  | 22 => ⟨S2x8192x1536, .f32⟩
  | 23 => ⟨S2x8192x384, .f32⟩
  | 24 => ⟨S2x8192x384, .f32⟩
  | 25 => ⟨S2x8192x512, .f32⟩
  | 26 => ⟨S8192, .i32⟩
  | 27 => ⟨S2x8192x24x64, .f32⟩
  | 28 => ⟨S2x8192x24x64, .f32⟩
  | 29 => ⟨S_, .f32⟩
  | 30 => ⟨S2x8192x24, .f32⟩
  | 31 => ⟨S2x8192x24x1, .f32⟩
  | 32 => ⟨S_, .f32⟩
  | 33 => ⟨S2x8192x24x1, .f32⟩
  | 34 => ⟨S2x8192x24x1, .f32⟩
  | 35 => ⟨S_, .f32⟩
  | 36 => ⟨S2x8192x24x1, .f32⟩
  | 37 => ⟨S2x8192x24x1, .f32⟩
  | 38 => ⟨S2x8192x24x1, .f32⟩
  | 39 => ⟨S2x8192x24x64, .f32⟩
  | 40 => ⟨S2x8192x24x64, .f32⟩
  | 41 => ⟨S1x1x1x64, .f32⟩
  | 42 => ⟨S2x8192x24x64, .f32⟩
  | 43 => ⟨S2x8192x24x64, .f32⟩
  | 44 => ⟨S32, .f32⟩
  | 45 => ⟨S32, .f32⟩
  | 46 => ⟨S_, .f32⟩
  | 47 => ⟨S32, .f32⟩
  | 48 => ⟨S32, .f32⟩
  | 49 => ⟨S_, .f32⟩
  | 50 => ⟨S32, .f32⟩
  | 51 => ⟨S32, .f32⟩
  | 52 => ⟨S8192, .f32⟩
  | 53 => ⟨S8192x1, .f32⟩
  | 54 => ⟨S1x32, .f32⟩
  | 55 => ⟨S8192x32, .f32⟩
  | 56 => ⟨S8192x32, .f32⟩
  | 57 => ⟨S8192x32, .f32⟩
  | 58 => ⟨S8192x32, .f32⟩
  | 59 => ⟨S1x8192x1x32, .f32⟩
  | 60 => ⟨S8192x32, .f32⟩
  | 61 => ⟨S1x8192x1x32, .f32⟩
  | 62 => ⟨S2x8192x24x32, .f32⟩
  | 63 => ⟨S2x8192x24x32, .f32⟩
  | 64 => ⟨S2x8192x24x32, .f32⟩
  | 65 => ⟨S2x8192x24x32, .f32⟩
  | 66 => ⟨S2x8192x24x32, .f32⟩
  | 67 => ⟨S2x8192x24x32, .f32⟩
  | 68 => ⟨S2x8192x24x32, .f32⟩
  | 69 => ⟨S2x8192x24x32, .f32⟩
  | 70 => ⟨S2x8192x24x32, .f32⟩
  | 71 => ⟨S2x8192x24x32, .f32⟩
  | 72 => ⟨S2x8192x24x32, .f32⟩
  | 73 => ⟨S2x8192x24x32, .f32⟩
  | 74 => ⟨S2x8192x24x64, .f32⟩
  | 75 => ⟨S2x8192x3x2x64, .f32⟩
  | 76 => ⟨S2x8192x3x2x64, .f32⟩
  | 77 => ⟨S_, .f32⟩
  | 78 => ⟨S2x8192x3x2, .f32⟩
  | 79 => ⟨S2x8192x3x2x1, .f32⟩
  | 80 => ⟨S_, .f32⟩
  | 81 => ⟨S2x8192x3x2x1, .f32⟩
  | 82 => ⟨S2x8192x3x2x1, .f32⟩
  | 83 => ⟨S_, .f32⟩
  | 84 => ⟨S2x8192x3x2x1, .f32⟩
  | 85 => ⟨S2x8192x3x2x1, .f32⟩
  | 86 => ⟨S2x8192x3x2x1, .f32⟩
  | 87 => ⟨S2x8192x3x2x64, .f32⟩
  | 88 => ⟨S2x8192x3x2x64, .f32⟩
  | 89 => ⟨S1x1x1x1x64, .f32⟩
  | 90 => ⟨S2x8192x3x2x64, .f32⟩
  | 91 => ⟨S2x8192x3x2x64, .f32⟩
  | 92 => ⟨S32, .f32⟩
  | 93 => ⟨S32, .f32⟩
  | 94 => ⟨S_, .f32⟩
  | 95 => ⟨S32, .f32⟩
  | 96 => ⟨S32, .f32⟩
  | 97 => ⟨S_, .f32⟩
  | 98 => ⟨S32, .f32⟩
  | 99 => ⟨S32, .f32⟩
  | 100 => ⟨S8192, .f32⟩
  | 101 => ⟨S8192x1, .f32⟩
  | 102 => ⟨S1x32, .f32⟩
  | 103 => ⟨S8192x32, .f32⟩
  | 104 => ⟨S8192x32, .f32⟩
  | 105 => ⟨S8192x32, .f32⟩
  | 106 => ⟨S8192x32, .f32⟩
  | 107 => ⟨S1x8192x1x1x32, .f32⟩
  | 108 => ⟨S8192x32, .f32⟩
  | 109 => ⟨S1x8192x1x1x32, .f32⟩
  | 110 => ⟨S2x8192x3x2x32, .f32⟩
  | 111 => ⟨S2x8192x3x2x32, .f32⟩
  | 112 => ⟨S2x8192x3x2x32, .f32⟩
  | 113 => ⟨S2x8192x3x2x32, .f32⟩
  | 114 => ⟨S2x8192x3x2x32, .f32⟩
  | 115 => ⟨S2x8192x3x2x32, .f32⟩
  | 116 => ⟨S2x8192x3x2x32, .f32⟩
  | 117 => ⟨S2x8192x3x2x32, .f32⟩
  | 118 => ⟨S2x8192x3x2x32, .f32⟩
  | 119 => ⟨S2x8192x3x2x32, .f32⟩
  | 120 => ⟨S2x8192x3x2x32, .f32⟩
  | 121 => ⟨S2x8192x3x2x32, .f32⟩
  | 122 => ⟨S2x8192x3x2x64, .f32⟩
  | 123 => ⟨S2x8192x3x2x64, .f32⟩
  | 124 => ⟨S2x8192x1x2x64, .f32⟩
  | 125 => ⟨S2x8192x2x64, .f32⟩
  | 126 => ⟨S2x8192x1x2x64, .f32⟩
  | 127 => ⟨S2x8192x2x64, .f32⟩
  | _ => ⟨S2x8192x1024, .f32⟩

abbrev hbmTy0_1 (i : Nat) : BufTy := match i % 128 with
  | 0 => ⟨S2x8192x1x2x64, .f32⟩
  | 1 => ⟨S2x8192x1x2x64, .f32⟩
  | 2 => ⟨S2x8192x2x2x64, .f32⟩
  | 3 => ⟨S2x128x2x2x64, .f32⟩
  | 4 => ⟨S2x8192x1x2x64, .f32⟩
  | 5 => ⟨S2x8192x2x64, .f32⟩
  | 6 => ⟨S2x8192x1x2x64, .f32⟩
  | 7 => ⟨S2x8192x2x64, .f32⟩
  | 8 => ⟨S2x8192x1x2x64, .f32⟩
  | 9 => ⟨S2x8192x1x2x64, .f32⟩
  | 10 => ⟨S2x8192x2x2x64, .f32⟩
  | 11 => ⟨S2x512x2x2x64, .f32⟩
  | 12 => ⟨S2x8192x1x2x64, .f32⟩
  | 13 => ⟨S2x8192x2x64, .f32⟩
  | 14 => ⟨S2x8192x1x2x64, .f32⟩
  | 15 => ⟨S2x8192x2x64, .f32⟩
  | 16 => ⟨S2x8192x1x2x64, .f32⟩
  | 17 => ⟨S2x8192x1x2x64, .f32⟩
  | 18 => ⟨S2x8192x2x2x64, .f32⟩
  | 19 => ⟨S2x2048x2x2x64, .f32⟩
  | 20 => ⟨S_, .f32⟩
  | 21 => ⟨S2x8192x24x64, .f32⟩
  | 22 => ⟨S2x8192x24x64, .f32⟩
  | 23 => ⟨S16384x1536, .f32⟩
  | 24 => ⟨S16384x384, .f32⟩
  | 25 => ⟨S16384x384, .f32⟩
  | 26 => ⟨S2x8192x512, .f32⟩
  | 27 => ⟨S2x8192x512, .f32⟩
  | 28 => ⟨S_, .f32⟩
  | 29 => ⟨S2x8192x512, .f32⟩
  | 30 => ⟨S2x8192x512, .f32⟩
  | 31 => ⟨S_, .f32⟩
  | 32 => ⟨S2x8192x512, .f32⟩
  | 33 => ⟨S2x8192x512, .f32⟩
  | 34 => ⟨S2x8192x512, .f32⟩
  | 35 => ⟨S16384x512, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_cst_7 : Ref sig .tc := ⟨.hbm, 77, rfl⟩
abbrev main_v64 : Ref sig .tc := ⟨.hbm, 78, rfl⟩
abbrev main_v65 : Ref sig .tc := ⟨.hbm, 79, rfl⟩
abbrev main_cst_8 : Ref sig .tc := ⟨.hbm, 80, rfl⟩
abbrev main_v66 : Ref sig .tc := ⟨.hbm, 81, rfl⟩
abbrev main_v67 : Ref sig .tc := ⟨.hbm, 82, rfl⟩
abbrev main_cst_9 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_cst_10 : Ref sig .tc := ⟨.hbm, 94, rfl⟩
abbrev main_v78 : Ref sig .tc := ⟨.hbm, 95, rfl⟩
abbrev main_v79 : Ref sig .tc := ⟨.hbm, 96, rfl⟩
abbrev main_cst_11 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_cst_12 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_call0_v0 : Ref sig .tc := ⟨.hbm, 154, rfl⟩
abbrev main_call0_v1 : Ref sig .tc := ⟨.hbm, 155, rfl⟩
abbrev main_call0_cst : Ref sig .tc := ⟨.hbm, 156, rfl⟩
abbrev main_call0_v2 : Ref sig .tc := ⟨.hbm, 157, rfl⟩
abbrev main_call0_v3 : Ref sig .tc := ⟨.hbm, 158, rfl⟩
abbrev main_call0_cst_0 : Ref sig .tc := ⟨.hbm, 159, rfl⟩
abbrev main_call0_v4 : Ref sig .tc := ⟨.hbm, 160, rfl⟩
abbrev main_call0_v5 : Ref sig .tc := ⟨.hbm, 161, rfl⟩
abbrev main_v135 : Ref sig .tc := ⟨.hbm, 162, rfl⟩
abbrev main_v136 : Ref sig .tc := ⟨.hbm, 163, rfl⟩

abbrev nD : Nat := 1
abbrev τ : Topo := Topo.v7x

variable {F : FTy → Type} [FloatOps F]
-- ==== Kernel3.lean ====
abbrev S16384x128 : Shape := ⟨2, ![16384, 128]⟩
abbrev S16384x512 : Shape := ⟨2, ![16384, 512]⟩
abbrev S16384x1024 : Shape := ⟨2, ![16384, 1024]⟩
abbrev S512x1024 : Shape := ⟨2, ![512, 1024]⟩
abbrev S256x128 : Shape := ⟨2, ![256, 128]⟩
abbrev S256x512 : Shape := ⟨2, ![256, 512]⟩
abbrev S256x1024 : Shape := ⟨2, ![256, 1024]⟩
abbrev S256x1 : Shape := ⟨2, ![256, 1]⟩

abbrev nBuf : Space → Nat
  | .hbm => 20
  | .vmem => 37
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S16384x128, .f32⟩
  | .hbm, ⟨3, _⟩ => ⟨S16384x128, .f32⟩
  | .hbm, ⟨4, _⟩ => ⟨S16384x128, .f32⟩
  | .hbm, ⟨5, _⟩ => ⟨S16384x128, .f32⟩
  | .hbm, ⟨6, _⟩ => ⟨S16384x128, .f32⟩
  | .hbm, ⟨7, _⟩ => ⟨S16384x128, .f32⟩
  | .hbm, ⟨8, _⟩ => ⟨S16384x128, .f32⟩
  | .hbm, ⟨9, _⟩ => ⟨S16384x128, .f32⟩
  | .hbm, ⟨10, _⟩ => ⟨S16384x128, .f32⟩
  | .hbm, ⟨11, _⟩ => ⟨S16384x128, .f32⟩
  | .hbm, ⟨12, _⟩ => ⟨S16384x128, .f32⟩
  | .hbm, ⟨13, _⟩ => ⟨S16384x128, .f32⟩
  | .hbm, ⟨14, _⟩ => ⟨S16384x128, .f32⟩
  | .hbm, ⟨15, _⟩ => ⟨S16384x512, .f32⟩
  | .hbm, ⟨16, _⟩ => ⟨S16384x1024, .f32⟩
  | .hbm, ⟨17, _⟩ => ⟨S512x1024, .f32⟩
  | .hbm, ⟨18, _⟩ => ⟨S512x1024, .bf16⟩
  | .hbm, ⟨19, _⟩ => ⟨S16384x1024, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x128, .f32⟩
  | .local _ .vmem, ⟨24, _⟩ => ⟨S256x128, .f32⟩
  | .local _ .vmem, ⟨25, _⟩ => ⟨S256x128, .f32⟩
  | .local _ .vmem, ⟨26, _⟩ => ⟨S256x128, .f32⟩
  | .local _ .vmem, ⟨27, _⟩ => ⟨S256x128, .f32⟩
  | .local _ .vmem, ⟨28, _⟩ => ⟨S256x128, .f32⟩
  | .local _ .vmem, ⟨29, _⟩ => ⟨S256x128, .f32⟩
  | .local _ .vmem, ⟨30, _⟩ => ⟨S256x512, .f32⟩
  | .local _ .vmem, ⟨31, _⟩ => ⟨S256x512, .f32⟩
  | .local _ .vmem, ⟨32, _⟩ => ⟨S256x1024, .f32⟩
  | .local _ .vmem, ⟨33, _⟩ => ⟨S256x1024, .f32⟩
  | .local _ .vmem, ⟨34, _⟩ => ⟨S512x1024, .bf16⟩
  | .local _ .vmem, ⟨35, _⟩ => ⟨S256x1024, .f32⟩
  | .local _ .vmem, ⟨36, _⟩ => ⟨S256x1024, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg18_0 : Ref sig .tc := ⟨.vmem, 35, rfl⟩
abbrev cc0_stg18_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem18_0 : DmaSem sig := 35
abbrev cc0_sem18_1 : DmaSem sig := 36

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S512x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Kernel3Ideal.lean ====
abbrev S16384x128 : Shape := ⟨2, ![16384, 128]⟩
abbrev S16384x512 : Shape := ⟨2, ![16384, 512]⟩
abbrev S16384x1024 : Shape := ⟨2, ![16384, 1024]⟩
abbrev S512x1024 : Shape := ⟨2, ![512, 1024]⟩
abbrev S256x128 : Shape := ⟨2, ![256, 128]⟩
abbrev S256x512 : Shape := ⟨2, ![256, 512]⟩
abbrev S256x1024 : Shape := ⟨2, ![256, 1024]⟩
abbrev S256x1 : Shape := ⟨2, ![256, 1]⟩

abbrev nBuf : Space → Nat
  | .hbm => 20
  | .vmem => 37
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S16384x128, .f32⟩
  | .hbm, ⟨3, _⟩ => ⟨S16384x128, .f32⟩
  | .hbm, ⟨4, _⟩ => ⟨S16384x128, .f32⟩
  | .hbm, ⟨5, _⟩ => ⟨S16384x128, .f32⟩
  | .hbm, ⟨6, _⟩ => ⟨S16384x128, .f32⟩
  | .hbm, ⟨7, _⟩ => ⟨S16384x128, .f32⟩
  | .hbm, ⟨8, _⟩ => ⟨S16384x128, .f32⟩
  | .hbm, ⟨9, _⟩ => ⟨S16384x128, .f32⟩
  | .hbm, ⟨10, _⟩ => ⟨S16384x128, .f32⟩
  | .hbm, ⟨11, _⟩ => ⟨S16384x128, .f32⟩
  | .hbm, ⟨12, _⟩ => ⟨S16384x128, .f32⟩
  | .hbm, ⟨13, _⟩ => ⟨S16384x128, .f32⟩
  | .hbm, ⟨14, _⟩ => ⟨S16384x128, .f32⟩
  | .hbm, ⟨15, _⟩ => ⟨S16384x512, .f32⟩
  | .hbm, ⟨16, _⟩ => ⟨S16384x1024, .f32⟩
  | .hbm, ⟨17, _⟩ => ⟨S512x1024, .f32⟩
  | .hbm, ⟨18, _⟩ => ⟨S512x1024, .bf16⟩
  | .hbm, ⟨19, _⟩ => ⟨S16384x1024, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x128, .f32⟩
  | .local _ .vmem, ⟨24, _⟩ => ⟨S256x128, .f32⟩
  | .local _ .vmem, ⟨25, _⟩ => ⟨S256x128, .f32⟩
  | .local _ .vmem, ⟨26, _⟩ => ⟨S256x128, .f32⟩
  | .local _ .vmem, ⟨27, _⟩ => ⟨S256x128, .f32⟩
  | .local _ .vmem, ⟨28, _⟩ => ⟨S256x128, .f32⟩
  | .local _ .vmem, ⟨29, _⟩ => ⟨S256x128, .f32⟩
  | .local _ .vmem, ⟨30, _⟩ => ⟨S256x512, .f32⟩
  | .local _ .vmem, ⟨31, _⟩ => ⟨S256x512, .f32⟩
  | .local _ .vmem, ⟨32, _⟩ => ⟨S256x1024, .f32⟩
  | .local _ .vmem, ⟨33, _⟩ => ⟨S256x1024, .f32⟩
  | .local _ .vmem, ⟨34, _⟩ => ⟨S512x1024, .bf16⟩
  | .local _ .vmem, ⟨35, _⟩ => ⟨S256x1024, .f32⟩
  | .local _ .vmem, ⟨36, _⟩ => ⟨S256x1024, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg18_0 : Ref sig .tc := ⟨.vmem, 35, rfl⟩
abbrev cc0_stg18_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem18_0 : DmaSem sig := 35
abbrev cc0_sem18_1 : DmaSem sig := 36

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S512x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference3Ideal.lean ====
abbrev S16384x128 : Shape := ⟨2, ![16384, 128]⟩
abbrev S16384x512 : Shape := ⟨2, ![16384, 512]⟩
abbrev S16384x1024 : Shape := ⟨2, ![16384, 1024]⟩
abbrev S512x1024 : Shape := ⟨2, ![512, 1024]⟩
abbrev S16384x8x64 : Shape := ⟨3, ![16384, 8, 64]⟩
abbrev S16384x8x16 : Shape := ⟨3, ![16384, 8, 16]⟩
abbrev S16384x8x1 : Shape := ⟨3, ![16384, 8, 1]⟩
abbrev S16384x8 : Shape := ⟨2, ![16384, 8]⟩
abbrev S1x16384x8 : Shape := ⟨3, ![1, 16384, 8]⟩
abbrev S3x16384x8 : Shape := ⟨3, ![3, 16384, 8]⟩
abbrev S_ : Shape := ⟨0, ![]⟩
abbrev S1x16384x8x64 : Shape := ⟨4, ![1, 16384, 8, 64]⟩
abbrev S3x16384x8x64 : Shape := ⟨4, ![3, 16384, 8, 64]⟩

abbrev nBuf : Space → Nat
  | .hbm => 60
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S16384x128, .f32⟩
  | .hbm, ⟨3, _⟩ => ⟨S16384x128, .f32⟩
  | .hbm, ⟨4, _⟩ => ⟨S16384x128, .f32⟩
  | .hbm, ⟨5, _⟩ => ⟨S16384x128, .f32⟩
  | .hbm, ⟨6, _⟩ => ⟨S16384x128, .f32⟩
  | .hbm, ⟨7, _⟩ => ⟨S16384x128, .f32⟩
  | .hbm, ⟨8, _⟩ => ⟨S16384x128, .f32⟩
  | .hbm, ⟨9, _⟩ => ⟨S16384x128, .f32⟩
  | .hbm, ⟨10, _⟩ => ⟨S16384x128, .f32⟩
  | .hbm, ⟨11, _⟩ => ⟨S16384x128, .f32⟩
  | .hbm, ⟨12, _⟩ => ⟨S16384x128, .f32⟩
  | .hbm, ⟨13, _⟩ => ⟨S16384x128, .f32⟩
  | .hbm, ⟨14, _⟩ => ⟨S16384x128, .f32⟩
  | .hbm, ⟨15, _⟩ => ⟨S16384x512, .f32⟩
  | .hbm, ⟨16, _⟩ => ⟨S16384x1024, .f32⟩
  | .hbm, ⟨17, _⟩ => ⟨S512x1024, .f32⟩
  | .hbm, ⟨18, _⟩ => ⟨S16384x512, .f32⟩
  | .hbm, ⟨19, _⟩ => ⟨S16384x8x64, .f32⟩
  | .hbm, ⟨20, _⟩ => ⟨S16384x8x16, .f32⟩
  | .hbm, ⟨21, _⟩ => ⟨S16384x8x1, .f32⟩
  | .hbm, ⟨22, _⟩ => ⟨S16384x8, .f32⟩
  | .hbm, ⟨23, _⟩ => ⟨S16384x512, .f32⟩
  | .hbm, ⟨24, _⟩ => ⟨S16384x8x64, .f32⟩
  | .hbm, ⟨25, _⟩ => ⟨S16384x8x16, .f32⟩
  | .hbm, ⟨26, _⟩ => ⟨S16384x8x1, .f32⟩
  | .hbm, ⟨27, _⟩ => ⟨S16384x8, .f32⟩
  | .hbm, ⟨28, _⟩ => ⟨S16384x512, .f32⟩
  | .hbm, ⟨29, _⟩ => ⟨S16384x8x64, .f32⟩
  | .hbm, ⟨30, _⟩ => ⟨S16384x8x16, .f32⟩
  | .hbm, ⟨31, _⟩ => ⟨S16384x8x1, .f32⟩
  | .hbm, ⟨32, _⟩ => ⟨S16384x8, .f32⟩
  | .hbm, ⟨33, _⟩ => ⟨S1x16384x8, .f32⟩
  | .hbm, ⟨34, _⟩ => ⟨S1x16384x8, .f32⟩
  | .hbm, ⟨35, _⟩ => ⟨S1x16384x8, .f32⟩
  | .hbm, ⟨36, _⟩ => ⟨S3x16384x8, .f32⟩
  | .hbm, ⟨37, _⟩ => ⟨S_, .f32⟩
  | .hbm, ⟨38, _⟩ => ⟨S16384x8, .f32⟩
  | .hbm, ⟨39, _⟩ => ⟨S_, .f32⟩
  | .hbm, ⟨40, _⟩ => ⟨S16384x8, .f32⟩
  | .hbm, ⟨41, _⟩ => ⟨S16384x8, .f32⟩
  | .hbm, ⟨42, _⟩ => ⟨S1x16384x8, .f32⟩
  | .hbm, ⟨43, _⟩ => ⟨S3x16384x8, .f32⟩
  | .hbm, ⟨44, _⟩ => ⟨S3x16384x8, .f32⟩
  | .hbm, ⟨45, _⟩ => ⟨S3x16384x8, .f32⟩
  | .hbm, ⟨46, _⟩ => ⟨S_, .f32⟩
  | .hbm, ⟨47, _⟩ => ⟨S16384x8, .f32⟩
  | .hbm, ⟨48, _⟩ => ⟨S1x16384x8, .f32⟩
  | .hbm, ⟨49, _⟩ => ⟨S3x16384x8, .f32⟩
  | .hbm, ⟨50, _⟩ => ⟨S3x16384x8, .f32⟩
  | .hbm, ⟨51, _⟩ => ⟨S1x16384x8x64, .f32⟩
  | .hbm, ⟨52, _⟩ => ⟨S1x16384x8x64, .f32⟩
  | .hbm, ⟨53, _⟩ => ⟨S1x16384x8x64, .f32⟩
  | .hbm, ⟨54, _⟩ => ⟨S3x16384x8x64, .f32⟩
  | .hbm, ⟨55, _⟩ => ⟨S16384x8x64, .f32⟩
  | .hbm, ⟨56, _⟩ => ⟨S16384x512, .f32⟩
  | .hbm, ⟨57, _⟩ => ⟨S16384x512, .f32⟩
  | .hbm, ⟨58, _⟩ => ⟨S16384x1024, .f32⟩
  | .hbm, ⟨59, _⟩ => ⟨S16384x1024, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst : Ref sig .tc := ⟨.hbm, 37, rfl⟩
abbrev main_v19 : Ref sig .tc := ⟨.hbm, 38, rfl⟩
abbrev main_cst_0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_1 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]
-- ==== Kernel4.lean ====
abbrev S16384x1024 : Shape := ⟨2, ![16384, 1024]⟩
abbrev S1024x1024 : Shape := ⟨2, ![1024, 1024]⟩
abbrev S256x1024 : Shape := ⟨2, ![256, 1024]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x1024, .f32⟩
  | .hbm, ⟨4, _⟩ => ⟨S1024x1024, .bf16⟩
  | .hbm, ⟨5, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x1024, .bf16⟩
  | .local _ .vmem, ⟨7, _⟩ => ⟨S256x1024, .f32⟩
  | .local _ .vmem, ⟨8, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S16384x1024 : Shape := ⟨2, ![16384, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel5.lean ====
abbrev S2x8192x1024 : Shape := ⟨3, ![2, 8192, 1024]⟩
abbrev S1024 : Shape := ⟨1, ![1024]⟩
abbrev S1024x2560 : Shape := ⟨2, ![1024, 2560]⟩
abbrev S64 : Shape := ⟨1, ![64]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S16384x1024 : Shape := ⟨2, ![16384, 1024]⟩
abbrev S1x1024 : Shape := ⟨2, ![1, 1024]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S16384x256 : Shape := ⟨2, ![16384, 256]⟩
abbrev S64x1x256 : Shape := ⟨3, ![64, 1, 256]⟩
abbrev S16384x512 : Shape := ⟨2, ![16384, 512]⟩
abbrev S2x320x8192 : Shape := ⟨3, ![2, 320, 8192]⟩
abbrev S256x1024 : Shape := ⟨2, ![256, 1024]⟩
abbrev S256x128 : Shape := ⟨2, ![256, 128]⟩
abbrev S256x256 : Shape := ⟨2, ![256, 256]⟩
abbrev S1x1x256 : Shape := ⟨3, ![1, 1, 256]⟩
abbrev S256x512 : Shape := ⟨2, ![256, 512]⟩
abbrev S1x320x256 : Shape := ⟨3, ![1, 320, 256]⟩
abbrev S256 : Shape := ⟨1, ![256]⟩
abbrev S256x1 : Shape := ⟨2, ![256, 1]⟩
abbrev S128x128 : Shape := ⟨2, ![128, 128]⟩
abbrev S1024x1024 : Shape := ⟨2, ![1024, 1024]⟩
abbrev S1024x256 : Shape := ⟨2, ![1024, 256]⟩
abbrev S16x256 : Shape := ⟨2, ![16, 256]⟩
abbrev S64x256 : Shape := ⟨2, ![64, 256]⟩
abbrev S1x64x256 : Shape := ⟨3, ![1, 64, 256]⟩
abbrev S1x16x256 : Shape := ⟨3, ![1, 16, 256]⟩
abbrev S1x1x128 : Shape := ⟨3, ![1, 1, 128]⟩

abbrev nBuf : Space → Nat
  | .hbm => 47
  | .vmem => 28
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2560, .f32⟩
  | .hbm, ⟨3, _⟩ => ⟨S64, .f32⟩
  | .hbm, ⟨4, _⟩ => ⟨S64, .f32⟩
  | .hbm, ⟨5, _⟩ => ⟨S8192, .i32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S8192, .f32⟩
  | .hbm, ⟨15, _⟩ => ⟨S8192x1, .f32⟩
  | .hbm, ⟨16, _⟩ => ⟨S1x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S8192x32, .f32⟩
  | .hbm, ⟨22, _⟩ => ⟨S1x8192x1x32, .f32⟩
  | .hbm, ⟨23, _⟩ => ⟨S1x8192x4x32, .f32⟩
  | .hbm, ⟨24, _⟩ => ⟨S8192x128, .f32⟩
  | .hbm, ⟨25, _⟩ => ⟨S8192x32, .f32⟩
  | .hbm, ⟨26, _⟩ => ⟨S8192x128, .f32⟩
  | .hbm, ⟨27, _⟩ => ⟨S16384x1024, .f32⟩
  | .hbm, ⟨28, _⟩ => ⟨S1x1024, .f32⟩
  | .hbm, ⟨29, _⟩ => ⟨S1024x2560, .bf16⟩
  | .hbm, ⟨30, _⟩ => ⟨S1x64, .f32⟩
  | .hbm, ⟨31, _⟩ => ⟨S2x64, .f32⟩
  | .hbm, ⟨32, _⟩ => ⟨S128, .f32⟩
  | .hbm, ⟨33, _⟩ => ⟨S1x128, .f32⟩
  | .hbm, ⟨34, _⟩ => ⟨S1x64, .f32⟩
  | .hbm, ⟨35, _⟩ => ⟨S2x64, .f32⟩
  | .hbm, ⟨36, _⟩ => ⟨S128, .f32⟩
  | .hbm, ⟨37, _⟩ => ⟨S1x128, .f32⟩
  | .hbm, ⟨38, _⟩ => ⟨S16384x1024, .f32⟩
  | .hbm, ⟨39, _⟩ => ⟨S16384x256, .f32⟩
  | .hbm, ⟨40, _⟩ => ⟨S16384x256, .f32⟩
  | .hbm, ⟨41, _⟩ => ⟨S16384x256, .bf16⟩
  | .hbm, ⟨42, _⟩ => ⟨S16384x256, .bf16⟩
  | .hbm, ⟨43, _⟩ => ⟨S16384x1024, .f32⟩
  | .hbm, ⟨44, _⟩ => ⟨S64x1x256, .f32⟩
  | .hbm, ⟨45, _⟩ => ⟨S16384x512, .bf16⟩
  | .hbm, ⟨46, _⟩ => ⟨S2x320x8192, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2560, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1x128, .f32⟩
  | .local _ .vmem, ⟨9, _⟩ => ⟨S1x128, .f32⟩
  | .local _ .vmem, ⟨10, _⟩ => ⟨S256x1024, .f32⟩
  | .local _ .vmem, ⟨11, _⟩ => ⟨S256x1024, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .bf16⟩
  | .local _ .vmem, ⟨17, _⟩ => ⟨S256x256, .bf16⟩
  | .local _ .vmem, ⟨18, _⟩ => ⟨S256x256, .bf16⟩
  | .local _ .vmem, ⟨19, _⟩ => ⟨S256x256, .bf16⟩
  | .local _ .vmem, ⟨20, _⟩ => ⟨S256x1024, .f32⟩
  | .local _ .vmem, ⟨21, _⟩ => ⟨S256x1024, .f32⟩
  | .local _ .vmem, ⟨22, _⟩ => ⟨S1x1x256, .f32⟩
  | .local _ .vmem, ⟨23, _⟩ => ⟨S1x1x256, .f32⟩
  | .local _ .vmem, ⟨24, _⟩ => ⟨S256x512, .bf16⟩
  | .local _ .vmem, ⟨25, _⟩ => ⟨S256x512, .bf16⟩
  | .local _ .vmem, ⟨26, _⟩ => ⟨S1x320x256, .bf16⟩
  | .local _ .vmem, ⟨27, _⟩ => ⟨S1x320x256, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31_0 : Ref sig .tc := ⟨.hbm, 38, rfl⟩
abbrev main_v31_1 : Ref sig .tc := ⟨.hbm, 39, rfl⟩
abbrev main_v31_2 : Ref sig .tc := ⟨.hbm, 40, rfl⟩
abbrev main_v31_3 : Ref sig .tc := ⟨.hbm, 41, rfl⟩
abbrev main_v31_4 : Ref sig .tc := ⟨.hbm, 42, rfl⟩
abbrev main_v31_5 : Ref sig .tc := ⟨.hbm, 43, rfl⟩
abbrev main_v31_6 : Ref sig .tc := ⟨.hbm, 44, rfl⟩
abbrev main_v31_7 : Ref sig .tc := ⟨.hbm, 45, rfl⟩
abbrev main_v31_8 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x320x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference5Ideal.lean ====
abbrev S2x8192x1024 : Shape := ⟨3, ![2, 8192, 1024]⟩
abbrev S1024 : Shape := ⟨1, ![1024]⟩
abbrev S1024x2560 : Shape := ⟨2, ![1024, 2560]⟩
abbrev S64 : Shape := ⟨1, ![64]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2560 : Shape := ⟨3, ![2, 8192, 2560]⟩
abbrev S2x8192x256 : Shape := ⟨3, ![2, 8192, 256]⟩
abbrev S8192 : Shape := ⟨1, ![8192]⟩
abbrev S2x8192x16x64 : Shape := ⟨4, ![2, 8192, 16, 64]⟩
abbrev S2x8192x16 : Shape := ⟨3, ![2, 8192, 16]⟩
abbrev S2x8192x16x1 : Shape := ⟨4, ![2, 8192, 16, 1]⟩
abbrev S1x1x1x64 : Shape := ⟨4, ![1, 1, 1, 64]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S2x8192x16x32 : Shape := ⟨4, ![2, 8192, 16, 32]⟩
abbrev S2x8192x4x64 : Shape := ⟨4, ![2, 8192, 4, 64]⟩
abbrev S2x8192x4 : Shape := ⟨3, ![2, 8192, 4]⟩
abbrev S2x8192x4x1 : Shape := ⟨4, ![2, 8192, 4, 1]⟩
abbrev S2x8192x4x32 : Shape := ⟨4, ![2, 8192, 4, 32]⟩
abbrev S16384x1024 : Shape := ⟨2, ![16384, 1024]⟩
abbrev S16384x256 : Shape := ⟨2, ![16384, 256]⟩
abbrev S2x32x256x256 : Shape := ⟨4, ![2, 32, 256, 256]⟩
abbrev S2x32x256 : Shape := ⟨3, ![2, 32, 256]⟩
abbrev S64x1x256 : Shape := ⟨3, ![64, 1, 256]⟩

abbrev nBuf : Space → Nat
  | .hbm => 146
  | .vmem => 0
  | .smem => 0
  | _ => 0

abbrev hbmTy0_0 (i : Nat) : BufTy := match i % 128 with
  | 0 => ⟨S2x8192x1024, .f32⟩
  | 1 => ⟨S1024, .f32⟩
  | 2 => ⟨S1024x2560, .f32⟩
  | 3 => ⟨S64, .f32⟩
  | 4 => ⟨S64, .f32⟩
  | 5 => ⟨S2x8192x1024, .f32⟩
  | 6 => ⟨S_, .f32⟩
  | 7 => ⟨S2x8192, .f32⟩
  | 8 => ⟨S2x8192x1, .f32⟩
  | 9 => ⟨S_, .f32⟩
  | 10 => ⟨S2x8192x1, .f32⟩
  | 11 => ⟨S2x8192x1, .f32⟩
  | 12 => ⟨S_, .f32⟩
  | 13 => ⟨S2x8192x1, .f32⟩
  | 14 => ⟨S2x8192x1, .f32⟩
  | 15 => ⟨S2x8192x1, .f32⟩
  | 16 => ⟨S2x8192x1024, .f32⟩
  | 17 => ⟨S2x8192x1024, .f32⟩
  | 18 => ⟨S1x1x1024, .f32⟩
  | 19 => ⟨S2x8192x1024, .f32⟩
  | 20 => ⟨S2x8192x1024, .f32⟩
  | 21 => ⟨S2x8192x2560, .f32⟩
  | 22 => ⟨S2x8192x1024, .f32⟩
  | 23 => ⟨S2x8192x256, .f32⟩
  | 24 => ⟨S2x8192x256, .f32⟩
  | 25 => ⟨S2x8192x1024, .f32⟩
  | 26 => ⟨S8192, .i32⟩
  | 27 => ⟨S2x8192x16x64, .f32⟩
  | 28 => ⟨S2x8192x16x64, .f32⟩
  | 29 => ⟨S_, .f32⟩
  | 30 => ⟨S2x8192x16, .f32⟩
  | 31 => ⟨S2x8192x16x1, .f32⟩
  | 32 => ⟨S_, .f32⟩
  | 33 => ⟨S2x8192x16x1, .f32⟩
  | 34 => ⟨S2x8192x16x1, .f32⟩
  | 35 => ⟨S_, .f32⟩
  | 36 => ⟨S2x8192x16x1, .f32⟩
  | 37 => ⟨S2x8192x16x1, .f32⟩
  | 38 => ⟨S2x8192x16x1, .f32⟩
  | 39 => ⟨S2x8192x16x64, .f32⟩
  | 40 => ⟨S2x8192x16x64, .f32⟩
  | 41 => ⟨S1x1x1x64, .f32⟩
  | 42 => ⟨S2x8192x16x64, .f32⟩
  | 43 => ⟨S2x8192x16x64, .f32⟩
  | 44 => ⟨S32, .f32⟩
  | 45 => ⟨S32, .f32⟩
  | 46 => ⟨S_, .f32⟩
  | 47 => ⟨S32, .f32⟩
  | 48 => ⟨S32, .f32⟩
  | 49 => ⟨S_, .f32⟩
  | 50 => ⟨S32, .f32⟩
  | 51 => ⟨S32, .f32⟩
  | 52 => ⟨S8192, .f32⟩
  | 53 => ⟨S8192x1, .f32⟩
  | 54 => ⟨S1x32, .f32⟩
  | 55 => ⟨S8192x32, .f32⟩
  | 56 => ⟨S8192x32, .f32⟩
  | 57 => ⟨S8192x32, .f32⟩
  | 58 => ⟨S8192x32, .f32⟩
  | 59 => ⟨S1x8192x1x32, .f32⟩
  | 60 => ⟨S8192x32, .f32⟩
  | 61 => ⟨S1x8192x1x32, .f32⟩
  | 62 => ⟨S2x8192x16x32, .f32⟩
  | 63 => ⟨S2x8192x16x32, .f32⟩
  | 64 => ⟨S2x8192x16x32, .f32⟩
  | 65 => ⟨S2x8192x16x32, .f32⟩
  | 66 => ⟨S2x8192x16x32, .f32⟩
  | 67 => ⟨S2x8192x16x32, .f32⟩
  | 68 => ⟨S2x8192x16x32, .f32⟩
  | 69 => ⟨S2x8192x16x32, .f32⟩
  | 70 => ⟨S2x8192x16x32, .f32⟩
  | 71 => ⟨S2x8192x16x32, .f32⟩
  | 72 => ⟨S2x8192x16x32, .f32⟩
  | 73 => ⟨S2x8192x16x32, .f32⟩
  | 74 => ⟨S2x8192x16x64, .f32⟩
  | 75 => ⟨S2x8192x4x64, .f32⟩
  | 76 => ⟨S2x8192x4x64, .f32⟩
  | 77 => ⟨S_, .f32⟩
  | 78 => ⟨S2x8192x4, .f32⟩
  | 79 => ⟨S2x8192x4x1, .f32⟩
  | 80 => ⟨S_, .f32⟩
  | 81 => ⟨S2x8192x4x1, .f32⟩
  | 82 => ⟨S2x8192x4x1, .f32⟩
  | 83 => ⟨S_, .f32⟩
  | 84 => ⟨S2x8192x4x1, .f32⟩
  | 85 => ⟨S2x8192x4x1, .f32⟩
  | 86 => ⟨S2x8192x4x1, .f32⟩
  | 87 => ⟨S2x8192x4x64, .f32⟩
  | 88 => ⟨S2x8192x4x64, .f32⟩
  | 89 => ⟨S1x1x1x64, .f32⟩
  | 90 => ⟨S2x8192x4x64, .f32⟩
  | 91 => ⟨S2x8192x4x64, .f32⟩
  | 92 => ⟨S32, .f32⟩
  | 93 => ⟨S32, .f32⟩
  | 94 => ⟨S_, .f32⟩
  | 95 => ⟨S32, .f32⟩
  | 96 => ⟨S32, .f32⟩
  | 97 => ⟨S_, .f32⟩
  | 98 => ⟨S32, .f32⟩
  | 99 => ⟨S32, .f32⟩
  | 100 => ⟨S8192, .f32⟩
  | 101 => ⟨S8192x1, .f32⟩
  | 102 => ⟨S1x32, .f32⟩
  | 103 => ⟨S8192x32, .f32⟩
  | 104 => ⟨S8192x32, .f32⟩
  | 105 => ⟨S8192x32, .f32⟩
  | 106 => ⟨S8192x32, .f32⟩
  | 107 => ⟨S1x8192x1x32, .f32⟩
  | 108 => ⟨S8192x32, .f32⟩
  | 109 => ⟨S1x8192x1x32, .f32⟩
  | 110 => ⟨S2x8192x4x32, .f32⟩
  | 111 => ⟨S2x8192x4x32, .f32⟩
  | 112 => ⟨S2x8192x4x32, .f32⟩
  | 113 => ⟨S2x8192x4x32, .f32⟩
  | 114 => ⟨S2x8192x4x32, .f32⟩
  | 115 => ⟨S2x8192x4x32, .f32⟩
  | 116 => ⟨S2x8192x4x32, .f32⟩
  | 117 => ⟨S2x8192x4x32, .f32⟩
  | 118 => ⟨S2x8192x4x32, .f32⟩
  | 119 => ⟨S2x8192x4x32, .f32⟩
  | 120 => ⟨S2x8192x4x32, .f32⟩
  | 121 => ⟨S2x8192x4x32, .f32⟩
  | 122 => ⟨S2x8192x4x64, .f32⟩
  | 123 => ⟨S_, .f32⟩
  | 124 => ⟨S2x8192x16x64, .f32⟩
  | 125 => ⟨S2x8192x16x64, .f32⟩
  | 126 => ⟨S16384x1024, .f32⟩
  | 127 => ⟨S16384x256, .f32⟩
  | _ => ⟨S2x8192x1024, .f32⟩

abbrev hbmTy0_1 (i : Nat) : BufTy := match i % 128 with
  | 0 => ⟨S16384x256, .f32⟩
  | 1 => ⟨S2x8192x1024, .f32⟩
  | 2 => ⟨S2x8192x1024, .f32⟩
  | 3 => ⟨S_, .f32⟩
  | 4 => ⟨S2x8192x1024, .f32⟩
  | 5 => ⟨S2x8192x1024, .f32⟩
  | 6 => ⟨S_, .f32⟩
  | 7 => ⟨S2x8192x1024, .f32⟩
  | 8 => ⟨S2x8192x1024, .f32⟩
  | 9 => ⟨S2x8192x1024, .f32⟩
  | 10 => ⟨S16384x1024, .f32⟩
  | 11 => ⟨S2x32x256x256, .f32⟩
  | 12 => ⟨S_, .f32⟩
  | 13 => ⟨S2x32x256, .f32⟩
  | 14 => ⟨S_, .f32⟩
  | 15 => ⟨S2x32x256, .f32⟩
  | 16 => ⟨S2x32x256, .f32⟩
  | 17 => ⟨S64x1x256, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_cst_7 : Ref sig .tc := ⟨.hbm, 77, rfl⟩
abbrev main_v64 : Ref sig .tc := ⟨.hbm, 78, rfl⟩
abbrev main_v65 : Ref sig .tc := ⟨.hbm, 79, rfl⟩
abbrev main_cst_8 : Ref sig .tc := ⟨.hbm, 80, rfl⟩
abbrev main_v66 : Ref sig .tc := ⟨.hbm, 81, rfl⟩
abbrev main_v67 : Ref sig .tc := ⟨.hbm, 82, rfl⟩
abbrev main_cst_9 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_cst_10 : Ref sig .tc := ⟨.hbm, 94, rfl⟩
abbrev main_v78 : Ref sig .tc := ⟨.hbm, 95, rfl⟩
abbrev main_v79 : Ref sig .tc := ⟨.hbm, 96, rfl⟩
abbrev main_cst_11 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_cst_12 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_call0_v0 : Ref sig .tc := ⟨.hbm, 129, rfl⟩
abbrev main_call0_v1 : Ref sig .tc := ⟨.hbm, 130, rfl⟩
abbrev main_call0_cst : Ref sig .tc := ⟨.hbm, 131, rfl⟩
abbrev main_call0_v2 : Ref sig .tc := ⟨.hbm, 132, rfl⟩
abbrev main_call0_v3 : Ref sig .tc := ⟨.hbm, 133, rfl⟩
abbrev main_call0_cst_0 : Ref sig .tc := ⟨.hbm, 134, rfl⟩
abbrev main_call0_v4 : Ref sig .tc := ⟨.hbm, 135, rfl⟩
abbrev main_call0_v5 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_cst_13 : Ref sig .tc := ⟨.hbm, 140, rfl⟩
abbrev main_v113 : Ref sig .tc := ⟨.hbm, 141, rfl⟩
abbrev main_cst_14 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩

abbrev nD : Nat := 1
abbrev τ : Topo := Topo.v7x

variable {F : FTy → Type} [FloatOps F]
-- ==== Kernel6.lean ====
abbrev S2x8192x1024 : Shape := ⟨3, ![2, 8192, 1024]⟩
abbrev S1024 : Shape := ⟨1, ![1024]⟩
abbrev S1024x3144 : Shape := ⟨2, ![1024, 3144]⟩
abbrev S64 : Shape := ⟨1, ![64]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S1024x3200 : Shape := ⟨2, ![1024, 3200]⟩
abbrev S16384x1024 : Shape := ⟨2, ![16384, 1024]⟩
abbrev S1x1024 : Shape := ⟨2, ![1, 1024]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S16384x256 : Shape := ⟨2, ![16384, 256]⟩
abbrev S16384x512 : Shape := ⟨2, ![16384, 512]⟩
abbrev S16384x128 : Shape := ⟨2, ![16384, 128]⟩
abbrev S2x320x8192 : Shape := ⟨3, ![2, 320, 8192]⟩
abbrev S256x1024 : Shape := ⟨2, ![256, 1024]⟩
abbrev S256x128 : Shape := ⟨2, ![256, 128]⟩
abbrev S256x256 : Shape := ⟨2, ![256, 256]⟩
abbrev S256x512 : Shape := ⟨2, ![256, 512]⟩
abbrev S1x320x256 : Shape := ⟨3, ![1, 320, 256]⟩
abbrev S256 : Shape := ⟨1, ![256]⟩
abbrev S256x1 : Shape := ⟨2, ![256, 1]⟩
abbrev S128x128 : Shape := ⟨2, ![128, 128]⟩
abbrev S1024x1024 : Shape := ⟨2, ![1024, 1024]⟩
abbrev S1024x256 : Shape := ⟨2, ![1024, 256]⟩
abbrev S16x256 : Shape := ⟨2, ![16, 256]⟩
abbrev S64x256 : Shape := ⟨2, ![64, 256]⟩
abbrev S1x64x256 : Shape := ⟨3, ![1, 64, 256]⟩
abbrev S1x16x256 : Shape := ⟨3, ![1, 16, 256]⟩
abbrev S1024x512 : Shape := ⟨2, ![1024, 512]⟩
abbrev S1024x128 : Shape := ⟨2, ![1024, 128]⟩
abbrev S2x8192x128 : Shape := ⟨3, ![2, 8192, 128]⟩
abbrev S2x8192x64 : Shape := ⟨3, ![2, 8192, 64]⟩
abbrev S16384x8 : Shape := ⟨2, ![16384, 8]⟩

abbrev nBuf : Space → Nat
  | .hbm => 55
  | .vmem => 32
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x3144, .f32⟩
  | .hbm, ⟨3, _⟩ => ⟨S64, .f32⟩
  | .hbm, ⟨4, _⟩ => ⟨S64, .f32⟩
  | .hbm, ⟨5, _⟩ => ⟨S8192, .i32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S8192, .f32⟩
  | .hbm, ⟨15, _⟩ => ⟨S8192x1, .f32⟩
  | .hbm, ⟨16, _⟩ => ⟨S1x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S8192x32, .f32⟩
  | .hbm, ⟨22, _⟩ => ⟨S1x8192x1x32, .f32⟩
  | .hbm, ⟨23, _⟩ => ⟨S1x8192x4x32, .f32⟩
  | .hbm, ⟨24, _⟩ => ⟨S8192x128, .f32⟩
  | .hbm, ⟨25, _⟩ => ⟨S8192x32, .f32⟩
  | .hbm, ⟨26, _⟩ => ⟨S8192x128, .f32⟩
  | .hbm, ⟨27, _⟩ => ⟨S_, .i32⟩
  | .hbm, ⟨28, _⟩ => ⟨S_, .f32⟩
  | .hbm, ⟨29, _⟩ => ⟨S1024x3200, .f32⟩
  | .hbm, ⟨30, _⟩ => ⟨S1024x3200, .bf16⟩
  | .hbm, ⟨31, _⟩ => ⟨S16384x1024, .f32⟩
  | .hbm, ⟨32, _⟩ => ⟨S1x1024, .f32⟩
  | .hbm, ⟨33, _⟩ => ⟨S1x64, .f32⟩
  | .hbm, ⟨34, _⟩ => ⟨S2x64, .f32⟩
  | .hbm, ⟨35, _⟩ => ⟨S128, .f32⟩
  | .hbm, ⟨36, _⟩ => ⟨S1x128, .f32⟩
  | .hbm, ⟨37, _⟩ => ⟨S1x64, .f32⟩
  | .hbm, ⟨38, _⟩ => ⟨S2x64, .f32⟩
  | .hbm, ⟨39, _⟩ => ⟨S128, .f32⟩
  | .hbm, ⟨40, _⟩ => ⟨S1x128, .f32⟩
  | .hbm, ⟨41, _⟩ => ⟨S16384x1024, .f32⟩
  | .hbm, ⟨42, _⟩ => ⟨S16384x256, .f32⟩
  | .hbm, ⟨43, _⟩ => ⟨S16384x256, .f32⟩
  | .hbm, ⟨44, _⟩ => ⟨S16384x256, .bf16⟩
  | .hbm, ⟨45, _⟩ => ⟨S16384x256, .bf16⟩
  | .hbm, ⟨46, _⟩ => ⟨S16384x1024, .f32⟩
  | .hbm, ⟨47, _⟩ => ⟨S16384x512, .f32⟩
  | .hbm, ⟨48, _⟩ => ⟨S16384x128, .f32⟩
  | .hbm, ⟨49, _⟩ => ⟨S16384x128, .bf16⟩
  | .hbm, ⟨50, _⟩ => ⟨S16384x512, .bf16⟩
  | .hbm, ⟨51, _⟩ => ⟨S2x320x8192, .bf16⟩
  | .hbm, ⟨52, _⟩ => ⟨S2x8192x128, .f32⟩
  | .hbm, ⟨53, _⟩ => ⟨S2x8192x64, .f32⟩
  | .hbm, ⟨54, _⟩ => ⟨S16384x8, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3200, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1x128, .f32⟩
  | .local _ .vmem, ⟨9, _⟩ => ⟨S1x128, .f32⟩
  | .local _ .vmem, ⟨10, _⟩ => ⟨S256x1024, .f32⟩
  | .local _ .vmem, ⟨11, _⟩ => ⟨S256x1024, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .bf16⟩
  | .local _ .vmem, ⟨17, _⟩ => ⟨S256x256, .bf16⟩
  | .local _ .vmem, ⟨18, _⟩ => ⟨S256x256, .bf16⟩
  | .local _ .vmem, ⟨19, _⟩ => ⟨S256x256, .bf16⟩
  | .local _ .vmem, ⟨20, _⟩ => ⟨S256x1024, .f32⟩
  | .local _ .vmem, ⟨21, _⟩ => ⟨S256x1024, .f32⟩
  | .local _ .vmem, ⟨22, _⟩ => ⟨S256x512, .f32⟩
  | .local _ .vmem, ⟨23, _⟩ => ⟨S256x512, .f32⟩
  | .local _ .vmem, ⟨24, _⟩ => ⟨S256x128, .f32⟩
  | .local _ .vmem, ⟨25, _⟩ => ⟨S256x128, .f32⟩
  | .local _ .vmem, ⟨26, _⟩ => ⟨S256x128, .bf16⟩
  | .local _ .vmem, ⟨27, _⟩ => ⟨S256x128, .bf16⟩
  | .local _ .vmem, ⟨28, _⟩ => ⟨S256x512, .bf16⟩
  | .local _ .vmem, ⟨29, _⟩ => ⟨S256x512, .bf16⟩
  | .local _ .vmem, ⟨30, _⟩ => ⟨S1x320x256, .bf16⟩
  | .local _ .vmem, ⟨31, _⟩ => ⟨S1x320x256, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_call0_v0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32_0 : Ref sig .tc := ⟨.hbm, 41, rfl⟩
abbrev main_v32_1 : Ref sig .tc := ⟨.hbm, 42, rfl⟩
abbrev main_v32_2 : Ref sig .tc := ⟨.hbm, 43, rfl⟩
abbrev main_v32_3 : Ref sig .tc := ⟨.hbm, 44, rfl⟩
abbrev main_v32_4 : Ref sig .tc := ⟨.hbm, 45, rfl⟩
abbrev main_v32_5 : Ref sig .tc := ⟨.hbm, 46, rfl⟩
abbrev main_v32_6 : Ref sig .tc := ⟨.hbm, 47, rfl⟩
abbrev main_v32_7 : Ref sig .tc := ⟨.hbm, 48, rfl⟩
abbrev main_v32_8 : Ref sig .tc := ⟨.hbm, 49, rfl⟩
abbrev main_v32_9 : Ref sig .tc := ⟨.hbm, 50, rfl⟩
abbrev main_v32_10 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x320x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference6Ideal.lean ====
abbrev S2x8192x1024 : Shape := ⟨3, ![2, 8192, 1024]⟩
abbrev S1024 : Shape := ⟨1, ![1024]⟩
abbrev S1024x3144 : Shape := ⟨2, ![1024, 3144]⟩
abbrev S64 : Shape := ⟨1, ![64]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x3144 : Shape := ⟨3, ![2, 8192, 3144]⟩
abbrev S2x8192x256 : Shape := ⟨3, ![2, 8192, 256]⟩
abbrev S8192 : Shape := ⟨1, ![8192]⟩
abbrev S2x8192x16x64 : Shape := ⟨4, ![2, 8192, 16, 64]⟩
abbrev S2x8192x16 : Shape := ⟨3, ![2, 8192, 16]⟩
abbrev S2x8192x16x1 : Shape := ⟨4, ![2, 8192, 16, 1]⟩
abbrev S1x1x1x64 : Shape := ⟨4, ![1, 1, 1, 64]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S2x8192x16x32 : Shape := ⟨4, ![2, 8192, 16, 32]⟩
abbrev S2x8192x4x64 : Shape := ⟨4, ![2, 8192, 4, 64]⟩
abbrev S2x8192x4 : Shape := ⟨3, ![2, 8192, 4]⟩
abbrev S2x8192x4x1 : Shape := ⟨4, ![2, 8192, 4, 1]⟩
abbrev S2x8192x4x32 : Shape := ⟨4, ![2, 8192, 4, 32]⟩
abbrev S16384x1024 : Shape := ⟨2, ![16384, 1024]⟩
abbrev S16384x256 : Shape := ⟨2, ![16384, 256]⟩
abbrev S2x8192x584 : Shape := ⟨3, ![2, 8192, 584]⟩
abbrev S2x8192x512 : Shape := ⟨3, ![2, 8192, 512]⟩
abbrev S2x8192x64 : Shape := ⟨3, ![2, 8192, 64]⟩
abbrev S2x8192x8 : Shape := ⟨3, ![2, 8192, 8]⟩
abbrev S2x8192x8x64 : Shape := ⟨4, ![2, 8192, 8, 64]⟩
abbrev S2x8192x8x32 : Shape := ⟨4, ![2, 8192, 8, 32]⟩
abbrev S16384x512 : Shape := ⟨2, ![16384, 512]⟩
abbrev S1x8192x32 : Shape := ⟨3, ![1, 8192, 32]⟩
abbrev S2x8192x32 : Shape := ⟨3, ![2, 8192, 32]⟩
abbrev S16384x8 : Shape := ⟨2, ![16384, 8]⟩

abbrev nBuf : Space → Nat
  | .hbm => 209
  | .vmem => 0
  | .smem => 0
  | _ => 0

abbrev hbmTy0_0 (i : Nat) : BufTy := match i % 128 with
  | 0 => ⟨S2x8192x1024, .f32⟩
  | 1 => ⟨S1024, .f32⟩
  | 2 => ⟨S1024x3144, .f32⟩
  | 3 => ⟨S64, .f32⟩
  | 4 => ⟨S64, .f32⟩
  | 5 => ⟨S2x8192x1024, .f32⟩
  | 6 => ⟨S_, .f32⟩
  | 7 => ⟨S2x8192, .f32⟩
  | 8 => ⟨S2x8192x1, .f32⟩
  | 9 => ⟨S_, .f32⟩
  | 10 => ⟨S2x8192x1, .f32⟩
  | 11 => ⟨S2x8192x1, .f32⟩
  | 12 => ⟨S_, .f32⟩
  | 13 => ⟨S2x8192x1, .f32⟩
  | 14 => ⟨S2x8192x1, .f32⟩
  | 15 => ⟨S2x8192x1, .f32⟩
  | 16 => ⟨S2x8192x1024, .f32⟩
  | 17 => ⟨S2x8192x1024, .f32⟩
  | 18 => ⟨S1x1x1024, .f32⟩
  | 19 => ⟨S2x8192x1024, .f32⟩
  | 20 => ⟨S2x8192x1024, .f32⟩
  | 21 => ⟨S2x8192x3144, .f32⟩
  | 22 => ⟨S2x8192x1024, .f32⟩
  | 23 => ⟨S2x8192x256, .f32⟩
  | 24 => ⟨S2x8192x256, .f32⟩
  | 25 => ⟨S2x8192x1024, .f32⟩
  | 26 => ⟨S8192, .i32⟩
  | 27 => ⟨S2x8192x16x64, .f32⟩
  | 28 => ⟨S2x8192x16x64, .f32⟩
  | 29 => ⟨S_, .f32⟩
  | 30 => ⟨S2x8192x16, .f32⟩
  | 31 => ⟨S2x8192x16x1, .f32⟩
  | 32 => ⟨S_, .f32⟩
  | 33 => ⟨S2x8192x16x1, .f32⟩
  | 34 => ⟨S2x8192x16x1, .f32⟩
  | 35 => ⟨S_, .f32⟩
  | 36 => ⟨S2x8192x16x1, .f32⟩
  | 37 => ⟨S2x8192x16x1, .f32⟩
  | 38 => ⟨S2x8192x16x1, .f32⟩
  | 39 => ⟨S2x8192x16x64, .f32⟩
  | 40 => ⟨S2x8192x16x64, .f32⟩
  | 41 => ⟨S1x1x1x64, .f32⟩
  | 42 => ⟨S2x8192x16x64, .f32⟩
  | 43 => ⟨S2x8192x16x64, .f32⟩
  | 44 => ⟨S32, .f32⟩
  | 45 => ⟨S32, .f32⟩
  | 46 => ⟨S_, .f32⟩
  | 47 => ⟨S32, .f32⟩
  | 48 => ⟨S32, .f32⟩
  | 49 => ⟨S_, .f32⟩
  | 50 => ⟨S32, .f32⟩
  | 51 => ⟨S32, .f32⟩
  | 52 => ⟨S8192, .f32⟩
  | 53 => ⟨S8192x1, .f32⟩
  | 54 => ⟨S1x32, .f32⟩
  | 55 => ⟨S8192x32, .f32⟩
  | 56 => ⟨S8192x32, .f32⟩
  | 57 => ⟨S8192x32, .f32⟩
  | 58 => ⟨S8192x32, .f32⟩
  | 59 => ⟨S1x8192x1x32, .f32⟩
  | 60 => ⟨S8192x32, .f32⟩
  | 61 => ⟨S1x8192x1x32, .f32⟩
  | 62 => ⟨S2x8192x16x32, .f32⟩
  | 63 => ⟨S2x8192x16x32, .f32⟩
  | 64 => ⟨S2x8192x16x32, .f32⟩
  | 65 => ⟨S2x8192x16x32, .f32⟩
  | 66 => ⟨S2x8192x16x32, .f32⟩
  | 67 => ⟨S2x8192x16x32, .f32⟩
  | 68 => ⟨S2x8192x16x32, .f32⟩
  | 69 => ⟨S2x8192x16x32, .f32⟩
  | 70 => ⟨S2x8192x16x32, .f32⟩
  | 71 => ⟨S2x8192x16x32, .f32⟩
  | 72 => ⟨S2x8192x16x32, .f32⟩
  | 73 => ⟨S2x8192x16x32, .f32⟩
  | 74 => ⟨S2x8192x16x64, .f32⟩
  | 75 => ⟨S2x8192x4x64, .f32⟩
  | 76 => ⟨S2x8192x4x64, .f32⟩
  | 77 => ⟨S_, .f32⟩
  | 78 => ⟨S2x8192x4, .f32⟩
  | 79 => ⟨S2x8192x4x1, .f32⟩
  | 80 => ⟨S_, .f32⟩
  | 81 => ⟨S2x8192x4x1, .f32⟩
  | 82 => ⟨S2x8192x4x1, .f32⟩
  | 83 => ⟨S_, .f32⟩
  | 84 => ⟨S2x8192x4x1, .f32⟩
  | 85 => ⟨S2x8192x4x1, .f32⟩
  | 86 => ⟨S2x8192x4x1, .f32⟩
  | 87 => ⟨S2x8192x4x64, .f32⟩
  | 88 => ⟨S2x8192x4x64, .f32⟩
  | 89 => ⟨S1x1x1x64, .f32⟩
  | 90 => ⟨S2x8192x4x64, .f32⟩
  | 91 => ⟨S2x8192x4x64, .f32⟩
  | 92 => ⟨S32, .f32⟩
  | 93 => ⟨S32, .f32⟩
  | 94 => ⟨S_, .f32⟩
  | 95 => ⟨S32, .f32⟩
  | 96 => ⟨S32, .f32⟩
  | 97 => ⟨S_, .f32⟩
  | 98 => ⟨S32, .f32⟩
  | 99 => ⟨S32, .f32⟩
  | 100 => ⟨S8192, .f32⟩
  | 101 => ⟨S8192x1, .f32⟩
  | 102 => ⟨S1x32, .f32⟩
  | 103 => ⟨S8192x32, .f32⟩
  | 104 => ⟨S8192x32, .f32⟩
  | 105 => ⟨S8192x32, .f32⟩
  | 106 => ⟨S8192x32, .f32⟩
  | 107 => ⟨S1x8192x1x32, .f32⟩
  | 108 => ⟨S8192x32, .f32⟩
  | 109 => ⟨S1x8192x1x32, .f32⟩
  | 110 => ⟨S2x8192x4x32, .f32⟩
  | 111 => ⟨S2x8192x4x32, .f32⟩
  | 112 => ⟨S2x8192x4x32, .f32⟩
  | 113 => ⟨S2x8192x4x32, .f32⟩
  | 114 => ⟨S2x8192x4x32, .f32⟩
  | 115 => ⟨S2x8192x4x32, .f32⟩
  | 116 => ⟨S2x8192x4x32, .f32⟩
  | 117 => ⟨S2x8192x4x32, .f32⟩
  | 118 => ⟨S2x8192x4x32, .f32⟩
  | 119 => ⟨S2x8192x4x32, .f32⟩
  | 120 => ⟨S2x8192x4x32, .f32⟩
  | 121 => ⟨S2x8192x4x32, .f32⟩
  | 122 => ⟨S2x8192x4x64, .f32⟩
  | 123 => ⟨S_, .f32⟩
  | 124 => ⟨S2x8192x16x64, .f32⟩
  | 125 => ⟨S2x8192x16x64, .f32⟩
  | 126 => ⟨S16384x1024, .f32⟩
  | 127 => ⟨S16384x256, .f32⟩
  | _ => ⟨S2x8192x1024, .f32⟩

abbrev hbmTy0_1 (i : Nat) : BufTy := match i % 128 with
  | 0 => ⟨S16384x256, .f32⟩
  | 1 => ⟨S2x8192x1024, .f32⟩
  | 2 => ⟨S2x8192x1024, .f32⟩
  | 3 => ⟨S_, .f32⟩
  | 4 => ⟨S2x8192x1024, .f32⟩
  | 5 => ⟨S2x8192x1024, .f32⟩
  | 6 => ⟨S_, .f32⟩
  | 7 => ⟨S2x8192x1024, .f32⟩
  | 8 => ⟨S2x8192x1024, .f32⟩
  | 9 => ⟨S2x8192x1024, .f32⟩
  | 10 => ⟨S16384x1024, .f32⟩
  | 11 => ⟨S2x8192x584, .f32⟩
  | 12 => ⟨S2x8192x512, .f32⟩
  | 13 => ⟨S2x8192x64, .f32⟩
  | 14 => ⟨S2x8192x8, .f32⟩
  | 15 => ⟨S8192, .i32⟩
  | 16 => ⟨S2x8192x8x64, .f32⟩
  | 17 => ⟨S32, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S8192, .f32⟩
  | 26 => ⟨S8192x1, .f32⟩
  | 27 => ⟨S1x32, .f32⟩
  | 28 => ⟨S8192x32, .f32⟩
  | 29 => ⟨S8192x32, .f32⟩
  | 30 => ⟨S8192x32, .f32⟩
  | 31 => ⟨S8192x32, .f32⟩
  | 32 => ⟨S1x8192x1x32, .f32⟩
  | 33 => ⟨S8192x32, .f32⟩
  | 34 => ⟨S1x8192x1x32, .f32⟩
  | 35 => ⟨S2x8192x8x32, .f32⟩
  | 36 => ⟨S2x8192x8x32, .f32⟩
  | 37 => ⟨S2x8192x8x32, .f32⟩
  | 38 => ⟨S2x8192x8x32, .f32⟩
  | 39 => ⟨S2x8192x8x32, .f32⟩
  | 40 => ⟨S2x8192x8x32, .f32⟩
  | 41 => ⟨S2x8192x8x32, .f32⟩
  | 42 => ⟨S2x8192x8x32, .f32⟩
  | 43 => ⟨S2x8192x8x32, .f32⟩
  | 44 => ⟨S2x8192x8x32, .f32⟩
  | 45 => ⟨S2x8192x8x32, .f32⟩
  | 46 => ⟨S2x8192x8x32, .f32⟩
  | 47 => ⟨S2x8192x8x64, .f32⟩
  | 48 => ⟨S16384x512, .f32⟩
  | 49 => ⟨S32, .f32⟩
  | 50 => ⟨S32, .f32⟩
  | 51 => ⟨S_, .f32⟩
  | 52 => ⟨S32, .f32⟩
  | 53 => ⟨S32, .f32⟩
  | 54 => ⟨S_, .f32⟩
  | 55 => ⟨S32, .f32⟩
  | 56 => ⟨S32, .f32⟩
  | 57 => ⟨S8192, .f32⟩
  | 58 => ⟨S8192x1, .f32⟩
  | 59 => ⟨S1x32, .f32⟩
  | 60 => ⟨S8192x32, .f32⟩
  | 61 => ⟨S8192x32, .f32⟩
  | 62 => ⟨S8192x32, .f32⟩
  | 63 => ⟨S8192x32, .f32⟩
  | 64 => ⟨S1x8192x32, .f32⟩
  | 65 => ⟨S8192x32, .f32⟩
  | 66 => ⟨S1x8192x32, .f32⟩
  | 67 => ⟨S2x8192x32, .f32⟩
  | 68 => ⟨S2x8192x32, .f32⟩
  | 69 => ⟨S2x8192x32, .f32⟩
  | 70 => ⟨S2x8192x32, .f32⟩
  | 71 => ⟨S2x8192x32, .f32⟩
  | 72 => ⟨S2x8192x32, .f32⟩
  | 73 => ⟨S2x8192x32, .f32⟩
  | 74 => ⟨S2x8192x32, .f32⟩
  | 75 => ⟨S2x8192x32, .f32⟩
  | 76 => ⟨S2x8192x32, .f32⟩
  | 77 => ⟨S2x8192x32, .f32⟩
  | 78 => ⟨S2x8192x32, .f32⟩
  | 79 => ⟨S2x8192x64, .f32⟩
  | 80 => ⟨S16384x8, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_cst_7 : Ref sig .tc := ⟨.hbm, 77, rfl⟩
abbrev main_v64 : Ref sig .tc := ⟨.hbm, 78, rfl⟩
abbrev main_v65 : Ref sig .tc := ⟨.hbm, 79, rfl⟩
abbrev main_cst_8 : Ref sig .tc := ⟨.hbm, 80, rfl⟩
abbrev main_v66 : Ref sig .tc := ⟨.hbm, 81, rfl⟩
abbrev main_v67 : Ref sig .tc := ⟨.hbm, 82, rfl⟩
abbrev main_cst_9 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_cst_10 : Ref sig .tc := ⟨.hbm, 94, rfl⟩
abbrev main_v78 : Ref sig .tc := ⟨.hbm, 95, rfl⟩
abbrev main_v79 : Ref sig .tc := ⟨.hbm, 96, rfl⟩
abbrev main_cst_11 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_cst_12 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_call0_v0 : Ref sig .tc := ⟨.hbm, 129, rfl⟩
abbrev main_call0_v1 : Ref sig .tc := ⟨.hbm, 130, rfl⟩
abbrev main_call0_cst : Ref sig .tc := ⟨.hbm, 131, rfl⟩
abbrev main_call0_v2 : Ref sig .tc := ⟨.hbm, 132, rfl⟩
abbrev main_call0_v3 : Ref sig .tc := ⟨.hbm, 133, rfl⟩
abbrev main_call0_cst_0 : Ref sig .tc := ⟨.hbm, 134, rfl⟩
abbrev main_call0_v4 : Ref sig .tc := ⟨.hbm, 135, rfl⟩
abbrev main_call0_v5 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_cst_13 : Ref sig .tc := ⟨.hbm, 147, rfl⟩
abbrev main_v120 : Ref sig .tc := ⟨.hbm, 148, rfl⟩
abbrev main_v121 : Ref sig .tc := ⟨.hbm, 149, rfl⟩
abbrev main_cst_14 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_cst_15 : Ref sig .tc := ⟨.hbm, 179, rfl⟩
abbrev main_v150 : Ref sig .tc := ⟨.hbm, 180, rfl⟩
abbrev main_v151 : Ref sig .tc := ⟨.hbm, 181, rfl⟩
abbrev main_cst_16 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩
abbrev main_v171 : Ref sig .tc := ⟨.hbm, 202, rfl⟩
abbrev main_v172 : Ref sig .tc := ⟨.hbm, 203, rfl⟩
abbrev main_v173 : Ref sig .tc := ⟨.hbm, 204, rfl⟩
abbrev main_v174 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩

abbrev nD : Nat := 1
abbrev τ : Topo := Topo.v7x

variable {F : FTy → Type} [FloatOps F]
-- ==== Kernel7.lean ====
abbrev S1024x128 : Shape := ⟨2, ![1024, 128]⟩
abbrev S1024x512 : Shape := ⟨2, ![1024, 512]⟩
abbrev S1024x1024 : Shape := ⟨2, ![1024, 1024]⟩
abbrev S512x1024 : Shape := ⟨2, ![512, 1024]⟩
abbrev S256x128 : Shape := ⟨2, ![256, 128]⟩
abbrev S256x512 : Shape := ⟨2, ![256, 512]⟩
abbrev S256x1024 : Shape := ⟨2, ![256, 1024]⟩
abbrev S256x1 : Shape := ⟨2, ![256, 1]⟩

abbrev nBuf : Space → Nat
  | .hbm => 20
  | .vmem => 37
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S1024x128, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S1024x512, .f32⟩
  | .hbm, ⟨16, _⟩ => ⟨S1024x1024, .f32⟩
  | .hbm, ⟨17, _⟩ => ⟨S512x1024, .f32⟩
  | .hbm, ⟨18, _⟩ => ⟨S512x1024, .bf16⟩
  | .hbm, ⟨19, _⟩ => ⟨S1024x1024, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x128, .f32⟩
  | .local _ .vmem, ⟨24, _⟩ => ⟨S256x128, .f32⟩
  | .local _ .vmem, ⟨25, _⟩ => ⟨S256x128, .f32⟩
  | .local _ .vmem, ⟨26, _⟩ => ⟨S256x128, .f32⟩
  | .local _ .vmem, ⟨27, _⟩ => ⟨S256x128, .f32⟩
  | .local _ .vmem, ⟨28, _⟩ => ⟨S256x128, .f32⟩
  | .local _ .vmem, ⟨29, _⟩ => ⟨S256x128, .f32⟩
  | .local _ .vmem, ⟨30, _⟩ => ⟨S256x512, .f32⟩
  | .local _ .vmem, ⟨31, _⟩ => ⟨S256x512, .f32⟩
  | .local _ .vmem, ⟨32, _⟩ => ⟨S256x1024, .f32⟩
  | .local _ .vmem, ⟨33, _⟩ => ⟨S256x1024, .f32⟩
  | .local _ .vmem, ⟨34, _⟩ => ⟨S512x1024, .bf16⟩
  | .local _ .vmem, ⟨35, _⟩ => ⟨S256x1024, .f32⟩
  | .local _ .vmem, ⟨36, _⟩ => ⟨S256x1024, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg18_0 : Ref sig .tc := ⟨.vmem, 35, rfl⟩
abbrev cc0_stg18_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem18_0 : DmaSem sig := 35
abbrev cc0_sem18_1 : DmaSem sig := 36

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S512x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference7Ideal.lean ====
abbrev S1024x128 : Shape := ⟨2, ![1024, 128]⟩
abbrev S1024x512 : Shape := ⟨2, ![1024, 512]⟩
abbrev S1024x1024 : Shape := ⟨2, ![1024, 1024]⟩
abbrev S512x1024 : Shape := ⟨2, ![512, 1024]⟩
abbrev S1024x8x64 : Shape := ⟨3, ![1024, 8, 64]⟩
abbrev S1024x8x16 : Shape := ⟨3, ![1024, 8, 16]⟩
abbrev S1024x8x1 : Shape := ⟨3, ![1024, 8, 1]⟩
abbrev S1024x8 : Shape := ⟨2, ![1024, 8]⟩
abbrev S1x1024x8 : Shape := ⟨3, ![1, 1024, 8]⟩
abbrev S3x1024x8 : Shape := ⟨3, ![3, 1024, 8]⟩
abbrev S_ : Shape := ⟨0, ![]⟩
abbrev S1x1024x8x64 : Shape := ⟨4, ![1, 1024, 8, 64]⟩
abbrev S3x1024x8x64 : Shape := ⟨4, ![3, 1024, 8, 64]⟩

abbrev nBuf : Space → Nat
  | .hbm => 60
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S1024x128, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S1024x512, .f32⟩
  | .hbm, ⟨16, _⟩ => ⟨S1024x1024, .f32⟩
  | .hbm, ⟨17, _⟩ => ⟨S512x1024, .f32⟩
  | .hbm, ⟨18, _⟩ => ⟨S1024x512, .f32⟩
  | .hbm, ⟨19, _⟩ => ⟨S1024x8x64, .f32⟩
  | .hbm, ⟨20, _⟩ => ⟨S1024x8x16, .f32⟩
  | .hbm, ⟨21, _⟩ => ⟨S1024x8x1, .f32⟩
  | .hbm, ⟨22, _⟩ => ⟨S1024x8, .f32⟩
  | .hbm, ⟨23, _⟩ => ⟨S1024x512, .f32⟩
  | .hbm, ⟨24, _⟩ => ⟨S1024x8x64, .f32⟩
  | .hbm, ⟨25, _⟩ => ⟨S1024x8x16, .f32⟩
  | .hbm, ⟨26, _⟩ => ⟨S1024x8x1, .f32⟩
  | .hbm, ⟨27, _⟩ => ⟨S1024x8, .f32⟩
  | .hbm, ⟨28, _⟩ => ⟨S1024x512, .f32⟩
  | .hbm, ⟨29, _⟩ => ⟨S1024x8x64, .f32⟩
  | .hbm, ⟨30, _⟩ => ⟨S1024x8x16, .f32⟩
  | .hbm, ⟨31, _⟩ => ⟨S1024x8x1, .f32⟩
  | .hbm, ⟨32, _⟩ => ⟨S1024x8, .f32⟩
  | .hbm, ⟨33, _⟩ => ⟨S1x1024x8, .f32⟩
  | .hbm, ⟨34, _⟩ => ⟨S1x1024x8, .f32⟩
  | .hbm, ⟨35, _⟩ => ⟨S1x1024x8, .f32⟩
  | .hbm, ⟨36, _⟩ => ⟨S3x1024x8, .f32⟩
  | .hbm, ⟨37, _⟩ => ⟨S_, .f32⟩
  | .hbm, ⟨38, _⟩ => ⟨S1024x8, .f32⟩
  | .hbm, ⟨39, _⟩ => ⟨S_, .f32⟩
  | .hbm, ⟨40, _⟩ => ⟨S1024x8, .f32⟩
  | .hbm, ⟨41, _⟩ => ⟨S1024x8, .f32⟩
  | .hbm, ⟨42, _⟩ => ⟨S1x1024x8, .f32⟩
  | .hbm, ⟨43, _⟩ => ⟨S3x1024x8, .f32⟩
  | .hbm, ⟨44, _⟩ => ⟨S3x1024x8, .f32⟩
  | .hbm, ⟨45, _⟩ => ⟨S3x1024x8, .f32⟩
  | .hbm, ⟨46, _⟩ => ⟨S_, .f32⟩
  | .hbm, ⟨47, _⟩ => ⟨S1024x8, .f32⟩
  | .hbm, ⟨48, _⟩ => ⟨S1x1024x8, .f32⟩
  | .hbm, ⟨49, _⟩ => ⟨S3x1024x8, .f32⟩
  | .hbm, ⟨50, _⟩ => ⟨S3x1024x8, .f32⟩
  | .hbm, ⟨51, _⟩ => ⟨S1x1024x8x64, .f32⟩
  | .hbm, ⟨52, _⟩ => ⟨S1x1024x8x64, .f32⟩
  | .hbm, ⟨53, _⟩ => ⟨S1x1024x8x64, .f32⟩
  | .hbm, ⟨54, _⟩ => ⟨S3x1024x8x64, .f32⟩
  | .hbm, ⟨55, _⟩ => ⟨S1024x8x64, .f32⟩
  | .hbm, ⟨56, _⟩ => ⟨S1024x512, .f32⟩
  | .hbm, ⟨57, _⟩ => ⟨S1024x512, .f32⟩
  | .hbm, ⟨58, _⟩ => ⟨S1024x1024, .f32⟩
  | .hbm, ⟨59, _⟩ => ⟨S1024x1024, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst : Ref sig .tc := ⟨.hbm, 37, rfl⟩
abbrev main_v19 : Ref sig .tc := ⟨.hbm, 38, rfl⟩
abbrev main_cst_0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_1 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]
-- ==== Kernel8.lean ====
abbrev S128x8x1024 : Shape := ⟨3, ![128, 8, 1024]⟩
abbrev S1024 : Shape := ⟨1, ![1024]⟩
abbrev S1024x2560 : Shape := ⟨2, ![1024, 2560]⟩
abbrev S64 : Shape := ⟨1, ![64]⟩
abbrev S256 : Shape := ⟨1, ![256]⟩
abbrev S_ : Shape := ⟨0, ![]⟩
abbrev S32 : Shape := ⟨1, ![32]⟩
abbrev S256x1 : Shape := ⟨2, ![256, 1]⟩
abbrev S1x32 : Shape := ⟨2, ![1, 32]⟩
abbrev S256x32 : Shape := ⟨2, ![256, 32]⟩
abbrev S1x256x1x32 : Shape := ⟨4, ![1, 256, 1, 32]⟩
abbrev S1x256x4x32 : Shape := ⟨4, ![1, 256, 4, 32]⟩
abbrev S256x128 : Shape := ⟨2, ![256, 128]⟩
abbrev S1024x1024 : Shape := ⟨2, ![1024, 1024]⟩
abbrev S1x1024 : Shape := ⟨2, ![1, 1024]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S1024x256 : Shape := ⟨2, ![1024, 256]⟩
abbrev S256x1024 : Shape := ⟨2, ![256, 1024]⟩
abbrev S256x256 : Shape := ⟨2, ![256, 256]⟩
abbrev S128x128 : Shape := ⟨2, ![128, 128]⟩

abbrev nBuf : Space → Nat
  | .hbm => 69
  | .vmem => 20
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S1024x2560, .f32⟩
  | .hbm, ⟨3, _⟩ => ⟨S64, .f32⟩
  | .hbm, ⟨4, _⟩ => ⟨S64, .f32⟩
  | .hbm, ⟨5, _⟩ => ⟨S256, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S256, .i32⟩
  | .hbm, ⟨13, _⟩ => ⟨S256, .i32⟩
  | .hbm, ⟨14, _⟩ => ⟨S_, .i32⟩
  | .hbm, ⟨15, _⟩ => ⟨S256, .i32⟩
  | .hbm, ⟨16, _⟩ => ⟨S256, .i1⟩
  | .hbm, ⟨17, _⟩ => ⟨S_, .i32⟩
  | .hbm, ⟨18, _⟩ => ⟨S256, .i32⟩
  | .hbm, ⟨19, _⟩ => ⟨S256, .i1⟩
  | .hbm, ⟨20, _⟩ => ⟨S_, .i32⟩
  | .hbm, ⟨21, _⟩ => ⟨S_, .i1⟩
  | .hbm, ⟨22, _⟩ => ⟨S256, .i1⟩
  | .hbm, ⟨23, _⟩ => ⟨S256, .i1⟩
  | .hbm, ⟨24, _⟩ => ⟨S256, .i1⟩
  | .hbm, ⟨25, _⟩ => ⟨S256, .i32⟩
  | .hbm, ⟨26, _⟩ => ⟨S256, .i32⟩
  | .hbm, ⟨27, _⟩ => ⟨S256, .i32⟩
  | .hbm, ⟨28, _⟩ => ⟨S_, .i32⟩
  | .hbm, ⟨29, _⟩ => ⟨S256, .i32⟩
  | .hbm, ⟨30, _⟩ => ⟨S256, .i32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S256, .f32⟩
  | .hbm, ⟨40, _⟩ => ⟨S256x1, .f32⟩
  | .hbm, ⟨41, _⟩ => ⟨S1x32, .f32⟩
  | .hbm, ⟨42, _⟩ => ⟨S256x32, .f32⟩
  | .hbm, ⟨43, _⟩ => ⟨S256x32, .f32⟩
  | .hbm, ⟨44, _⟩ => ⟨S256x32, .f32⟩
  | .hbm, ⟨45, _⟩ => ⟨S256x32, .f32⟩
  | .hbm, ⟨46, _⟩ => ⟨S256x32, .f32⟩
  | .hbm, ⟨47, _⟩ => ⟨S1x256x1x32, .f32⟩
  | .hbm, ⟨48, _⟩ => ⟨S1x256x4x32, .f32⟩
  | .hbm, ⟨49, _⟩ => ⟨S256x128, .f32⟩
  | .hbm, ⟨50, _⟩ => ⟨S256x32, .f32⟩
  | .hbm, ⟨51, _⟩ => ⟨S256x128, .f32⟩
  | .hbm, ⟨52, _⟩ => ⟨S1024x1024, .f32⟩
  | .hbm, ⟨53, _⟩ => ⟨S1x1024, .f32⟩
  | .hbm, ⟨54, _⟩ => ⟨S1024x2560, .bf16⟩
  | .hbm, ⟨55, _⟩ => ⟨S1x64, .f32⟩
  | .hbm, ⟨56, _⟩ => ⟨S2x64, .f32⟩
  | .hbm, ⟨57, _⟩ => ⟨S128, .f32⟩
  | .hbm, ⟨58, _⟩ => ⟨S1x128, .f32⟩
  | .hbm, ⟨59, _⟩ => ⟨S1x64, .f32⟩
  | .hbm, ⟨60, _⟩ => ⟨S2x64, .f32⟩
  | .hbm, ⟨61, _⟩ => ⟨S128, .f32⟩
  | .hbm, ⟨62, _⟩ => ⟨S1x128, .f32⟩
  | .hbm, ⟨63, _⟩ => ⟨S1024x1024, .f32⟩
  | .hbm, ⟨64, _⟩ => ⟨S1024x256, .f32⟩
  | .hbm, ⟨65, _⟩ => ⟨S1024x256, .f32⟩
  | .hbm, ⟨66, _⟩ => ⟨S1024x256, .bf16⟩
  | .hbm, ⟨67, _⟩ => ⟨S1024x256, .bf16⟩
  | .hbm, ⟨68, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2560, .bf16⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S1x128, .f32⟩
  | .local _ .vmem, ⟨8, _⟩ => ⟨S256x1024, .f32⟩
  | .local _ .vmem, ⟨9, _⟩ => ⟨S256x1024, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .bf16⟩
  | .local _ .vmem, ⟨15, _⟩ => ⟨S256x256, .bf16⟩
  | .local _ .vmem, ⟨16, _⟩ => ⟨S256x256, .bf16⟩
  | .local _ .vmem, ⟨17, _⟩ => ⟨S256x256, .bf16⟩
  | .local _ .vmem, ⟨18, _⟩ => ⟨S256x1024, .f32⟩
  | .local _ .vmem, ⟨19, _⟩ => ⟨S256x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_v5 : Ref sig .tc := ⟨.hbm, 15, rfl⟩
abbrev main_call0_v6 : Ref sig .tc := ⟨.hbm, 16, rfl⟩
abbrev main_call0_c_2 : Ref sig .tc := ⟨.hbm, 17, rfl⟩
abbrev main_call0_v7 : Ref sig .tc := ⟨.hbm, 18, rfl⟩
abbrev main_call0_v8 : Ref sig .tc := ⟨.hbm, 19, rfl⟩
abbrev main_call0_c_3 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_v1 : Ref sig .tc := ⟨.hbm, 27, rfl⟩
abbrev main_c_0 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_cst : Ref sig .tc := ⟨.hbm, 33, rfl⟩
abbrev main_v6 : Ref sig .tc := ⟨.hbm, 34, rfl⟩
abbrev main_v7 : Ref sig .tc := ⟨.hbm, 35, rfl⟩
abbrev main_cst_1 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34_0 : Ref sig .tc := ⟨.hbm, 63, rfl⟩
abbrev main_v34_1 : Ref sig .tc := ⟨.hbm, 64, rfl⟩
abbrev main_v34_2 : Ref sig .tc := ⟨.hbm, 65, rfl⟩
abbrev main_v34_3 : Ref sig .tc := ⟨.hbm, 66, rfl⟩
abbrev main_v34_4 : Ref sig .tc := ⟨.hbm, 67, rfl⟩
abbrev main_v34_5 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference8Ideal.lean ====
abbrev S128x8x1024 : Shape := ⟨3, ![128, 8, 1024]⟩
abbrev S1024 : Shape := ⟨1, ![1024]⟩
abbrev S1024x2560 : Shape := ⟨2, ![1024, 2560]⟩
abbrev S64 : Shape := ⟨1, ![64]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x8x2560 : Shape := ⟨3, ![128, 8, 2560]⟩
abbrev S128x8x256 : Shape := ⟨3, ![128, 8, 256]⟩
abbrev S8 : Shape := ⟨1, ![8]⟩
abbrev S128x8x16x64 : Shape := ⟨4, ![128, 8, 16, 64]⟩
abbrev S128x8x16 : Shape := ⟨3, ![128, 8, 16]⟩
abbrev S128x8x16x1 : Shape := ⟨4, ![128, 8, 16, 1]⟩
abbrev S1x1x1x64 : Shape := ⟨4, ![1, 1, 1, 64]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S1x8x1x32 : Shape := ⟨4, ![1, 8, 1, 32]⟩
abbrev S128x8x16x32 : Shape := ⟨4, ![128, 8, 16, 32]⟩
abbrev S128x8x4x64 : Shape := ⟨4, ![128, 8, 4, 64]⟩
abbrev S128x8x4 : Shape := ⟨3, ![128, 8, 4]⟩
abbrev S128x8x4x1 : Shape := ⟨4, ![128, 8, 4, 1]⟩
abbrev S128x8x4x32 : Shape := ⟨4, ![128, 8, 4, 32]⟩
abbrev S1024x1024 : Shape := ⟨2, ![1024, 1024]⟩
abbrev S1024x256 : Shape := ⟨2, ![1024, 256]⟩

abbrev nBuf : Space → Nat
  | .hbm => 142
  | .vmem => 0
  | .smem => 0
  | _ => 0

abbrev hbmTy0_0 (i : Nat) : BufTy := match i % 128 with
  | 0 => ⟨S128x8x1024, .f32⟩
  | 1 => ⟨S1024, .f32⟩
  | 2 => ⟨S1024x2560, .f32⟩
  | 3 => ⟨S64, .f32⟩
  | 4 => ⟨S64, .f32⟩
  | 5 => ⟨S128x8x1024, .f32⟩
  | 6 => ⟨S_, .f32⟩
  | 7 => ⟨S128x8, .f32⟩
  | 8 => ⟨S128x8x1, .f32⟩
  | 9 => ⟨S_, .f32⟩
  | 10 => ⟨S128x8x1, .f32⟩
  | 11 => ⟨S128x8x1, .f32⟩
  | 12 => ⟨S_, .f32⟩
  | 13 => ⟨S128x8x1, .f32⟩
  | 14 => ⟨S128x8x1, .f32⟩
  | 15 => ⟨S128x8x1, .f32⟩
  | 16 => ⟨S128x8x1024, .f32⟩
  | 17 => ⟨S128x8x1024, .f32⟩
  | 18 => ⟨S1x1x1024, .f32⟩
  | 19 => ⟨S128x8x1024, .f32⟩
  | 20 => ⟨S128x8x1024, .f32⟩
  | 21 => ⟨S128x8x2560, .f32⟩
  | 22 => ⟨S128x8x1024, .f32⟩
  | 23 => ⟨S128x8x256, .f32⟩
  | 24 => ⟨S128x8x256, .f32⟩
  | 25 => ⟨S128x8x1024, .f32⟩
  | 26 => ⟨S8, .i32⟩
  | 27 => ⟨S_, .i32⟩
  | 28 => ⟨S8, .i32⟩
  | 29 => ⟨S8, .i32⟩
  | 30 => ⟨S128x8x16x64, .f32⟩
  | 31 => ⟨S128x8x16x64, .f32⟩
  | 32 => ⟨S_, .f32⟩
  | 33 => ⟨S128x8x16, .f32⟩
  | 34 => ⟨S128x8x16x1, .f32⟩
  | 35 => ⟨S_, .f32⟩
  | 36 => ⟨S128x8x16x1, .f32⟩
  | 37 => ⟨S128x8x16x1, .f32⟩
  | 38 => ⟨S_, .f32⟩
  | 39 => ⟨S128x8x16x1, .f32⟩
  | 40 => ⟨S128x8x16x1, .f32⟩
  | 41 => ⟨S128x8x16x1, .f32⟩
  | 42 => ⟨S128x8x16x64, .f32⟩
  | 43 => ⟨S128x8x16x64, .f32⟩
  | 44 => ⟨S1x1x1x64, .f32⟩
  | 45 => ⟨S128x8x16x64, .f32⟩
  | 46 => ⟨S128x8x16x64, .f32⟩
  | 47 => ⟨S32, .f32⟩
  | 48 => ⟨S32, .f32⟩
  | 49 => ⟨S_, .f32⟩
  | 50 => ⟨S32, .f32⟩
  | 51 => ⟨S32, .f32⟩
  | 52 => ⟨S_, .f32⟩
  | 53 => ⟨S32, .f32⟩
  | 54 => ⟨S32, .f32⟩
  | 55 => ⟨S8, .f32⟩
  | 56 => ⟨S8x1, .f32⟩
  | 57 => ⟨S1x32, .f32⟩
  | 58 => ⟨S8x32, .f32⟩
  | 59 => ⟨S8x32, .f32⟩
  | 60 => ⟨S8x32, .f32⟩
  | 61 => ⟨S8x32, .f32⟩
  | 62 => ⟨S1x8x1x32, .f32⟩
  | 63 => ⟨S8x32, .f32⟩
  | 64 => ⟨S1x8x1x32, .f32⟩
  | 65 => ⟨S128x8x16x32, .f32⟩
  | 66 => ⟨S128x8x16x32, .f32⟩
  | 67 => ⟨S128x8x16x32, .f32⟩
  | 68 => ⟨S128x8x16x32, .f32⟩
  | 69 => ⟨S128x8x16x32, .f32⟩
  | 70 => ⟨S128x8x16x32, .f32⟩
  | 71 => ⟨S128x8x16x32, .f32⟩
  | 72 => ⟨S128x8x16x32, .f32⟩
  | 73 => ⟨S128x8x16x32, .f32⟩
  | 74 => ⟨S128x8x16x32, .f32⟩
  | 75 => ⟨S128x8x16x32, .f32⟩
  | 76 => ⟨S128x8x16x32, .f32⟩
  | 77 => ⟨S128x8x16x64, .f32⟩
  | 78 => ⟨S128x8x4x64, .f32⟩
  | 79 => ⟨S128x8x4x64, .f32⟩
  | 80 => ⟨S_, .f32⟩
  | 81 => ⟨S128x8x4, .f32⟩
  | 82 => ⟨S128x8x4x1, .f32⟩
  | 83 => ⟨S_, .f32⟩
  | 84 => ⟨S128x8x4x1, .f32⟩
  | 85 => ⟨S128x8x4x1, .f32⟩
  | 86 => ⟨S_, .f32⟩
  | 87 => ⟨S128x8x4x1, .f32⟩
  | 88 => ⟨S128x8x4x1, .f32⟩
  | 89 => ⟨S128x8x4x1, .f32⟩
  | 90 => ⟨S128x8x4x64, .f32⟩
  | 91 => ⟨S128x8x4x64, .f32⟩
  | 92 => ⟨S1x1x1x64, .f32⟩
  | 93 => ⟨S128x8x4x64, .f32⟩
  | 94 => ⟨S128x8x4x64, .f32⟩
  | 95 => ⟨S32, .f32⟩
  | 96 => ⟨S32, .f32⟩
  | 97 => ⟨S_, .f32⟩
  | 98 => ⟨S32, .f32⟩
  | 99 => ⟨S32, .f32⟩
  | 100 => ⟨S_, .f32⟩
  | 101 => ⟨S32, .f32⟩
  | 102 => ⟨S32, .f32⟩
  | 103 => ⟨S8, .f32⟩
  | 104 => ⟨S8x1, .f32⟩
  | 105 => ⟨S1x32, .f32⟩
  | 106 => ⟨S8x32, .f32⟩
  | 107 => ⟨S8x32, .f32⟩
  | 108 => ⟨S8x32, .f32⟩
  | 109 => ⟨S8x32, .f32⟩
  | 110 => ⟨S1x8x1x32, .f32⟩
  | 111 => ⟨S8x32, .f32⟩
  | 112 => ⟨S1x8x1x32, .f32⟩
  | 113 => ⟨S128x8x4x32, .f32⟩
  | 114 => ⟨S128x8x4x32, .f32⟩
  | 115 => ⟨S128x8x4x32, .f32⟩
  | 116 => ⟨S128x8x4x32, .f32⟩
  | 117 => ⟨S128x8x4x32, .f32⟩
  | 118 => ⟨S128x8x4x32, .f32⟩
  | 119 => ⟨S128x8x4x32, .f32⟩
  | 120 => ⟨S128x8x4x32, .f32⟩
  | 121 => ⟨S128x8x4x32, .f32⟩
  | 122 => ⟨S128x8x4x32, .f32⟩
  | 123 => ⟨S128x8x4x32, .f32⟩
  | 124 => ⟨S128x8x4x32, .f32⟩
  | 125 => ⟨S128x8x4x64, .f32⟩
  | 126 => ⟨S_, .f32⟩
  | 127 => ⟨S128x8x16x64, .f32⟩
  | _ => ⟨S128x8x1024, .f32⟩

abbrev hbmTy0_1 (i : Nat) : BufTy := match i % 128 with
  | 0 => ⟨S128x8x16x64, .f32⟩
  | 1 => ⟨S1024x1024, .f32⟩
  | 2 => ⟨S1024x256, .f32⟩
  | 3 => ⟨S1024x256, .f32⟩
  | 4 => ⟨S128x8x1024, .f32⟩
  | 5 => ⟨S128x8x1024, .f32⟩
  | 6 => ⟨S_, .f32⟩
  | 7 => ⟨S128x8x1024, .f32⟩
  | 8 => ⟨S128x8x1024, .f32⟩
  | 9 => ⟨S_, .f32⟩
  | 10 => ⟨S128x8x1024, .f32⟩
  | 11 => ⟨S128x8x1024, .f32⟩
  | 12 => ⟨S128x8x1024, .f32⟩
  | 13 => ⟨S1024x1024, .f32⟩
  | _ => ⟨S128x8x1024, .f32⟩

abbrev hbmTy (i : Nat) : BufTy := match i / 128 with
  | 0 => hbmTy0_0 i
  | 1 => hbmTy0_1 i
  | _ => ⟨S128x8x1024, .f32⟩

abbrev bufTy : (tb : Table) → Fin (tcTables nBuf tb) → BufTy
  | .hbm, ⟨i, _⟩ => hbmTy i
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_7 : Ref sig .tc := ⟨.hbm, 80, rfl⟩
abbrev main_v66 : Ref sig .tc := ⟨.hbm, 81, rfl⟩
abbrev main_v67 : Ref sig .tc := ⟨.hbm, 82, rfl⟩
abbrev main_cst_8 : Ref sig .tc := ⟨.hbm, 83, rfl⟩
abbrev main_v68 : Ref sig .tc := ⟨.hbm, 84, rfl⟩
abbrev main_v69 : Ref sig .tc := ⟨.hbm, 85, rfl⟩
abbrev main_cst_9 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_cst_10 : Ref sig .tc := ⟨.hbm, 97, rfl⟩
abbrev main_v80 : Ref sig .tc := ⟨.hbm, 98, rfl⟩
abbrev main_v81 : Ref sig .tc := ⟨.hbm, 99, rfl⟩
abbrev main_cst_11 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_cst_12 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_call0_v0 : Ref sig .tc := ⟨.hbm, 132, rfl⟩
abbrev main_call0_v1 : Ref sig .tc := ⟨.hbm, 133, rfl⟩
abbrev main_call0_cst : Ref sig .tc := ⟨.hbm, 134, rfl⟩
abbrev main_call0_v2 : Ref sig .tc := ⟨.hbm, 135, rfl⟩
abbrev main_call0_v3 : Ref sig .tc := ⟨.hbm, 136, rfl⟩
abbrev main_call0_cst_0 : Ref sig .tc := ⟨.hbm, 137, rfl⟩
abbrev main_call0_v4 : Ref sig .tc := ⟨.hbm, 138, rfl⟩
abbrev main_call0_v5 : Ref sig .tc := ⟨.hbm, 139, rfl⟩
abbrev main_v112 : Ref sig .tc := ⟨.hbm, 140, rfl⟩
abbrev main_v113 : Ref sig .tc := ⟨.hbm, 141, rfl⟩

abbrev nD : Nat := 1
abbrev τ : Topo := Topo.v7x

variable {F : FTy → Type} [FloatOps F]
-- ==== Kernel9.lean ====
abbrev S128x8x1024 : Shape := ⟨3, ![128, 8, 1024]⟩
abbrev S1024 : Shape := ⟨1, ![1024]⟩
abbrev S1024x3144 : Shape := ⟨2, ![1024, 3144]⟩
abbrev S64 : Shape := ⟨1, ![64]⟩
abbrev S256 : Shape := ⟨1, ![256]⟩
abbrev S_ : Shape := ⟨0, ![]⟩
abbrev S32 : Shape := ⟨1, ![32]⟩
abbrev S256x1 : Shape := ⟨2, ![256, 1]⟩
abbrev S1x32 : Shape := ⟨2, ![1, 32]⟩
abbrev S256x32 : Shape := ⟨2, ![256, 32]⟩
abbrev S1x256x1x32 : Shape := ⟨4, ![1, 256, 1, 32]⟩
abbrev S1x256x4x32 : Shape := ⟨4, ![1, 256, 4, 32]⟩
abbrev S256x128 : Shape := ⟨2, ![256, 128]⟩
abbrev S1024x3200 : Shape := ⟨2, ![1024, 3200]⟩
abbrev S1024x1024 : Shape := ⟨2, ![1024, 1024]⟩
abbrev S1x1024 : Shape := ⟨2, ![1, 1024]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S1024x256 : Shape := ⟨2, ![1024, 256]⟩
abbrev S1024x512 : Shape := ⟨2, ![1024, 512]⟩
abbrev S1024x128 : Shape := ⟨2, ![1024, 128]⟩
abbrev S256x1024 : Shape := ⟨2, ![256, 1024]⟩
abbrev S256x256 : Shape := ⟨2, ![256, 256]⟩
abbrev S256x512 : Shape := ⟨2, ![256, 512]⟩
abbrev S128x128 : Shape := ⟨2, ![128, 128]⟩
abbrev S128x8x128 : Shape := ⟨3, ![128, 8, 128]⟩
abbrev S128x8x64 : Shape := ⟨3, ![128, 8, 64]⟩
abbrev S1024x8 : Shape := ⟨2, ![1024, 8]⟩

abbrev nBuf : Space → Nat
  | .hbm => 78
  | .vmem => 26
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S1024x3144, .f32⟩
  | .hbm, ⟨3, _⟩ => ⟨S64, .f32⟩
  | .hbm, ⟨4, _⟩ => ⟨S64, .f32⟩
  | .hbm, ⟨5, _⟩ => ⟨S256, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S256, .i32⟩
  | .hbm, ⟨13, _⟩ => ⟨S256, .i32⟩
  | .hbm, ⟨14, _⟩ => ⟨S_, .i32⟩
  | .hbm, ⟨15, _⟩ => ⟨S256, .i32⟩
  | .hbm, ⟨16, _⟩ => ⟨S256, .i1⟩
  | .hbm, ⟨17, _⟩ => ⟨S_, .i32⟩
  | .hbm, ⟨18, _⟩ => ⟨S256, .i32⟩
  | .hbm, ⟨19, _⟩ => ⟨S256, .i1⟩
  | .hbm, ⟨20, _⟩ => ⟨S_, .i32⟩
  | .hbm, ⟨21, _⟩ => ⟨S_, .i1⟩
  | .hbm, ⟨22, _⟩ => ⟨S256, .i1⟩
  | .hbm, ⟨23, _⟩ => ⟨S256, .i1⟩
  | .hbm, ⟨24, _⟩ => ⟨S256, .i1⟩
  | .hbm, ⟨25, _⟩ => ⟨S256, .i32⟩
  | .hbm, ⟨26, _⟩ => ⟨S256, .i32⟩
  | .hbm, ⟨27, _⟩ => ⟨S256, .i32⟩
  | .hbm, ⟨28, _⟩ => ⟨S_, .i32⟩
  | .hbm, ⟨29, _⟩ => ⟨S256, .i32⟩
  | .hbm, ⟨30, _⟩ => ⟨S256, .i32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S256, .f32⟩
  | .hbm, ⟨40, _⟩ => ⟨S256x1, .f32⟩
  | .hbm, ⟨41, _⟩ => ⟨S1x32, .f32⟩
  | .hbm, ⟨42, _⟩ => ⟨S256x32, .f32⟩
  | .hbm, ⟨43, _⟩ => ⟨S256x32, .f32⟩
  | .hbm, ⟨44, _⟩ => ⟨S256x32, .f32⟩
  | .hbm, ⟨45, _⟩ => ⟨S256x32, .f32⟩
  | .hbm, ⟨46, _⟩ => ⟨S256x32, .f32⟩
  | .hbm, ⟨47, _⟩ => ⟨S1x256x1x32, .f32⟩
  | .hbm, ⟨48, _⟩ => ⟨S1x256x4x32, .f32⟩
  | .hbm, ⟨49, _⟩ => ⟨S256x128, .f32⟩
  | .hbm, ⟨50, _⟩ => ⟨S256x32, .f32⟩
  | .hbm, ⟨51, _⟩ => ⟨S256x128, .f32⟩
  | .hbm, ⟨52, _⟩ => ⟨S_, .i32⟩
  | .hbm, ⟨53, _⟩ => ⟨S_, .f32⟩
  | .hbm, ⟨54, _⟩ => ⟨S1024x3200, .f32⟩
  | .hbm, ⟨55, _⟩ => ⟨S1024x3200, .bf16⟩
  | .hbm, ⟨56, _⟩ => ⟨S1024x1024, .f32⟩
  | .hbm, ⟨57, _⟩ => ⟨S1x1024, .f32⟩
  | .hbm, ⟨58, _⟩ => ⟨S1x64, .f32⟩
  | .hbm, ⟨59, _⟩ => ⟨S2x64, .f32⟩
  | .hbm, ⟨60, _⟩ => ⟨S128, .f32⟩
  | .hbm, ⟨61, _⟩ => ⟨S1x128, .f32⟩
  | .hbm, ⟨62, _⟩ => ⟨S1x64, .f32⟩
  | .hbm, ⟨63, _⟩ => ⟨S2x64, .f32⟩
  | .hbm, ⟨64, _⟩ => ⟨S128, .f32⟩
  | .hbm, ⟨65, _⟩ => ⟨S1x128, .f32⟩
  | .hbm, ⟨66, _⟩ => ⟨S1024x1024, .f32⟩
  | .hbm, ⟨67, _⟩ => ⟨S1024x256, .f32⟩
  | .hbm, ⟨68, _⟩ => ⟨S1024x256, .f32⟩
  | .hbm, ⟨69, _⟩ => ⟨S1024x256, .bf16⟩
  | .hbm, ⟨70, _⟩ => ⟨S1024x256, .bf16⟩
  | .hbm, ⟨71, _⟩ => ⟨S1024x1024, .f32⟩
  | .hbm, ⟨72, _⟩ => ⟨S1024x512, .f32⟩
  | .hbm, ⟨73, _⟩ => ⟨S1024x128, .f32⟩
  | .hbm, ⟨74, _⟩ => ⟨S1024x128, .bf16⟩
  | .hbm, ⟨75, _⟩ => ⟨S128x8x128, .f32⟩
  | .hbm, ⟨76, _⟩ => ⟨S128x8x64, .f32⟩
  | .hbm, ⟨77, _⟩ => ⟨S1024x8, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3200, .bf16⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S1x128, .f32⟩
  | .local _ .vmem, ⟨8, _⟩ => ⟨S256x1024, .f32⟩
  | .local _ .vmem, ⟨9, _⟩ => ⟨S256x1024, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .bf16⟩
  | .local _ .vmem, ⟨15, _⟩ => ⟨S256x256, .bf16⟩
  | .local _ .vmem, ⟨16, _⟩ => ⟨S256x256, .bf16⟩
  | .local _ .vmem, ⟨17, _⟩ => ⟨S256x256, .bf16⟩
  | .local _ .vmem, ⟨18, _⟩ => ⟨S256x1024, .f32⟩
  | .local _ .vmem, ⟨19, _⟩ => ⟨S256x1024, .f32⟩
  | .local _ .vmem, ⟨20, _⟩ => ⟨S256x512, .f32⟩
  | .local _ .vmem, ⟨21, _⟩ => ⟨S256x512, .f32⟩
  | .local _ .vmem, ⟨22, _⟩ => ⟨S256x128, .f32⟩
  | .local _ .vmem, ⟨23, _⟩ => ⟨S256x128, .f32⟩
  | .local _ .vmem, ⟨24, _⟩ => ⟨S256x128, .bf16⟩
  | .local _ .vmem, ⟨25, _⟩ => ⟨S256x128, .bf16⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_v5 : Ref sig .tc := ⟨.hbm, 15, rfl⟩
abbrev main_call0_v6 : Ref sig .tc := ⟨.hbm, 16, rfl⟩
abbrev main_call0_c_2 : Ref sig .tc := ⟨.hbm, 17, rfl⟩
abbrev main_call0_v7 : Ref sig .tc := ⟨.hbm, 18, rfl⟩
abbrev main_call0_v8 : Ref sig .tc := ⟨.hbm, 19, rfl⟩
abbrev main_call0_c_3 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_v1 : Ref sig .tc := ⟨.hbm, 27, rfl⟩
abbrev main_c_0 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_cst : Ref sig .tc := ⟨.hbm, 33, rfl⟩
abbrev main_v6 : Ref sig .tc := ⟨.hbm, 34, rfl⟩
abbrev main_v7 : Ref sig .tc := ⟨.hbm, 35, rfl⟩
abbrev main_cst_1 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_c_2 : Ref sig .tc := ⟨.hbm, 52, rfl⟩
abbrev main_call1_v0 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35_0 : Ref sig .tc := ⟨.hbm, 66, rfl⟩
abbrev main_v35_1 : Ref sig .tc := ⟨.hbm, 67, rfl⟩
abbrev main_v35_2 : Ref sig .tc := ⟨.hbm, 68, rfl⟩
abbrev main_v35_3 : Ref sig .tc := ⟨.hbm, 69, rfl⟩
abbrev main_v35_4 : Ref sig .tc := ⟨.hbm, 70, rfl⟩
abbrev main_v35_5 : Ref sig .tc := ⟨.hbm, 71, rfl⟩
abbrev main_v35_6 : Ref sig .tc := ⟨.hbm, 72, rfl⟩
abbrev main_v35_7 : Ref sig .tc := ⟨.hbm, 73, rfl⟩
abbrev main_v35_8 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference9Ideal.lean ====
abbrev S128x8x1024 : Shape := ⟨3, ![128, 8, 1024]⟩
abbrev S1024 : Shape := ⟨1, ![1024]⟩
abbrev S1024x3144 : Shape := ⟨2, ![1024, 3144]⟩
abbrev S64 : Shape := ⟨1, ![64]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x8x3144 : Shape := ⟨3, ![128, 8, 3144]⟩
abbrev S128x8x256 : Shape := ⟨3, ![128, 8, 256]⟩
abbrev S8 : Shape := ⟨1, ![8]⟩
abbrev S128x8x16x64 : Shape := ⟨4, ![128, 8, 16, 64]⟩
abbrev S128x8x16 : Shape := ⟨3, ![128, 8, 16]⟩
abbrev S128x8x16x1 : Shape := ⟨4, ![128, 8, 16, 1]⟩
abbrev S1x1x1x64 : Shape := ⟨4, ![1, 1, 1, 64]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S1x8x1x32 : Shape := ⟨4, ![1, 8, 1, 32]⟩
abbrev S128x8x16x32 : Shape := ⟨4, ![128, 8, 16, 32]⟩
abbrev S128x8x4x64 : Shape := ⟨4, ![128, 8, 4, 64]⟩
abbrev S128x8x4 : Shape := ⟨3, ![128, 8, 4]⟩
abbrev S128x8x4x1 : Shape := ⟨4, ![128, 8, 4, 1]⟩
abbrev S128x8x4x32 : Shape := ⟨4, ![128, 8, 4, 32]⟩
abbrev S1024x1024 : Shape := ⟨2, ![1024, 1024]⟩
abbrev S1024x256 : Shape := ⟨2, ![1024, 256]⟩
abbrev S128x8x584 : Shape := ⟨3, ![128, 8, 584]⟩
abbrev S128x8x512 : Shape := ⟨3, ![128, 8, 512]⟩
abbrev S128x8x64 : Shape := ⟨3, ![128, 8, 64]⟩
abbrev S128x8x8 : Shape := ⟨3, ![128, 8, 8]⟩
abbrev S128x8x8x64 : Shape := ⟨4, ![128, 8, 8, 64]⟩
abbrev S128x8x8x32 : Shape := ⟨4, ![128, 8, 8, 32]⟩
abbrev S1024x512 : Shape := ⟨2, ![1024, 512]⟩
abbrev S1x8x32 : Shape := ⟨3, ![1, 8, 32]⟩
abbrev S128x8x32 : Shape := ⟨3, ![128, 8, 32]⟩
abbrev S1024x8 : Shape := ⟨2, ![1024, 8]⟩

abbrev nBuf : Space → Nat
  | .hbm => 215
  | .vmem => 0
  | .smem => 0
  | _ => 0

abbrev hbmTy0_0 (i : Nat) : BufTy := match i % 128 with
  | 0 => ⟨S128x8x1024, .f32⟩
  | 1 => ⟨S1024, .f32⟩
  | 2 => ⟨S1024x3144, .f32⟩
  | 3 => ⟨S64, .f32⟩
  | 4 => ⟨S64, .f32⟩
  | 5 => ⟨S128x8x1024, .f32⟩
  | 6 => ⟨S_, .f32⟩
  | 7 => ⟨S128x8, .f32⟩
  | 8 => ⟨S128x8x1, .f32⟩
  | 9 => ⟨S_, .f32⟩
  | 10 => ⟨S128x8x1, .f32⟩
  | 11 => ⟨S128x8x1, .f32⟩
  | 12 => ⟨S_, .f32⟩
  | 13 => ⟨S128x8x1, .f32⟩
  | 14 => ⟨S128x8x1, .f32⟩
  | 15 => ⟨S128x8x1, .f32⟩
  | 16 => ⟨S128x8x1024, .f32⟩
  | 17 => ⟨S128x8x1024, .f32⟩
  | 18 => ⟨S1x1x1024, .f32⟩
  | 19 => ⟨S128x8x1024, .f32⟩
  | 20 => ⟨S128x8x1024, .f32⟩
  | 21 => ⟨S128x8x3144, .f32⟩
  | 22 => ⟨S128x8x1024, .f32⟩
  | 23 => ⟨S128x8x256, .f32⟩
  | 24 => ⟨S128x8x256, .f32⟩
  | 25 => ⟨S128x8x1024, .f32⟩
  | 26 => ⟨S8, .i32⟩
  | 27 => ⟨S_, .i32⟩
  | 28 => ⟨S8, .i32⟩
  | 29 => ⟨S8, .i32⟩
  | 30 => ⟨S128x8x16x64, .f32⟩
  | 31 => ⟨S128x8x16x64, .f32⟩
  | 32 => ⟨S_, .f32⟩
  | 33 => ⟨S128x8x16, .f32⟩
  | 34 => ⟨S128x8x16x1, .f32⟩
  | 35 => ⟨S_, .f32⟩
  | 36 => ⟨S128x8x16x1, .f32⟩
  | 37 => ⟨S128x8x16x1, .f32⟩
  | 38 => ⟨S_, .f32⟩
  | 39 => ⟨S128x8x16x1, .f32⟩
  | 40 => ⟨S128x8x16x1, .f32⟩
  | 41 => ⟨S128x8x16x1, .f32⟩
  | 42 => ⟨S128x8x16x64, .f32⟩
  | 43 => ⟨S128x8x16x64, .f32⟩
  | 44 => ⟨S1x1x1x64, .f32⟩
  | 45 => ⟨S128x8x16x64, .f32⟩
  | 46 => ⟨S128x8x16x64, .f32⟩
  | 47 => ⟨S32, .f32⟩
  | 48 => ⟨S32, .f32⟩
  | 49 => ⟨S_, .f32⟩
  | 50 => ⟨S32, .f32⟩
  | 51 => ⟨S32, .f32⟩
  | 52 => ⟨S_, .f32⟩
  | 53 => ⟨S32, .f32⟩
  | 54 => ⟨S32, .f32⟩
  | 55 => ⟨S8, .f32⟩
  | 56 => ⟨S8x1, .f32⟩
  | 57 => ⟨S1x32, .f32⟩
  | 58 => ⟨S8x32, .f32⟩
  | 59 => ⟨S8x32, .f32⟩
  | 60 => ⟨S8x32, .f32⟩
  | 61 => ⟨S8x32, .f32⟩
  | 62 => ⟨S1x8x1x32, .f32⟩
  | 63 => ⟨S8x32, .f32⟩
  | 64 => ⟨S1x8x1x32, .f32⟩
  | 65 => ⟨S128x8x16x32, .f32⟩
  | 66 => ⟨S128x8x16x32, .f32⟩
  | 67 => ⟨S128x8x16x32, .f32⟩
  | 68 => ⟨S128x8x16x32, .f32⟩
  | 69 => ⟨S128x8x16x32, .f32⟩
  | 70 => ⟨S128x8x16x32, .f32⟩
  | 71 => ⟨S128x8x16x32, .f32⟩
  | 72 => ⟨S128x8x16x32, .f32⟩
  | 73 => ⟨S128x8x16x32, .f32⟩
  | 74 => ⟨S128x8x16x32, .f32⟩
  | 75 => ⟨S128x8x16x32, .f32⟩
  | 76 => ⟨S128x8x16x32, .f32⟩
  | 77 => ⟨S128x8x16x64, .f32⟩
  | 78 => ⟨S128x8x4x64, .f32⟩
  | 79 => ⟨S128x8x4x64, .f32⟩
  | 80 => ⟨S_, .f32⟩
  | 81 => ⟨S128x8x4, .f32⟩
  | 82 => ⟨S128x8x4x1, .f32⟩
  | 83 => ⟨S_, .f32⟩
  | 84 => ⟨S128x8x4x1, .f32⟩
  | 85 => ⟨S128x8x4x1, .f32⟩
  | 86 => ⟨S_, .f32⟩
  | 87 => ⟨S128x8x4x1, .f32⟩
  | 88 => ⟨S128x8x4x1, .f32⟩
  | 89 => ⟨S128x8x4x1, .f32⟩
  | 90 => ⟨S128x8x4x64, .f32⟩
  | 91 => ⟨S128x8x4x64, .f32⟩
  | 92 => ⟨S1x1x1x64, .f32⟩
  | 93 => ⟨S128x8x4x64, .f32⟩
  | 94 => ⟨S128x8x4x64, .f32⟩
  | 95 => ⟨S32, .f32⟩
  | 96 => ⟨S32, .f32⟩
  | 97 => ⟨S_, .f32⟩
  | 98 => ⟨S32, .f32⟩
  | 99 => ⟨S32, .f32⟩
  | 100 => ⟨S_, .f32⟩
  | 101 => ⟨S32, .f32⟩
  | 102 => ⟨S32, .f32⟩
  | 103 => ⟨S8, .f32⟩
  | 104 => ⟨S8x1, .f32⟩
  | 105 => ⟨S1x32, .f32⟩
  | 106 => ⟨S8x32, .f32⟩
  | 107 => ⟨S8x32, .f32⟩
  | 108 => ⟨S8x32, .f32⟩
  | 109 => ⟨S8x32, .f32⟩
  | 110 => ⟨S1x8x1x32, .f32⟩
  | 111 => ⟨S8x32, .f32⟩
  | 112 => ⟨S1x8x1x32, .f32⟩
  | 113 => ⟨S128x8x4x32, .f32⟩
  | 114 => ⟨S128x8x4x32, .f32⟩
  | 115 => ⟨S128x8x4x32, .f32⟩
  | 116 => ⟨S128x8x4x32, .f32⟩
  | 117 => ⟨S128x8x4x32, .f32⟩
  | 118 => ⟨S128x8x4x32, .f32⟩
  | 119 => ⟨S128x8x4x32, .f32⟩
  | 120 => ⟨S128x8x4x32, .f32⟩
  | 121 => ⟨S128x8x4x32, .f32⟩
  | 122 => ⟨S128x8x4x32, .f32⟩
  | 123 => ⟨S128x8x4x32, .f32⟩
  | 124 => ⟨S128x8x4x32, .f32⟩
  | 125 => ⟨S128x8x4x64, .f32⟩
  | 126 => ⟨S_, .f32⟩
  | 127 => ⟨S128x8x16x64, .f32⟩
  | _ => ⟨S128x8x1024, .f32⟩

abbrev hbmTy0_1 (i : Nat) : BufTy := match i % 128 with
  | 0 => ⟨S128x8x16x64, .f32⟩
  | 1 => ⟨S1024x1024, .f32⟩
  | 2 => ⟨S1024x256, .f32⟩
  | 3 => ⟨S1024x256, .f32⟩
  | 4 => ⟨S128x8x1024, .f32⟩
  | 5 => ⟨S128x8x1024, .f32⟩
  | 6 => ⟨S_, .f32⟩
  | 7 => ⟨S128x8x1024, .f32⟩
  | 8 => ⟨S128x8x1024, .f32⟩
  | 9 => ⟨S_, .f32⟩
  | 10 => ⟨S128x8x1024, .f32⟩
  | 11 => ⟨S128x8x1024, .f32⟩
  | 12 => ⟨S128x8x1024, .f32⟩
  | 13 => ⟨S1024x1024, .f32⟩
  | 14 => ⟨S128x8x584, .f32⟩
  | 15 => ⟨S128x8x512, .f32⟩
  | 16 => ⟨S128x8x64, .f32⟩
  | 17 => ⟨S128x8x8, .f32⟩
  | 18 => ⟨S8, .i32⟩
  | 19 => ⟨S_, .i32⟩
  | 20 => ⟨S8, .i32⟩
  | 21 => ⟨S8, .i32⟩
  | 22 => ⟨S128x8x8x64, .f32⟩
  | 23 => ⟨S32, .f32⟩
  | 24 => ⟨S32, .f32⟩
  | 25 => ⟨S_, .f32⟩
  | 26 => ⟨S32, .f32⟩
  | 27 => ⟨S32, .f32⟩
  | 28 => ⟨S_, .f32⟩
  | 29 => ⟨S32, .f32⟩
  | 30 => ⟨S32, .f32⟩
  | 31 => ⟨S8, .f32⟩
  | 32 => ⟨S8x1, .f32⟩
  | 33 => ⟨S1x32, .f32⟩
  | 34 => ⟨S8x32, .f32⟩
  | 35 => ⟨S8x32, .f32⟩
  | 36 => ⟨S8x32, .f32⟩
  | 37 => ⟨S8x32, .f32⟩
  | 38 => ⟨S1x8x1x32, .f32⟩
  | 39 => ⟨S8x32, .f32⟩
  | 40 => ⟨S1x8x1x32, .f32⟩
  | 41 => ⟨S128x8x8x32, .f32⟩
  | 42 => ⟨S128x8x8x32, .f32⟩
  | 43 => ⟨S128x8x8x32, .f32⟩
  | 44 => ⟨S128x8x8x32, .f32⟩
  | 45 => ⟨S128x8x8x32, .f32⟩
  | 46 => ⟨S128x8x8x32, .f32⟩
  | 47 => ⟨S128x8x8x32, .f32⟩
  | 48 => ⟨S128x8x8x32, .f32⟩
  | 49 => ⟨S128x8x8x32, .f32⟩
  | 50 => ⟨S128x8x8x32, .f32⟩
  | 51 => ⟨S128x8x8x32, .f32⟩
  | 52 => ⟨S128x8x8x32, .f32⟩
  | 53 => ⟨S128x8x8x64, .f32⟩
  | 54 => ⟨S1024x512, .f32⟩
  | 55 => ⟨S32, .f32⟩
  | 56 => ⟨S32, .f32⟩
  | 57 => ⟨S_, .f32⟩
  | 58 => ⟨S32, .f32⟩
  | 59 => ⟨S32, .f32⟩
  | 60 => ⟨S_, .f32⟩
  | 61 => ⟨S32, .f32⟩
  | 62 => ⟨S32, .f32⟩
  | 63 => ⟨S8, .f32⟩
  | 64 => ⟨S8x1, .f32⟩
  | 65 => ⟨S1x32, .f32⟩
  | 66 => ⟨S8x32, .f32⟩
  | 67 => ⟨S8x32, .f32⟩
  | 68 => ⟨S8x32, .f32⟩
  | 69 => ⟨S8x32, .f32⟩
  | 70 => ⟨S1x8x32, .f32⟩
  | 71 => ⟨S8x32, .f32⟩
  | 72 => ⟨S1x8x32, .f32⟩
  | 73 => ⟨S128x8x32, .f32⟩
  | 74 => ⟨S128x8x32, .f32⟩
  | 75 => ⟨S128x8x32, .f32⟩
  | 76 => ⟨S128x8x32, .f32⟩
  | 77 => ⟨S128x8x32, .f32⟩
  | 78 => ⟨S128x8x32, .f32⟩
  | 79 => ⟨S128x8x32, .f32⟩
  | 80 => ⟨S128x8x32, .f32⟩
  | 81 => ⟨S128x8x32, .f32⟩
  | 82 => ⟨S128x8x32, .f32⟩
  | 83 => ⟨S128x8x32, .f32⟩
  | 84 => ⟨S128x8x32, .f32⟩
  | 85 => ⟨S128x8x64, .f32⟩
  | 86 => ⟨S1024x8, .f32⟩
  | _ => ⟨S128x8x1024, .f32⟩

abbrev hbmTy (i : Nat) : BufTy := match i / 128 with
  | 0 => hbmTy0_0 i
  | 1 => hbmTy0_1 i
  | _ => ⟨S128x8x1024, .f32⟩

abbrev bufTy : (tb : Table) → Fin (tcTables nBuf tb) → BufTy
  | .hbm, ⟨i, _⟩ => hbmTy i
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_7 : Ref sig .tc := ⟨.hbm, 80, rfl⟩
abbrev main_v66 : Ref sig .tc := ⟨.hbm, 81, rfl⟩
abbrev main_v67 : Ref sig .tc := ⟨.hbm, 82, rfl⟩
abbrev main_cst_8 : Ref sig .tc := ⟨.hbm, 83, rfl⟩
abbrev main_v68 : Ref sig .tc := ⟨.hbm, 84, rfl⟩
abbrev main_v69 : Ref sig .tc := ⟨.hbm, 85, rfl⟩
abbrev main_cst_9 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_cst_10 : Ref sig .tc := ⟨.hbm, 97, rfl⟩
abbrev main_v80 : Ref sig .tc := ⟨.hbm, 98, rfl⟩
abbrev main_v81 : Ref sig .tc := ⟨.hbm, 99, rfl⟩
abbrev main_cst_11 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_cst_12 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_call0_v0 : Ref sig .tc := ⟨.hbm, 132, rfl⟩
abbrev main_call0_v1 : Ref sig .tc := ⟨.hbm, 133, rfl⟩
abbrev main_call0_cst : Ref sig .tc := ⟨.hbm, 134, rfl⟩
abbrev main_call0_v2 : Ref sig .tc := ⟨.hbm, 135, rfl⟩
abbrev main_call0_v3 : Ref sig .tc := ⟨.hbm, 136, rfl⟩
abbrev main_call0_cst_0 : Ref sig .tc := ⟨.hbm, 137, rfl⟩
abbrev main_call0_v4 : Ref sig .tc := ⟨.hbm, 138, rfl⟩
abbrev main_call0_v5 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_c_13 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_cst_14 : Ref sig .tc := ⟨.hbm, 153, rfl⟩
abbrev main_v124 : Ref sig .tc := ⟨.hbm, 154, rfl⟩
abbrev main_v125 : Ref sig .tc := ⟨.hbm, 155, rfl⟩
abbrev main_cst_15 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_cst_16 : Ref sig .tc := ⟨.hbm, 185, rfl⟩
abbrev main_v154 : Ref sig .tc := ⟨.hbm, 186, rfl⟩
abbrev main_v155 : Ref sig .tc := ⟨.hbm, 187, rfl⟩
abbrev main_cst_17 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩

abbrev nD : Nat := 1
abbrev τ : Topo := Topo.v7x

variable {F : FTy → Type} [FloatOps F]
-- ==== Kernel10.lean ====
abbrev S128x8x1536 : Shape := ⟨3, ![128, 8, 1536]⟩
abbrev S128x8x384 : Shape := ⟨3, ![128, 8, 384]⟩
abbrev S128x128x2x2x64 : Shape := ⟨5, ![128, 128, 2, 2, 64]⟩
abbrev S128x2x2x64x128 : Shape := ⟨5, ![128, 2, 2, 64, 128]⟩
abbrev S128x256x128 : Shape := ⟨3, ![128, 256, 128]⟩
abbrev S128x8x128 : Shape := ⟨3, ![128, 8, 128]⟩
abbrev S8x8x512 : Shape := ⟨3, ![8, 8, 512]⟩
abbrev S8x8x128 : Shape := ⟨3, ![8, 8, 128]⟩
abbrev S8x256x128 : Shape := ⟨3, ![8, 256, 128]⟩
abbrev S32x128 : Shape := ⟨2, ![32, 128]⟩
abbrev S256x128 : Shape := ⟨2, ![256, 128]⟩
abbrev S1x256x128 : Shape := ⟨3, ![1, 256, 128]⟩
abbrev S1x8x128 : Shape := ⟨3, ![1, 8, 128]⟩
abbrev S8x128 : Shape := ⟨2, ![8, 128]⟩
abbrev S120x128 : Shape := ⟨2, ![120, 128]⟩
abbrev S128x128 : Shape := ⟨2, ![128, 128]⟩
abbrev S1x8x512 : Shape := ⟨3, ![1, 8, 512]⟩
abbrev S8x512 : Shape := ⟨2, ![8, 512]⟩
abbrev S64x128 : Shape := ⟨2, ![64, 128]⟩
abbrev S8x64 : Shape := ⟨2, ![8, 64]⟩
abbrev S32x64 : Shape := ⟨2, ![32, 64]⟩
abbrev S128x64 : Shape := ⟨2, ![128, 64]⟩
abbrev S32 : Shape := ⟨1, ![32]⟩
abbrev S32x1 : Shape := ⟨2, ![32, 1]⟩
abbrev S8x1 : Shape := ⟨2, ![8, 1]⟩
abbrev S8x16 : Shape := ⟨2, ![8, 16]⟩
abbrev S1024x128 : Shape := ⟨2, ![1024, 128]⟩

abbrev nBuf : Space → Nat
  | .hbm => 19
  | .vmem => 20
  | .smem => 0
  | _ => 0

abbrev bufTy : (tb : Table) → Fin (tcTables nBuf tb) → BufTy
  | .hbm, ⟨0, _⟩ => ⟨S128x8x1536, .f32⟩
  | .hbm, ⟨1, _⟩ => ⟨S128x8x384, .f32⟩
  | .hbm, ⟨2, _⟩ => ⟨S128x8x384, .f32⟩
  | .hbm, ⟨3, _⟩ => ⟨S128x128x2x2x64, .f32⟩
  | .hbm, ⟨4, _⟩ => ⟨S128x2x2x64x128, .f32⟩
  | .hbm, ⟨5, _⟩ => ⟨S128x256x128, .f32⟩
  | .hbm, ⟨6, _⟩ => ⟨S128x8x128, .f32⟩
  | .hbm, ⟨7, _⟩ => ⟨S128x8x128, .f32⟩
  | .hbm, ⟨8, _⟩ => ⟨S128x8x128, .f32⟩
  | .hbm, ⟨9, _⟩ => ⟨S128x8x128, .f32⟩
  | .hbm, ⟨10, _⟩ => ⟨S128x8x128, .f32⟩
  | .hbm, ⟨11, _⟩ => ⟨S128x256x128, .f32⟩
  | .hbm, ⟨12, _⟩ => ⟨S128x2x2x64x128, .f32⟩
  | .hbm, ⟨13, _⟩ => ⟨S128x128x2x2x64, .f32⟩
  | .hbm, ⟨14, _⟩ => ⟨S1024x128, .f32⟩
  | .hbm, ⟨15, _⟩ => ⟨S1024x128, .f32⟩
  | .hbm, ⟨16, _⟩ => ⟨S1024x128, .f32⟩
  | .hbm, ⟨17, _⟩ => ⟨S1024x128, .f32⟩
  | .hbm, ⟨18, _⟩ => ⟨S1024x128, .f32⟩
  | .local _ .vmem, ⟨0, _⟩ => ⟨S8x8x512, .f32⟩
  | .local _ .vmem, ⟨1, _⟩ => ⟨S8x8x512, .f32⟩
  | .local _ .vmem, ⟨2, _⟩ => ⟨S8x8x128, .f32⟩
  | .local _ .vmem, ⟨3, _⟩ => ⟨S8x8x128, .f32⟩
  | .local _ .vmem, ⟨4, _⟩ => ⟨S8x8x128, .f32⟩
  | .local _ .vmem, ⟨5, _⟩ => ⟨S8x8x128, .f32⟩
  | .local _ .vmem, ⟨6, _⟩ => ⟨S8x256x128, .f32⟩
  | .local _ .vmem, ⟨7, _⟩ => ⟨S8x256x128, .f32⟩
  | .local _ .vmem, ⟨8, _⟩ => ⟨S8x8x128, .f32⟩
  | .local _ .vmem, ⟨9, _⟩ => ⟨S8x8x128, .f32⟩
  | .local _ .vmem, ⟨10, _⟩ => ⟨S8x8x128, .f32⟩
  | .local _ .vmem, ⟨11, _⟩ => ⟨S8x8x128, .f32⟩
  | .local _ .vmem, ⟨12, _⟩ => ⟨S8x8x128, .f32⟩
  | .local _ .vmem, ⟨13, _⟩ => ⟨S8x8x128, .f32⟩
  | .local _ .vmem, ⟨14, _⟩ => ⟨S8x8x128, .f32⟩
  | .local _ .vmem, ⟨15, _⟩ => ⟨S8x8x128, .f32⟩
  | .local _ .vmem, ⟨16, _⟩ => ⟨S8x8x128, .f32⟩
  | .local _ .vmem, ⟨17, _⟩ => ⟨S8x8x128, .f32⟩
  | .local _ .vmem, ⟨18, _⟩ => ⟨S8x256x128, .f32⟩
  | .local _ .vmem, ⟨19, _⟩ => ⟨S8x256x128, .f32⟩
  | _, _ => ⟨S128x8x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev main_v2_5 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference10Ideal.lean ====
abbrev S128x8x1536 : Shape := ⟨3, ![128, 8, 1536]⟩
abbrev S128x8x384 : Shape := ⟨3, ![128, 8, 384]⟩
abbrev S128x128x2x2x64 : Shape := ⟨5, ![128, 128, 2, 2, 64]⟩
abbrev S128x8x3x2x64 : Shape := ⟨5, ![128, 8, 3, 2, 64]⟩
abbrev S128x8x1x2x64 : Shape := ⟨5, ![128, 8, 1, 2, 64]⟩
abbrev S128x8x2x64 : Shape := ⟨4, ![128, 8, 2, 64]⟩
abbrev S128x8x2x2x64 : Shape := ⟨5, ![128, 8, 2, 2, 64]⟩
abbrev S128x136x2x2x64 : Shape := ⟨5, ![128, 136, 2, 2, 64]⟩

abbrev nBuf : Space → Nat
  | .hbm => 15
  | .vmem => 0
  | .smem => 0
  | _ => 0

abbrev bufTy : (tb : Table) → Fin (tcTables nBuf tb) → BufTy
  | .hbm, ⟨0, _⟩ => ⟨S128x8x1536, .f32⟩
  | .hbm, ⟨1, _⟩ => ⟨S128x8x384, .f32⟩
  | .hbm, ⟨2, _⟩ => ⟨S128x8x384, .f32⟩
  | .hbm, ⟨3, _⟩ => ⟨S128x128x2x2x64, .f32⟩
  | .hbm, ⟨4, _⟩ => ⟨S128x8x3x2x64, .f32⟩
  | .hbm, ⟨5, _⟩ => ⟨S128x8x1x2x64, .f32⟩
  | .hbm, ⟨6, _⟩ => ⟨S128x8x2x64, .f32⟩
  | .hbm, ⟨7, _⟩ => ⟨S128x8x3x2x64, .f32⟩
  | .hbm, ⟨8, _⟩ => ⟨S128x8x1x2x64, .f32⟩
  | .hbm, ⟨9, _⟩ => ⟨S128x8x2x64, .f32⟩
  | .hbm, ⟨10, _⟩ => ⟨S128x8x1x2x64, .f32⟩
  | .hbm, ⟨11, _⟩ => ⟨S128x8x1x2x64, .f32⟩
  | .hbm, ⟨12, _⟩ => ⟨S128x8x2x2x64, .f32⟩
  | .hbm, ⟨13, _⟩ => ⟨S128x136x2x2x64, .f32⟩
  | .hbm, ⟨14, _⟩ => ⟨S128x128x2x2x64, .f32⟩
  | _, _ => ⟨S128x8x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel11.lean ====
abbrev S128x8x1536 : Shape := ⟨3, ![128, 8, 1536]⟩
abbrev S128x8x384 : Shape := ⟨3, ![128, 8, 384]⟩
abbrev S128x512x2x2x64 : Shape := ⟨5, ![128, 512, 2, 2, 64]⟩
abbrev S128x2x2x64x512 : Shape := ⟨5, ![128, 2, 2, 64, 512]⟩
abbrev S128x256x512 : Shape := ⟨3, ![128, 256, 512]⟩
abbrev S128x8x128 : Shape := ⟨3, ![128, 8, 128]⟩
abbrev S2x8x512 : Shape := ⟨3, ![2, 8, 512]⟩
abbrev S2x8x128 : Shape := ⟨3, ![2, 8, 128]⟩
abbrev S2x256x512 : Shape := ⟨3, ![2, 256, 512]⟩
abbrev S32x512 : Shape := ⟨2, ![32, 512]⟩
abbrev S32x128 : Shape := ⟨2, ![32, 128]⟩
abbrev S256x128 : Shape := ⟨2, ![256, 128]⟩
abbrev S1x256x512 : Shape := ⟨3, ![1, 256, 512]⟩
abbrev S256x512 : Shape := ⟨2, ![256, 512]⟩
abbrev S1x8x128 : Shape := ⟨3, ![1, 8, 128]⟩
abbrev S8x128 : Shape := ⟨2, ![8, 128]⟩
abbrev S120x128 : Shape := ⟨2, ![120, 128]⟩
abbrev S128x128 : Shape := ⟨2, ![128, 128]⟩
abbrev S256x384 : Shape := ⟨2, ![256, 384]⟩
abbrev S1x256x384 : Shape := ⟨3, ![1, 256, 384]⟩
abbrev S1x256x128 : Shape := ⟨3, ![1, 256, 128]⟩
abbrev S1x8x512 : Shape := ⟨3, ![1, 8, 512]⟩
abbrev S8x512 : Shape := ⟨2, ![8, 512]⟩
abbrev S64x512 : Shape := ⟨2, ![64, 512]⟩
abbrev S8x64 : Shape := ⟨2, ![8, 64]⟩
abbrev S32x64 : Shape := ⟨2, ![32, 64]⟩
abbrev S128x64 : Shape := ⟨2, ![128, 64]⟩
abbrev S32 : Shape := ⟨1, ![32]⟩
abbrev S32x1 : Shape := ⟨2, ![32, 1]⟩
abbrev S8x1 : Shape := ⟨2, ![8, 1]⟩
abbrev S8x16 : Shape := ⟨2, ![8, 16]⟩
abbrev S1024x128 : Shape := ⟨2, ![1024, 128]⟩

abbrev nBuf : Space → Nat
  | .hbm => 19
  | .vmem => 20
  | .smem => 0
  | _ => 0

abbrev bufTy : (tb : Table) → Fin (tcTables nBuf tb) → BufTy
  | .hbm, ⟨0, _⟩ => ⟨S128x8x1536, .f32⟩
  | .hbm, ⟨1, _⟩ => ⟨S128x8x384, .f32⟩
  | .hbm, ⟨2, _⟩ => ⟨S128x8x384, .f32⟩
  | .hbm, ⟨3, _⟩ => ⟨S128x512x2x2x64, .f32⟩
  | .hbm, ⟨4, _⟩ => ⟨S128x2x2x64x512, .f32⟩
  | .hbm, ⟨5, _⟩ => ⟨S128x256x512, .f32⟩
  | .hbm, ⟨6, _⟩ => ⟨S128x8x128, .f32⟩
  | .hbm, ⟨7, _⟩ => ⟨S128x8x128, .f32⟩
  | .hbm, ⟨8, _⟩ => ⟨S128x8x128, .f32⟩
  | .hbm, ⟨9, _⟩ => ⟨S128x8x128, .f32⟩
  | .hbm, ⟨10, _⟩ => ⟨S128x8x128, .f32⟩
  | .hbm, ⟨11, _⟩ => ⟨S128x256x512, .f32⟩
  | .hbm, ⟨12, _⟩ => ⟨S128x2x2x64x512, .f32⟩
  | .hbm, ⟨13, _⟩ => ⟨S128x512x2x2x64, .f32⟩
  | .hbm, ⟨14, _⟩ => ⟨S1024x128, .f32⟩
  | .hbm, ⟨15, _⟩ => ⟨S1024x128, .f32⟩
  | .hbm, ⟨16, _⟩ => ⟨S1024x128, .f32⟩
  | .hbm, ⟨17, _⟩ => ⟨S1024x128, .f32⟩
  | .hbm, ⟨18, _⟩ => ⟨S1024x128, .f32⟩
  | .local _ .vmem, ⟨0, _⟩ => ⟨S2x8x512, .f32⟩
  | .local _ .vmem, ⟨1, _⟩ => ⟨S2x8x512, .f32⟩
  | .local _ .vmem, ⟨2, _⟩ => ⟨S2x8x128, .f32⟩
  | .local _ .vmem, ⟨3, _⟩ => ⟨S2x8x128, .f32⟩
  | .local _ .vmem, ⟨4, _⟩ => ⟨S2x8x128, .f32⟩
  | .local _ .vmem, ⟨5, _⟩ => ⟨S2x8x128, .f32⟩
  | .local _ .vmem, ⟨6, _⟩ => ⟨S2x256x512, .f32⟩
  | .local _ .vmem, ⟨7, _⟩ => ⟨S2x256x512, .f32⟩
  | .local _ .vmem, ⟨8, _⟩ => ⟨S2x8x128, .f32⟩
  | .local _ .vmem, ⟨9, _⟩ => ⟨S2x8x128, .f32⟩
  | .local _ .vmem, ⟨10, _⟩ => ⟨S2x8x128, .f32⟩
  | .local _ .vmem, ⟨11, _⟩ => ⟨S2x8x128, .f32⟩
  | .local _ .vmem, ⟨12, _⟩ => ⟨S2x8x128, .f32⟩
  | .local _ .vmem, ⟨13, _⟩ => ⟨S2x8x128, .f32⟩
  | .local _ .vmem, ⟨14, _⟩ => ⟨S2x8x128, .f32⟩
  | .local _ .vmem, ⟨15, _⟩ => ⟨S2x8x128, .f32⟩
  | .local _ .vmem, ⟨16, _⟩ => ⟨S2x8x128, .f32⟩
  | .local _ .vmem, ⟨17, _⟩ => ⟨S2x8x128, .f32⟩
  | .local _ .vmem, ⟨18, _⟩ => ⟨S2x256x512, .f32⟩
  | .local _ .vmem, ⟨19, _⟩ => ⟨S2x256x512, .f32⟩
  | _, _ => ⟨S128x8x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev main_v2_5 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference11Ideal.lean ====
abbrev S128x8x1536 : Shape := ⟨3, ![128, 8, 1536]⟩
abbrev S128x8x384 : Shape := ⟨3, ![128, 8, 384]⟩
abbrev S128x512x2x2x64 : Shape := ⟨5, ![128, 512, 2, 2, 64]⟩
abbrev S128x8x3x2x64 : Shape := ⟨5, ![128, 8, 3, 2, 64]⟩
abbrev S128x8x1x2x64 : Shape := ⟨5, ![128, 8, 1, 2, 64]⟩
abbrev S128x8x2x64 : Shape := ⟨4, ![128, 8, 2, 64]⟩
abbrev S128x8x2x2x64 : Shape := ⟨5, ![128, 8, 2, 2, 64]⟩
abbrev S128x520x2x2x64 : Shape := ⟨5, ![128, 520, 2, 2, 64]⟩

abbrev nBuf : Space → Nat
  | .hbm => 15
  | .vmem => 0
  | .smem => 0
  | _ => 0

abbrev bufTy : (tb : Table) → Fin (tcTables nBuf tb) → BufTy
  | .hbm, ⟨0, _⟩ => ⟨S128x8x1536, .f32⟩
  | .hbm, ⟨1, _⟩ => ⟨S128x8x384, .f32⟩
  | .hbm, ⟨2, _⟩ => ⟨S128x8x384, .f32⟩
  | .hbm, ⟨3, _⟩ => ⟨S128x512x2x2x64, .f32⟩
  | .hbm, ⟨4, _⟩ => ⟨S128x8x3x2x64, .f32⟩
  | .hbm, ⟨5, _⟩ => ⟨S128x8x1x2x64, .f32⟩
  | .hbm, ⟨6, _⟩ => ⟨S128x8x2x64, .f32⟩
  | .hbm, ⟨7, _⟩ => ⟨S128x8x3x2x64, .f32⟩
  | .hbm, ⟨8, _⟩ => ⟨S128x8x1x2x64, .f32⟩
  | .hbm, ⟨9, _⟩ => ⟨S128x8x2x64, .f32⟩
  | .hbm, ⟨10, _⟩ => ⟨S128x8x1x2x64, .f32⟩
  | .hbm, ⟨11, _⟩ => ⟨S128x8x1x2x64, .f32⟩
  | .hbm, ⟨12, _⟩ => ⟨S128x8x2x2x64, .f32⟩
  | .hbm, ⟨13, _⟩ => ⟨S128x520x2x2x64, .f32⟩
  | .hbm, ⟨14, _⟩ => ⟨S128x512x2x2x64, .f32⟩
  | _, _ => ⟨S128x8x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel12.lean ====
abbrev S128x8x1536 : Shape := ⟨3, ![128, 8, 1536]⟩
abbrev S128x8x384 : Shape := ⟨3, ![128, 8, 384]⟩
abbrev S128x2048x2x2x64 : Shape := ⟨5, ![128, 2048, 2, 2, 64]⟩
abbrev S128x2x2x64x2048 : Shape := ⟨5, ![128, 2, 2, 64, 2048]⟩
abbrev S128x256x2048 : Shape := ⟨3, ![128, 256, 2048]⟩
abbrev S128x8x128 : Shape := ⟨3, ![128, 8, 128]⟩
abbrev S1x8x512 : Shape := ⟨3, ![1, 8, 512]⟩
abbrev S1x8x128 : Shape := ⟨3, ![1, 8, 128]⟩
abbrev S1x256x2048 : Shape := ⟨3, ![1, 256, 2048]⟩
abbrev S32x2048 : Shape := ⟨2, ![32, 2048]⟩
abbrev S32x128 : Shape := ⟨2, ![32, 128]⟩
abbrev S256x128 : Shape := ⟨2, ![256, 128]⟩
abbrev S256x2048 : Shape := ⟨2, ![256, 2048]⟩
abbrev S8x128 : Shape := ⟨2, ![8, 128]⟩
abbrev S120x128 : Shape := ⟨2, ![120, 128]⟩
abbrev S128x128 : Shape := ⟨2, ![128, 128]⟩
abbrev S256x1920 : Shape := ⟨2, ![256, 1920]⟩
abbrev S1x256x1920 : Shape := ⟨3, ![1, 256, 1920]⟩
abbrev S1x256x128 : Shape := ⟨3, ![1, 256, 128]⟩
abbrev S8x512 : Shape := ⟨2, ![8, 512]⟩
abbrev S64x2048 : Shape := ⟨2, ![64, 2048]⟩
abbrev S8x64 : Shape := ⟨2, ![8, 64]⟩
abbrev S32x64 : Shape := ⟨2, ![32, 64]⟩
abbrev S128x64 : Shape := ⟨2, ![128, 64]⟩
abbrev S32 : Shape := ⟨1, ![32]⟩
abbrev S32x1 : Shape := ⟨2, ![32, 1]⟩
abbrev S8x1 : Shape := ⟨2, ![8, 1]⟩
abbrev S8x16 : Shape := ⟨2, ![8, 16]⟩
abbrev S1024x128 : Shape := ⟨2, ![1024, 128]⟩

abbrev nBuf : Space → Nat
  | .hbm => 19
  | .vmem => 20
  | .smem => 0
  | _ => 0

abbrev bufTy : (tb : Table) → Fin (tcTables nBuf tb) → BufTy
  | .hbm, ⟨0, _⟩ => ⟨S128x8x1536, .f32⟩
  | .hbm, ⟨1, _⟩ => ⟨S128x8x384, .f32⟩
  | .hbm, ⟨2, _⟩ => ⟨S128x8x384, .f32⟩
  | .hbm, ⟨3, _⟩ => ⟨S128x2048x2x2x64, .f32⟩
  | .hbm, ⟨4, _⟩ => ⟨S128x2x2x64x2048, .f32⟩
  | .hbm, ⟨5, _⟩ => ⟨S128x256x2048, .f32⟩
  | .hbm, ⟨6, _⟩ => ⟨S128x8x128, .f32⟩
  | .hbm, ⟨7, _⟩ => ⟨S128x8x128, .f32⟩
  | .hbm, ⟨8, _⟩ => ⟨S128x8x128, .f32⟩
  | .hbm, ⟨9, _⟩ => ⟨S128x8x128, .f32⟩
  | .hbm, ⟨10, _⟩ => ⟨S128x8x128, .f32⟩
  | .hbm, ⟨11, _⟩ => ⟨S128x256x2048, .f32⟩
  | .hbm, ⟨12, _⟩ => ⟨S128x2x2x64x2048, .f32⟩
  | .hbm, ⟨13, _⟩ => ⟨S128x2048x2x2x64, .f32⟩
  | .hbm, ⟨14, _⟩ => ⟨S1024x128, .f32⟩
  | .hbm, ⟨15, _⟩ => ⟨S1024x128, .f32⟩
  | .hbm, ⟨16, _⟩ => ⟨S1024x128, .f32⟩
  | .hbm, ⟨17, _⟩ => ⟨S1024x128, .f32⟩
  | .hbm, ⟨18, _⟩ => ⟨S1024x128, .f32⟩
  | .local _ .vmem, ⟨0, _⟩ => ⟨S1x8x512, .f32⟩
  | .local _ .vmem, ⟨1, _⟩ => ⟨S1x8x512, .f32⟩
  | .local _ .vmem, ⟨2, _⟩ => ⟨S1x8x128, .f32⟩
  | .local _ .vmem, ⟨3, _⟩ => ⟨S1x8x128, .f32⟩
  | .local _ .vmem, ⟨4, _⟩ => ⟨S1x8x128, .f32⟩
  | .local _ .vmem, ⟨5, _⟩ => ⟨S1x8x128, .f32⟩
  | .local _ .vmem, ⟨6, _⟩ => ⟨S1x256x2048, .f32⟩
  | .local _ .vmem, ⟨7, _⟩ => ⟨S1x256x2048, .f32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .vmem, ⟨11, _⟩ => ⟨S1x8x128, .f32⟩
  | .local _ .vmem, ⟨12, _⟩ => ⟨S1x8x128, .f32⟩
  | .local _ .vmem, ⟨13, _⟩ => ⟨S1x8x128, .f32⟩
  | .local _ .vmem, ⟨14, _⟩ => ⟨S1x8x128, .f32⟩
  | .local _ .vmem, ⟨15, _⟩ => ⟨S1x8x128, .f32⟩
  | .local _ .vmem, ⟨16, _⟩ => ⟨S1x8x128, .f32⟩
  | .local _ .vmem, ⟨17, _⟩ => ⟨S1x8x128, .f32⟩
  | .local _ .vmem, ⟨18, _⟩ => ⟨S1x256x2048, .f32⟩
  | .local _ .vmem, ⟨19, _⟩ => ⟨S1x256x2048, .f32⟩
  | _, _ => ⟨S128x8x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev main_v2_5 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![arg0.toNat, c0_i32.toNat, c2_i32.toNat]

def cc0_transform_1 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![arg0.toNat, c0_i32.toNat, c2_i32.toNat]

def cc0_transform_2 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![arg0.toNat, c0_i32.toNat, c2_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference12Ideal.lean ====
abbrev S128x8x1536 : Shape := ⟨3, ![128, 8, 1536]⟩
abbrev S128x8x384 : Shape := ⟨3, ![128, 8, 384]⟩
abbrev S128x2048x2x2x64 : Shape := ⟨5, ![128, 2048, 2, 2, 64]⟩
abbrev S128x8x3x2x64 : Shape := ⟨5, ![128, 8, 3, 2, 64]⟩
abbrev S128x8x1x2x64 : Shape := ⟨5, ![128, 8, 1, 2, 64]⟩
abbrev S128x8x2x64 : Shape := ⟨4, ![128, 8, 2, 64]⟩
abbrev S128x8x2x2x64 : Shape := ⟨5, ![128, 8, 2, 2, 64]⟩
abbrev S128x2056x2x2x64 : Shape := ⟨5, ![128, 2056, 2, 2, 64]⟩

abbrev nBuf : Space → Nat
  | .hbm => 15
  | .vmem => 0
  | .smem => 0
  | _ => 0

abbrev bufTy : (tb : Table) → Fin (tcTables nBuf tb) → BufTy
  | .hbm, ⟨0, _⟩ => ⟨S128x8x1536, .f32⟩
  | .hbm, ⟨1, _⟩ => ⟨S128x8x384, .f32⟩
  | .hbm, ⟨2, _⟩ => ⟨S128x8x384, .f32⟩
  | .hbm, ⟨3, _⟩ => ⟨S128x2048x2x2x64, .f32⟩
  | .hbm, ⟨4, _⟩ => ⟨S128x8x3x2x64, .f32⟩
  | .hbm, ⟨5, _⟩ => ⟨S128x8x1x2x64, .f32⟩
  | .hbm, ⟨6, _⟩ => ⟨S128x8x2x64, .f32⟩
  | .hbm, ⟨7, _⟩ => ⟨S128x8x3x2x64, .f32⟩
  | .hbm, ⟨8, _⟩ => ⟨S128x8x1x2x64, .f32⟩
  | .hbm, ⟨9, _⟩ => ⟨S128x8x2x64, .f32⟩
  | .hbm, ⟨10, _⟩ => ⟨S128x8x1x2x64, .f32⟩
  | .hbm, ⟨11, _⟩ => ⟨S128x8x1x2x64, .f32⟩
  | .hbm, ⟨12, _⟩ => ⟨S128x8x2x2x64, .f32⟩
  | .hbm, ⟨13, _⟩ => ⟨S128x2056x2x2x64, .f32⟩
  | .hbm, ⟨14, _⟩ => ⟨S128x2048x2x2x64, .f32⟩
  | _, _ => ⟨S128x8x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Proof.Soft.lean ====
/- The masked softmax of one row, over any number of columns: its maximum, its denominator, its
   weighted sum and the logarithm of its denominator, and the fact that all of them are the same over
   a longer row whose further columns are masked. -/
module

public import Idealize.ShloMosaic.Lib.Pointwise

@[expose] public section

set_option maxRecDepth 16384

noncomputable section

namespace Cert.Soft

open Idealize.ShloMosaic

/-- What a masked score is: the f32 word of −∞. -/
abbrev negInf : EReal := Ideal.ofBits .f32 0xFF800000#32

theorem negInf_eq : negInf = ⊥ := by
  simp [negInf, Ideal.ofBits, Ideal.ieee]

/-- The largest score of a row. -/
def top {n : ℕ} (s : Fin n → EReal) : EReal := Finset.univ.fold max negInf s

/-- The softmax denominator of a row. -/
def den {n : ℕ} (s : Fin n → EReal) : EReal := ∑ j, Ideal.exp (s j - top s)

/-- The softmax of a row, applied to one lane of the values. -/
def out {n : ℕ} (s v : Fin n → EReal) : EReal :=
  Ideal.div (∑ j, Ideal.exp (s j - top s) * v j) (den s)

/-- The logarithm of the softmax denominator, with the row's maximum added back. -/
def lse {n : ℕ} (s : Fin n → EReal) : EReal := top s + Ideal.log (den s)

theorem top_eq_sup {n : ℕ} (s : Fin n → EReal) : top s = Finset.univ.sup s := by
  unfold top
  rw [negInf_eq]
  rfl

theorem exp_masked (m : EReal) : Ideal.exp (⊥ - m) = 0 := by
  rw [EReal.bot_sub]; rfl

section Embed
variable {n N : ℕ} (e : Fin n → Fin N) (he : Function.Injective e)
  (s : Fin n → EReal) (S : Fin N → EReal)
  (hs : ∀ j, s j = S (e j)) (hS : ∀ c, c ∉ Set.range e → S c = ⊥)

include hs hS in
theorem top_embed : top s = top S := by
  rw [top_eq_sup, top_eq_sup]
  apply le_antisymm
  · exact Finset.sup_le fun j _ => by rw [hs]; exact Finset.le_sup (Finset.mem_univ (e j))
  · refine Finset.sup_le fun c _ => ?_
    by_cases h : c ∈ Set.range e
    · obtain ⟨j, rfl⟩ := h
      rw [← hs]; exact Finset.le_sup (Finset.mem_univ j)
    · rw [hS c h]; exact bot_le

include he hs hS in
theorem den_embed : den s = den S := by
  unfold den
  refine Fintype.sum_of_injective e he _ _ (fun c h => ?_) fun j => ?_
  · rw [hS c h, exp_masked]
  · rw [hs, top_embed e s S hs hS]

include he hs hS in
theorem out_embed (v : Fin n → EReal) (V : Fin N → EReal) (hv : ∀ j, s j ≠ ⊥ → v j = V (e j)) :
    out s v = out S V := by
  unfold out
  rw [den_embed e he s S hs hS]
  congr 1
  refine Fintype.sum_of_injective e he _ _ (fun c h => ?_) fun j => ?_
  · rw [hS c h, exp_masked, zero_mul]
  · by_cases h : s j = ⊥
    · rw [← hs, h, exp_masked, zero_mul, exp_masked, zero_mul]
    · rw [hs, top_embed e s S hs hS, hv j h]

include he hs hS in
theorem lse_embed : lse s = lse S := by
  unfold lse
  rw [den_embed e he s S hs hS, top_embed e s S hs hS]

end Embed

/-- A sum of products scaled afterwards by a positive real is the sum with one factor scaled first. -/
theorem sum_scale {ι : Type*} (t : Finset ι) (a b : ι → EReal) (c : EReal) (h0 : 0 ≤ c) (h1 : c ≠ ⊤) :
    (∑ i ∈ t, a i * b i) * c = ∑ i ∈ t, (a i * c) * b i := by
  classical
  induction t using Finset.induction_on with
  | empty => simp
  | insert i t hi ih =>
    rw [Finset.sum_insert hi, Finset.sum_insert hi, EReal.right_distrib_of_nonneg_of_ne_top h0 h1, ih,
      mul_right_comm]

end Cert.Soft

end
-- ==== Proof.Words.lean ====
/- Differences of two small index words, read signed. -/
module

public import Idealize.ShloMosaic.Lib.Pointwise
public import Idealize.ShloMosaic.Lib.WordCmp

@[expose] public section

namespace Cert.Words

open Idealize.ShloMosaic

theorem toInt_small (a : ℕ) (h : a < 2 ^ 31) : (BitVec.ofNat 32 a).toInt = (a : ℤ) :=
  WordCmp.toInt_ofNat_of_lt h

/-- The signed reading of the difference of two words below the sign bit. -/
theorem toInt_subi (a c : ℕ) (ha : a < 2 ^ 31) (hc : c < 2 ^ 31) :
    (IntOp.subi (BitVec.ofNat 32 a) (BitVec.ofNat 32 c)).toInt = (a : ℤ) - c := by
  show (BitVec.ofNat 32 a - BitVec.ofNat 32 c).toInt = _
  rw [BitVec.toInt_sub, toInt_small a ha, toInt_small c hc]
  exact Int.bmod_eq_of_le (by omega) (by omega)

theorem addi_ofNat (a c : ℕ) : IntOp.addi (BitVec.ofNat 32 a) (BitVec.ofNat 32 c) = BitVec.ofNat 32 (a + c) :=
  (BitVec.ofNat_add a c).symm

/-- A difference of two index words is at least a third one exactly when the integers are. -/
theorem sub_sge (a c k : ℕ) (ha : a < 2 ^ 31) (hc : c < 2 ^ 31) (hk : k < 2 ^ 31) :
    IntOp.cmpi .sge (IntOp.subi (BitVec.ofNat 32 a) (BitVec.ofNat 32 c)) (BitVec.ofNat 32 k)
      = BitVec.ofBool (decide (k + c ≤ a)) := by
  rw [WordCmp.cmpi_sge_eq, toInt_subi a c ha hc, toInt_small k hk]
  congr 1
  exact decide_eq_decide.mpr ⟨fun h => by omega, fun h => by omega⟩

/-- A difference of two index words is at most a third one exactly when the integers are. -/
theorem sub_sle (a c k : ℕ) (ha : a < 2 ^ 31) (hc : c < 2 ^ 31) (hk : k < 2 ^ 31) :
    IntOp.cmpi .sle (IntOp.subi (BitVec.ofNat 32 a) (BitVec.ofNat 32 c)) (BitVec.ofNat 32 k)
      = BitVec.ofBool (decide (a ≤ k + c)) := by
  rw [WordCmp.cmpi_sle_eq, toInt_subi a c ha hc, toInt_small k hk]
  congr 1
  exact decide_eq_decide.mpr ⟨fun h => by omega, fun h => by omega⟩

theorem sge_ofNat (a k : ℕ) (ha : a < 2 ^ 31) (hk : k < 2 ^ 31) :
    IntOp.cmpi .sge (BitVec.ofNat 32 a) (BitVec.ofNat 32 k) = BitVec.ofBool (decide (k ≤ a)) := by
  rw [WordCmp.cmpi_sge_eq, toInt_small a ha, toInt_small k hk]
  congr 1
  exact decide_eq_decide.mpr ⟨fun h => by omega, fun h => by omega⟩

theorem sgt_ofNat (a k : ℕ) (ha : a < 2 ^ 31) (hk : k < 2 ^ 31) :
    IntOp.cmpi .sgt (BitVec.ofNat 32 a) (BitVec.ofNat 32 k) = BitVec.ofBool (decide (k < a)) := by
  rw [WordCmp.cmpi_sgt_eq, toInt_small a ha, toInt_small k hk]
  congr 1
  exact decide_eq_decide.mpr ⟨fun h => by omega, fun h => by omega⟩

theorem select_ofBool {α : Type} (p : Prop) [Decidable p] (x y : α) :
    Scalar.select (BitVec.ofBool (decide p)) x y = if p then x else y := by
  by_cases h : p <;> simp [h, Scalar.select]

end Cert.Words
-- ==== Proof.Kern.lean ====
module

public import proofs.«01_k».proof.Proof.Gen.KernelIdeal.Value
public import Idealize.ShloMosaic.Lib.Pipeline.ValueKit
public import proofs.«01_k».proof.Proof.Soft
public import proofs.«01_k».proof.Proof.Words
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.KernelIdeal.Block

open Cert.KernelIdeal Cert.KernelIdeal.Gen

/-- Row `128 h + r` of the four heads stacked on top of one another. -/
abbrev row (h : Fin 4) (r : Fin 128) : Fin 512 := ⟨128 * h.val + r.val, by omega⟩

theorem e2 (r : Fin 128) : 256 + r.val - 128 - 128 = r.val := by omega
theorem e3 (r : Fin 128) : 384 + r.val - 128 - 128 - 128 = r.val := by omega

/-- Whether query row `r` of block `j` sees column `c` of the previous and the current block. -/
def Sees (j : ℕ) (r : Fin 128) (c : Fin 256) : Prop :=
  c.val ≤ r.val + 128 ∧ r.val ≤ c.val ∧ (128 ≤ c.val ∨ 0 < j)

instance (j : ℕ) (r : Fin 128) (c : Fin 256) : Decidable (Sees j r c) := by
  unfold Sees; infer_instance

theorem mask_small (j r c : ℕ) (hj : j < 2 ^ 31) (hr : r < 128) (hc : c < 256) (x y : EReal) :
    Scalar.select (IntOp.andi
        (IntOp.andi
          (IntOp.cmpi .sge (IntOp.subi (IntOp.addi (BitVec.ofNat 32 r) 128#32) (BitVec.ofNat 32 c)) 0#32)
          (IntOp.cmpi .sle (IntOp.subi (IntOp.addi (BitVec.ofNat 32 r) 128#32) (BitVec.ofNat 32 c)) 128#32))
        (IntOp.ori (IntOp.cmpi .sge (BitVec.ofNat 32 c) 128#32)
          (Scalar.cmpi .sgt (BitVec.ofNat 32 j) 0#32))) x y
      = if c ≤ r + 128 ∧ r ≤ c ∧ (128 ≤ c ∨ 0 < j) then x else y := by
  rw [WordCmp.scalar_cmpi_eq, Words.addi_ofNat, Words.sub_sge _ _ 0 (by omega) (by omega) (by omega),
    Words.sub_sle _ _ _ (by omega) (by omega) (by omega), Words.sge_ofNat _ _ (by omega) (by omega),
    Words.sgt_ofNat _ 0 hj (by omega), WordCmp.andi_ofBool, WordCmp.ori_ofBool, WordCmp.andi_ofBool,
    ← Bool.decide_and, ← Bool.decide_or, ← Bool.decide_and, Words.select_ofBool]
  refine if_congr ?_ rfl rfl
  omega

theorem mask_at (i : grid0.Coords) (h : Fin 4) (r : Fin 128) (c : Fin 256) (x y : EReal) :
    Scalar.select (k0_pay2 i (ix2 (row h r) c)) x y = if Sees (i 1).val r c then x else y := by
  have hi : (i 1).val < 2 ^ 31 := lt_trans (i 1).isLt (by decide)
  refine Eq.trans ?_ (mask_small (i 1).val r.val c.val hi r.isLt c.isLt x y)
  fin_cases h
  all_goals
    pointwise [k0_pay2]
    try simp (disch := omega) only [dif_neg, dif_pos, e2 r, e3 r]

theorem score0_at (M : IVec S512x256 1) (Q : FVec Ideal S128x512 .bf16) (K : FVec Ideal S256x128 .bf16)
    (h : Fin 4) (r : Fin 128) (c : Fin 256) :
    k0_pay6 (F := Ideal) M Q K (ix2 (row h r) c)
      = Scalar.select (M (ix2 (row h r) c))
          (∑ d : Fin 64, Q (ix2 r ⟨64 * h.val + d.val, by omega⟩) * K (ix2 c ⟨d.val, by omega⟩))
          Soft.negInf := by
  fin_cases h
  all_goals
    pointwise [k0_pay6]
    try simp (disch := omega) only [dif_neg, dif_pos, e2 r, e3 r]
    try rfl

theorem score1_at (M : IVec S512x256 1) (Q : FVec Ideal S128x512 .bf16) (K : FVec Ideal S256x128 .bf16)
    (h : Fin 4) (r : Fin 128) (c : Fin 256) :
    k0_pay21 (F := Ideal) M Q K (ix2 (row h r) c)
      = Scalar.select (M (ix2 (row h r) c))
          (∑ d : Fin 64, Q (ix2 r ⟨256 + 64 * h.val + d.val, by omega⟩) * K (ix2 c ⟨64 + d.val, by omega⟩))
          Soft.negInf := by
  fin_cases h
  all_goals
    pointwise [k0_pay21]
    try simp (disch := omega) only [dif_neg, dif_pos, e2 r, e3 r]
    try rfl

theorem out0_at (M : IVec S512x256 1) (Q : FVec Ideal S128x512 .bf16) (K : FVec Ideal S256x128 .bf16)
    (x y : FVec Ideal S1x128x128 .f32) (R : Fin 512) (d : Fin 64) :
    k0_pay10 (F := Ideal) M Q K x y (ix2 R d)
      = Soft.out (fun c => k0_pay6 (F := Ideal) M Q K (ix2 R c))
          (fun c => k0_pay5 (F := Ideal) x y (ix2 c ⟨d.val, by omega⟩)) := by
  pointwise [k0_pay10, k0_pay9, k0_pay8, k0_pay7, Soft.out, Soft.den, Soft.top]

theorem lse0_at (M : IVec S512x256 1) (Q : FVec Ideal S128x512 .bf16) (K : FVec Ideal S256x128 .bf16)
    (R : Fin 512) :
    k0_pay11 (F := Ideal) M Q K (ix2 R 0) = Soft.lse (fun c => k0_pay6 (F := Ideal) M Q K (ix2 R c)) := by
  pointwise [k0_pay11, k0_pay9, k0_pay8, k0_pay7, Soft.lse, Soft.den, Soft.top]

theorem out1_at (M : IVec S512x256 1) (Q : FVec Ideal S128x512 .bf16) (K : FVec Ideal S256x128 .bf16)
    (x y : FVec Ideal S1x128x128 .f32) (R : Fin 512) (d : Fin 64) :
    k0_pay26 (F := Ideal) (k0_pay20 x y) (k0_pay21 M Q K) (k0_pay22 M Q K) (ix2 R d)
      = Soft.out (fun c => k0_pay21 (F := Ideal) M Q K (ix2 R c))
          (fun c => k0_pay5 (F := Ideal) x y (ix2 c ⟨64 + d.val, by omega⟩)) := by
  pointwise [k0_pay26, k0_pay25, k0_pay24, k0_pay23, k0_pay22, k0_pay20, Soft.out, Soft.den, Soft.top]

theorem lse1_at (M : IVec S512x256 1) (Q : FVec Ideal S128x512 .bf16) (K : FVec Ideal S256x128 .bf16)
    (R : Fin 512) :
    k0_pay27 (F := Ideal) (k0_pay21 M Q K) (k0_pay22 M Q K) (ix2 R 0)
      = Soft.lse (fun c => k0_pay21 (F := Ideal) M Q K (ix2 R c)) := by
  pointwise [k0_pay27, k0_pay25, k0_pay24, k0_pay23, k0_pay22, Soft.lse, Soft.den, Soft.top]

/-! ## Over the blocks of one grid point -/

/-- Lane `64 g + d` of the rows of the previous and the current block, stacked. -/
def both (x y : FVec Ideal S1x128x128 .f32) (g : Fin 2) (d : Fin 64) (c : Fin 256) : EReal :=
  if h : c.val < 128 then x (ix3 0 ⟨c.val, h⟩ ⟨64 * g.val + d.val, by omega⟩)
  else y (ix3 0 ⟨c.val - 128, by omega⟩ ⟨64 * g.val + d.val, by omega⟩)

/-- The masked scores of row `r`: half `u` of a query slab against key/value head `g`. -/
def score (j : ℕ) (q kp kc : FVec Ideal S1x128x128 .f32) (u g : Fin 2) (r : Fin 128) (c : Fin 256) : EReal :=
  if Sees j r c then ∑ d : Fin 64, q (ix3 0 r ⟨64 * u.val + d.val, by omega⟩) * both kp kc g d c else Soft.negInf

theorem k_at (x y : FVec Ideal S1x128x128 .f32) (g : Fin 2) (d : Fin 64) (c : Fin 256) :
    k0_pay4 (F := Ideal) x y (ix2 c ⟨64 * g.val + d.val, by omega⟩) = both x y g d c := by
  pointwise [k0_pay4, both]

theorem v_at (x y : FVec Ideal S1x128x128 .f32) (g : Fin 2) (d : Fin 64) (c : Fin 256) :
    k0_pay5 (F := Ideal) x y (ix2 c ⟨64 * g.val + d.val, by omega⟩) = both x y g d c := by
  pointwise [k0_pay5, both]

/-- The query slab that lane block `a` of the four slabs reads. -/
def slab (x0 x1 x2 x3 : FVec Ideal S1x128x128 .f32) (a : Fin 4) : FVec Ideal S1x128x128 .f32 :=
  match a with | 0 => x0 | 1 => x1 | 2 => x2 | 3 => x3

theorem q_at (x0 x1 x2 x3 : FVec Ideal S1x128x128 .f32) (r : Fin 128) (a : Fin 4) (l : Fin 128) :
    k0_pay3 (F := Ideal) x0 x1 x2 x3 (ix2 r ⟨128 * a.val + l.val, by omega⟩) = slab x0 x1 x2 x3 a (ix3 0 r l) := by
  have e2 : 256 + l.val - 128 - 128 = l.val := by omega
  have e3 : 384 + l.val - 128 - 128 - 128 = l.val := by omega
  fin_cases a
  all_goals
    pointwise [k0_pay3, slab]
    try simp (disch := omega) only [dif_neg, dif_pos, e2, e3]
    try rfl

end Cert.KernelIdeal.Block

end
-- ==== Proof.KernOut.lean ====
module

public import proofs.«01_k».proof.Proof.Kern

@[expose] public section

set_option maxRecDepth 16384

noncomputable section

open Idealize.ShloMosaic Idealize.ShloMosaic.TcCoe Idealize.SL.Sem
open Idealize.ShloMosaic.Pipeline (Dat)

namespace Cert.KernelIdeal.Block

open Cert.KernelIdeal Cert.KernelIdeal.Gen

variable (i : grid0.Coords) (x0 x1 x2 x3 x4 x5 x6 x7 : FVec Ideal S1x128x128 .f32)

theorem row0 (a u : Fin 2) (r : Fin 128) (h : Fin 4) (hh : h.val = 2 * a.val + u.val) :
    (fun c => k0_pay6 (F := Ideal) (k0_pay2 i) (k0_pay3 x0 x1 x2 x3) (k0_pay4 x4 x5) (ix2 (row h r) c))
      = score (i 1).val (slab x0 x1 x2 x3 ⟨a.val, by omega⟩) x4 x5 u 0 r := by
  funext c
  rw [score0_at, mask_at, score]
  refine if_congr Iff.rfl (Finset.sum_congr rfl fun d _ => ?_) rfl
  refine congrArg₂ (· * ·) ?_ ?_
  · refine Eq.trans ?_ (q_at x0 x1 x2 x3 r ⟨a.val, by omega⟩ ⟨64 * u.val + d.val, by omega⟩)
    congr 2; apply Fin.ext; show _ = 128 * a.val + (64 * u.val + d.val); simp only; omega
  · refine Eq.trans ?_ (k_at x4 x5 0 d c)
    congr 2; apply Fin.ext; simp

theorem row1 (a u : Fin 2) (r : Fin 128) (h : Fin 4) (hh : h.val = 2 * a.val + u.val) :
    (fun c => k0_pay21 (F := Ideal) (k0_pay2 i) (k0_pay3 x0 x1 x2 x3) (k0_pay4 x4 x5) (ix2 (row h r) c))
      = score (i 1).val (slab x0 x1 x2 x3 ⟨2 + a.val, by omega⟩) x4 x5 u 1 r := by
  funext c
  rw [score1_at, mask_at, score]
  refine if_congr Iff.rfl (Finset.sum_congr rfl fun d _ => ?_) rfl
  refine congrArg₂ (· * ·) ?_ ?_
  · refine Eq.trans ?_ (q_at x0 x1 x2 x3 r ⟨2 + a.val, by omega⟩ ⟨64 * u.val + d.val, by omega⟩)
    congr 2; apply Fin.ext; show _ = 128 * (2 + a.val) + (64 * u.val + d.val); simp only; omega
  · refine Eq.trans ?_ (k_at x4 x5 1 d c)
    congr 2

/-- A head of the first key/value head, as the body computes it. -/
theorem head0 (a u : Fin 2) (r : Fin 128) (d : Fin 64) (h : Fin 4) (hh : h.val = 2 * a.val + u.val) :
    k0_pay10 (F := Ideal) (k0_pay2 i) (k0_pay3 x0 x1 x2 x3) (k0_pay4 x4 x5) x6 x7 (ix2 (row h r) d)
      = Soft.out (score (i 1).val (slab x0 x1 x2 x3 ⟨a.val, by omega⟩) x4 x5 u 0 r) (both x6 x7 0 d) := by
  rw [out0_at, row0 i x0 x1 x2 x3 x4 x5 a u r h hh]
  congr 1; funext c
  refine Eq.trans ?_ (v_at x6 x7 0 d c)
  congr 2; apply Fin.ext; simp

/-- A head of the second key/value head. -/
theorem head1 (a u : Fin 2) (r : Fin 128) (d : Fin 64) (h : Fin 4) (hh : h.val = 2 * a.val + u.val) :
    k0_pay26 (F := Ideal) (k0_pay20 x6 x7) (k0_pay21 (k0_pay2 i) (k0_pay3 x0 x1 x2 x3) (k0_pay4 x4 x5))
        (k0_pay22 (k0_pay2 i) (k0_pay3 x0 x1 x2 x3) (k0_pay4 x4 x5)) (ix2 (row h r) d)
      = Soft.out (score (i 1).val (slab x0 x1 x2 x3 ⟨2 + a.val, by omega⟩) x4 x5 u 1 r) (both x6 x7 1 d) := by
  rw [out1_at, row1 i x0 x1 x2 x3 x4 x5 a u r h hh]
  congr 1; funext c
  refine Eq.trans ?_ (v_at x6 x7 1 d c)
  congr 2

/-- Two reads of a stacked array at one row. -/
theorem at_row {n : ℕ} (X : (⟨2, ![512, n]⟩ : Shape).Idx → EReal) (R R' : Fin 512) (d : Fin n) (h : R.val = R'.val) :
    X (ix2 R d) = X (ix2 R' d) := by
  rw [Fin.ext h]

theorem slab8 (r : Fin 128) (u : Fin 2) (d : Fin 64) :
    k0_pay32 (F := Ideal) (k0_pay12 (k0_pay2 i) (k0_pay3 x0 x1 x2 x3) (k0_pay4 x4 x5) x6 x7)
        (k0_pay14 (k0_pay2 i) (k0_pay3 x0 x1 x2 x3) (k0_pay4 x4 x5) x6 x7) (ix3 0 r ⟨64 * u.val + d.val, by omega⟩)
      = Soft.out (score (i 1).val x0 x4 x5 u 0 r) (both x6 x7 0 d) := by
  refine Eq.trans ?_ (head0 i x0 x1 x2 x3 x4 x5 x6 x7 0 u r d ⟨u.val, by omega⟩ (by simp))
  fin_cases u
  all_goals
    pointwise [k0_pay32, k0_pay12, k0_pay14]
    exact at_row _ _ _ _ (by simp)

theorem slab9 (r : Fin 128) (u : Fin 2) (d : Fin 64) :
    k0_pay33 (F := Ideal) (k0_pay16 (k0_pay2 i) (k0_pay3 x0 x1 x2 x3) (k0_pay4 x4 x5) x6 x7)
        (k0_pay18 (k0_pay2 i) (k0_pay3 x0 x1 x2 x3) (k0_pay4 x4 x5) x6 x7) (ix3 0 r ⟨64 * u.val + d.val, by omega⟩)
      = Soft.out (score (i 1).val x1 x4 x5 u 0 r) (both x6 x7 0 d) := by
  refine Eq.trans ?_ (head0 i x0 x1 x2 x3 x4 x5 x6 x7 1 u r d ⟨2 + u.val, by omega⟩ (by simp))
  fin_cases u
  all_goals
    pointwise [k0_pay33, k0_pay16, k0_pay18]
    exact at_row _ _ _ _ (by simp)

theorem slab10 (r : Fin 128) (u : Fin 2) (d : Fin 64) :
    k0_pay34 (F := Ideal) (k0_pay20 x6 x7) (k0_pay21 (k0_pay2 i) (k0_pay3 x0 x1 x2 x3) (k0_pay4 x4 x5))
        (k0_pay22 (k0_pay2 i) (k0_pay3 x0 x1 x2 x3) (k0_pay4 x4 x5)) (ix3 0 r ⟨64 * u.val + d.val, by omega⟩)
      = Soft.out (score (i 1).val x2 x4 x5 u 1 r) (both x6 x7 1 d) := by
  refine Eq.trans ?_ (head1 i x0 x1 x2 x3 x4 x5 x6 x7 0 u r d ⟨u.val, by omega⟩ (by simp))
  fin_cases u
  all_goals
    pointwise [k0_pay34]
    exact at_row _ _ _ _ (by simp)

theorem slab11 (r : Fin 128) (u : Fin 2) (d : Fin 64) :
    k0_pay35 (F := Ideal) (k0_pay20 x6 x7) (k0_pay21 (k0_pay2 i) (k0_pay3 x0 x1 x2 x3) (k0_pay4 x4 x5))
        (k0_pay22 (k0_pay2 i) (k0_pay3 x0 x1 x2 x3) (k0_pay4 x4 x5)) (ix3 0 r ⟨64 * u.val + d.val, by omega⟩)
      = Soft.out (score (i 1).val x3 x4 x5 u 1 r) (both x6 x7 1 d) := by
  refine Eq.trans ?_ (head1 i x0 x1 x2 x3 x4 x5 x6 x7 1 u r d ⟨2 + u.val, by omega⟩ (by simp))
  fin_cases u
  all_goals
    pointwise [k0_pay35]
    exact at_row _ _ _ _ (by simp)

theorem lse_row0 (a u : Fin 2) (r : Fin 128) (h : Fin 4) (hh : h.val = 2 * a.val + u.val) :
    k0_pay11 (F := Ideal) (k0_pay2 i) (k0_pay3 x0 x1 x2 x3) (k0_pay4 x4 x5) (ix2 (row h r) 0)
      = Soft.lse (score (i 1).val (slab x0 x1 x2 x3 ⟨a.val, by omega⟩) x4 x5 u 0 r) := by
  rw [lse0_at, row0 i x0 x1 x2 x3 x4 x5 a u r h hh]

theorem lse_row1 (a u : Fin 2) (r : Fin 128) (h : Fin 4) (hh : h.val = 2 * a.val + u.val) :
    k0_pay27 (F := Ideal) (k0_pay21 (k0_pay2 i) (k0_pay3 x0 x1 x2 x3) (k0_pay4 x4 x5)) (k0_pay22 (k0_pay2 i) (k0_pay3 x0 x1 x2 x3) (k0_pay4 x4 x5)) (ix2 (row h r) 0)
      = Soft.lse (score (i 1).val (slab x0 x1 x2 x3 ⟨2 + a.val, by omega⟩) x4 x5 u 1 r) := by
  rw [lse1_at, row1 i x0 x1 x2 x3 x4 x5 a u r h hh]

/-- The logarithms of the denominators, each head's repeated over sixteen lanes: lane block `4 g + 2 a + u`. -/
theorem slab12 (r : Fin 128) (g a u : Fin 2) (l : Fin 16) :
    k0_pay1 (F := Ideal) (k0_pay19 (k0_pay2 i) (k0_pay3 x0 x1 x2 x3) (k0_pay4 x4 x5))
        (k0_pay28 (k0_pay21 (k0_pay2 i) (k0_pay3 x0 x1 x2 x3) (k0_pay4 x4 x5)) (k0_pay22 (k0_pay2 i) (k0_pay3 x0 x1 x2 x3) (k0_pay4 x4 x5)))
        (k0_pay29 (k0_pay21 (k0_pay2 i) (k0_pay3 x0 x1 x2 x3) (k0_pay4 x4 x5)) (k0_pay22 (k0_pay2 i) (k0_pay3 x0 x1 x2 x3) (k0_pay4 x4 x5)))
        (k0_pay30 (k0_pay21 (k0_pay2 i) (k0_pay3 x0 x1 x2 x3) (k0_pay4 x4 x5)) (k0_pay22 (k0_pay2 i) (k0_pay3 x0 x1 x2 x3) (k0_pay4 x4 x5)))
        (k0_pay31 (k0_pay21 (k0_pay2 i) (k0_pay3 x0 x1 x2 x3) (k0_pay4 x4 x5)) (k0_pay22 (k0_pay2 i) (k0_pay3 x0 x1 x2 x3) (k0_pay4 x4 x5)))
        (k0_pay36 (k0_pay13 (k0_pay2 i) (k0_pay3 x0 x1 x2 x3) (k0_pay4 x4 x5))) (k0_pay37 (k0_pay15 (k0_pay2 i) (k0_pay3 x0 x1 x2 x3) (k0_pay4 x4 x5)))
        (k0_pay38 (k0_pay17 (k0_pay2 i) (k0_pay3 x0 x1 x2 x3) (k0_pay4 x4 x5))) (ix3 0 r ⟨64 * g.val + 32 * a.val + 16 * u.val + l.val, by omega⟩)
      = Soft.lse (score (i 1).val (slab x0 x1 x2 x3 ⟨2 * g.val + a.val, by omega⟩) x4 x5 u g r) := by
  fin_cases g
  · refine Eq.trans ?_ ((lse_row0 i x0 x1 x2 x3 x4 x5 a u r ⟨2 * a.val + u.val, by omega⟩ rfl).trans (by simp))
    fin_cases a <;> fin_cases u
    all_goals
      pointwise [k0_pay1, k0_pay19, k0_pay36, k0_pay37, k0_pay38, k0_pay13, k0_pay15, k0_pay17]
      try simp (disch := omega) only [dif_neg, dif_pos]
      exact at_row _ _ _ _ (by simp)
  · refine Eq.trans ?_ ((lse_row1 i x0 x1 x2 x3 x4 x5 a u r ⟨2 * a.val + u.val, by omega⟩ rfl).trans (by simp))
    fin_cases a <;> fin_cases u
    all_goals
      pointwise [k0_pay1, k0_pay28, k0_pay29, k0_pay30, k0_pay31]
      try simp (disch := omega) only [dif_neg, dif_pos]
      exact at_row _ _ _ _ (by simp)

end Cert.KernelIdeal.Block

end
-- ==== Proof.Attn.lean ====
/- The dilated sliding-window attention of the reference, read at one result element: query row `t`
   of batch row `b` sees the keys at distances `0, dil, 2 dil, …, 128 dil` that are not before the
   start of the sequence. -/
module

public import proofs.«01_k».proof.Proof.Soft
public import proofs.«01_k».proof.Proof.Words

@[expose] public section

set_option maxRecDepth 16384

noncomputable section

namespace Cert.Attn

open Idealize.ShloMosaic

/-- The f32 word of 1/8, the scale of the scores. -/
abbrev eighth : EReal := Ideal.ofBits .f32 0x3E000000#32

/-- The queries' array, and the keys' and values'. -/
abbrev Q := (⟨3, ![2, 8192, 1536]⟩ : Shape).Idx → EReal
abbrev KV := (⟨3, ![2, 8192, 384]⟩ : Shape).Idx → EReal

/-- The row `j` steps of `dil` before row `t`, or row 0. -/
abbrev pos (dil : ℕ) (t : Fin 8192) (j : Fin 129) : Fin 8192 := ⟨t.val - dil * j.val, by omega⟩

/-- The masked score of head `h` of group `g` at step `j`. -/
def score (dil : ℕ) (g : Fin 3) (q : Q) (k : KV) (b : Fin 2) (t : Fin 8192) (h : Fin 8) (j : Fin 129) : EReal :=
  if dil * j.val ≤ t.val then
    (∑ x : Fin 64, q (ix3 b t ⟨512 * g.val + 64 * h.val + x.val, by omega⟩)
      * k (ix3 b (pos dil t j) ⟨128 * g.val + 64 * (h.val / 4) + x.val, by omega⟩)) * eighth
  else Soft.negInf

/-- Lane `d` of the values at step `j`. -/
def value (dil : ℕ) (g : Fin 3) (v : KV) (b : Fin 2) (t : Fin 8192) (h : Fin 8) (d : Fin 64) (j : Fin 129) : EReal :=
  v (ix3 b (pos dil t j) ⟨128 * g.val + 64 * (h.val / 4) + d.val, by omega⟩)

/-! ## The position words -/

abbrev dist (dil : ℕ) (t : Fin 8192) (j : Fin 129) : BitVec 32 :=
  IntOp.subi (BitVec.ofNat 32 t.val) (IntOp.muli (BitVec.ofNat 32 dil) (BitVec.ofNat 32 j.val))

theorem muli_ofNat (a c : ℕ) : IntOp.muli (BitVec.ofNat 32 a) (BitVec.ofNat 32 c) = BitVec.ofNat 32 (a * c) :=
  (BitVec.ofNat_mul a c).symm

theorem mul_small (dil : ℕ) (hd : dil ≤ 16) (j : Fin 129) : dil * j.val ≤ 2048 := by
  calc dil * j.val ≤ 16 * 128 := Nat.mul_le_mul hd (by omega)
    _ = 2048 := rfl

theorem dist_mask (dil : ℕ) (hd : dil ≤ 16) (t : Fin 8192) (j : Fin 129) (x y : EReal) :
    Scalar.select (IntOp.cmpi .sge (dist dil t j) 0#32) x y = if dil * j.val ≤ t.val then x else y := by
  have := mul_small dil hd j
  rw [dist, muli_ofNat, Words.sub_sge _ _ 0 (by omega) (by omega) (by omega), Words.select_ofBool]
  exact if_congr (by omega) rfl rfl

theorem dist_pos (dil : ℕ) (hd : dil ≤ 16) (t : Fin 8192) (j : Fin 129) :
    min (IntOp.maxsi (dist dil t j) 0#32).toInt.toNat 8191 = (pos dil t j).val := by
  have := mul_small dil hd j
  have e : (dist dil t j).toInt = (t.val : ℤ) - (dil * j.val : ℕ) := by
    rw [dist, muli_ofNat, Words.toInt_subi _ _ (by omega) (by omega)]
  have e' : (IntOp.maxsi (dist dil t j) 0#32).toInt = max (dist dil t j).toInt 0 := by
    unfold IntOp.maxsi
    rw [BitVec.slt_eq_decide]
    by_cases h : (0#32).toInt < (dist dil t j).toInt
    · rw [decide_eq_true h, if_pos rfl]; rw [BitVec.toInt_zero] at h; omega
    · rw [decide_eq_false h, if_neg (by decide)]; rw [BitVec.toInt_zero] at h ⊢; omega
  rw [e', e]
  show _ = t.val - dil * j.val
  omega

end Cert.Attn

end
-- ==== Proof.Tile.lean ====
/- The attention of one query row over the 256 rows its grid point holds is the attention over the
   129 rows the window reaches. -/
module

public import proofs.«01_k».proof.Proof.Kern
public import proofs.«01_k».proof.Proof.Attn

@[expose] public section

set_option maxRecDepth 16384

noncomputable section

open Idealize.ShloMosaic

namespace Cert.KernelIdeal.Block

open Cert.KernelIdeal Cert.KernelIdeal.Gen

theorem eighth_eq : Attn.eighth = ((8388608 * (2 ^ 26)⁻¹ : ℝ) : EReal) := by
  simp [Attn.eighth, Ideal.ofBits, Ideal.ieee, EReal.coe_mul]

theorem eighth_pos : 0 ≤ Attn.eighth := by
  rw [eighth_eq]; exact EReal.coe_nonneg.2 (by positivity)

theorem eighth_ne_top : Attn.eighth ≠ ⊤ := by
  rw [eighth_eq]; exact EReal.coe_ne_top _

/-- Where the step `s` back from row `r` sits among the 256 rows of the two blocks. -/
def back (r : Fin 128) (s : Fin 129) : Fin 256 := ⟨r.val + 128 - s.val, by omega⟩

theorem back_injective (r : Fin 128) : Function.Injective (back r) := fun s s' h => by
  have := Fin.ext_iff.1 h
  simp only [back] at this
  exact Fin.ext (by omega)

variable (q : Attn.Q) (k v : Attn.KV) (b : Fin 2) (j : Fin 64) (r : Fin 128) (u g : Fin 2) (h : Fin 8)
  (x kp kc vp vc : FVec Ideal S1x128x128 .f32)

/-- The block `y` holds the rows of the first 128 lanes from row `128 i`. -/
abbrev Holds (y : FVec Ideal S1x128x128 .f32) (k : Attn.KV) (b : Fin 2) (i : Fin 64) : Prop :=
  ∀ (c l : Fin 128), y (ix3 0 c l) = k (ix3 b ⟨128 * i.val + c.val, by omega⟩ ⟨l.val, by omega⟩)

/-- The block before block `j`, or block 0. -/
abbrev before (j : Fin 64) : Fin 64 := ⟨j.val - 1, by omega⟩

theorem both_back (hp : Holds kp k b (before j)) (hc : Holds kc k b j) (s : Fin 129) (d : Fin 64)
    (hs : s.val ≤ 128 * j.val + r.val) (hg : h.val / 4 = g.val) :
    both kp kc g d (back r s)
      = k (ix3 b ⟨128 * j.val + r.val - 1 * s.val, by omega⟩ ⟨128 * 0 + 64 * (h.val / 4) + d.val, by omega⟩) := by
  rw [both]
  split
  · rename_i hlt
    simp only [back] at hlt ⊢
    rw [hp]
    refine congrArg k ((ix3_inj ..).2 ⟨rfl, Fin.ext ?_, Fin.ext ?_⟩) <;> simp only <;> omega
  · rename_i hlt
    simp only [back] at hlt ⊢
    rw [hc]
    refine congrArg k ((ix3_inj ..).2 ⟨rfl, Fin.ext ?_, Fin.ext ?_⟩) <;> simp only <;> omega

abbrev here (j : Fin 64) (r : Fin 128) : Fin 8192 := ⟨128 * j.val + r.val, by omega⟩

/-- The queries of row `r` are those of head `h`, scaled. -/
abbrev Scaled (x : FVec Ideal S1x128x128 .f32) (q : Attn.Q) (b : Fin 2) (j : Fin 64) (r : Fin 128) (u : Fin 2)
    (h : Fin 8) : Prop :=
  ∀ d : Fin 64, x (ix3 0 r ⟨64 * u.val + d.val, by omega⟩)
    = q (ix3 b (here j r) ⟨64 * h.val + d.val, by omega⟩) * Attn.eighth

theorem score_back (hx : Scaled x q b j r u h) (hp : Holds kp k b (before j)) (hc : Holds kc k b j)
    (hg : h.val / 4 = g.val) (s : Fin 129) :
    Attn.score 1 0 q k b (here j r) h s = score j.val x kp kc u g r (back r s) := by
  rw [Attn.score, score]
  by_cases hs : s.val ≤ 128 * j.val + r.val
  · rw [if_pos (by show 1 * s.val ≤ 128 * j.val + r.val; omega), if_pos (by simp only [Sees, back]; omega),
      Soft.sum_scale _ _ _ _ eighth_pos eighth_ne_top]
    refine Finset.sum_congr rfl fun d _ => ?_
    rw [hx, both_back k b j r g h kp kc hp hc s d hs hg]
    refine congrArg₂ (· * ·) (congrArg (· * Attn.eighth) (congrArg q ((ix3_inj ..).2 ⟨rfl, rfl, Fin.ext ?_⟩))) rfl
    show 512 * 0 + 64 * h.val + d.val = _; simp only; omega
  · rw [if_neg (by show ¬ 1 * s.val ≤ 128 * j.val + r.val; omega), if_neg (by simp only [Sees, back]; omega)]

theorem score_else (c : Fin 256) (hc : c ∉ Set.range (back r)) : score j.val x kp kc u g r c = ⊥ := by
  rw [score, if_neg, Soft.negInf_eq]
  intro hs
  simp only [Sees] at hs
  exact hc ⟨⟨r.val + 128 - c.val, by omega⟩, Fin.ext (by simp only [back]; omega)⟩

/-- The attention of one query row. -/
theorem out_tile (d : Fin 64) (hx : Scaled x q b j r u h) (hp : Holds kp k b (before j)) (hc : Holds kc k b j)
    (hp' : Holds vp v b (before j)) (hc' : Holds vc v b j) (hg : h.val / 4 = g.val) :
    Soft.out (score j.val x kp kc u g r) (both vp vc g d)
      = Soft.out (Attn.score 1 0 q k b (here j r) h) (Attn.value 1 0 v b (here j r) h d) := by
  refine (Soft.out_embed (back r) (back_injective r) _ _ (score_back q k b j r u g h x kp kc hx hp hc hg)
    (score_else j r u g x kp kc) _ _ fun s hs => ?_).symm
  refine (both_back v b j r g h vp vc hp' hc' s d ?_ hg).symm
  by_contra hn
  refine hs ?_
  rw [Attn.score, if_neg (by show ¬ 1 * s.val ≤ 128 * j.val + r.val; omega), Soft.negInf_eq]

theorem lse_tile (hx : Scaled x q b j r u h) (hp : Holds kp k b (before j)) (hc : Holds kc k b j)
    (hg : h.val / 4 = g.val) :
    Soft.lse (score j.val x kp kc u g r) = Soft.lse (Attn.score 1 0 q k b (here j r) h) :=
  (Soft.lse_embed (back r) (back_injective r) _ _ (score_back q k b j r u g h x kp kc hx hp hc hg)
    (score_else j r u g x kp kc)).symm

end Cert.KernelIdeal.Block

end
-- ==== Proof.Take.lean ====
/- Rows of an array [A, N, G, D] taken along its second axis at an array [R, C] of positions. -/
module

public import Idealize.ShloMosaic.Lib.Pointwise
public import Idealize.ShloMosaic.Lib.ValueIdx

@[expose] public section

set_option maxRecDepth 16384

namespace Cert.Take

open Idealize.ShloMosaic

section
variable {α : Type}

/-- The dimension numbers of such a gather. -/
abbrev rowsDims (A N G D R C : Nat)
    (wf : GatherDims.WF ⟨4, ![A, N, G, D]⟩ ⟨3, ![R, C, 1]⟩ ⟨5, ![A, R, C, G, D]⟩ [0, 3, 4] [1] [] [1] [] 2 ![A, 1, G, D]) :
    GatherDims ⟨4, ![A, N, G, D]⟩ ⟨3, ![R, C, 1]⟩ ⟨5, ![A, R, C, G, D]⟩ where
  offsetDims := [0, 3, 4]
  collapsedSliceDims := [1]
  operandBatchingDims := []
  startIndicesBatchingDims := []
  startIndexMap := [1]
  indexVectorDim := 2
  sliceSizes := ![A, 1, G, D]
  wf := wf

/-- The gather read at an index: the row named by the position, read signed and clamped into the array. -/
theorem rows_apply {A N G D R C w : Nat} (hN : 0 < N)
    (wf : GatherDims.WF ⟨4, ![A, N, G, D]⟩ ⟨3, ![R, C, 1]⟩ ⟨5, ![A, R, C, G, D]⟩ [0, 3, 4] [1] [] [1] [] 2 ![A, 1, G, D])
    (x : (⟨4, ![A, N, G, D]⟩ : Shape).Idx → α) (idx : IVec ⟨3, ![R, C, 1]⟩ w)
    (a : Fin A) (r : Fin R) (c : Fin C) (g : Fin G) (d : Fin D) :
    Host.gather (rowsDims A N G D R C wf) x idx (ix5 a r c g d)
      = x (ix4 a ⟨min (idx (ix3 r c 0)).toInt.toNat (N - 1), by omega⟩ g d) := by
  unfold Host.gather
  congr 1
  funext q
  refine Fin.ext ?_
  show (rowsDims A N G D R C wf).start (ix5 a r c g d) idx q + (rowsDims A N G D R C wf).batchCoord (ix5 a r c g d) q
      + (rowsDims A N G D R C wf).offCoord (ix5 a r c g d) q = _
  rw [GatherDims.batchCoord_eq_zero _ _ _ List.not_mem_nil]
  have hq : ∀ q : Fin 4, q = 0 ∨ q = 1 ∨ q = 2 ∨ q = 3 := by decide
  have hq := hq q
  rcases hq with rfl | rfl | rfl | rfl
  · unfold GatherDims.start GatherDims.offCoord
    rw [dif_neg (show (0 : Fin 4) ∉ ([1] : List (Fin 4)) by decide), dif_pos ((GatherDims.mem_sKept _ _).mpr
      ⟨show (0 : Fin 4) ∉ ([1] : List (Fin 4)) by decide, List.not_mem_nil⟩)]
    simp only [Nat.zero_add]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 4) ∈ (rowsDims A N G D R C wf).startIndexMap from List.mem_singleton.mpr rfl)]
    have hsi : (rowsDims A N G D R C wf).siIdx (ix5 a r c g d) ⟨List.idxOf (1 : Fin 4) (rowsDims A N G D R C wf).startIndexMap,
        List.idxOf_lt_length_iff.2 (List.mem_singleton.mpr rfl)⟩ = ix3 r c 0 := by
      funext b; refine Fin.ext ?_
      match b with
      | ⟨0, _⟩ => rfl
      | ⟨1, _⟩ => rfl
      | ⟨2, _⟩ => rfl
    rw [hsi]
    rfl
  · unfold GatherDims.start GatherDims.offCoord
    rw [dif_neg (show (2 : Fin 4) ∉ ([1] : List (Fin 4)) by decide), dif_pos ((GatherDims.mem_sKept _ _).mpr
      ⟨show (2 : Fin 4) ∉ ([1] : List (Fin 4)) by decide, List.not_mem_nil⟩)]
    simp only [Nat.zero_add]
    rfl
  · unfold GatherDims.start GatherDims.offCoord
    rw [dif_neg (show (3 : Fin 4) ∉ ([1] : List (Fin 4)) by decide), dif_pos ((GatherDims.mem_sKept _ _).mpr
      ⟨show (3 : Fin 4) ∉ ([1] : List (Fin 4)) by decide, List.not_mem_nil⟩)]
    simp only [Nat.zero_add]
    rfl

end

end Cert.Take
-- ==== Proof.Refv.lean ====
module

public import proofs.«01_k».proof.Proof.Gen.ReferenceIdeal.Run
public import Idealize.ShloMosaic.Lib.Pipeline.ValueKit
public import proofs.«01_k».proof.Proof.Soft
public import proofs.«01_k».proof.Proof.Words
public import proofs.«01_k».proof.Proof.Take
public import proofs.«01_k».proof.Proof.Attn

@[expose] public section

set_option maxRecDepth 16384

noncomputable section

open Idealize.ShloMosaic Idealize.ShloMosaic.TcCoe Idealize.SL.Sem

namespace Cert.ReferenceIdeal.At

open Cert.ReferenceIdeal Cert.ReferenceIdeal.Gen Cert.ReferenceIdeal.Value

variable (m : (ℓ : Loc nD τ sig) → Buf (Elt Ideal) ℓ)

theorem gather_at (x : S2x8192x2x64.Idx → EReal) (idx : IVec S8192x129x1 32)
    (b : Fin 2) (t : Fin 8192) (j : Fin 129) (g : Fin 2) (d : Fin 64) :
    Host.gather gather_S2x8192x2x64_S8192x129x1_S2x8192x129x2x64_034_1_n_n_1_2_21264 x idx (ix5 b t j g d)
      = x (ix4 b ⟨min (idx (ix3 t j 0)).toInt.toNat (8192 - 1), by omega⟩ g d) :=
  Take.rows_apply (by decide) _ x idx b t j g d

/-- The distances `t − j` as words. -/
def dists : IVec S8192x129 32 :=
  subi (broadcastInDim S8192x129 ![0, 1] bcast_S8192x1_S8192x129_0_1 (broadcastInDim S8192x1 ![0]
    bcast_S8192_S8192x1_0 (iotaInDim S8192 32 0))) (broadcastInDim S8192x129 ![0, 1] bcast_S1x129_S8192x129_0_1
    (broadcastInDim S1x129 ![1] bcast_S129_S1x129_1 (muli (broadcastInDim S129 ![] bcast_S_S129 (constantI S_
    32 1#32)) (iotaInDim S129 32 0))))

/-- The positions taken: the distances clipped at zero. -/
def positions : IVec S8192x129 32 := maxsi dists (broadcastInDim S8192x129 ![] bcast_S_S8192x129 (constantI S_ 32 0#32))

/-- The rows of the keys, or of the values, at those positions. -/
def taken (k : FVec Ideal S2x8192x384 .f32) : FVec Ideal S2x8192x129x2x64 .f32 :=
  Host.gather gather_S2x8192x2x64_S8192x129x1_S2x8192x129x2x64_034_1_n_n_1_2_21264 (shapeCast S2x8192x2x64
    (extractStridedSlice S2x8192x1x2x64 ![0, 0, 0, 0, 0] (shapeCast S2x8192x3x2x64 k
    shapeCasts_S2x8192x384_S2x8192x3x2x64) slices_S2x8192x3x2x64_S2x8192x1x2x64_0_0_0_0_0)
    shapeCasts_S2x8192x1x2x64_S2x8192x2x64) (broadcastInDim S8192x129x1 ![0, 1] bcast_S8192x129_S8192x129x1_0_1
    positions)

/-- The masked scores. -/
def scores (q : FVec Ideal S2x8192x1536 .f32) (k : FVec Ideal S2x8192x384 .f32) : FVec Ideal S2x8192x2x4x129 .f32 :=
  select (broadcastInDim S2x8192x2x4x129 ![0, 1, 2, 3, 4] bcast_S1x8192x1x1x129_S2x8192x2x4x129_0_1_2_3_4
    (broadcastInDim S1x8192x1x1x129 ![1, 4] bcast_S8192x129_S1x8192x1x1x129_1_4 (cmpi .sge dists
    (broadcastInDim S8192x129 ![] bcast_S_S8192x129 (constantI S_ 32 0#32))))) (mulf (Host.dotGeneral
    dot_S2x8192x2x4x64_S2x8192x129x2x64_S2x8192x2x4x129_4_4_3_2_012_013 none (shapeCast S2x8192x2x4x64
    (extractStridedSlice S2x8192x1x2x4x64 ![0, 0, 0, 0, 0, 0] (shapeCast S2x8192x3x2x4x64 q
    shapeCasts_S2x8192x1536_S2x8192x3x2x4x64) slices_S2x8192x3x2x4x64_S2x8192x1x2x4x64_0_0_0_0_0_0)
    shapeCasts_S2x8192x1x2x4x64_S2x8192x2x4x64) (taken k)) (broadcastInDim S2x8192x2x4x129 ![]
    bcast_S_S2x8192x2x4x129 (constant S_ .f32 0x3E000000#32))) (broadcastInDim S2x8192x2x4x129 ![]
    bcast_S_S2x8192x2x4x129 (id (constant S_ .f32 0xFF800000#32)))

/-- The exponentials of the scores less their maximum. -/
def weights (s : FVec Ideal S2x8192x2x4x129 .f32) : FVec Ideal S2x8192x2x4x129 .f32 :=
  Host.exp (subf s (broadcastInDim S2x8192x2x4x129 ![0, 1, 2, 3, 4]
    bcast_S2x8192x2x4x1_S2x8192x2x4x129_0_1_2_3_4 (broadcastInDim S2x8192x2x4x1 ![0, 1, 2, 3]
    bcast_S2x8192x2x4_S2x8192x2x4x1_0_1_2_3 (Host.reduce FloatOps.maximumf s (constant S_ .f32 0xFF800000#32)
    reducesTo_S2x8192x2x4x129_S2x8192x2x4_d4 h_S_))))

/-- The attention outputs of all heads side by side. -/
def outs (s : FVec Ideal S2x8192x2x4x129 .f32) (w : FVec Ideal S2x8192x129x2x64 .f32) : FVec Ideal S2x8192x512 .f32 :=
  shapeCast S2x8192x512 (Host.divf (Host.dotGeneral
    dot_S2x8192x2x4x129_S2x8192x129x2x64_S2x8192x2x4x64_4_2_3_4_012_013 none (weights s) w) (broadcastInDim
    S2x8192x2x4x64 ![0, 1, 2, 3, 4] bcast_S2x8192x2x4x1_S2x8192x2x4x64_0_1_2_3_4 (broadcastInDim S2x8192x2x4x1
    ![0, 1, 2, 3] bcast_S2x8192x2x4_S2x8192x2x4x1_0_1_2_3 (Host.reduceAdd (weights s) (constant S_ .f32
    0x00000000#32) reducesTo_S2x8192x2x4x129_S2x8192x2x4_d4 h_S_)))) shapeCasts_S2x8192x2x4x64_S2x8192x512

/-- The maxima, one per row and head. -/
def tops (s : FVec Ideal S2x8192x2x4x129 .f32) : FVec Ideal S2x8192x2x4 .f32 :=
  Host.reduce FloatOps.maximumf s (constant S_ .f32 0xFF800000#32) reducesTo_S2x8192x2x4x129_S2x8192x2x4_d4 h_S_

/-- The denominators. -/
def dens (s : FVec Ideal S2x8192x2x4x129 .f32) : FVec Ideal S2x8192x2x4 .f32 :=
  Host.reduceAdd (weights s) (constant S_ .f32 0x00000000#32) reducesTo_S2x8192x2x4x129_S2x8192x2x4_d4 h_S_

/-- The logarithms of the denominators, repeated. -/
def lses (a d : FVec Ideal S2x8192x2x4 .f32) : FVec Ideal S2x8192x128 .f32 :=
  shapeCast S2x8192x128 (broadcastInDim S2x8192x8x16 ![0, 1, 2, 3] bcast_S2x8192x8x1_S2x8192x8x16_0_1_2_3
    (broadcastInDim S2x8192x8x1 ![0, 1, 2] bcast_S2x8192x8_S2x8192x8x1_0_1_2 (shapeCast S2x8192x8 (addf
    (shapeCast S2x8192x2x4 (broadcastInDim S2x8192x2x4x1 ![0, 1, 2, 3] bcast_S2x8192x2x4_S2x8192x2x4x1_0_1_2_3
    a) shapeCasts_S2x8192x2x4x1_S2x8192x2x4) (Host.log d)) shapeCasts_S2x8192x2x4_S2x8192x8)))
    shapeCasts_S2x8192x8x16_S2x8192x128

/-- The scores as the printed operations read them: head `4 g + r`. -/
def rawScore (q : FVec Ideal S2x8192x1536 .f32) (k : FVec Ideal S2x8192x384 .f32) (b : Fin 2) (t : Fin 8192) (g : Fin 2)
    (r : Fin 4) (j : Fin 129) : EReal :=
  Scalar.select (IntOp.cmpi .sge (Attn.dist 1 t j) 0#32)
    ((∑ x : Fin 64, q (ix3 b t ⟨g.val * 256 + r.val * 64 + x.val, by omega⟩)
      * k (ix3 b ⟨min (IntOp.maxsi (Attn.dist 1 t j) 0#32).toInt.toNat 8191, by omega⟩
          ⟨g.val * 64 + x.val, by omega⟩)) * Attn.eighth) Soft.negInf

def rawValue (v : FVec Ideal S2x8192x384 .f32) (b : Fin 2) (t : Fin 8192) (g : Fin 2) (d : Fin 64) (j : Fin 129) : EReal :=
  v (ix3 b ⟨min (IntOp.maxsi (Attn.dist 1 t j) 0#32).toInt.toNat 8191, by omega⟩
      ⟨g.val * 64 + d.val, by omega⟩)

theorem rawScore_eq (q : FVec Ideal S2x8192x1536 .f32) (k : FVec Ideal S2x8192x384 .f32) (b : Fin 2) (t : Fin 8192)
    (g : Fin 2) (r : Fin 4) (h : Fin 8) (hh : h.val = 4 * g.val + r.val) :
    rawScore q k b t g r = Attn.score 1 0 q k b t h := by
  funext j
  rw [rawScore, Attn.dist_mask 1 (by decide), Attn.score]
  refine if_congr Iff.rfl (congrArg (· * Attn.eighth) (Finset.sum_congr rfl fun x _ => ?_)) rfl
  refine congrArg₂ (· * ·) (congrArg q ((ix3_inj ..).2 ⟨rfl, rfl, Fin.ext ?_⟩))
    (congrArg k ((ix3_inj ..).2 ⟨rfl, Fin.ext (Attn.dist_pos 1 (by decide) t j), Fin.ext ?_⟩))
  · show _ = 512 * 0 + 64 * h.val + x.val; simp only; omega
  · show _ = 128 * 0 + 64 * (h.val / 4) + x.val; simp only; omega

theorem rawValue_eq (v : FVec Ideal S2x8192x384 .f32) (b : Fin 2) (t : Fin 8192)
    (g : Fin 2) (h : Fin 8) (d : Fin 64) (hh : h.val / 4 = g.val) :
    rawValue v b t g d = Attn.value 1 0 v b t h d := by
  funext j
  rw [rawValue, Attn.value]
  refine congrArg v ((ix3_inj ..).2 ⟨rfl, Fin.ext (Attn.dist_pos 1 (by decide) t j), Fin.ext ?_⟩)
  show _ = 128 * 0 + 64 * (h.val / 4) + d.val; simp only; omega

theorem scores_at (q : FVec Ideal S2x8192x1536 .f32) (k : FVec Ideal S2x8192x384 .f32) (b : Fin 2) (t : Fin 8192)
    (g : Fin 2) (r : Fin 4) (j : Fin 129) :
    scores q k (ix5 b t g r j) = rawScore q k b t g r j := by
  pointwise [scores, taken, positions, dists, gather_at, rawScore]
  rfl

theorem taken_at (v : FVec Ideal S2x8192x384 .f32) (b : Fin 2) (t : Fin 8192) (j : Fin 129) (g : Fin 2) (d : Fin 64) :
    taken v (ix5 b t j g d) = rawValue v b t g d j := by
  pointwise [taken, positions, dists, gather_at, rawValue]

theorem outs_at (s : FVec Ideal S2x8192x2x4x129 .f32) (w : FVec Ideal S2x8192x129x2x64 .f32) (b : Fin 2) (t : Fin 8192)
    (l : Fin 512) :
    outs s w (ix3 b t l) = Soft.out (fun j => s (ix5 b t ⟨l.val / 256, by omega⟩ ⟨l.val / 64 % 4, by omega⟩ j))
      (fun j => w (ix5 b t j ⟨l.val / 256, by omega⟩ ⟨l.val % 64, by omega⟩)) := by
  pointwise [outs, weights, Soft.out, Soft.den, Soft.top]

theorem tops_at (s : FVec Ideal S2x8192x2x4x129 .f32) (b : Fin 2) (t : Fin 8192) (g : Fin 2) (r : Fin 4) :
    tops s (ix4 b t g r) = Soft.top (fun j => s (ix5 b t g r j)) := by
  pointwise [tops, Soft.top]

theorem dens_at (s : FVec Ideal S2x8192x2x4x129 .f32) (b : Fin 2) (t : Fin 8192) (g : Fin 2) (r : Fin 4) :
    dens s (ix4 b t g r) = Soft.den (fun j => s (ix5 b t g r j)) := by
  pointwise [dens, weights, Soft.den, Soft.top]

theorem lses_at (a d : FVec Ideal S2x8192x2x4 .f32) (b : Fin 2) (t : Fin 8192) (l : Fin 128) :
    lses a d (ix3 b t l) = a (ix4 b t ⟨l.val / 16 / 4, by omega⟩ ⟨l.val / 16 % 4, by omega⟩)
      + Ideal.log (d (ix4 b t ⟨l.val / 16 / 4, by omega⟩ ⟨l.val / 16 % 4, by omega⟩)) := by
  pointwise [lses]

theorem outs_head (q : FVec Ideal S2x8192x1536 .f32) (k v : FVec Ideal S2x8192x384 .f32) (b : Fin 2) (t : Fin 8192)
    (h : Fin 8) (d : Fin 64) (l : Fin 512) (hl : l.val = 64 * h.val + d.val) :
    outs (scores q k) (taken v) (ix3 b t l)
      = Soft.out (Attn.score 1 0 q k b t h) (Attn.value 1 0 v b t h d) := by
  rw [outs_at]
  simp only [scores_at, taken_at]
  refine congrArg₂ Soft.out (rawScore_eq q k b t _ _ h ?_) ((congrArg (fun d => rawValue v b t _ d) (Fin.ext ?_)).trans
    (rawValue_eq v b t _ h d ?_))
  · show h.val = 4 * (l.val / 256) + l.val / 64 % 4; omega
  · show l.val % 64 = d.val; omega
  · show h.val / 4 = l.val / 256; omega

theorem lses_head (q : FVec Ideal S2x8192x1536 .f32) (k : FVec Ideal S2x8192x384 .f32) (b : Fin 2) (t : Fin 8192)
    (h : Fin 8) (l : Fin 128) (hl : l.val / 16 = h.val) :
    lses (tops (scores q k)) (dens (scores q k)) (ix3 b t l) = Soft.lse (Attn.score 1 0 q k b t h) := by
  rw [lses_at, tops_at, dens_at]
  simp only [scores_at]
  rw [← rawScore_eq q k b t ⟨l.val / 16 / 4, by omega⟩ ⟨l.val / 16 % 4, by omega⟩ h
    (by show h.val = 4 * (l.val / 16 / 4) + l.val / 16 % 4; omega)]
  rfl

theorem out0 (c : Dev nD) : res_out0 m c = extractStridedSlice S2x8192x128 ![0, 0, 0]
    (outs (scores (m ((c.tc : Thread nD τ).loc main_arg0)) (m ((c.tc : Thread nD τ).loc main_arg1)))
      (taken (m ((c.tc : Thread nD τ).loc main_arg2)))) slices_S2x8192x512_S2x8192x128_0_0_0 := by
  unfold res_out0 res_main_v44; rfl

theorem out1 (c : Dev nD) : res_out1 m c = extractStridedSlice S2x8192x128 ![0, 0, 128]
    (outs (scores (m ((c.tc : Thread nD τ).loc main_arg0)) (m ((c.tc : Thread nD τ).loc main_arg1)))
      (taken (m ((c.tc : Thread nD τ).loc main_arg2)))) slices_S2x8192x512_S2x8192x128_0_0_128 := by
  unfold res_out1 res_main_v45; rfl

theorem out2 (c : Dev nD) : res_out2 m c = extractStridedSlice S2x8192x128 ![0, 0, 256]
    (outs (scores (m ((c.tc : Thread nD τ).loc main_arg0)) (m ((c.tc : Thread nD τ).loc main_arg1)))
      (taken (m ((c.tc : Thread nD τ).loc main_arg2)))) slices_S2x8192x512_S2x8192x128_0_0_256 := by
  unfold res_out2 res_main_v46; rfl

theorem out3 (c : Dev nD) : res_out3 m c = extractStridedSlice S2x8192x128 ![0, 0, 384]
    (outs (scores (m ((c.tc : Thread nD τ).loc main_arg0)) (m ((c.tc : Thread nD τ).loc main_arg1)))
      (taken (m ((c.tc : Thread nD τ).loc main_arg2)))) slices_S2x8192x512_S2x8192x128_0_0_384 := by
  unfold res_out3 res_main_v47; rfl

theorem out4 (c : Dev nD) : res_out4 m c
    = lses (tops (scores (m ((c.tc : Thread nD τ).loc main_arg0)) (m ((c.tc : Thread nD τ).loc main_arg1))))
      (dens (scores (m ((c.tc : Thread nD τ).loc main_arg0)) (m ((c.tc : Thread nD τ).loc main_arg1)))) := by
  unfold res_out4 res_main_v50; rfl

end Cert.ReferenceIdeal.At

end
-- ==== Proof.Final.lean ====
module

public import proofs.«01_k».proof.Proof.Gen.KernelIdeal.Frame
public import proofs.«01_k».proof.Proof.Gen.KernelIdeal.Value
public import Idealize.ShloMosaic.Lib.Pipeline.ValueKit
public import proofs.«01_k».proof.Proof.KernOut
public import proofs.«01_k».proof.Proof.Tile
public import proofs.«01_k».proof.Proof.Refv

@[expose] public section

set_option maxRecDepth 16384

noncomputable section

open Idealize.ShloMosaic Idealize.ShloMosaic.TcCoe Idealize.SL.Sem
open Idealize.ShloMosaic.Pipeline (Dat)

namespace Cert.KernelIdeal.Final

open Cert.KernelIdeal Cert.KernelIdeal.Gen Cert.KernelIdeal.Block

variable (m : (ℓ : Loc nD τ sig) → Buf (Elt Ideal) ℓ)

theorem idx : ∀ t : Fin cfg0.N, win0_0.index t = ![t.val / 64, t.val % 64, 0] ∧ win0_1.index t = ![t.val / 64, t.val % 64, 1]
    ∧ win0_2.index t = ![t.val / 64, t.val % 64, 2] ∧ win0_3.index t = ![t.val / 64, t.val % 64, 3]
    ∧ win0_4.index t = ![t.val / 64, t.val % 64 - 1, 0] ∧ win0_5.index t = ![t.val / 64, t.val % 64, 0]
    ∧ win0_6.index t = ![t.val / 64, t.val % 64 - 1, 0] ∧ win0_7.index t = ![t.val / 64, t.val % 64, 0]
    ∧ win0_8.index t = ![t.val / 64, t.val % 64, 0] ∧ win0_9.index t = ![t.val / 64, t.val % 64, 0]
    ∧ win0_10.index t = ![t.val / 64, t.val % 64, 0] ∧ win0_11.index t = ![t.val / 64, t.val % 64, 0]
    ∧ win0_12.index t = ![t.val / 64, t.val % 64, 0] ∧ (grid0.coords t 1).val = t.val % 64 ∧ t.val / 64 < 2 :=
  (by decide +kernel : ∀ t : Fin grid0.N, _)

/-- The batch row and the row block of a grid point. -/
abbrev bat (t : Fin cfg0.N) : Fin 2 := ⟨t.val / 64, by have := idx t; omega⟩
abbrev blkj (t : Fin cfg0.N) : Fin 64 := ⟨t.val % 64, by omega⟩

abbrev Qm (c : Dev nD) : FVec Ideal S2x8192x1536 .f32 := m ((c : Thread nD τ).loc main_arg0)
abbrev Km (c : Dev nD) : FVec Ideal S2x8192x384 .f32 := m ((c : Thread nD τ).loc main_arg1)
abbrev Vm (c : Dev nD) : FVec Ideal S2x8192x384 .f32 := m ((c : Thread nD τ).loc main_arg2)

/-- The scaled queries the host hands over. -/
theorem queries (c : Dev nD) (b : Fin 2) (t : Fin 8192) (l : Fin 1536) :
    V m c main_v1 (ix3 b t l) = Qm m c (ix3 b t l) * Attn.eighth := by
  entry_read
  pointwise

theorem q0 (c : Dev nD) (t : Fin cfg0.N) (r : Fin 128) (u : Fin 2) (h : Fin 8) (hh : h.val = 0 + u.val) :
    Scaled (iblk m c 0 t) (Qm m c) (bat t) (blkj t) r u h := by
  intro d
  refine Eq.trans ?_ (queries m c _ _ _)
  blk_ext [iblk, idx t]

theorem q1 (c : Dev nD) (t : Fin cfg0.N) (r : Fin 128) (u : Fin 2) (h : Fin 8) (hh : h.val = 2 + u.val) :
    Scaled (iblk m c 1 t) (Qm m c) (bat t) (blkj t) r u h := by
  intro d
  refine Eq.trans ?_ (queries m c _ _ _)
  blk_ext [iblk, idx t]

theorem q2 (c : Dev nD) (t : Fin cfg0.N) (r : Fin 128) (u : Fin 2) (h : Fin 8) (hh : h.val = 4 + u.val) :
    Scaled (iblk m c 2 t) (Qm m c) (bat t) (blkj t) r u h := by
  intro d
  refine Eq.trans ?_ (queries m c _ _ _)
  blk_ext [iblk, idx t]

theorem q3 (c : Dev nD) (t : Fin cfg0.N) (r : Fin 128) (u : Fin 2) (h : Fin 8) (hh : h.val = 6 + u.val) :
    Scaled (iblk m c 3 t) (Qm m c) (bat t) (blkj t) r u h := by
  intro d
  refine Eq.trans ?_ (queries m c _ _ _)
  blk_ext [iblk, idx t]

theorem kp (c : Dev nD) (t : Fin cfg0.N) : Holds (iblk m c 4 t) (Km m c) (bat t) (before (blkj t)) := by
  intro a l
  blk_ext [iblk, V, idx t]

theorem kc (c : Dev nD) (t : Fin cfg0.N) : Holds (iblk m c 5 t) (Km m c) (bat t) (blkj t) := by
  intro a l
  blk_ext [iblk, V, idx t]

theorem vp (c : Dev nD) (t : Fin cfg0.N) : Holds (iblk m c 6 t) (Vm m c) (bat t) (before (blkj t)) := by
  intro a l
  blk_ext [iblk, V, idx t]

theorem vc (c : Dev nD) (t : Fin cfg0.N) : Holds (iblk m c 7 t) (Vm m c) (bat t) (blkj t) := by
  intro a l
  blk_ext [iblk, V, idx t]

theorem at_eq (A : FVec Ideal S2x8192x128 .f32) (B : S1x128x128.Idx → EReal) (t : Fin cfg0.N) (e : S1x128x128.Idx → S2x8192x128.Idx)
    (he : ∀ (r l : Fin 128), e (ix3 0 r l) = ix3 (bat t) (here (blkj t) r) l)
    (hB : ∀ (r : Fin 128) (u : Fin 2) (d : Fin 64), B (ix3 0 r ⟨64 * u.val + d.val, by omega⟩)
      = A (ix3 (bat t) (here (blkj t) r) ⟨64 * u.val + d.val, by omega⟩)) (y : S1x128x128.Idx) : B y = A (e y) := by
  idx_vars y
  obtain rfl : y0 = 0 := Fin.ext (by omega)
  rw [he]
  have := hB y1 ⟨y2.val / 64, by omega⟩ ⟨y2.val % 64, by omega⟩
  have e : (⟨64 * (y2.val / 64) + y2.val % 64, by omega⟩ : Fin 128) = y2 := Fin.ext (by simp only; omega)
  rwa [e] at this

theorem coord : ∀ t : Fin cfg0.N, (grid0.coords t 1).val = t.val % 64 := (by decide +kernel : ∀ t : Fin grid0.N, _)

theorem final8 (c : Dev nD) : (dats m 0 c).arrAt 8 (cfgs 0).N
    = extractStridedSlice S2x8192x128 ![0, 0, 0]
      (ReferenceIdeal.At.outs (ReferenceIdeal.At.scores (Qm m c) (Km m c)) (ReferenceIdeal.At.taken (Vm m c)))
      ReferenceIdeal.Gen.slices_S2x8192x512_S2x8192x128_0_0_0 := by
  refine (dats m 0 c).arrAt_eq_of_covers 8 _ (by decide +kernel) fun t _ y => ?_
  blk_simp
  rw [after0_8]
  unfold_out out0_8
  frame_out
  refine at_eq _ _ t _ (fun r l => by blk_ext [idx t]) (fun r u d => ?_) y
  refine (slab8 (grid0.coords t) (iblk m c 0 t) (iblk m c 1 t) (iblk m c 2 t) (iblk m c 3 t) (iblk m c 4 t)
    (iblk m c 5 t) (iblk m c 6 t) (iblk m c 7 t) r u d).trans ?_
  rw [coord]
  refine (out_tile (Qm m c) (Km m c) (Vm m c) (bat t) (blkj t) r u 0 ⟨u.val, by omega⟩ (iblk m c 0 t)
    (iblk m c 4 t) (iblk m c 5 t) (iblk m c 6 t) (iblk m c 7 t) d (q0 m c t r u _ (by simp only; omega)) (kp m c t) (kc m c t) (vp m c t)
    (vc m c t) (by show u.val / 4 = 0; omega)).trans ?_
  pointwise
  exact (ReferenceIdeal.At.outs_head (Qm m c) (Km m c) (Vm m c) (bat t) (here (blkj t) r) ⟨u.val, by omega⟩ d _
    (by simp only)).symm

theorem final9 (c : Dev nD) : (dats m 0 c).arrAt 9 (cfgs 0).N
    = extractStridedSlice S2x8192x128 ![0, 0, 128]
      (ReferenceIdeal.At.outs (ReferenceIdeal.At.scores (Qm m c) (Km m c)) (ReferenceIdeal.At.taken (Vm m c)))
      ReferenceIdeal.Gen.slices_S2x8192x512_S2x8192x128_0_0_128 := by
  refine (dats m 0 c).arrAt_eq_of_covers 9 _ (by decide +kernel) fun t _ y => ?_
  blk_simp
  rw [after0_9]
  unfold_out out0_9
  frame_out
  refine at_eq _ _ t _ (fun r l => by blk_ext [idx t]) (fun r u d => ?_) y
  refine (slab9 (grid0.coords t) (iblk m c 0 t) (iblk m c 1 t) (iblk m c 2 t) (iblk m c 3 t) (iblk m c 4 t)
    (iblk m c 5 t) (iblk m c 6 t) (iblk m c 7 t) r u d).trans ?_
  rw [coord]
  refine (out_tile (Qm m c) (Km m c) (Vm m c) (bat t) (blkj t) r u 0 ⟨2 + u.val, by omega⟩ (iblk m c 1 t)
    (iblk m c 4 t) (iblk m c 5 t) (iblk m c 6 t) (iblk m c 7 t) d (q1 m c t r u _ rfl) (kp m c t) (kc m c t) (vp m c t)
    (vc m c t) (by show (2 + u.val) / 4 = 0; omega)).trans ?_
  pointwise
  exact (ReferenceIdeal.At.outs_head (Qm m c) (Km m c) (Vm m c) (bat t) (here (blkj t) r) ⟨2 + u.val, by omega⟩ d _
    (by simp only; omega)).symm

theorem final10 (c : Dev nD) : (dats m 0 c).arrAt 10 (cfgs 0).N
    = extractStridedSlice S2x8192x128 ![0, 0, 256]
      (ReferenceIdeal.At.outs (ReferenceIdeal.At.scores (Qm m c) (Km m c)) (ReferenceIdeal.At.taken (Vm m c)))
      ReferenceIdeal.Gen.slices_S2x8192x512_S2x8192x128_0_0_256 := by
  refine (dats m 0 c).arrAt_eq_of_covers 10 _ (by decide +kernel) fun t _ y => ?_
  blk_simp
  rw [after0_10]
  unfold_out out0_10
  frame_out
  refine at_eq _ _ t _ (fun r l => by blk_ext [idx t]) (fun r u d => ?_) y
  refine (slab10 (grid0.coords t) (iblk m c 0 t) (iblk m c 1 t) (iblk m c 2 t) (iblk m c 3 t) (iblk m c 4 t)
    (iblk m c 5 t) (iblk m c 6 t) (iblk m c 7 t) r u d).trans ?_
  rw [coord]
  refine (out_tile (Qm m c) (Km m c) (Vm m c) (bat t) (blkj t) r u 1 ⟨4 + u.val, by omega⟩ (iblk m c 2 t)
    (iblk m c 4 t) (iblk m c 5 t) (iblk m c 6 t) (iblk m c 7 t) d (q2 m c t r u _ rfl) (kp m c t) (kc m c t) (vp m c t)
    (vc m c t) (by show (4 + u.val) / 4 = 1; omega)).trans ?_
  pointwise
  exact (ReferenceIdeal.At.outs_head (Qm m c) (Km m c) (Vm m c) (bat t) (here (blkj t) r) ⟨4 + u.val, by omega⟩ d _
    (by simp only; omega)).symm

theorem final11 (c : Dev nD) : (dats m 0 c).arrAt 11 (cfgs 0).N
    = extractStridedSlice S2x8192x128 ![0, 0, 384]
      (ReferenceIdeal.At.outs (ReferenceIdeal.At.scores (Qm m c) (Km m c)) (ReferenceIdeal.At.taken (Vm m c)))
      ReferenceIdeal.Gen.slices_S2x8192x512_S2x8192x128_0_0_384 := by
  refine (dats m 0 c).arrAt_eq_of_covers 11 _ (by decide +kernel) fun t _ y => ?_
  blk_simp
  rw [after0_11]
  unfold_out out0_11
  frame_out
  refine at_eq _ _ t _ (fun r l => by blk_ext [idx t]) (fun r u d => ?_) y
  refine (slab11 (grid0.coords t) (iblk m c 0 t) (iblk m c 1 t) (iblk m c 2 t) (iblk m c 3 t) (iblk m c 4 t)
    (iblk m c 5 t) (iblk m c 6 t) (iblk m c 7 t) r u d).trans ?_
  rw [coord]
  refine (out_tile (Qm m c) (Km m c) (Vm m c) (bat t) (blkj t) r u 1 ⟨6 + u.val, by omega⟩ (iblk m c 3 t)
    (iblk m c 4 t) (iblk m c 5 t) (iblk m c 6 t) (iblk m c 7 t) d (q3 m c t r u _ rfl) (kp m c t) (kc m c t) (vp m c t)
    (vc m c t) (by show (6 + u.val) / 4 = 1; omega)).trans ?_
  pointwise
  exact (ReferenceIdeal.At.outs_head (Qm m c) (Km m c) (Vm m c) (bat t) (here (blkj t) r) ⟨6 + u.val, by omega⟩ d _
    (by simp only; omega)).symm

/-- The four slabs' queries, by their number. -/
theorem q_slab (c : Dev nD) (t : Fin cfg0.N) (r : Fin 128) (a : Fin 4) (u : Fin 2) (h : Fin 8)
    (hh : h.val = 2 * a.val + u.val) :
    Scaled (slab (iblk m c 0 t) (iblk m c 1 t) (iblk m c 2 t) (iblk m c 3 t) a) (Qm m c) (bat t) (blkj t) r u h := by
  fin_cases a
  · exact q0 m c t r u h hh
  · exact q1 m c t r u h hh
  · exact q2 m c t r u h hh
  · exact q3 m c t r u h hh

theorem final12 (c : Dev nD) : (dats m 0 c).arrAt 12 (cfgs 0).N
    = ReferenceIdeal.At.lses (ReferenceIdeal.At.tops (ReferenceIdeal.At.scores (Qm m c) (Km m c)))
      (ReferenceIdeal.At.dens (ReferenceIdeal.At.scores (Qm m c) (Km m c))) := by
  refine (dats m 0 c).arrAt_eq_of_covers 12 _ (by decide +kernel) fun t _ y => ?_
  blk_simp
  rw [after0_12]
  unfold_out out0_12
  frame_out
  refine at_eq _ _ t _ (fun r l => by blk_ext [idx t]) (fun r g d => ?_) y
  have e : (⟨64 * g.val + d.val, by omega⟩ : Fin 128)
      = ⟨64 * g.val + 32 * (d.val / 32) + 16 * (d.val / 16 % 2) + d.val % 16, by omega⟩ := Fin.ext (by simp only; omega)
  rw [e]
  refine (slab12 (grid0.coords t) (iblk m c 0 t) (iblk m c 1 t) (iblk m c 2 t) (iblk m c 3 t) (iblk m c 4 t)
    (iblk m c 5 t) r g ⟨d.val / 32, by omega⟩ ⟨d.val / 16 % 2, by omega⟩
    ⟨d.val % 16, by omega⟩).trans ?_
  rw [coord]
  refine (lse_tile (Qm m c) (Km m c) (bat t) (blkj t) r ⟨d.val / 16 % 2, by omega⟩ g
    ⟨4 * g.val + 2 * (d.val / 32) + d.val / 16 % 2, by omega⟩ _
    (iblk m c 4 t) (iblk m c 5 t) (q_slab m c t r _ _ _ (by simp only; omega)) (kp m c t) (kc m c t)
    (by simp only; omega)).trans ?_
  exact (ReferenceIdeal.At.lses_head (Qm m c) (Km m c) (bat t) (here (blkj t) r) _ _ (by simp only; omega)).symm

end Cert.KernelIdeal.Final

end
-- ==== Proof.Proj.lean ====
/- One row of a layer's input projection as mathematics on extended reals: the row divided by the root of its
   mean square, the product with a column of the weights, a head divided by the root of its mean square, and
   the turn of a head by its position's angles. -/
module

public import Idealize.ShloMosaic.Lib.Pointwise

@[expose] public section

set_option maxRecDepth 16384

noncomputable section

namespace Cert.Proj

open Idealize.ShloMosaic

/-- The small constant under both roots. -/
abbrev eps : EReal := Ideal.ofBits .f32 0x358637BD#32

/-- The widths the mean squares are taken over. -/
abbrev wide : EReal := Ideal.ofBits .f32 0x44800000#32
abbrev head : EReal := Ideal.ofBits .f32 0x42800000#32

/-- An entry of a row over the root of the row's mean square. -/
def unit (x : Fin 1024 → EReal) (d : Fin 1024) : EReal :=
  x d * Ideal.rsqrt (Ideal.div (∑ k, x k * x k) wide + eps)

/-- The row's product with one column of the weights. -/
def proj (x g w : Fin 1024 → EReal) : EReal := ∑ d, unit x d * g d * w d

/-- An entry of a head over the root of the head's mean square, times its gain. -/
def norm (z g : Fin 64 → EReal) (j : Fin 64) : EReal :=
  z j * Ideal.rsqrt (Ideal.div (∑ k, z k * z k) head + eps) * g j

/-- A head turned by the angles `a`: its halves are the two coordinates. -/
def turn (y : Fin 64 → EReal) (a : Fin 32 → EReal) (j : Fin 64) : EReal :=
  if h : j.val < 32 then
    y j * Ideal.cos (a ⟨j.val, h⟩) - y ⟨32 + j.val, by omega⟩ * Ideal.sin (a ⟨j.val, h⟩)
  else
    y ⟨32 + (j.val - 32), by omega⟩ * Ideal.cos (a ⟨j.val - 32, by omega⟩) + y ⟨j.val - 32, by omega⟩ * Ideal.sin (a ⟨j.val - 32, by omega⟩)

/-- The angle of position `t` at frequency `i`. -/
def angle (t : ℕ) (i : Fin 32) : EReal :=
  FloatOps.sitofp (F := Ideal) .f32 (BitVec.ofNat 32 t) * Ideal.pow (Ideal.ofBits .f32 0x461C4000#32)
    (Ideal.div (-FloatOps.sitofp (F := Ideal) .f32 (BitVec.ofNat 32 i.val)) (Ideal.ofBits .f32 0x42000000#32))

/-- `z` times its logistic function. -/
def silu (z : EReal) : EReal := z * Ideal.div 1 (1 + Ideal.exp (-z))

/-- A head of one row: its columns projected, normalised and turned. -/
def headOf (x g : Fin 1024 → EReal) (w : Fin 64 → Fin 1024 → EReal) (gain : Fin 64 → EReal) (t : ℕ) : Fin 64 → EReal :=
  turn (norm (fun i => proj x g (w i)) gain) (angle t)

/-- `z` over one plus the exponential of its negation, as the kernel forms it. -/
def quot (z : EReal) : EReal := Ideal.div z (1 + Ideal.exp (0 - z))

/-- A finite number. -/
def IsFin (z : EReal) : Prop := ∃ r : ℝ, z = (r : EReal)

theorem IsFin.mul {a b : EReal} (ha : IsFin a) (hb : IsFin b) : IsFin (a * b) := by
  obtain ⟨r, rfl⟩ := ha
  obtain ⟨s, rfl⟩ := hb
  exact ⟨r * s, (EReal.coe_mul r s).symm⟩

theorem IsFin.sum {n : ℕ} (f : Fin n → EReal) (h : ∀ k, IsFin (f k)) : IsFin (∑ k, f k) := by
  choose r hr using h
  refine ⟨∑ k, r k, ?_⟩
  simp only [hr]
  exact (map_sum (⟨⟨fun a : ℝ => (a : EReal), rfl⟩, EReal.coe_add⟩ : ℝ →+ EReal) r _).symm

theorem IsFin.sub_self {a : EReal} (h : IsFin a) : a - a = 0 := by
  obtain ⟨r, rfl⟩ := h
  exact EReal.sub_self (EReal.coe_ne_top r) (EReal.coe_ne_bot r)

theorem IsFin.of_ne {a : EReal} (ht : a ≠ ⊤) (hb : a ≠ ⊥) : IsFin a := ⟨a.toReal, (EReal.coe_toReal ht hb).symm⟩

theorem head_eq : head = ((64 : ℝ) : EReal) := by
  rw [head]; simp [Ideal.ofBits, Ideal.ieee]; rw [← EReal.coe_mul]; norm_num
theorem wide_eq : wide = ((1024 : ℝ) : EReal) := by
  rw [wide]; simp [Ideal.ofBits, Ideal.ieee]; rw [← EReal.coe_mul]; norm_num
theorem inv_head : Ideal.ofBits .f32 0x3C800000#32 = ((1 / 64 : ℝ) : EReal) := by
  simp [Ideal.ofBits, Ideal.ieee]; rw [← EReal.coe_mul]; norm_num
theorem eps_pos : ∃ e : ℝ, 0 < e ∧ eps = (e : EReal) := by
  refine ⟨_, ?_, by rw [eps]; simp [Ideal.ofBits, Ideal.ieee]; rfl⟩
  norm_num

theorem sq_nonneg (a : EReal) : 0 ≤ a * a := by
  induction a with
  | bot => simp
  | top => simp
  | coe r => rw [← EReal.coe_mul]; exact_mod_cast mul_self_nonneg r

/-- An entry over the root of its row's mean square is finite, whatever the row. -/
theorem unit_fin (x : Fin 1024 → EReal) (d : Fin 1024) : IsFin (unit x d) := by
  obtain ⟨e, he, hE⟩ := eps_pos
  unfold unit
  have hle : x d * x d ≤ ∑ k, x k * x k :=
    Finset.single_le_sum (f := fun k => x k * x k) (fun k _ => sq_nonneg (x k)) (Finset.mem_univ d)
  have hnn : 0 ≤ ∑ k, x k * x k := Finset.sum_nonneg fun k _ => sq_nonneg (x k)
  rw [wide_eq, Ideal.div_coe (by norm_num), hE]
  generalize (∑ k, x k * x k) = S at hle hnn
  induction S with
  | bot => simp at hnn
  | top =>
    rw [EReal.top_mul_coe_of_pos (by norm_num), EReal.top_add_coe, Ideal.rsqrt_top, mul_zero]
    exact ⟨0, rfl⟩
  | coe s =>
    have hs : 0 ≤ s := by exact_mod_cast hnn
    have hx : IsFin (x d) := by
      refine IsFin.of_ne (fun h => ?_) (fun h => ?_) <;> rw [h] at hle <;> simp at hle
    refine hx.mul ?_
    rw [← EReal.coe_mul, ← EReal.coe_add, Ideal.rsqrt_coe, if_neg (by have := mul_nonneg hs (by norm_num : (0:ℝ) ≤ 1 / 1024); linarith),
      if_neg (by have := mul_nonneg hs (by norm_num : (0:ℝ) ≤ 1 / 1024); linarith)]
    exact ⟨_, rfl⟩

theorem proj_fin (x g w : Fin 1024 → EReal) (hg : ∀ d, IsFin (g d)) (hw : ∀ d, IsFin (w d)) : IsFin (proj x g w) :=
  IsFin.sum _ fun d => ((unit_fin x d).mul (hg d)).mul (hw d)

/-- The kernel's quotient is the number times its logistic function. -/
theorem quot_eq (z : EReal) (h : IsFin z) : quot z = silu z := by
  obtain ⟨r, rfl⟩ := h
  have h1 : (1 : EReal) + Ideal.exp (-(r : EReal)) = ((1 + Real.exp (-r) : ℝ) : EReal) := by
    rw [← EReal.coe_neg, Ideal.exp_coe, EReal.coe_add]; rfl
  have hne : (1 + Real.exp (-r) : ℝ) ≠ 0 := by have := Real.exp_pos (-r); linarith
  rw [quot, silu, zero_sub, h1, Ideal.div_coe hne, Ideal.div_coe hne, one_mul]

/-- A sum over two heads' lanes, kept to the lanes of one head. -/
theorem sum_head (f : Fin 128 → EReal) (l : Fin 128) :
    ∑ k, f k * (if k.val / 64 = l.val / 64 then (1 : EReal) else 0) = ∑ j : Fin 64, f ⟨64 * (l.val / 64) + j.val, by omega⟩ := by
  simp only [mul_ite, mul_one, mul_zero]
  rw [← Finset.sum_filter]
  refine Finset.sum_bij' (fun k _ => (⟨k.val % 64, by omega⟩ : Fin 64)) (fun j _ => (⟨64 * (l.val / 64) + j.val, by omega⟩ : Fin 128))
    ?_ ?_ ?_ ?_ ?_
  · intro k _; exact Finset.mem_univ _
  · intro j _; simp only [Finset.mem_filter, Finset.mem_univ, true_and]; omega
  · intro k hk; simp only [Finset.mem_filter, Finset.mem_univ, true_and] at hk; exact Fin.ext (by simp only; omega)
  · intro j _; exact Fin.ext (by simp only; omega)
  · intro k hk; simp only [Finset.mem_filter, Finset.mem_univ, true_and] at hk; exact congrArg f (Fin.ext (by simp only; omega))

/-- The root over the lanes of two heads, with the sums in two parts, is the root over a head. -/
theorem norm_lane (z g : Fin 128 → EReal) (ind : Fin 128 → EReal) (l : Fin 128) (hz : ∀ k, IsFin (z k))
    (hi : ∀ k, ind k = if k.val / 64 = l.val / 64 then 1 else 0) :
    z l * Ideal.rsqrt ((∑ k, z k * z k * ind k + ∑ k, (z k * z k - z k * z k) * ind k) * Ideal.ofBits .f32 0x3C800000#32 + eps) * g l
      = norm (fun j => z ⟨64 * (l.val / 64) + j.val, by omega⟩) (fun j => g ⟨64 * (l.val / 64) + j.val, by omega⟩) ⟨l.val % 64, by omega⟩ := by
  have h0 : ∑ k, (z k * z k - z k * z k) * ind k = 0 :=
    Finset.sum_eq_zero fun k _ => by rw [((hz k).mul (hz k)).sub_self, zero_mul]
  have h1 : ∑ k, z k * z k * ind k = ∑ j : Fin 64, z ⟨64 * (l.val / 64) + j.val, by omega⟩ * z ⟨64 * (l.val / 64) + j.val, by omega⟩ := by
    rw [← sum_head (fun k => z k * z k) l]
    exact Finset.sum_congr rfl fun k _ => by rw [hi]
  have hl : (⟨64 * (l.val / 64) + l.val % 64, by omega⟩ : Fin 128) = l := Fin.ext (by simp only; omega)
  rw [h0, h1, add_zero, inv_head, norm, head_eq, Ideal.div_coe (by norm_num)]
  simp only [hl]

/-- The turn over the lanes of two heads is the turn of a head. -/
theorem turn_lane (y cs sn : Fin 128 → EReal) (a : Fin 32 → EReal) (l : Fin 128)
    (hc : cs l = Ideal.cos (a ⟨l.val % 32, by omega⟩))
    (hs : sn l = if l.val % 64 < 32 then -Ideal.sin (a ⟨l.val % 32, by omega⟩) else Ideal.sin (a ⟨l.val % 32, by omega⟩)) :
    y l * cs l + (if l.val % 64 < 32 then y ⟨(l.val + 128 - 96) % 128, by omega⟩ else y ⟨(l.val + 128 - 32) % 128, by omega⟩) * sn l
      = turn (fun j => y ⟨64 * (l.val / 64) + j.val, by omega⟩) a ⟨l.val % 64, by omega⟩ := by
  rw [hc, hs, turn]
  by_cases h : l.val % 64 < 32
  · have e1 : (⟨64 * (l.val / 64) + l.val % 64, by omega⟩ : Fin 128) = l := Fin.ext (by simp only; omega)
    have e2 : (⟨64 * (l.val / 64) + (32 + l.val % 64), by omega⟩ : Fin 128) = ⟨(l.val + 128 - 96) % 128, by omega⟩ := Fin.ext (by simp only; omega)
    have e3 : (⟨l.val % 64, h⟩ : Fin 32) = ⟨l.val % 32, by omega⟩ := Fin.ext (by simp only; omega)
    simp only [h, if_true, dif_pos, e1, e2, e3, mul_neg, ← sub_eq_add_neg]
  · have e1 : (⟨64 * (l.val / 64) + (32 + (l.val % 64 - 32)), by omega⟩ : Fin 128) = l := Fin.ext (by simp only; omega)
    have e2 : (⟨64 * (l.val / 64) + (l.val % 64 - 32), by omega⟩ : Fin 128) = ⟨(l.val + 128 - 32) % 128, by omega⟩ := Fin.ext (by simp only; omega)
    have e3 : (⟨l.val % 64 - 32, by omega⟩ : Fin 32) = ⟨l.val % 32, by omega⟩ := Fin.ext (by simp only; omega)
    simp only [h, if_false, dite_false, e1, e2, e3]

end Cert.Proj
-- ==== Proof.Kern2.lean ====
/- The body of the projection of the dilated-attention layers, cut into named pieces, and each piece read at one
   element. -/
module

public import proofs.«01_k».proof.Proof.Gen.Kernel2Ideal.Frame
public import Idealize.ShloMosaic.Lib.Pipeline.ValueKit
public import proofs.«01_k».proof.Proof.Proj

@[expose] public section

set_option maxRecDepth 16384

noncomputable section

open Idealize.ShloMosaic Idealize.ShloMosaic.TcCoe Idealize.SL.Sem

namespace Cert.Kernel2Ideal.Block

open Cert.Kernel2Ideal Cert.Kernel2Ideal.Gen

/-- Two heads side by side, each over the root of its mean square, times the gains: the squares' sums over each
    head come from a product with the matrix `ind`, in two parts. -/
def normed (z : FVec Ideal S256x128 .f32) (g : FVec Ideal S1x128 .f32) (ind : FVec Ideal S128x128 .bf16) : FVec Ideal S256x128 .f32 :=
  mulf (mulf z (rsqrt (addf (mulf (addf
    (matmul dot_S256x128_S128x128_S256x128_1_0_0_1_n_n none (truncf .bf16 (mulf z z) bitsLt_bf16_f32) ind (constant S256x128 .f32 0x00000000#32))
    (matmul dot_S256x128_S128x128_S256x128_1_0_0_1_n_n none (truncf .bf16 (subf (mulf z z) (extf .f32 (truncf .bf16 (mulf z z) bitsLt_bf16_f32) bitsLt_bf16_f32)) bitsLt_bf16_f32) ind (constant S256x128 .f32 0x00000000#32)))
    (broadcast S256x128 (Scalar.ofBits .f32 0x3C800000#32))) (broadcast S256x128 (Scalar.ofBits .f32 0x358637BD#32)))))
    (broadcastTo S256x128 g broadcasts_S1x128_S256x128)

/-- Two heads side by side, turned by the tables. -/
def turned (y cs sn : FVec Ideal S256x128 .f32) : FVec Ideal S256x128 .f32 :=
  addf (mulf y cs) (mulf (select (cmpi .eq (andi (iota .tc S256x128 32 [1] iota_S256x128_d1_w32) (broadcast S256x128 32#32)) (broadcast S256x128 0#32))
    (dynamicRotate 1 96#32 none y rotates_S256x128_d1) (dynamicRotate 1 32#32 none y rotates_S256x128_d1)) sn)

/-- The turned heads scaled. -/
def scaled (y cs sn : FVec Ideal S256x128 .f32) : FVec Ideal S256x128 .f32 :=
  mulf (turned y cs sn) (broadcast S256x128 (Scalar.ofBits .f32 0x3E000000#32))

/-- The matrix of the heads: one where the lanes share a head. -/
def ind : FVec Ideal S128x128 .bf16 :=
  k0_pay10 (F := Ideal) (iota .tc S128x128 32 [0] iota_S128x128_d0_w32) 64#32 k0_pay8 k0_pay9 (Scalar.extui (Scalar.cmpi .sgt 64#32 0#32)) (Scalar.extui (Scalar.cmpi .slt 64#32 0#32))

theorem normed_at (z : FVec Ideal S256x128 .f32) (g : FVec Ideal S1x128 .f32) (ind : FVec Ideal S128x128 .bf16) (r : Fin 256) (l : Fin 128) :
    normed z g ind (ix2 r l) = z (ix2 r l) * Ideal.rsqrt ((∑ k, z (ix2 r k) * z (ix2 r k) * ind (ix2 k l)
      + ∑ k, (z (ix2 r k) * z (ix2 r k) - z (ix2 r k) * z (ix2 r k)) * ind (ix2 k l)) * Ideal.ofBits .f32 0x3C800000#32 + Proj.eps) * g (ix2 0 l) := by
  pointwise [normed]

theorem low (l : Fin 128) : IntOp.cmpi CmpIPredicate.eq (IntOp.andi (BitVec.ofNat 32 l.val) 32#32) 0#32
    = if l.val % 64 < 32 then 1#1 else 0#1 := by
  revert l
  decide +kernel

theorem turned_at (y cs sn : FVec Ideal S256x128 .f32) (r : Fin 256) (l : Fin 128) :
    turned y cs sn (ix2 r l) = y (ix2 r l) * cs (ix2 r l) + (if l.val % 64 < 32 then
      y (ix2 r ⟨(l.val + 128 - 96) % 128, by omega⟩) else y (ix2 r ⟨(l.val + 128 - 32) % 128, by omega⟩)) * sn (ix2 r l) := by
  refine Eq.trans (b := y (ix2 r l) * cs (ix2 r l) + Scalar.select (IntOp.cmpi CmpIPredicate.eq (IntOp.andi (BitVec.ofNat 32 l.val) 32#32) 0#32)
    (y (ix2 r ⟨(l.val + 128 - 96) % 128, by omega⟩)) (y (ix2 r ⟨(l.val + 128 - 32) % 128, by omega⟩)) * sn (ix2 r l)) (by pointwise [turned]) ?_
  rw [low]
  split <;> rfl

theorem rows_at (x : FVec Ideal S256x1024 .f32) (g : FVec Ideal S1x1024 .f32) (r : Fin 256) (d : Fin 1024) :
    k0_pay3 (F := Ideal) x g (ix2 r d) = Proj.unit (fun d => x (ix2 r d)) d * g (ix2 0 d) := by
  pointwise [k0_pay3, Proj.unit]

theorem zq_at (h : FVec Ideal S256x1024 .bf16) (w : FVec Ideal S1024x1536 .bf16) (r : Fin 256) (l : Fin 1536) :
    k0_pay11 h w (ix2 r l) = ∑ d, h (ix2 r d) * w (ix2 d l) := by
  pointwise [k0_pay11]

theorem zk_at (h : FVec Ideal S256x1024 .bf16) (w : FVec Ideal S1024x384 .bf16) (r : Fin 256) (l : Fin 384) :
    k0_pay44 h w (ix2 r l) = ∑ d, h (ix2 r d) * w (ix2 d l) := by
  pointwise [k0_pay44]

theorem zv_at (h : FVec Ideal S256x1024 .bf16) (w : FVec Ideal S1024x384 .bf16) (r : Fin 256) (l : Fin 384) :
    k0_pay52 h w (ix2 r l) = ∑ d, h (ix2 r d) * w (ix2 d l) := by
  pointwise [k0_pay52]

theorem zg_at (h : FVec Ideal S256x1024 .bf16) (w : FVec Ideal S1024x512 .bf16) (r : Fin 256) (l : Fin 512) :
    k0_pay2 h w (ix2 r l) = Proj.quot (∑ d, h (ix2 r d) * w (ix2 d l)) := by
  pointwise [k0_pay2, Proj.quot]

/-- The word of a lane's head. -/
def headWord (a : BitVec 32) : BitVec 32 :=
  Scalar.select
    (IntOp.andi
      (IntOp.cmpi CmpIPredicate.ne
        (IntOp.subi (BitVec.setWidth 32 (IntOp.cmpi CmpIPredicate.sgt a 0#32))
          (BitVec.setWidth 32 (IntOp.cmpi CmpIPredicate.slt a 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector a 64#32) 0#32))
    (IntOp.subi (IntOp.divsi ArithUnit.vector a 64#32) 1#32)
    (IntOp.divsi ArithUnit.vector a 64#32)

theorem headWord_eq (a : Fin 128) : headWord (BitVec.ofNat 32 a.val) = BitVec.ofNat 32 (a.val / 64) := by
  revert a
  decide +kernel

theorem same (a b : Fin 2) : BitVec.setWidth 32 (IntOp.cmpi CmpIPredicate.eq (BitVec.ofNat 32 a.val) (BitVec.ofNat 32 b.val))
    = if a = b then 1#32 else 0#32 := by
  revert a b
  decide +kernel

theorem ind_at (a b : Fin 128) : ind (ix2 a b) = if a.val / 64 = b.val / 64 then 1 else 0 := by
  refine Eq.trans (b := FloatOps.sitofp (F := Ideal) .f32 (BitVec.setWidth 32 (IntOp.cmpi CmpIPredicate.eq
    (headWord (BitVec.ofNat 32 a.val)) (headWord (BitVec.ofNat 32 b.val))))) (by pointwise [ind, k0_pay10, k0_pay8, k0_pay9, headWord]) ?_
  rw [headWord_eq, headWord_eq, same ⟨a.val / 64, by omega⟩ ⟨b.val / 64, by omega⟩]
  simp only [Fin.mk.injEq]
  split
  · show (((1#32).toInt : ℝ) : EReal) = 1
    norm_num
  · show (((0#32).toInt : ℝ) : EReal) = 0
    norm_num

/-- What a grid point's input blocks hold of one row `r` of theirs: the row `X` at position `p`, the gains and the
    weights, and the tables of the position. -/
structure Holds (x0 : FVec Ideal S256x1024 .f32) (x1 : FVec Ideal S1x1024 .f32) (x2 : FVec Ideal S1024x2816 .bf16)
    (x3 x4 : FVec Ideal S256x128 .f32) (x5 x6 : FVec Ideal S1x128 .f32) (r : Fin 256) (X G : Fin 1024 → EReal)
    (W : Fin 1024 → Fin 2816 → EReal) (Q K : Fin 64 → EReal) (p : ℕ) : Prop where
  hx : ∀ d, x0 (ix2 r d) = X d
  hg : ∀ d, x1 (ix2 0 d) = G d
  hw : ∀ d e, x2 (ix2 d e) = W d e
  hc : ∀ l : Fin 128, x3 (ix2 r l) = Ideal.cos (Proj.angle p ⟨l.val % 32, by omega⟩)
  hs : ∀ l : Fin 128, x4 (ix2 r l) = if l.val % 64 < 32 then -Ideal.sin (Proj.angle p ⟨l.val % 32, by omega⟩)
    else Ideal.sin (Proj.angle p ⟨l.val % 32, by omega⟩)
  hq : ∀ l : Fin 128, x5 (ix2 0 l) = Q ⟨l.val % 64, by omega⟩
  hk : ∀ l : Fin 128, x6 (ix2 0 l) = K ⟨l.val % 64, by omega⟩
  fg : ∀ d, Proj.IsFin (G d)
  fw : ∀ d e, Proj.IsFin (W d e)

theorem tile (z cs sn : FVec Ideal S256x128 .f32) (g : FVec Ideal S1x128 .f32) (r : Fin 256) (X G : Fin 1024 → EReal)
    {n : ℕ} (W : Fin 1024 → Fin n → EReal) (Q : Fin 64 → EReal) (p : ℕ) (o : ℕ) (ho : o + 127 < n)
    (hz : ∀ k : Fin 128, z (ix2 r k) = Proj.proj X G (fun d => W d ⟨o + k.val, by omega⟩))
    (hc : ∀ l : Fin 128, cs (ix2 r l) = Ideal.cos (Proj.angle p ⟨l.val % 32, by omega⟩))
    (hs : ∀ l : Fin 128, sn (ix2 r l) = if l.val % 64 < 32 then -Ideal.sin (Proj.angle p ⟨l.val % 32, by omega⟩)
      else Ideal.sin (Proj.angle p ⟨l.val % 32, by omega⟩))
    (hq : ∀ l : Fin 128, g (ix2 0 l) = Q ⟨l.val % 64, by omega⟩)
    (fg : ∀ d, Proj.IsFin (G d)) (fw : ∀ d e, Proj.IsFin (W d e)) (l : Fin 128) :
    turned (normed z g ind) cs sn (ix2 r l)
      = Proj.headOf X G (fun j d => W d ⟨o + 64 * (l.val / 64) + j.val, by omega⟩) Q p ⟨l.val % 64, by omega⟩ := by
  rw [turned_at, Proj.turn_lane (fun l => normed z g ind (ix2 r l)) (fun l => cs (ix2 r l)) (fun l => sn (ix2 r l)) (Proj.angle p) l (hc l) (hs l)]
  refine congrArg (fun f => Proj.turn f (Proj.angle p) ⟨l.val % 64, by omega⟩) (funext fun j => ?_)
  rw [normed_at, Proj.norm_lane (fun k => z (ix2 r k)) (fun k => g (ix2 0 k)) (fun k => ind (ix2 k ⟨64 * (l.val / 64) + j.val, by omega⟩))
    ⟨64 * (l.val / 64) + j.val, by omega⟩ (fun k => by rw [hz]; exact Proj.proj_fin _ _ _ fg fun d => fw d _) (fun k => ind_at k _)]
  have e1 : (64 * (l.val / 64) + j.val) / 64 = l.val / 64 := by omega
  have e2 : (⟨(64 * (l.val / 64) + j.val) % 64, by omega⟩ : Fin 64) = j := Fin.ext (by simp only; omega)
  simp only [e1, e2, hz, hq]
  refine congrArg₂ (fun a b => Proj.norm a b j) (funext fun i => ?_) (funext fun i => congrArg Q (Fin.ext (by simp only; omega)))
  exact congrArg (Proj.proj X G) (funext fun d => congrArg (W d) (Fin.ext (by simp only; omega)))

section Reads

variable (x0 : FVec Ideal S256x1024 .f32) (x1 : FVec Ideal S1x1024 .f32) (x2 : FVec Ideal S1024x2816 .bf16)
  (x3 x4 : FVec Ideal S256x128 .f32) (x5 x6 : FVec Ideal S1x128 .f32)

theorem ld0 (r : Fin 256) (d : Fin 1024) : View.ld (Val := Elt Ideal) (e' := .f32) x0 r0_0 (ix2 r d) = x0 (ix2 r d) := by pointwise
theorem ld1 (d : Fin 1024) : View.ld (Val := Elt Ideal) (e' := .f32) x1 r0_1 (ix2 0 d) = x1 (ix2 0 d) := by pointwise
theorem ld3 (r : Fin 256) (l : Fin 128) : k0_pay4 (F := Ideal) (View.ld x3 r0_2) (ix2 r l) = x3 (ix2 r l) := by pointwise [k0_pay4]
theorem ld4 (r : Fin 256) (l : Fin 128) : k0_pay5 (F := Ideal) (View.ld x4 r0_2) (ix2 r l) = x4 (ix2 r l) := by pointwise [k0_pay5]
theorem ld5 (l : Fin 128) : k0_pay6 (F := Ideal) (View.ld x5 r0_3) (ix2 0 l) = x5 (ix2 0 l) := by pointwise [k0_pay6]
theorem ld6 (l : Fin 128) : k0_pay7 (F := Ideal) (View.ld x6 r0_3) (ix2 0 l) = x6 (ix2 0 l) := by pointwise [k0_pay7]
theorem ldq (d : Fin 1024) (e : Fin 1536) : View.ld (Val := Elt Ideal) (e' := .bf16) x2 r0_4 (ix2 d e) = x2 (ix2 d ⟨e.val, by omega⟩) := by pointwise
theorem ldk (d : Fin 1024) (e : Fin 384) : View.ld (Val := Elt Ideal) (e' := .bf16) x2 r0_17 (ix2 d e) = x2 (ix2 d ⟨1536 + e.val, by omega⟩) := by pointwise
theorem ldv (d : Fin 1024) (e : Fin 384) : View.ld (Val := Elt Ideal) (e' := .bf16) x2 r0_21 (ix2 d e) = x2 (ix2 d ⟨1920 + e.val, by omega⟩) := by pointwise
theorem ldg (d : Fin 1024) (e : Fin 512) : View.ld (Val := Elt Ideal) (e' := .bf16) x2 r0_23 (ix2 d e) = x2 (ix2 d ⟨2304 + e.val, by omega⟩) := by pointwise

variable {x0 x1 x2 x3 x4 x5 x6} {r : Fin 256} {X G : Fin 1024 → EReal} {W : Fin 1024 → Fin 2816 → EReal} {Q K : Fin 64 → EReal} {p : ℕ}
  (H : Holds x0 x1 x2 x3 x4 x5 x6 r X G W Q K p)
include H

theorem Holds.row (d : Fin 1024) : k0_pay3 (F := Ideal) (View.ld x0 r0_0) (View.ld x1 r0_1) (ix2 r d) = Proj.unit X d * G d := by
  exact (rows_at _ _ r d).trans (congrArg₂ (· * ·) (congrFun (congrArg Proj.unit (funext fun d => (ld0 x0 r d).trans (H.hx d))) d)
    ((ld1 x1 d).trans (H.hg d)))

theorem Holds.zq (e : Fin 1536) : k0_pay11 (F := Ideal) (k0_pay3 (View.ld x0 r0_0) (View.ld x1 r0_1)) (View.ld x2 r0_4) (ix2 r e)
    = Proj.proj X G (fun d => W d ⟨e.val, by omega⟩) := by
  exact (zq_at _ _ r e).trans (Finset.sum_congr rfl fun d _ => congrArg₂ (· * ·) (H.row d) ((ldq x2 d e).trans (H.hw d _)))

theorem Holds.zk (e : Fin 384) : k0_pay44 (F := Ideal) (k0_pay3 (View.ld x0 r0_0) (View.ld x1 r0_1)) (View.ld x2 r0_17) (ix2 r e)
    = Proj.proj X G (fun d => W d ⟨1536 + e.val, by omega⟩) := by
  exact (zk_at _ _ r e).trans (Finset.sum_congr rfl fun d _ => congrArg₂ (· * ·) (H.row d) ((ldk x2 d e).trans (H.hw d _)))

theorem Holds.zv (e : Fin 384) : k0_pay52 (F := Ideal) (k0_pay3 (View.ld x0 r0_0) (View.ld x1 r0_1)) (View.ld x2 r0_21) (ix2 r e)
    = Proj.proj X G (fun d => W d ⟨1920 + e.val, by omega⟩) := by
  exact (zv_at _ _ r e).trans (Finset.sum_congr rfl fun d _ => congrArg₂ (· * ·) (H.row d) ((ldv x2 d e).trans (H.hw d _)))

theorem Holds.zg (e : Fin 512) : k0_pay2 (F := Ideal) (k0_pay3 (View.ld x0 r0_0) (View.ld x1 r0_1)) (View.ld x2 r0_23) (ix2 r e)
    = Proj.silu (Proj.proj X G (fun d => W d ⟨2304 + e.val, by omega⟩)) := by
  refine (zg_at _ _ r e).trans ((congrArg Proj.quot (Finset.sum_congr rfl fun d _ => congrArg₂ (· * ·) (H.row d)
    ((ldg x2 d e).trans (H.hw d _)))).trans ?_)
  exact Proj.quot_eq _ (Proj.proj_fin X G _ H.fg fun d => H.fw d _)

theorem Holds.q (o : ℕ) (ho : o % 64 = 0) (ho' : o + 127 < 1536) (sl : S256x1536.Slices ![0, o] S256x128) (k : Fin 128)
    (l : Fin 1536) (hl : l.val = o + k.val) :
    scaled (normed (extractStridedSlice S256x128 ![0, o] (k0_pay11 (F := Ideal) (k0_pay3 (View.ld x0 r0_0) (View.ld x1 r0_1)) (View.ld x2 r0_4)) sl)
      (k0_pay6 (View.ld x5 r0_3)) ind) (k0_pay4 (View.ld x3 r0_2)) (k0_pay5 (View.ld x4 r0_2)) (ix2 r k)
      = Proj.headOf X G (fun j d => W d ⟨l.val / 64 * 64 + j.val, by omega⟩) Q p ⟨l.val % 64, by omega⟩ * Ideal.ofBits .f32 0x3E000000#32 := by
  refine congrArg (· * Ideal.ofBits .f32 0x3E000000#32) ((tile _ _ _ _ r X G W Q p o (by omega) (fun k => ?_) (fun l => (ld3 x3 r l).trans (H.hc l))
    (fun l => (ld4 x4 r l).trans (H.hs l)) (fun l => (ld5 x5 l).trans (H.hq l)) H.fg H.fw k).trans ?_)
  · refine Eq.trans ?_ (H.zq ⟨o + k.val, by omega⟩)
    pointwise
  · have e1 : (⟨k.val % 64, by omega⟩ : Fin 64) = ⟨l.val % 64, by omega⟩ := Fin.ext (by simp only; omega)
    rw [e1]
    refine congrArg (fun f => Proj.headOf X G f Q p _) (funext fun j => funext fun d => congrArg (W d) (Fin.ext (by simp only; omega)))

theorem Holds.k (o : ℕ) (ho : o % 64 = 0) (ho' : o + 127 < 384) (sl : S256x384.Slices ![0, o] S256x128) (k : Fin 128)
    (l : Fin 384) (hl : l.val = o + k.val) :
    turned (normed (extractStridedSlice S256x128 ![0, o] (k0_pay44 (F := Ideal) (k0_pay3 (View.ld x0 r0_0) (View.ld x1 r0_1)) (View.ld x2 r0_17)) sl)
      (k0_pay7 (View.ld x6 r0_3)) ind) (k0_pay4 (View.ld x3 r0_2)) (k0_pay5 (View.ld x4 r0_2)) (ix2 r k)
      = Proj.headOf X G (fun j d => W d ⟨1536 + l.val / 64 * 64 + j.val, by omega⟩) K p ⟨l.val % 64, by omega⟩ := by
  refine (tile _ _ _ _ r X G W K p (1536 + o) (by omega) (fun k => ?_) (fun l => (ld3 x3 r l).trans (H.hc l))
    (fun l => (ld4 x4 r l).trans (H.hs l)) (fun l => (ld6 x6 l).trans (H.hk l)) H.fg H.fw k).trans ?_
  · refine Eq.trans ?_ ((H.zk ⟨o + k.val, by omega⟩).trans (congrArg (Proj.proj X G) (funext fun d => congrArg (W d) (Fin.ext (by simp only; omega)))))
    pointwise
  · have e1 : (⟨k.val % 64, by omega⟩ : Fin 64) = ⟨l.val % 64, by omega⟩ := Fin.ext (by simp only; omega)
    rw [e1]
    refine congrArg (fun f => Proj.headOf X G f K p _) (funext fun j => funext fun d => congrArg (W d) (Fin.ext (by simp only; omega)))

theorem Holds.out7 (l : Fin 1536) : out0_7 (F := Ideal) x0 x1 x2 x3 x4 x5 x6 (ix2 r l)
    = Proj.headOf X G (fun j d => W d ⟨l.val / 64 * 64 + j.val, by omega⟩) Q p ⟨l.val % 64, by omega⟩ * Ideal.ofBits .f32 0x3E000000#32 := by
  unfold_out out0_7
  canon_tiles x h
  all_goals (idx_vars x; obtain rfl : x0 = r := Fin.ext h0.symm)
  case piece0 => exact H.q 1408 (by omega) (by omega) slices_S256x1536_o0_1408_S256x128 x1 l h1
  case piece1 => exact H.q 1280 (by omega) (by omega) slices_S256x1536_o0_1280_S256x128 x1 l h1
  case piece2 => exact H.q 1152 (by omega) (by omega) slices_S256x1536_o0_1152_S256x128 x1 l h1
  case piece3 => exact H.q 1024 (by omega) (by omega) slices_S256x1536_o0_1024_S256x128 x1 l h1
  case piece4 => exact H.q 896 (by omega) (by omega) slices_S256x1536_o0_896_S256x128 x1 l h1
  case piece5 => exact H.q 768 (by omega) (by omega) slices_S256x1536_o0_768_S256x128 x1 l h1
  case piece6 => exact H.q 640 (by omega) (by omega) slices_S256x1536_o0_640_S256x128 x1 l h1
  case piece7 => exact H.q 512 (by omega) (by omega) slices_S256x1536_o0_512_S256x128 x1 l h1
  case piece8 => exact H.q 384 (by omega) (by omega) slices_S256x1536_o0_384_S256x128 x1 l h1
  case piece9 => exact H.q 256 (by omega) (by omega) slices_S256x1536_o0_256_S256x128 x1 l h1
  case piece10 => exact H.q 128 (by omega) (by omega) slices_S256x1536_o0_128_S256x128 x1 l h1
  case piece11 => exact H.q 0 (by omega) (by omega) slices_S256x1536_o0_0_S256x128 x1 l (h1.trans (Nat.zero_add _).symm)

theorem Holds.out8 (l : Fin 384) : out0_8 (F := Ideal) x0 x1 x2 x3 x4 x5 x6 (ix2 r l)
    = Proj.headOf X G (fun j d => W d ⟨1536 + l.val / 64 * 64 + j.val, by omega⟩) K p ⟨l.val % 64, by omega⟩ := by
  unfold_out out0_8
  canon_tiles x h
  all_goals (idx_vars x; obtain rfl : x0 = r := Fin.ext h0.symm)
  case piece0 => exact H.k 256 (by omega) (by omega) slices_S256x384_o0_256_S256x128 x1 l h1
  case piece1 => exact H.k 128 (by omega) (by omega) slices_S256x384_o0_128_S256x128 x1 l h1
  case piece2 => exact H.k 0 (by omega) (by omega) slices_S256x384_o0_0_S256x128 x1 l (h1.trans (Nat.zero_add _).symm)

theorem Holds.out9 (l : Fin 384) : out0_9 (F := Ideal) x0 x1 x2 x3 x4 x5 x6 (ix2 r l)
    = Proj.proj X G (fun d => W d ⟨1920 + l.val, by omega⟩) := by
  unfold_out out0_9
  canon_tiles x h
  all_goals (idx_vars x; obtain rfl : x0 = r := Fin.ext h0.symm; obtain rfl : x1 = l := Fin.ext h1.symm)
  exact H.zv x1

theorem Holds.out12 (l : Fin 512) : out0_12 (F := Ideal) x0 x1 x2 x3 x4 x5 x6 (ix2 r l)
    = Proj.silu (Proj.proj X G (fun d => W d ⟨2304 + l.val, by omega⟩)) := by
  unfold_out out0_12
  canon_tiles x h
  all_goals (idx_vars x; obtain rfl : x0 = r := Fin.ext h0.symm; obtain rfl : x1 = l := Fin.ext h1.symm)
  exact H.zg x1

end Reads

end Cert.Kernel2Ideal.Block
-- ==== Proof.Refv2.lean ====
/- The reference of the projection of the dilated-attention layers, cut into named pieces, and each piece read at
   one element. -/
module

public import proofs.«01_k».proof.Proof.Gen.Reference2Ideal.Run
public import Idealize.ShloMosaic.Lib.Pipeline.ValueKit
public import proofs.«01_k».proof.Proof.Proj

@[expose] public section

set_option maxRecDepth 16384

noncomputable section

open Idealize.ShloMosaic Idealize.ShloMosaic.TcCoe Idealize.SL.Sem

namespace Cert.Reference2Ideal.At

open Cert.Reference2Ideal Cert.Reference2Ideal.Gen Cert.Reference2Ideal.Value

variable (m : (ℓ : Loc nD τ sig) → Buf (Elt Ideal) ℓ)

/-- The projected rows. -/
def cols (x : FVec Ideal S2x8192x1024 .f32) (g : FVec Ideal S1024 .f32) (w : FVec Ideal S1024x2816 .f32) : FVec Ideal
    S2x8192x2816 .f32 :=
    Host.dotGeneral dot_S2x8192x1024_S1024x2816_S2x8192x2816_2_0_01_1_n_n none (mulf (mulf x (broadcastInDim
    S2x8192x1024 ![0, 1, 2] bcast_S2x8192x1_S2x8192x1024_0_1_2 (Host.rsqrt (addf (Host.divf (broadcastInDim S2x8192x1
    ![0, 1] bcast_S2x8192_S2x8192x1_0_1 (Host.reduceAdd (mulf x x) (constant S_ .f32 0x00000000#32)
    reducesTo_S2x8192x1024_S2x8192_d2 h_S_)) (broadcastInDim S2x8192x1 ![] bcast_S_S2x8192x1 (constant S_ .f32
    0x44800000#32))) (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2]
    bcast_S1024_S1x1x1024_2 g))) w

/-- The keys' heads. -/
def kheads (z : FVec Ideal S2x8192x2816 .f32) : FVec Ideal S2x8192x3x2x64 .f32 :=
    shapeCast _ (extractStridedSlice S2x8192x384 ![0, 0, 1536] z slices_S2x8192x2816_S2x8192x384_0_0_1536)
    shapeCasts_S2x8192x384_S2x8192x3x2x64

/-- The keys' heads normalised. -/
def knorm (k : FVec Ideal S2x8192x3x2x64 .f32) (kg : FVec Ideal S64 .f32) : FVec Ideal S2x8192x3x2x64 .f32 :=
    mulf (mulf k (broadcastInDim S2x8192x3x2x64 ![0, 1, 2, 3, 4] bcast_S2x8192x3x2x1_S2x8192x3x2x64_0_1_2_3_4
    (Host.rsqrt (addf (Host.divf (broadcastInDim S2x8192x3x2x1 ![0, 1, 2, 3] bcast_S2x8192x3x2_S2x8192x3x2x1_0_1_2_3
    (Host.reduceAdd (mulf k k) (constant S_ .f32 0x00000000#32) reducesTo_S2x8192x3x2x64_S2x8192x3x2_d4 h_S_))
    (broadcastInDim S2x8192x3x2x1 ![] bcast_S_S2x8192x3x2x1 (constant S_ .f32 0x42800000#32))) (broadcastInDim
    S2x8192x3x2x1 ![] bcast_S_S2x8192x3x2x1 (constant S_ .f32 0x358637BD#32)))))) (broadcastInDim S2x8192x3x2x64 ![0,
    1, 2, 3, 4] bcast_S1x1x1x1x64_S2x8192x3x2x64_0_1_2_3_4 (broadcastInDim S1x1x1x1x64 ![4] bcast_S64_S1x1x1x1x64_4
    kg))

/-- The angles. -/
def angles : FVec Ideal S8192x32 .f32 :=
    mulf (broadcastInDim S8192x32 ![0, 1] bcast_S8192x1_S8192x32_0_1 (broadcastInDim S8192x1 ![0]
    bcast_S8192_S8192x1_0 (sitofp .f32 (iotaInDim S8192 32 0)))) (broadcastInDim S8192x32 ![0, 1]
    bcast_S1x32_S8192x32_0_1 (broadcastInDim S1x32 ![1] bcast_S32_S1x32_1 (Host.powf (broadcastInDim S32 ![]
    bcast_S_S32 (constant S_ .f32 0x461C4000#32)) (Host.divf (Host.negf (sitofp .f32 (iotaInDim S32 32 0)))
    (broadcastInDim S32 ![] bcast_S_S32 (constant S_ .f32 0x42000000#32))))))

/-- The keys' heads turned. -/
def kturn (y : FVec Ideal S2x8192x3x2x64 .f32) : FVec Ideal S2x8192x3x2x64 .f32 :=
    concatenate S2x8192x3x2x64 4 [⟨S2x8192x3x2x32, (subf (mulf (extractStridedSlice S2x8192x3x2x32 ![0, 0, 0, 0, 0] y
    slices_S2x8192x3x2x64_S2x8192x3x2x32_0_0_0_0_0) (broadcastInDim S2x8192x3x2x32 ![0, 1, 2, 3, 4]
    bcast_S1x8192x1x1x32_S2x8192x3x2x32_0_1_2_3_4 (shapeCast _ (Host.cos angles) shapeCasts_S8192x32_S1x8192x1x1x32)))
    (mulf (extractStridedSlice S2x8192x3x2x32 ![0, 0, 0, 0, 32] y slices_S2x8192x3x2x64_S2x8192x3x2x32_0_0_0_0_32)
    (broadcastInDim S2x8192x3x2x32 ![0, 1, 2, 3, 4] bcast_S1x8192x1x1x32_S2x8192x3x2x32_0_1_2_3_4 (shapeCast _
    (Host.sin angles) shapeCasts_S8192x32_S1x8192x1x1x32))))⟩, ⟨S2x8192x3x2x32, (addf (mulf (extractStridedSlice
    S2x8192x3x2x32 ![0, 0, 0, 0, 32] y slices_S2x8192x3x2x64_S2x8192x3x2x32_0_0_0_0_32) (broadcastInDim S2x8192x3x2x32
    ![0, 1, 2, 3, 4] bcast_S1x8192x1x1x32_S2x8192x3x2x32_0_1_2_3_4 (shapeCast _ (Host.cos angles)
    shapeCasts_S8192x32_S1x8192x1x1x32))) (mulf (extractStridedSlice S2x8192x3x2x32 ![0, 0, 0, 0, 0] y
    slices_S2x8192x3x2x64_S2x8192x3x2x32_0_0_0_0_0) (broadcastInDim S2x8192x3x2x32 ![0, 1, 2, 3, 4]
    bcast_S1x8192x1x1x32_S2x8192x3x2x32_0_1_2_3_4 (shapeCast _ (Host.sin angles)
    shapeCasts_S8192x32_S1x8192x1x1x32))))⟩] concatenates_S2x8192x3x2x32_S2x8192x3x2x32_S2x8192x3x2x64_d4

/-- The queries' heads. -/
def qheads (z : FVec Ideal S2x8192x2816 .f32) : FVec Ideal S2x8192x24x64 .f32 :=
    shapeCast _ (extractStridedSlice S2x8192x1536 ![0, 0, 0] z slices_S2x8192x2816_S2x8192x1536_0_0_0)
    shapeCasts_S2x8192x1536_S2x8192x24x64

/-- The queries' heads normalised. -/
def qnorm (q : FVec Ideal S2x8192x24x64 .f32) (qg : FVec Ideal S64 .f32) : FVec Ideal S2x8192x24x64 .f32 :=
    mulf (mulf q (broadcastInDim S2x8192x24x64 ![0, 1, 2, 3] bcast_S2x8192x24x1_S2x8192x24x64_0_1_2_3 (Host.rsqrt
    (addf (Host.divf (broadcastInDim S2x8192x24x1 ![0, 1, 2] bcast_S2x8192x24_S2x8192x24x1_0_1_2 (Host.reduceAdd (mulf
    q q) (constant S_ .f32 0x00000000#32) reducesTo_S2x8192x24x64_S2x8192x24_d3 h_S_)) (broadcastInDim S2x8192x24x1
    ![] bcast_S_S2x8192x24x1 (constant S_ .f32 0x42800000#32))) (broadcastInDim S2x8192x24x1 ![] bcast_S_S2x8192x24x1
    (constant S_ .f32 0x358637BD#32)))))) (broadcastInDim S2x8192x24x64 ![0, 1, 2, 3]
    bcast_S1x1x1x64_S2x8192x24x64_0_1_2_3 (broadcastInDim S1x1x1x64 ![3] bcast_S64_S1x1x1x64_3 qg))

/-- The queries' heads turned and scaled, as rows. -/
def qrows (y : FVec Ideal S2x8192x24x64 .f32) : FVec Ideal S16384x1536 .f32 :=
    shapeCast _ (mulf (concatenate S2x8192x24x64 3 [⟨S2x8192x24x32, (subf (mulf (extractStridedSlice S2x8192x24x32
    ![0, 0, 0, 0] y slices_S2x8192x24x64_S2x8192x24x32_0_0_0_0) (broadcastInDim S2x8192x24x32 ![0, 1, 2, 3]
    bcast_S1x8192x1x32_S2x8192x24x32_0_1_2_3 (shapeCast _ (Host.cos angles) shapeCasts_S8192x32_S1x8192x1x32))) (mulf
    (extractStridedSlice S2x8192x24x32 ![0, 0, 0, 32] y slices_S2x8192x24x64_S2x8192x24x32_0_0_0_32) (broadcastInDim
    S2x8192x24x32 ![0, 1, 2, 3] bcast_S1x8192x1x32_S2x8192x24x32_0_1_2_3 (shapeCast _ (Host.sin angles)
    shapeCasts_S8192x32_S1x8192x1x32))))⟩, ⟨S2x8192x24x32, (addf (mulf (extractStridedSlice S2x8192x24x32 ![0, 0, 0,
    32] y slices_S2x8192x24x64_S2x8192x24x32_0_0_0_32) (broadcastInDim S2x8192x24x32 ![0, 1, 2, 3]
    bcast_S1x8192x1x32_S2x8192x24x32_0_1_2_3 (shapeCast _ (Host.cos angles) shapeCasts_S8192x32_S1x8192x1x32))) (mulf
    (extractStridedSlice S2x8192x24x32 ![0, 0, 0, 0] y slices_S2x8192x24x64_S2x8192x24x32_0_0_0_0) (broadcastInDim
    S2x8192x24x32 ![0, 1, 2, 3] bcast_S1x8192x1x32_S2x8192x24x32_0_1_2_3 (shapeCast _ (Host.sin angles)
    shapeCasts_S8192x32_S1x8192x1x32))))⟩] concatenates_S2x8192x24x32_S2x8192x24x32_S2x8192x24x64_d3) (broadcastInDim
    S2x8192x24x64 ![] bcast_S_S2x8192x24x64 (constant S_ .f32 0x3E000000#32))) shapeCasts_S2x8192x24x64_S16384x1536

/-- The keys' heads as rows. -/
def krows (k : FVec Ideal S2x8192x3x2x64 .f32) : FVec Ideal S16384x384 .f32 :=
    shapeCast _ k shapeCasts_S2x8192x3x2x64_S16384x384

/-- The values' heads. -/
def vheads (z : FVec Ideal S2x8192x2816 .f32) : FVec Ideal S2x8192x3x2x64 .f32 :=
    shapeCast _ (extractStridedSlice S2x8192x384 ![0, 0, 1920] z slices_S2x8192x2816_S2x8192x384_0_0_1920)
    shapeCasts_S2x8192x384_S2x8192x3x2x64

/-- The gate. -/
def gates (z : FVec Ideal S2x8192x2816 .f32) : FVec Ideal S16384x512 .f32 :=
    shapeCast _ (mulf (extractStridedSlice S2x8192x512 ![0, 0, 2304] z slices_S2x8192x2816_S2x8192x512_0_0_2304)
    (Host.divf (broadcastInDim S2x8192x512 ![] bcast_S_S2x8192x512 (constant S_ .f32 0x3F800000#32)) (addf
    (broadcastInDim S2x8192x512 ![] bcast_S_S2x8192x512 (constant S_ .f32 0x3F800000#32)) (Host.exp (Host.negf
    (extractStridedSlice S2x8192x512 ![0, 0, 2304] z slices_S2x8192x2816_S2x8192x512_0_0_2304))))))
    shapeCasts_S2x8192x512_S16384x512

/-- The last 128 positions of the keys and values of group 0. -/
def win0 (k v : FVec Ideal S2x8192x3x2x64 .f32) : FVec Ideal S2x128x2x2x64 .f32 :=
    extractStridedSlice S2x128x2x2x64 ![0, 8064, 0, 0, 0] (concatenate S2x8192x2x2x64 2 [⟨S2x8192x1x2x64,
    (broadcastInDim S2x8192x1x2x64 ![0, 1, 3, 4] bcast_S2x8192x2x64_S2x8192x1x2x64_0_1_3_4 (shapeCast _
    (extractStridedSlice S2x8192x1x2x64 ![0, 0, 0, 0, 0] k slices_S2x8192x3x2x64_S2x8192x1x2x64_0_0_0_0_0)
    shapeCasts_S2x8192x1x2x64_S2x8192x2x64))⟩, ⟨S2x8192x1x2x64, (broadcastInDim S2x8192x1x2x64 ![0, 1, 3, 4]
    bcast_S2x8192x2x64_S2x8192x1x2x64_0_1_3_4 (shapeCast _ (extractStridedSlice S2x8192x1x2x64 ![0, 0, 0, 0, 0] v
    slices_S2x8192x3x2x64_S2x8192x1x2x64_0_0_0_0_0) shapeCasts_S2x8192x1x2x64_S2x8192x2x64))⟩]
    concatenates_S2x8192x1x2x64_S2x8192x1x2x64_S2x8192x2x2x64_d2) slices_S2x8192x2x2x64_S2x128x2x2x64_0_8064_0_0_0

/-- The last 512 positions of the keys and values of group 1. -/
def win1 (k v : FVec Ideal S2x8192x3x2x64 .f32) : FVec Ideal S2x512x2x2x64 .f32 :=
    extractStridedSlice S2x512x2x2x64 ![0, 7680, 0, 0, 0] (concatenate S2x8192x2x2x64 2 [⟨S2x8192x1x2x64,
    (broadcastInDim S2x8192x1x2x64 ![0, 1, 3, 4] bcast_S2x8192x2x64_S2x8192x1x2x64_0_1_3_4 (shapeCast _
    (extractStridedSlice S2x8192x1x2x64 ![0, 0, 1, 0, 0] k slices_S2x8192x3x2x64_S2x8192x1x2x64_0_0_1_0_0)
    shapeCasts_S2x8192x1x2x64_S2x8192x2x64))⟩, ⟨S2x8192x1x2x64, (broadcastInDim S2x8192x1x2x64 ![0, 1, 3, 4]
    bcast_S2x8192x2x64_S2x8192x1x2x64_0_1_3_4 (shapeCast _ (extractStridedSlice S2x8192x1x2x64 ![0, 0, 1, 0, 0] v
    slices_S2x8192x3x2x64_S2x8192x1x2x64_0_0_1_0_0) shapeCasts_S2x8192x1x2x64_S2x8192x2x64))⟩]
    concatenates_S2x8192x1x2x64_S2x8192x1x2x64_S2x8192x2x2x64_d2) slices_S2x8192x2x2x64_S2x512x2x2x64_0_7680_0_0_0

/-- The last 2048 positions of the keys and values of group 2. -/
def win2 (k v : FVec Ideal S2x8192x3x2x64 .f32) : FVec Ideal S2x2048x2x2x64 .f32 :=
    extractStridedSlice S2x2048x2x2x64 ![0, 6144, 0, 0, 0] (concatenate S2x8192x2x2x64 2 [⟨S2x8192x1x2x64,
    (broadcastInDim S2x8192x1x2x64 ![0, 1, 3, 4] bcast_S2x8192x2x64_S2x8192x1x2x64_0_1_3_4 (shapeCast _
    (extractStridedSlice S2x8192x1x2x64 ![0, 0, 2, 0, 0] k slices_S2x8192x3x2x64_S2x8192x1x2x64_0_0_2_0_0)
    shapeCasts_S2x8192x1x2x64_S2x8192x2x64))⟩, ⟨S2x8192x1x2x64, (broadcastInDim S2x8192x1x2x64 ![0, 1, 3, 4]
    bcast_S2x8192x2x64_S2x8192x1x2x64_0_1_3_4 (shapeCast _ (extractStridedSlice S2x8192x1x2x64 ![0, 0, 2, 0, 0] v
    slices_S2x8192x3x2x64_S2x8192x1x2x64_0_0_2_0_0) shapeCasts_S2x8192x1x2x64_S2x8192x2x64))⟩]
    concatenates_S2x8192x1x2x64_S2x8192x1x2x64_S2x8192x2x2x64_d2) slices_S2x8192x2x2x64_S2x2048x2x2x64_0_6144_0_0_0

theorem angles_at (t : Fin 8192) (i : Fin 32) : angles (ix2 t i) = Proj.angle t.val i := by
  pointwise [angles, Proj.angle]

theorem cols_at (x : FVec Ideal S2x8192x1024 .f32) (g : FVec Ideal S1024 .f32) (w : FVec Ideal S1024x2816 .f32)
    (b : Fin 2) (t : Fin 8192) (e : Fin 2816) :
    cols x g w (ix3 b t e) = Proj.proj (fun d => x (ix3 b t d)) (fun d => g (ix1 d)) (fun d => w (ix2 d e)) := by
  pointwise [cols, Proj.proj, Proj.unit]

theorem kheads_at (z : FVec Ideal S2x8192x2816 .f32) (b : Fin 2) (t : Fin 8192) (n : Fin 3) (u : Fin 2) (j : Fin 64) :
    kheads z (ix5 b t n u j) = z (ix3 b t ⟨1536 + (n.val * 128 + u.val * 64 + j.val), by omega⟩) := by
  pointwise [kheads]

theorem knorm_at (k : FVec Ideal S2x8192x3x2x64 .f32) (kg : FVec Ideal S64 .f32) (b : Fin 2) (t : Fin 8192) (n : Fin 3)
    (u : Fin 2) (j : Fin 64) :
    knorm k kg (ix5 b t n u j) = Proj.norm (fun j => k (ix5 b t n u j)) (fun j => kg (ix1 j)) j := by
  pointwise [knorm, Proj.norm]

theorem kturn_at (y : FVec Ideal S2x8192x3x2x64 .f32) (b : Fin 2) (t : Fin 8192) (n : Fin 3)
    (u : Fin 2) (j : Fin 64) :
    kturn y (ix5 b t n u j) = Proj.turn (fun j => y (ix5 b t n u j)) (Proj.angle t.val) j := by
  pointwise [kturn, Proj.turn, angles_at]

theorem gates_at (z : FVec Ideal S2x8192x2816 .f32) (r : Fin 16384) (l : Fin 512) :
    gates z (ix2 r l) = Proj.silu (z (ix3 ⟨r.val / 8192, by omega⟩ ⟨r.val % 8192, by omega⟩ ⟨2304 + l.val, by omega⟩)) := by
  pointwise [gates, Proj.silu]

theorem win0_at (k v : FVec Ideal S2x8192x3x2x64 .f32) (b : Fin 2) (t : Fin 128) (s : Fin 2) (u : Fin 2) (j : Fin 64) :
    win0 k v (ix5 b t s u j) = if h : s.val < 1 then k (ix5 b ⟨8064 + t.val, by omega⟩ 0 u j)
      else v (ix5 b ⟨8064 + t.val, by omega⟩ 0 u j) := by
  pointwise [win0]

theorem win1_at (k v : FVec Ideal S2x8192x3x2x64 .f32) (b : Fin 2) (t : Fin 512) (s : Fin 2) (u : Fin 2) (j : Fin 64) :
    win1 k v (ix5 b t s u j) = if h : s.val < 1 then k (ix5 b ⟨7680 + t.val, by omega⟩ 1 u j)
      else v (ix5 b ⟨7680 + t.val, by omega⟩ 1 u j) := by
  pointwise [win1]

theorem win2_at (k v : FVec Ideal S2x8192x3x2x64 .f32) (b : Fin 2) (t : Fin 2048) (s : Fin 2) (u : Fin 2) (j : Fin 64) :
    win2 k v (ix5 b t s u j) = if h : s.val < 1 then k (ix5 b ⟨6144 + t.val, by omega⟩ 2 u j)
      else v (ix5 b ⟨6144 + t.val, by omega⟩ 2 u j) := by
  pointwise [win2]

theorem qheads_at (z : FVec Ideal S2x8192x2816 .f32) (b : Fin 2) (t : Fin 8192) (n : Fin 24) (j : Fin 64) :
    qheads z (ix4 b t n j) = z (ix3 b t ⟨n.val * 64 + j.val, by omega⟩) := by
  pointwise [qheads]

theorem qnorm_at (k : FVec Ideal S2x8192x24x64 .f32) (kg : FVec Ideal S64 .f32) (b : Fin 2) (t : Fin 8192) (n : Fin 24)
    (j : Fin 64) :
    qnorm k kg (ix4 b t n j) = Proj.norm (fun j => k (ix4 b t n j)) (fun j => kg (ix1 j)) j := by
  pointwise [qnorm, Proj.norm]

theorem vheads_at (z : FVec Ideal S2x8192x2816 .f32) (b : Fin 2) (t : Fin 8192) (n : Fin 3) (u : Fin 2) (j : Fin 64) :
    vheads z (ix5 b t n u j) = z (ix3 b t ⟨1920 + (n.val * 128 + u.val * 64 + j.val), by omega⟩) := by
  pointwise [vheads]

theorem krows_at (k : FVec Ideal S2x8192x3x2x64 .f32) (r : Fin 16384) (l : Fin 384) :
    krows k (ix2 r l) = k (ix5 ⟨r.val / 8192, by omega⟩ ⟨r.val % 8192, by omega⟩ ⟨l.val / 128, by omega⟩
      ⟨l.val / 64 % 2, by omega⟩ ⟨l.val % 64, by omega⟩) := by
  pointwise [krows]

theorem qrows_at (y : FVec Ideal S2x8192x24x64 .f32) (r : Fin 16384) (l : Fin 1536) :
    qrows y (ix2 r l) = Proj.turn (fun j => y (ix4 ⟨r.val / 8192, by omega⟩ ⟨r.val % 8192, by omega⟩
      ⟨l.val / 64, by omega⟩ j)) (Proj.angle (r.val % 8192))
      ⟨l.val % 64, by omega⟩ * Ideal.ofBits .f32 0x3E000000#32 := by
  pointwise [qrows, Proj.turn, angles_at]

/-- The arguments. -/
abbrev x (c : Dev nD) : FVec Ideal S2x8192x1024 .f32 := m ((c.tc : Thread nD τ).loc main_arg0)
abbrev g (c : Dev nD) : FVec Ideal S1024 .f32 := m ((c.tc : Thread nD τ).loc main_arg1)
abbrev w (c : Dev nD) : FVec Ideal S1024x2816 .f32 := m ((c.tc : Thread nD τ).loc main_arg2)
abbrev qg (c : Dev nD) : FVec Ideal S64 .f32 := m ((c.tc : Thread nD τ).loc main_arg3)
abbrev kg (c : Dev nD) : FVec Ideal S64 .f32 := m ((c.tc : Thread nD τ).loc main_arg4)

/-- The results, as the named pieces of the arguments. -/
def keys (x : FVec Ideal S2x8192x1024 .f32) (g : FVec Ideal S1024 .f32) (w : FVec Ideal S1024x2816 .f32)
    (kg : FVec Ideal S64 .f32) : FVec Ideal S2x8192x3x2x64 .f32 :=
  kturn (knorm (kheads (cols x g w)) kg)
def vals (x : FVec Ideal S2x8192x1024 .f32) (g : FVec Ideal S1024 .f32) (w : FVec Ideal S1024x2816 .f32) :
    FVec Ideal S2x8192x3x2x64 .f32 := vheads (cols x g w)

theorem out0 (c : Dev nD) : res_out0 m c = qrows (qnorm (qheads (cols (x m c) (g m c) (w m c))) (qg m c)) := by
  unfold res_out0 res_main_v132; rfl
theorem out1 (c : Dev nD) : res_out1 m c = krows (keys (x m c) (g m c) (w m c) (kg m c)) := by
  unfold res_out1 res_main_v133; rfl
theorem out4 (c : Dev nD) : res_out4 m c = win0 (keys (x m c) (g m c) (w m c) (kg m c)) (vals (x m c) (g m c) (w m c)) := by
  unfold res_out4 res_main_v113; rfl
theorem out5 (c : Dev nD) : res_out5 m c = win1 (keys (x m c) (g m c) (w m c) (kg m c)) (vals (x m c) (g m c) (w m c)) := by
  unfold res_out5 res_main_v121; rfl
theorem out6 (c : Dev nD) : res_out6 m c = win2 (keys (x m c) (g m c) (w m c) (kg m c)) (vals (x m c) (g m c) (w m c)) := by
  unfold res_out6 res_main_v129; rfl

/-- What the run says of the results, in these names. -/
theorem run (ρ : Dev nD → PrngReg) :
    θ_run defs (onTc (τ := τ) (main (F := Ideal))) ⟨m, fun _ => 0, ρ⟩ fun r => ∀ c : Dev nD,
      r.2.mem ((c.tc : Thread nD τ).loc main_v132) = qrows (qnorm (qheads (cols (x m c) (g m c) (w m c))) (qg m c))
      ∧ r.2.mem ((c.tc : Thread nD τ).loc main_v133) = krows (keys (x m c) (g m c) (w m c) (kg m c))
      ∧ r.2.mem ((c.tc : Thread nD τ).loc main_v134) = krows (vals (x m c) (g m c) (w m c))
      ∧ r.2.mem ((c.tc : Thread nD τ).loc main_v136) = gates (cols (x m c) (g m c) (w m c))
      ∧ r.2.mem ((c.tc : Thread nD τ).loc main_v113) = win0 (keys (x m c) (g m c) (w m c) (kg m c)) (vals (x m c) (g m c) (w m c))
      ∧ r.2.mem ((c.tc : Thread nD τ).loc main_v121) = win1 (keys (x m c) (g m c) (w m c) (kg m c)) (vals (x m c) (g m c) (w m c))
      ∧ r.2.mem ((c.tc : Thread nD τ).loc main_v129) = win2 (keys (x m c) (g m c) (w m c) (kg m c)) (vals (x m c) (g m c) (w m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun r h c => by
    obtain ⟨h0, h1, h2, h3, h4, h5, h6, ha⟩ := h c
    exact ⟨h0.trans (out0 m c), h1.trans (out1 m c), h2, h3, h4.trans (out4 m c), h5.trans (out5 m c),
      h6.trans (out6 m c), ha⟩) (Value.run m ρ)

/-- A row and 64 columns of the arguments, as the head's row lemmas take them. -/
abbrev rowOf (x : FVec Ideal S2x8192x1024 .f32) (r : Fin 16384) : Fin 1024 → EReal :=
  fun d => x (ix3 ⟨r.val / 8192, by omega⟩ ⟨r.val % 8192, by omega⟩ d)
abbrev vecOf {n : ℕ} (g : FVec Ideal ⟨1, ![n]⟩ .f32) : Fin n → EReal := fun d => g (ix1 d)
abbrev colsOf (w : FVec Ideal S1024x2816 .f32) (e : ℕ) (he : e + 63 < 2816) : Fin 64 → Fin 1024 → EReal :=
  fun j d => w (ix2 d ⟨e + j.val, by omega⟩)

theorem queries_at (x : FVec Ideal S2x8192x1024 .f32) (g : FVec Ideal S1024 .f32) (w : FVec Ideal S1024x2816 .f32)
    (qg : FVec Ideal S64 .f32) (r : Fin 16384) (l : Fin 1536) :
    qrows (qnorm (qheads (cols x g w)) qg) (ix2 r l) = Proj.headOf (rowOf x r) (vecOf g) (colsOf w (l.val / 64 * 64) (by omega))
      (vecOf qg) (r.val % 8192) ⟨l.val % 64, by omega⟩ * Ideal.ofBits .f32 0x3E000000#32 := by
  rw [qrows_at]
  simp only [qnorm_at, qheads_at, cols_at]
  rfl

theorem keys_at (x : FVec Ideal S2x8192x1024 .f32) (g : FVec Ideal S1024 .f32) (w : FVec Ideal S1024x2816 .f32)
    (kg : FVec Ideal S64 .f32) (r : Fin 16384) (l : Fin 384) :
    krows (keys x g w kg) (ix2 r l) = Proj.headOf (rowOf x r) (vecOf g) (colsOf w (1536 + l.val / 64 * 64) (by omega))
      (vecOf kg) (r.val % 8192) ⟨l.val % 64, by omega⟩ := by
  rw [krows_at, keys, kturn_at]
  simp only [knorm_at, kheads_at, cols_at]
  refine congrArg (fun f => Proj.turn (fun j => Proj.norm f (vecOf kg) j) (Proj.angle (r.val % 8192)) ⟨l.val % 64, by omega⟩) ?_
  funext j
  exact congrArg (Proj.proj _ _) (funext fun d => congrArg (fun e => w (ix2 d e)) (Fin.ext (by simp only; omega)))

theorem vals_at (x : FVec Ideal S2x8192x1024 .f32) (g : FVec Ideal S1024 .f32) (w : FVec Ideal S1024x2816 .f32)
    (r : Fin 16384) (l : Fin 384) :
    krows (vals x g w) (ix2 r l) = Proj.proj (rowOf x r) (vecOf g) (fun d => w (ix2 d ⟨1920 + l.val, by omega⟩)) := by
  rw [krows_at, vals, vheads_at, cols_at]
  congr 1
  funext d
  exact congrArg (fun e => w (ix2 d e)) (Fin.ext (by simp only; omega))

theorem gate_at (x : FVec Ideal S2x8192x1024 .f32) (g : FVec Ideal S1024 .f32) (w : FVec Ideal S1024x2816 .f32)
    (r : Fin 16384) (l : Fin 512) :
    gates (cols x g w) (ix2 r l) = Proj.silu (Proj.proj (rowOf x r) (vecOf g) (fun d => w (ix2 d ⟨2304 + l.val, by omega⟩))) := by
  rw [gates_at, cols_at]

end Cert.Reference2Ideal.At
-- ==== Proof.Final2.lean ====
/- The arrays the projection of the dilated-attention layers leaves, as the reference's results. -/
module

public import proofs.«01_k».proof.Proof.Kern2
public import proofs.«01_k».proof.Proof.Refv2
public import Idealize.ShloMosaic.Lib.StableHlo.RunRead
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Final

open Cert.Kernel2Ideal Cert.Kernel2Ideal.Gen Cert.Kernel2Ideal.Block

variable (m : (ℓ : Loc nD τ sig) → Buf (Elt Ideal) ℓ)

/-- The arguments. -/
abbrev x (c : Dev nD) : FVec Ideal S2x8192x1024 .f32 := m ((c : Thread nD τ).loc main_arg0)
abbrev g (c : Dev nD) : FVec Ideal S1024 .f32 := m ((c : Thread nD τ).loc main_arg1)
abbrev w (c : Dev nD) : FVec Ideal S1024x2816 .f32 := m ((c : Thread nD τ).loc main_arg2)
abbrev qg (c : Dev nD) : FVec Ideal S64 .f32 := m ((c : Thread nD τ).loc main_arg3)
abbrev kg (c : Dev nD) : FVec Ideal S64 .f32 := m ((c : Thread nD τ).loc main_arg4)

theorem V_eq (c : Dev nD) (b : Ref sig .tc) : V m c b = StableHlo.after hostOps0 (fun b => m (c, b)) (Proc.devRef .tc b) := by
  unfold V V0
  rw [List.flatten_singleton]

/-! ## What the host hands over -/

theorem cosines (c : Dev nD) (t : Fin 8192) (l : Fin 128) : (V m c main_v17 : FVec Ideal S8192x128 .f32) (ix2 t l)
    = Ideal.cos (Proj.angle t.val ⟨l.val % 32, by omega⟩) := by
  rw [V_eq]
  entry_read
  pointwise [Proj.angle]

theorem cat (a b : FVec Ideal S8192x32 .f32) (t : Fin 8192) (l : Fin 128) :
    concatenate S8192x128 1 [⟨S8192x32, a⟩, ⟨S8192x32, b⟩, ⟨S8192x32, a⟩, ⟨S8192x32, b⟩] concatenates_S8192x32_S8192x32_S8192x32_S8192x32_S8192x128_d1 (ix2 t l)
      = if l.val % 64 < 32 then a (ix2 t ⟨l.val % 32, by omega⟩) else b (ix2 t ⟨l.val % 32, by omega⟩) := by
  have hl := l.isLt
  by_cases h : l.val % 64 < 32
  · rw [if_pos h]
    pointwise
    split
    · exact congrArg (fun e => a (ix2 t e)) (Fin.ext (by show l.val = l.val % 32; omega))
    · split
      · omega
      · split
        · exact congrArg (fun e => a (ix2 t e)) (Fin.ext (by show l.val - 32 - 32 = l.val % 32; omega))
        · omega
  · rw [if_neg h]
    pointwise
    split
    · omega
    · split
      · exact congrArg (fun e => b (ix2 t e)) (Fin.ext (by show l.val - 32 = l.val % 32; omega))
      · split
        · omega
        · exact congrArg (fun e => b (ix2 t e)) (Fin.ext (by show l.val - 32 - 32 - 32 = l.val % 32; omega))

theorem sin_cat (c : Dev nD) : (V m c main_v19 : FVec Ideal S8192x128 .f32) = concatenate S8192x128 1
    [⟨S8192x32, StableHlo.upto hostOps0 (fun b => m (c, b)) 21 (Proc.devRef .tc main_v18)⟩, ⟨S8192x32, StableHlo.upto hostOps0 (fun b => m (c, b)) 21 (Proc.devRef .tc main_v14)⟩,
     ⟨S8192x32, StableHlo.upto hostOps0 (fun b => m (c, b)) 21 (Proc.devRef .tc main_v18)⟩, ⟨S8192x32, StableHlo.upto hostOps0 (fun b => m (c, b)) 21 (Proc.devRef .tc main_v14)⟩]
    concatenates_S8192x32_S8192x32_S8192x32_S8192x32_S8192x128_d1 := by
  rw [V_eq]
  refine (StableHlo.after_last_write (i := 21) [main_v20, main_v21, main_v22, main_v23, main_v24, main_v25, main_v26, main_v27, main_v28, main_v29, main_v30] rfl rfl (by decide) _).trans ?_
  rw [StableHlo.nary_result]
  rfl

theorem sin_at (c : Dev nD) (t : Fin 8192) (i : Fin 32) : (StableHlo.upto hostOps0 (fun b => m (c, b)) 21 (Proc.devRef .tc main_v14) : FVec Ideal S8192x32 .f32) (ix2 t i)
    = Ideal.sin (Proj.angle t.val i) := by
  simp only [StableHlo.upto, List.take_succ_cons, List.take_zero]
  entry_read
  pointwise [Proj.angle]
theorem neg_at (c : Dev nD) (t : Fin 8192) (i : Fin 32) : (StableHlo.upto hostOps0 (fun b => m (c, b)) 21 (Proc.devRef .tc main_v18) : FVec Ideal S8192x32 .f32) (ix2 t i)
    = -Ideal.sin (Proj.angle t.val i) := by
  simp only [StableHlo.upto, List.take_succ_cons, List.take_zero]
  entry_read
  pointwise [Proj.angle]

theorem sines (c : Dev nD) (t : Fin 8192) (l : Fin 128) : (V m c main_v19 : FVec Ideal S8192x128 .f32) (ix2 t l)
    = if l.val % 64 < 32 then -Ideal.sin (Proj.angle t.val ⟨l.val % 32, by omega⟩) else Ideal.sin (Proj.angle t.val ⟨l.val % 32, by omega⟩) := by
  rw [sin_cat, cat, neg_at, sin_at]

theorem rows (c : Dev nD) (r : Fin 16384) (d : Fin 1024) : (V m c main_v20 : FVec Ideal S16384x1024 .f32) (ix2 r d)
    = x m c (ix3 ⟨r.val / 8192, by omega⟩ ⟨r.val % 8192, by omega⟩ d) := by
  rw [V_eq]
  entry_read
  pointwise
theorem gains (c : Dev nD) (d : Fin 1024) : (V m c main_v21 : FVec Ideal S1x1024 .f32) (ix2 0 d) = g m c (ix1 d) := by
  rw [V_eq]
  entry_read
  pointwise
theorem weights (c : Dev nD) (d : Fin 1024) (e : Fin 2816) : (V m c main_v22 : FVec Ideal S1024x2816 .bf16) (ix2 d e) = w m c (ix2 d e) := by
  rw [V_eq]
  entry_read
  pointwise
theorem qgains (c : Dev nD) (l : Fin 128) : (V m c main_v26 : FVec Ideal S1x128 .f32) (ix2 0 l) = qg m c (ix1 ⟨l.val % 64, by omega⟩) := by
  rw [V_eq]
  entry_read
  pointwise
theorem kgains (c : Dev nD) (l : Fin 128) : (V m c main_v30 : FVec Ideal S1x128 .f32) (ix2 0 l) = kg m c (ix1 ⟨l.val % 64, by omega⟩) := by
  rw [V_eq]
  entry_read
  pointwise

/-! ## The blocks -/

theorem idx : ∀ t : Fin cfg0.N, win0_0.index t = ![t.val, 0] ∧ win0_1.index t = ![0, 0] ∧ win0_2.index t = ![0, 0]
    ∧ win0_3.index t = ![t.val % 32, 0] ∧ win0_4.index t = ![t.val % 32, 0] ∧ win0_5.index t = ![0, 0] ∧ win0_6.index t = ![0, 0]
    ∧ win0_7.index t = ![t.val, 0] ∧ win0_8.index t = ![t.val, 0] ∧ win0_9.index t = ![t.val, 0] ∧ win0_12.index t = ![t.val, 0]
    ∧ t.val < 64 :=
  (by decide +kernel : ∀ t : Fin grid0.N, _)

/-- The row of the whole array a grid point's block has at its row `r`. -/
abbrev here (t : Fin cfg0.N) (r : Fin 256) : Fin 16384 := ⟨256 * t.val + r.val, by have := idx t; omega⟩

theorem block0 (c : Dev nD) (t : Fin cfg0.N) (r : Fin 256) (d : Fin 1024) : (iblk m c 0 t : FVec Ideal S256x1024 .f32) (ix2 r d) = Reference2Ideal.At.rowOf (x m c) (here t r) d := by
  refine Eq.trans ?_ (rows m c (here t r) d)
  blk_ext [iblk, idx t]
theorem block1 (c : Dev nD) (t : Fin cfg0.N) (d : Fin 1024) : (iblk m c 1 t : FVec Ideal S1x1024 .f32) (ix2 0 d) = g m c (ix1 d) := by
  refine Eq.trans ?_ (gains m c d)
  blk_ext [iblk, idx t]
theorem block2 (c : Dev nD) (t : Fin cfg0.N) (d : Fin 1024) (e : Fin 2816) : (iblk m c 2 t : FVec Ideal S1024x2816 .bf16) (ix2 d e) = w m c (ix2 d e) := by
  refine Eq.trans ?_ (weights m c d e)
  blk_ext [iblk, idx t]
theorem block3 (c : Dev nD) (t : Fin cfg0.N) (r : Fin 256) (l : Fin 128) : (iblk m c 3 t : FVec Ideal S256x128 .f32) (ix2 r l)
    = Ideal.cos (Proj.angle ((256 * t.val + r.val) % 8192) ⟨l.val % 32, by omega⟩) := by
  refine Eq.trans ?_ (cosines m c ⟨(256 * t.val + r.val) % 8192, by omega⟩ l)
  blk_ext [iblk, idx t]
theorem block4 (c : Dev nD) (t : Fin cfg0.N) (r : Fin 256) (l : Fin 128) : (iblk m c 4 t : FVec Ideal S256x128 .f32) (ix2 r l)
    = if l.val % 64 < 32 then -Ideal.sin (Proj.angle ((256 * t.val + r.val) % 8192) ⟨l.val % 32, by omega⟩)
      else Ideal.sin (Proj.angle ((256 * t.val + r.val) % 8192) ⟨l.val % 32, by omega⟩) := by
  refine Eq.trans ?_ (sines m c ⟨(256 * t.val + r.val) % 8192, by omega⟩ l)
  blk_ext [iblk, idx t]
theorem block5 (c : Dev nD) (t : Fin cfg0.N) (l : Fin 128) : (iblk m c 5 t : FVec Ideal S1x128 .f32) (ix2 0 l) = qg m c (ix1 ⟨l.val % 64, by omega⟩) := by
  refine Eq.trans ?_ (qgains m c l)
  blk_ext [iblk, idx t]
theorem block6 (c : Dev nD) (t : Fin cfg0.N) (l : Fin 128) : (iblk m c 6 t : FVec Ideal S1x128 .f32) (ix2 0 l) = kg m c (ix1 ⟨l.val % 64, by omega⟩) := by
  refine Eq.trans ?_ (kgains m c l)
  blk_ext [iblk, idx t]

section Finals

variable (c : Dev nD) (fg : ∀ d, Proj.IsFin (g m c (ix1 d))) (fw : ∀ d e, Proj.IsFin (w m c (ix2 d e)))
include fg fw

theorem holds (t : Fin cfg0.N) (r : Fin 256) : Holds (iblk m c 0 t) (iblk m c 1 t) (iblk m c 2 t) (iblk m c 3 t) (iblk m c 4 t)
    (iblk m c 5 t) (iblk m c 6 t) r (Reference2Ideal.At.rowOf (x m c) (here t r)) (Reference2Ideal.At.vecOf (g m c)) (fun d e => w m c (ix2 d e))
    (Reference2Ideal.At.vecOf (qg m c)) (Reference2Ideal.At.vecOf (kg m c)) ((256 * t.val + r.val) % 8192) :=
  ⟨block0 m c t r, block1 m c t, block2 m c t, block3 m c t r, block4 m c t r, block5 m c t, block6 m c t, fg, fw⟩

theorem final7 : (dats m 0 c).arrAt 7 (cfgs 0).N
    = Reference2Ideal.At.qrows (Reference2Ideal.At.qnorm (Reference2Ideal.At.qheads (Reference2Ideal.At.cols (x m c) (g m c) (w m c))) (qg m c)) := by
  refine (dats m 0 c).arrAt_eq_of_covers 7 _ (by decide +kernel) fun t _ y => ?_
  blk_simp
  rw [after0_7]
  idx_vars y
  refine ((holds m c fg fw t y0).out7 y1).trans ((Reference2Ideal.At.queries_at _ _ _ _ (here t y0) y1).symm.trans (congrArg _ ?_))
  blk_ext [idx t]

theorem final8 : (dats m 0 c).arrAt 8 (cfgs 0).N
    = Reference2Ideal.At.krows (Reference2Ideal.At.keys (x m c) (g m c) (w m c) (kg m c)) := by
  refine (dats m 0 c).arrAt_eq_of_covers 8 _ (by decide +kernel) fun t _ y => ?_
  blk_simp
  rw [after0_8]
  idx_vars y
  refine ((holds m c fg fw t y0).out8 y1).trans ((Reference2Ideal.At.keys_at _ _ _ _ (here t y0) y1).symm.trans (congrArg _ ?_))
  blk_ext [idx t]

theorem final9 : (dats m 0 c).arrAt 9 (cfgs 0).N
    = Reference2Ideal.At.krows (Reference2Ideal.At.vals (x m c) (g m c) (w m c)) := by
  refine (dats m 0 c).arrAt_eq_of_covers 9 _ (by decide +kernel) fun t _ y => ?_
  blk_simp
  rw [after0_9]
  idx_vars y
  refine ((holds m c fg fw t y0).out9 y1).trans ((Reference2Ideal.At.vals_at _ _ _ (here t y0) y1).symm.trans (congrArg _ ?_))
  blk_ext [idx t]

theorem final12 : (dats m 0 c).arrAt 12 (cfgs 0).N
    = Reference2Ideal.At.gates (Reference2Ideal.At.cols (x m c) (g m c) (w m c)) := by
  refine (dats m 0 c).arrAt_eq_of_covers 12 _ (by decide +kernel) fun t _ y => ?_
  blk_simp
  rw [after0_12]
  idx_vars y
  refine ((holds m c fg fw t y0).out12 y1).trans ((Reference2Ideal.At.gate_at _ _ _ (here t y0) y1).symm.trans (congrArg _ ?_))
  blk_ext [idx t]

end Finals

end Cert.Kernel2Ideal.Final
-- ==== Proof.Tail2.lean ====
/- The run of the projection of the dilated-attention layers: its arrays, and the windows the host cuts of them. -/
module

public import proofs.«01_k».proof.Proof.Final2
public import Idealize.ShloMosaic.Lib.StableHlo.RunRead
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Final

open Cert.Kernel2Ideal Cert.Kernel2Ideal.Gen Cert.Kernel2Ideal.Block

variable (m : (ℓ : Loc nD τ sig) → Buf (Elt Ideal) ℓ)

/-! ## The windows the host cuts -/

theorem same (k : FVec Ideal Reference2Ideal.S2x8192x3x2x64 .f32) (b : Fin 2) (t : Fin 8192) (n n' : Fin 3) (u u' : Fin 2) (j j' : Fin 64)
    (hn : n.val = n'.val) (hu : u.val = u'.val) (hj : j.val = j'.val) : k (ix5 b t n u j) = k (ix5 b t n' u' j') := by
  rw [Fin.ext hn, Fin.ext hu, Fin.ext hj]

theorem tail0 (V' : Valuation τ sig (Elt Ideal)) (k v : FVec Ideal Reference2Ideal.S2x8192x3x2x64 .f32)
    (hk : V' (Proc.devRef .tc main_v31_1) = Reference2Ideal.At.krows k) (hv : V' (Proc.devRef .tc main_v31_2) = Reference2Ideal.At.krows v) :
    StableHlo.after (List.flatten [hostOps1]) V' (Proc.devRef .tc main_v38) = Reference2Ideal.At.win0 k v := by
  rw [List.flatten_singleton]
  after_results
  rw [hk, hv]
  funext y
  idx_vars y
  refine Eq.trans ?_ (Reference2Ideal.At.win0_at k v y0 y1 y2 y3 y4).symm
  pointwise [Reference2Ideal.At.krows]
  exact dite_congr rfl (fun _ => same k y0 _ _ _ _ _ _ _ (by dsimp only; omega) (by dsimp only; omega) (by dsimp only; omega))
    (fun _ => same v y0 _ _ _ _ _ _ _ (by dsimp only; omega) (by dsimp only; omega) (by dsimp only; omega))

theorem tail1 (V' : Valuation τ sig (Elt Ideal)) (k v : FVec Ideal Reference2Ideal.S2x8192x3x2x64 .f32)
    (hk : V' (Proc.devRef .tc main_v31_1) = Reference2Ideal.At.krows k) (hv : V' (Proc.devRef .tc main_v31_2) = Reference2Ideal.At.krows v) :
    StableHlo.after (List.flatten [hostOps1]) V' (Proc.devRef .tc main_v45) = Reference2Ideal.At.win1 k v := by
  rw [List.flatten_singleton]
  after_results
  rw [hk, hv]
  funext y
  idx_vars y
  refine Eq.trans ?_ (Reference2Ideal.At.win1_at k v y0 y1 y2 y3 y4).symm
  pointwise [Reference2Ideal.At.krows]
  exact dite_congr rfl (fun _ => same k y0 _ _ _ _ _ _ _ (by dsimp only; omega) (by dsimp only; omega) (by dsimp only; omega))
    (fun _ => same v y0 _ _ _ _ _ _ _ (by dsimp only; omega) (by dsimp only; omega) (by dsimp only; omega))

theorem tail2 (V' : Valuation τ sig (Elt Ideal)) (k v : FVec Ideal Reference2Ideal.S2x8192x3x2x64 .f32)
    (hk : V' (Proc.devRef .tc main_v31_1) = Reference2Ideal.At.krows k) (hv : V' (Proc.devRef .tc main_v31_2) = Reference2Ideal.At.krows v) :
    StableHlo.after (List.flatten [hostOps1]) V' (Proc.devRef .tc main_v52) = Reference2Ideal.At.win2 k v := by
  rw [List.flatten_singleton]
  after_results
  rw [hk, hv]
  funext y
  idx_vars y
  refine Eq.trans ?_ (Reference2Ideal.At.win2_at k v y0 y1 y2 y3 y4).symm
  pointwise [Reference2Ideal.At.krows]
  exact dite_congr rfl (fun _ => same k y0 _ _ _ _ _ _ _ (by dsimp only; omega) (by dsimp only; omega) (by dsimp only; omega))
    (fun _ => same v y0 _ _ _ _ _ _ _ (by dsimp only; omega) (by dsimp only; omega) (by dsimp only; omega))

/-- The keys and the values of the arguments. -/
abbrev keys (c : Dev nD) : FVec Ideal Reference2Ideal.S2x8192x3x2x64 .f32 := Reference2Ideal.At.keys (x m c) (g m c) (w m c) (kg m c)
abbrev vals (c : Dev nD) : FVec Ideal Reference2Ideal.S2x8192x3x2x64 .f32 := Reference2Ideal.At.vals (x m c) (g m c) (w m c)

theorem exit8 (c : Dev nD) (fg : ∀ d, Proj.IsFin (g m c (ix1 d))) (fw : ∀ d e, Proj.IsFin (w m c (ix2 d e))) :
    Pipeline.withArrays (cfgs 0).spec c (V0 m c) (fun w => (dats m 0 c).arrAt w (cfgs 0).N) (Proc.devRef .tc main_v31_1)
      = Reference2Ideal.At.krows (keys m c) :=
  (Pipeline.withArrays_arr (cfgs 0).spec (by decide) c (V0 m c) _ 8).trans (final8 m c fg fw)
theorem exit9 (c : Dev nD) (fg : ∀ d, Proj.IsFin (g m c (ix1 d))) (fw : ∀ d e, Proj.IsFin (w m c (ix2 d e))) :
    Pipeline.withArrays (cfgs 0).spec c (V0 m c) (fun w => (dats m 0 c).arrAt w (cfgs 0).N) (Proc.devRef .tc main_v31_2)
      = Reference2Ideal.At.krows (vals m c) :=
  (Pipeline.withArrays_arr (cfgs 0).spec (by decide) c (V0 m c) _ 9).trans (final9 m c fg fw)

theorem run (hg : ∀ c d, Proj.IsFin (g m c (ix1 d))) (hw : ∀ c d e, Proj.IsFin (w m c (ix2 d e))) (ρ : Dev nD → PrngReg) :
    θ_run defs (onTc (τ := τ) (main (F := Ideal))) ⟨m, fun _ => 0, ρ⟩ fun r => ∀ c : Dev nD,
      r.2.mem ((c.tc : Thread nD τ).loc main_v31_0) = Reference2Ideal.At.qrows (Reference2Ideal.At.qnorm (Reference2Ideal.At.qheads
        (Reference2Ideal.At.cols (x m c) (g m c) (w m c))) (qg m c))
      ∧ r.2.mem ((c.tc : Thread nD τ).loc main_v31_1) = Reference2Ideal.At.krows (keys m c)
      ∧ r.2.mem ((c.tc : Thread nD τ).loc main_v31_2) = Reference2Ideal.At.krows (vals m c)
      ∧ r.2.mem ((c.tc : Thread nD τ).loc main_v31_5) = Reference2Ideal.At.gates (Reference2Ideal.At.cols (x m c) (g m c) (w m c))
      ∧ r.2.mem ((c.tc : Thread nD τ).loc main_v38) = Reference2Ideal.At.win0 (keys m c) (vals m c)
      ∧ r.2.mem ((c.tc : Thread nD τ).loc main_v45) = Reference2Ideal.At.win1 (keys m c) (vals m c)
      ∧ r.2.mem ((c.tc : Thread nD τ).loc main_v52) = Reference2Ideal.At.win2 (keys m c) (vals m c) :=
  (θ_run _ _ _).mono (fun r h c => ⟨(h.out_eq c 7).trans (final7 m c (hg c) (hw c)), (h.out_eq c 8).trans (final8 m c (hg c) (hw c)),
    (h.out_eq c 9).trans (final9 m c (hg c) (hw c)), (h.out_eq c 12).trans (final12 m c (hg c) (hw c)),
    (h.rest_eq c main_v38 (by decide)).trans (tail0 _ _ _ (exit8 m c (hg c) (hw c)) (exit9 m c (hg c) (hw c))),
    (h.rest_eq c main_v45 (by decide)).trans (tail1 _ _ _ (exit8 m c (hg c) (hw c)) (exit9 m c (hg c) (hw c))),
    (h.rest_eq c main_v52 (by decide)).trans (tail2 _ _ _ (exit8 m c (hg c) (hw c)) (exit9 m c (hg c) (hw c)))⟩) (run_main m ρ)

end Cert.Kernel2Ideal.Final
-- ==== Proof.Finite.lean ====
/- What the preconditions of the projections say: the gain and the weights are real numbers. -/
module

public import proofs.«01_k».proof.Pre_finite_weights
public import proofs.«01_k».proof.Pre_finite_weights5
public import proofs.«01_k».proof.Pre_finite_weights6
public import proofs.«01_k».proof.Pre_finite_weights8
public import proofs.«01_k».proof.Pre_finite_weights9
public import proofs.«01_k».proof.Proof.Proj
public import Idealize.ShloMosaic.Lib.ReduceAll
public import Idealize.ShloMosaic.Lib.KernelVsHost

@[expose] public section

noncomputable section

open Idealize.ShloMosaic

namespace Cert.Pre_finite_weights

instance facts : Facts where
  bcast_S_S1024 := by decide
  reducesTo_S1024_S_d0 := by decide
  h_S_ := by decide
  bcast_S_S1024x2816 := by decide
  reducesTo_S1024x2816_S_d0_1 := by decide

/-- An element smaller than +∞ in magnitude is a real number. -/
theorem fin_of_lt {z : EReal} (h : FloatOps.cmpf (F := Ideal) (φ := .f32) .olt (FloatOps.hostAbsf z) (Ideal.ofBits .f32 0x7F800000#32) = 1#1) : Proj.IsFin z := by
  have e := (Ideal.xori_weird_eq_hostAbsf_olt_inf z).trans h
  induction z using EReal.rec with
  | coe r => exact ⟨r, rfl⟩
  | bot => exact absurd e (by simp [FloatOps.weird, IntOp.xori])
  | top => exact absurd e (by simp [FloatOps.weird, IntOp.xori])

theorem both : ∀ a b : BitVec 1, IntOp.andi a b = 1#1 → a = 1#1 ∧ b = 1#1 := by decide

theorem fins (x : FVec Ideal S2x8192x1024 .f32) (g : FVec Ideal S1024 .f32) (w : FVec Ideal S1024x2816 .f32) (qg kg : FVec Ideal S64 .f32)
    (h : fn (F := Ideal) x g w qg kg = fun _ => 1#1) : (∀ d, Proj.IsFin (g (ix1 d))) ∧ ∀ d e, Proj.IsFin (w (ix2 d e)) := by
  have h0 := congrFun h (Shape.Idx.first facts.h_S_)
  obtain ⟨h1, h2⟩ := both _ _ h0
  exact ⟨fun d => fin_of_lt (Host.reduce_andi_all _ _ _ _ _ h1 (ix1 d)), fun d e => fin_of_lt (Host.reduce_andi_all _ _ _ _ _ h2 (ix2 d e))⟩

end Cert.Pre_finite_weights

namespace Cert.Pre_finite_weights5

instance facts : Facts where
  bcast_S_S1024 := by decide
  reducesTo_S1024_S_d0 := by decide
  h_S_ := by decide
  bcast_S_S1024x2560 := by decide
  reducesTo_S1024x2560_S_d0_1 := by decide

theorem fins (x : FVec Ideal S2x8192x1024 .f32) (g : FVec Ideal S1024 .f32) (w : FVec Ideal S1024x2560 .f32) (qg kg : FVec Ideal S64 .f32)
    (h : fn (F := Ideal) x g w qg kg = fun _ => 1#1) : (∀ d, Proj.IsFin (g (ix1 d))) ∧ ∀ d e, Proj.IsFin (w (ix2 d e)) := by
  have h0 := congrFun h (Shape.Idx.first facts.h_S_)
  obtain ⟨h1, h2⟩ := Pre_finite_weights.both _ _ h0
  exact ⟨fun d => Pre_finite_weights.fin_of_lt (Host.reduce_andi_all _ _ _ _ _ h1 (ix1 d)),
    fun d e => Pre_finite_weights.fin_of_lt (Host.reduce_andi_all _ _ _ _ _ h2 (ix2 d e))⟩

end Cert.Pre_finite_weights5

namespace Cert.Pre_finite_weights6

instance facts : Facts where
  bcast_S_S1024 := by decide
  reducesTo_S1024_S_d0 := by decide
  h_S_ := by decide
  bcast_S_S1024x3144 := by decide
  reducesTo_S1024x3144_S_d0_1 := by decide

theorem fins (x : FVec Ideal S2x8192x1024 .f32) (g : FVec Ideal S1024 .f32) (w : FVec Ideal S1024x3144 .f32) (qg kg : FVec Ideal S64 .f32)
    (h : fn (F := Ideal) x g w qg kg = fun _ => 1#1) : (∀ d, Proj.IsFin (g (ix1 d))) ∧ ∀ d e, Proj.IsFin (w (ix2 d e)) := by
  have h0 := congrFun h (Shape.Idx.first facts.h_S_)
  obtain ⟨h1, h2⟩ := Pre_finite_weights.both _ _ h0
  exact ⟨fun d => Pre_finite_weights.fin_of_lt (Host.reduce_andi_all _ _ _ _ _ h1 (ix1 d)),
    fun d e => Pre_finite_weights.fin_of_lt (Host.reduce_andi_all _ _ _ _ _ h2 (ix2 d e))⟩

end Cert.Pre_finite_weights6

namespace Cert.Pre_finite_weights8

instance facts : Facts where
  bcast_S_S1024 := by decide
  reducesTo_S1024_S_d0 := by decide
  h_S_ := by decide
  bcast_S_S1024x2560 := by decide
  reducesTo_S1024x2560_S_d0_1 := by decide

theorem fins (x : FVec Ideal S128x8x1024 .f32) (g : FVec Ideal S1024 .f32) (w : FVec Ideal S1024x2560 .f32) (qg kg : FVec Ideal S64 .f32)
    (h : fn (F := Ideal) x g w qg kg = fun _ => 1#1) : (∀ d, Proj.IsFin (g (ix1 d))) ∧ ∀ d e, Proj.IsFin (w (ix2 d e)) := by
  have h0 := congrFun h (Shape.Idx.first facts.h_S_)
  obtain ⟨h1, h2⟩ := Pre_finite_weights.both _ _ h0
  exact ⟨fun d => Pre_finite_weights.fin_of_lt (Host.reduce_andi_all _ _ _ _ _ h1 (ix1 d)),
    fun d e => Pre_finite_weights.fin_of_lt (Host.reduce_andi_all _ _ _ _ _ h2 (ix2 d e))⟩

end Cert.Pre_finite_weights8

namespace Cert.Pre_finite_weights9

instance facts : Facts where
  bcast_S_S1024 := by decide
  reducesTo_S1024_S_d0 := by decide
  h_S_ := by decide
  bcast_S_S1024x3144 := by decide
  reducesTo_S1024x3144_S_d0_1 := by decide

theorem fins (x : FVec Ideal S128x8x1024 .f32) (g : FVec Ideal S1024 .f32) (w : FVec Ideal S1024x3144 .f32) (qg kg : FVec Ideal S64 .f32)
    (h : fn (F := Ideal) x g w qg kg = fun _ => 1#1) : (∀ d, Proj.IsFin (g (ix1 d))) ∧ ∀ d e, Proj.IsFin (w (ix2 d e)) := by
  have h0 := congrFun h (Shape.Idx.first facts.h_S_)
  obtain ⟨h1, h2⟩ := Pre_finite_weights.both _ _ h0
  exact ⟨fun d => Pre_finite_weights.fin_of_lt (Host.reduce_andi_all _ _ _ _ _ h1 (ix1 d)),
    fun d e => Pre_finite_weights.fin_of_lt (Host.reduce_andi_all _ _ _ _ _ h2 (ix2 d e))⟩

end Cert.Pre_finite_weights9
-- ==== Proof.Refv3.lean ====
/- The reference of the merging output projection, layer by layer, and the layers' entries. -/
module

public import proofs.«01_k».proof.Proof.Gen.Reference3Ideal.Run
public import Idealize.ShloMosaic.Lib.Pipeline.ValueKit
public import proofs.«01_k».proof.Proof.Soft

@[expose] public section

set_option maxRecDepth 16384

noncomputable section

open Idealize.ShloMosaic Idealize.ShloMosaic.TcCoe Idealize.SL.Sem

namespace Cert.Merge

/-- The value at lane `d` of a row that lies in four pieces of 128 lanes. -/
def part {α : Type} (a : Fin 4 → Fin 128 → α) (d : Fin 512) : α := a ⟨d.val / 128, by omega⟩ ⟨d.val % 128, by omega⟩

theorem quarters {α : Type} (a b c d : Fin 128 → α) (l : Fin 512) :
    (if h : l.val < 128 then a ⟨l.val, h⟩ else if h' : l.val - 128 < 128 then b ⟨l.val - 128, h'⟩
      else if h'' : l.val - 128 - 128 < 128 then c ⟨l.val - 128 - 128, h''⟩ else d ⟨l.val - 128 - 128 - 128, by omega⟩)
      = part ![a, b, c, d] l := by
  have hl := l.isLt
  unfold part
  split
  · rw [show (⟨l.val / 128, by omega⟩ : Fin 4) = 0 from Fin.ext (by show l.val / 128 = 0; omega)]
    exact congrArg a (Fin.ext (by dsimp only; omega))
  · split
    · rw [show (⟨l.val / 128, by omega⟩ : Fin 4) = 1 from Fin.ext (by show l.val / 128 = 1; omega)]
      exact congrArg b (Fin.ext (by dsimp only; omega))
    · split
      · rw [show (⟨l.val / 128, by omega⟩ : Fin 4) = 2 from Fin.ext (by show l.val / 128 = 2; omega)]
        exact congrArg c (Fin.ext (by dsimp only; omega))
      · rw [show (⟨l.val / 128, by omega⟩ : Fin 4) = 3 from Fin.ext (by show l.val / 128 = 3; omega)]
        exact congrArg d (Fin.ext (by dsimp only; omega))

/-- Three values mixed by the softmax of three scores. -/
def mixed (l v : Fin 3 → EReal) : EReal := ∑ g, Ideal.div (Ideal.exp (l g - Soft.top l)) (Soft.den l) * v g

theorem top_three (l : Fin 3 → EReal) : Soft.top l = max (max (l 0) (l 1)) (l 2) := by
  rw [Soft.top_eq_sup]
  simp [Fin.univ_succ, max_assoc]

theorem mixed_eq (l v : Fin 3 → EReal) : mixed l v =
    Ideal.div (Ideal.exp (l 0 - max (max (l 0) (l 1)) (l 2))) (Ideal.exp (l 0 - max (max (l 0) (l 1)) (l 2))
      + Ideal.exp (l 1 - max (max (l 0) (l 1)) (l 2)) + Ideal.exp (l 2 - max (max (l 0) (l 1)) (l 2))) * v 0
    + Ideal.div (Ideal.exp (l 1 - max (max (l 0) (l 1)) (l 2))) (Ideal.exp (l 0 - max (max (l 0) (l 1)) (l 2))
      + Ideal.exp (l 1 - max (max (l 0) (l 1)) (l 2)) + Ideal.exp (l 2 - max (max (l 0) (l 1)) (l 2))) * v 1
    + Ideal.div (Ideal.exp (l 2 - max (max (l 0) (l 1)) (l 2))) (Ideal.exp (l 0 - max (max (l 0) (l 1)) (l 2))
      + Ideal.exp (l 1 - max (max (l 0) (l 1)) (l 2)) + Ideal.exp (l 2 - max (max (l 0) (l 1)) (l 2))) * v 2 := by
  unfold mixed Soft.den
  simp only [Fin.sum_univ_three, top_three]

end Cert.Merge

namespace Cert.Reference3Ideal.At

open Cert.Reference3Ideal Cert.Reference3Ideal.Gen Cert.Reference3Ideal.Value

/-- A group's heads, from its four slabs. -/
def heads (a b c d : FVec Ideal S16384x128 .f32) : FVec Ideal S16384x8x64 .f32 :=
  shapeCast _ (concatenate S16384x512 1 [⟨S16384x128, a⟩, ⟨S16384x128, b⟩, ⟨S16384x128, c⟩, ⟨S16384x128, d⟩]
    concatenates_S16384x128_S16384x128_S16384x128_S16384x128_S16384x512_d1) shapeCasts_S16384x512_S16384x8x64

/-- A group's log-denominators, one per row and head. -/
def logs (l : FVec Ideal S16384x128 .f32) : FVec Ideal S16384x8 .f32 :=
  shapeCast _ (extractStridedSlice S16384x8x1 ![0, 0, 0] (shapeCast _ l shapeCasts_S16384x128_S16384x8x16)
    slices_S16384x8x16_S16384x8x1_0_0_0) shapeCasts_S16384x8x1_S16384x8

/-- The three groups' log-denominators. -/
def allLogs (l0 l1 l2 : FVec Ideal S16384x8 .f32) : FVec Ideal S3x16384x8 .f32 :=
  concatenate S3x16384x8 0 [⟨S1x16384x8, broadcastInDim S1x16384x8 ![1, 2] bcast_S16384x8_S1x16384x8_1_2 l0⟩,
    ⟨S1x16384x8, broadcastInDim S1x16384x8 ![1, 2] bcast_S16384x8_S1x16384x8_1_2 l1⟩,
    ⟨S1x16384x8, broadcastInDim S1x16384x8 ![1, 2] bcast_S16384x8_S1x16384x8_1_2 l2⟩]
    concatenates_S1x16384x8_S1x16384x8_S1x16384x8_S3x16384x8_d0

/-- The three groups' heads. -/
def allHeads (o0 o1 o2 : FVec Ideal S16384x8x64 .f32) : FVec Ideal S3x16384x8x64 .f32 :=
  concatenate S3x16384x8x64 0 [⟨S1x16384x8x64, broadcastInDim S1x16384x8x64 ![1, 2, 3] bcast_S16384x8x64_S1x16384x8x64_1_2_3 o0⟩,
    ⟨S1x16384x8x64, broadcastInDim S1x16384x8x64 ![1, 2, 3] bcast_S16384x8x64_S1x16384x8x64_1_2_3 o1⟩,
    ⟨S1x16384x8x64, broadcastInDim S1x16384x8x64 ![1, 2, 3] bcast_S16384x8x64_S1x16384x8x64_1_2_3 o2⟩]
    concatenates_S1x16384x8x64_S1x16384x8x64_S1x16384x8x64_S3x16384x8x64_d0

/-- The exponentials of the log-denominators less their maximum over the groups. -/
def exps (s : FVec Ideal S3x16384x8 .f32) : FVec Ideal S3x16384x8 .f32 :=
  Host.exp (subf s (broadcastInDim S3x16384x8 ![0, 1, 2] bcast_S1x16384x8_S3x16384x8_0_1_2 (broadcastInDim S1x16384x8 ![1, 2]
    bcast_S16384x8_S1x16384x8_1_2 (maximumf (broadcastInDim S16384x8 ![] bcast_S_S16384x8 (constant S_ .f32 0xFF800000#32))
    (Host.reduce FloatOps.maximumf s (constant S_ .f32 0xFF800000#32) reducesTo_S3x16384x8_S16384x8_d0 h_S_)))))

/-- The groups' weights. -/
def wts (e : FVec Ideal S3x16384x8 .f32) : FVec Ideal S3x16384x8 .f32 :=
  Host.divf e (broadcastInDim S3x16384x8 ![0, 1, 2] bcast_S1x16384x8_S3x16384x8_0_1_2 (broadcastInDim S1x16384x8 ![1, 2]
    bcast_S16384x8_S1x16384x8_1_2 (Host.reduceAdd e (constant S_ .f32 0x00000000#32) reducesTo_S3x16384x8_S16384x8_d0 h_S_)))

/-- The mixed heads side by side. -/
def mix (w : FVec Ideal S3x16384x8 .f32) (o : FVec Ideal S3x16384x8x64 .f32) : FVec Ideal S16384x512 .f32 :=
  shapeCast _ (Host.dotGeneral dot_S3x16384x8_S3x16384x8x64_S16384x8x64_0_0_n_3_12_12 none w o) shapeCasts_S16384x8x64_S16384x512

/-- The residual plus the gated rows' product with the weights. -/
def sums (o s : FVec Ideal S16384x512 .f32) (x : FVec Ideal S16384x1024 .f32) (w : FVec Ideal S512x1024 .f32) : FVec Ideal S16384x1024 .f32 :=
  addf x (Host.dotGeneral dot_S16384x512_S512x1024_S16384x1024_1_0_0_1_n_n none (mulf o s) w)

theorem heads_at (a b c d : FVec Ideal S16384x128 .f32) (r : Fin 16384) (l : Fin 512) :
    heads a b c d (ix3 r ⟨l.val / 64, by omega⟩ ⟨l.val % 64, by omega⟩)
      = Merge.part ![fun k => a (ix2 r k), fun k => b (ix2 r k), fun k => c (ix2 r k), fun k => d (ix2 r k)] l := by
  have hl := l.isLt
  have hd : l.val / 64 * 64 + l.val % 64 = l.val := by omega
  refine Eq.trans ?_ (Merge.quarters _ _ _ _ l)
  pointwise [heads]

theorem logs_at (l : FVec Ideal S16384x128 .f32) (r : Fin 16384) (h : Fin 8) :
    logs l (ix2 r h) = l (ix2 r ⟨h.val * 16, by omega⟩) := by
  pointwise [logs]

theorem allLogs_at (l : Fin 3 → FVec Ideal S16384x8 .f32) (g : Fin 3) (r : Fin 16384) (h : Fin 8) :
    allLogs (l 0) (l 1) (l 2) (ix3 g r h) = l g (ix2 r h) := by
  pointwise [allLogs]
  fin_cases g <;> rfl

theorem allHeads_at (o : Fin 3 → FVec Ideal S16384x8x64 .f32) (g : Fin 3) (r : Fin 16384) (h : Fin 8) (d : Fin 64) :
    allHeads (o 0) (o 1) (o 2) (ix4 g r h d) = o g (ix3 r h d) := by
  pointwise [allHeads]
  fin_cases g <;> rfl

theorem exps_at (s : FVec Ideal S3x16384x8 .f32) (g : Fin 3) (r : Fin 16384) (h : Fin 8) :
    exps s (ix3 g r h) = Ideal.exp (s (ix3 g r h) - Soft.top fun g => s (ix3 g r h)) := by
  refine Eq.trans (b := Ideal.exp (s (ix3 g r h) - max Soft.negInf (Soft.top fun g => s (ix3 g r h)))) ?_ ?_
  · pointwise [exps, Soft.top]
  · rw [Soft.negInf_eq, max_eq_right bot_le]

theorem wts_at (e : FVec Ideal S3x16384x8 .f32) (g : Fin 3) (r : Fin 16384) (h : Fin 8) :
    wts e (ix3 g r h) = Ideal.div (e (ix3 g r h)) (∑ g, e (ix3 g r h)) := by
  pointwise [wts]

theorem mix_at (w : FVec Ideal S3x16384x8 .f32) (o : FVec Ideal S3x16384x8x64 .f32) (r : Fin 16384) (l : Fin 512) :
    mix w o (ix2 r l) = ∑ g, w (ix3 g r ⟨l.val / 64, by omega⟩) * o (ix4 g r ⟨l.val / 64, by omega⟩ ⟨l.val % 64, by omega⟩) := by
  pointwise [mix]

theorem sums_at (o s : FVec Ideal S16384x512 .f32) (x : FVec Ideal S16384x1024 .f32) (w : FVec Ideal S512x1024 .f32) (r : Fin 16384) (e : Fin 1024) :
    sums o s x w (ix2 r e) = x (ix2 r e) + ∑ d, o (ix2 r d) * s (ix2 r d) * w (ix2 d e) := by
  pointwise [sums]

/-- The result from the slabs, the log-denominators, the gates, the residual and the weights. -/
def merged (a : Fin 3 → Fin 4 → FVec Ideal S16384x128 .f32) (l : Fin 3 → FVec Ideal S16384x128 .f32)
    (s : FVec Ideal S16384x512 .f32) (x : FVec Ideal S16384x1024 .f32) (w : FVec Ideal S512x1024 .f32) : FVec Ideal S16384x1024 .f32 :=
  sums (mix (wts (exps (allLogs (logs (l 0)) (logs (l 1)) (logs (l 2)))))
    (allHeads (heads (a 0 0) (a 0 1) (a 0 2) (a 0 3)) (heads (a 1 0) (a 1 1) (a 1 2) (a 1 3)) (heads (a 2 0) (a 2 1) (a 2 2) (a 2 3)))) s x w

theorem merged_at (a : Fin 3 → Fin 4 → FVec Ideal S16384x128 .f32) (l : Fin 3 → FVec Ideal S16384x128 .f32)
    (s : FVec Ideal S16384x512 .f32) (x : FVec Ideal S16384x1024 .f32) (w : FVec Ideal S512x1024 .f32) (r : Fin 16384) (e : Fin 1024) :
    merged a l s x w (ix2 r e) = x (ix2 r e) + ∑ d, Merge.mixed (fun g => l g (ix2 r ⟨d.val / 64 * 16, by omega⟩))
      (fun g => Merge.part (fun i k => a g i (ix2 r k)) d) * s (ix2 r d) * w (ix2 d e) := by
  unfold merged
  rw [sums_at]
  refine congrArg (x (ix2 r e) + ·) (Finset.sum_congr rfl fun d _ => congrArg (· * s (ix2 r d) * w (ix2 d e)) ?_)
  rw [mix_at]
  unfold Merge.mixed Soft.den
  refine Finset.sum_congr rfl fun g _ => ?_
  have hl : ∀ g, allLogs (logs (l 0)) (logs (l 1)) (logs (l 2)) (ix3 g r ⟨d.val / 64, by omega⟩) = l g (ix2 r ⟨d.val / 64 * 16, by omega⟩) :=
    fun g => (allLogs_at (fun g => logs (l g)) g r _).trans (logs_at _ _ _)
  have ho := (allHeads_at (fun g => heads (a g 0) (a g 1) (a g 2) (a g 3)) g r ⟨d.val / 64, by omega⟩ ⟨d.val % 64, by omega⟩).trans (heads_at _ _ _ _ r d)
  rw [wts_at]
  simp only [exps_at, hl]
  refine congrArg _ (ho.trans ?_)
  unfold Merge.part
  generalize (⟨d.val / 128, _⟩ : Fin 4) = i
  fin_cases i <;> rfl

variable (m : (ℓ : Loc nD τ sig) → Buf (Elt Ideal) ℓ)

theorem out0 (c : Dev nD) : res_out0 m c = merged
    ![![m ((c : Thread nD τ).loc main_arg0), m ((c : Thread nD τ).loc main_arg1), m ((c : Thread nD τ).loc main_arg2), m ((c : Thread nD τ).loc main_arg3)],
      ![m ((c : Thread nD τ).loc main_arg5), m ((c : Thread nD τ).loc main_arg6), m ((c : Thread nD τ).loc main_arg7), m ((c : Thread nD τ).loc main_arg8)],
      ![m ((c : Thread nD τ).loc main_arg10), m ((c : Thread nD τ).loc main_arg11), m ((c : Thread nD τ).loc main_arg12), m ((c : Thread nD τ).loc main_arg13)]]
    ![m ((c : Thread nD τ).loc main_arg4), m ((c : Thread nD τ).loc main_arg9), m ((c : Thread nD τ).loc main_arg14)]
    (m ((c : Thread nD τ).loc main_arg15)) (m ((c : Thread nD τ).loc main_arg16)) (m ((c : Thread nD τ).loc main_arg17)) := by
  unfold res_out0 res_main_v38
  rfl

end Cert.Reference3Ideal.At
-- ==== Proof.Final3.lean ====
/- The merging output projection: the array it leaves, as the reference's result. -/
module

public import proofs.«01_k».proof.Proof.Gen.Kernel3Ideal.Frame
public import proofs.«01_k».proof.Proof.Gen.Kernel3Ideal.Value
public import proofs.«01_k».proof.Proof.Refv3
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel3Ideal.Final

open Cert.Kernel3Ideal Cert.Kernel3Ideal.Gen

/-- A group's weights of two heads, over the lanes of the slab that holds the heads. -/
def share (e t : FVec Ideal S256x128 .f32) (o o' : ℕ) (sl : S256x128.Slices ![0, o] S256x1) (sl' : S256x128.Slices ![0, o'] S256x1) :
    FVec Ideal S256x128 .f32 :=
  select (cmpi .slt (iota .tc S256x128 32 [1] iota_S256x128_d1_w32) (broadcast S256x128 64#32))
    (broadcastTo S256x128 (shapeCast S256x1 (extractStridedSlice S256x1 ![0, o] (divf e t) sl) shapeCasts_S256x1_S256x1) broadcasts_S256x1_S256x128)
    (broadcastTo S256x128 (shapeCast S256x1 (extractStridedSlice S256x1 ![0, o'] (divf e t) sl') shapeCasts_S256x1_S256x1) broadcasts_S256x1_S256x128)

/-- A slab of the mixed heads. -/
def slab (l0 l1 l2 : FVec Ideal S256x128 .f32) (v0 v1 v2 : FVec Ideal S256x128 .f32) (o o' : ℕ) (sl : S256x128.Slices ![0, o] S256x1)
    (sl' : S256x128.Slices ![0, o'] S256x1) : FVec Ideal S256x128 .f32 :=
  addf (addf (mulf (share (k0_pay3 l0 l1 l2) (k0_pay6 l0 l1 l2) o o' sl sl') v0) (mulf (share (k0_pay4 l0 l1 l2) (k0_pay6 l0 l1 l2) o o' sl sl') v1))
    (mulf (share (k0_pay5 l0 l1 l2) (k0_pay6 l0 l1 l2) o o' sl sl') v2)

/-- The residual plus the gated rows' product with the weights. -/
def body (a b c d : FVec Ideal S256x128 .f32) (s : FVec Ideal S256x512 .f32) (x : FVec Ideal S256x1024 .f32) (w : FVec Ideal S512x1024 .bf16) :
    FVec Ideal S256x1024 .f32 :=
  addf x (matmul dot_S256x512_S512x1024_S256x1024_1_0_0_1_n_n none (truncf .bf16 (mulf (concatenate S256x512 1 [⟨S256x128, a⟩, ⟨S256x128, b⟩,
    ⟨S256x128, c⟩, ⟨S256x128, d⟩] concatenates_S256x128_S256x128_S256x128_S256x128_S256x512_d1) s) bitsLt_bf16_f32)
    (shapeCast S512x1024 w shapeCasts_S512x1024_S512x1024) (constant S256x1024 .f32 0x00000000#32))

theorem low (l : Fin 128) : IntOp.cmpi CmpIPredicate.slt (BitVec.ofNat 32 l.val) 64#32 = if l.val < 64 then 1#1 else 0#1 := by
  revert l
  decide +kernel

theorem share_at (e t : FVec Ideal S256x128 .f32) (o o' : ℕ) (sl : S256x128.Slices ![0, o] S256x1) (sl' : S256x128.Slices ![0, o'] S256x1)
    (ho : o < 128) (ho' : o' < 128) (r : Fin 256) (l : Fin 128) : share e t o o' sl sl' (ix2 r l)
      = if l.val < 64 then Ideal.div (e (ix2 r ⟨o, ho⟩)) (t (ix2 r ⟨o, ho⟩)) else Ideal.div (e (ix2 r ⟨o', ho'⟩)) (t (ix2 r ⟨o', ho'⟩)) := by
  refine Eq.trans (b := Scalar.select (IntOp.cmpi CmpIPredicate.slt (BitVec.ofNat 32 l.val) 64#32)
    (Ideal.div (e (ix2 r ⟨o, ho⟩)) (t (ix2 r ⟨o, ho⟩))) (Ideal.div (e (ix2 r ⟨o', ho'⟩)) (t (ix2 r ⟨o', ho'⟩)))) (by pointwise [share]) ?_
  rw [low]
  split <;> rfl

theorem slab_at (l v : Fin 3 → FVec Ideal S256x128 .f32) (o o' : ℕ) (sl : S256x128.Slices ![0, o] S256x1) (sl' : S256x128.Slices ![0, o'] S256x1)
    (ho : o < 128) (ho' : o' < 128) (r : Fin 256) (k : Fin 128) (p : Fin 128) (hp : p.val = if k.val < 64 then o else o') :
    slab (l 0) (l 1) (l 2) (v 0) (v 1) (v 2) o o' sl sl' (ix2 r k) = Merge.mixed (fun g => l g (ix2 r p)) (fun g => v g (ix2 r k)) := by
  rw [Merge.mixed_eq]
  refine Eq.trans (b := share (k0_pay3 (l 0) (l 1) (l 2)) (k0_pay6 (l 0) (l 1) (l 2)) o o' sl sl' (ix2 r k) * v 0 (ix2 r k)
    + share (k0_pay4 (l 0) (l 1) (l 2)) (k0_pay6 (l 0) (l 1) (l 2)) o o' sl sl' (ix2 r k) * v 1 (ix2 r k)
    + share (k0_pay5 (l 0) (l 1) (l 2)) (k0_pay6 (l 0) (l 1) (l 2)) o o' sl sl' (ix2 r k) * v 2 (ix2 r k)) rfl ?_
  rw [share_at _ _ o o' sl sl' ho ho', share_at _ _ o o' sl sl' ho ho', share_at _ _ o o' sl sl' ho ho']
  split_ifs at hp ⊢
  · obtain rfl : p = ⟨o, ho⟩ := Fin.ext hp
    pointwise [k0_pay2, k0_pay3, k0_pay4, k0_pay5, k0_pay6]
  · obtain rfl : p = ⟨o', ho'⟩ := Fin.ext hp
    pointwise [k0_pay2, k0_pay3, k0_pay4, k0_pay5, k0_pay6]

theorem body_at (a b c d : FVec Ideal S256x128 .f32) (s : FVec Ideal S256x512 .f32) (x : FVec Ideal S256x1024 .f32) (w : FVec Ideal S512x1024 .bf16)
    (r : Fin 256) (e : Fin 1024) : body a b c d s x w (ix2 r e) = x (ix2 r e)
      + ∑ k, Merge.part ![fun k => a (ix2 r k), fun k => b (ix2 r k), fun k => c (ix2 r k), fun k => d (ix2 r k)] k * s (ix2 r k) * w (ix2 k e) := by
  simp only [← Merge.quarters]
  pointwise [body]

theorem ldr (x : FVec Ideal S256x128 .f32) : View.ld (Val := Elt Ideal) (e' := .f32) x r0_0 = x := by
  funext y; idx_vars y; pointwise
theorem lds (x : FVec Ideal S256x512 .f32) : View.ld (Val := Elt Ideal) (e' := .f32) x r0_1 = x := by
  funext y; idx_vars y; pointwise
theorem ldx (x : FVec Ideal S256x1024 .f32) : View.ld (Val := Elt Ideal) (e' := .f32) x r0_2 = x := by
  funext y; idx_vars y; pointwise
theorem ldw (x : FVec Ideal S512x1024 .bf16) : View.ld (Val := Elt Ideal) (e' := .bf16) x r0_3 = x := by
  funext y; idx_vars y; pointwise

theorem out_eq (a0 a1 a2 a3 l0 b0 b1 b2 b3 l1 c0 c1 c2 c3 l2 : FVec Ideal S256x128 .f32) (s : FVec Ideal S256x512 .f32)
    (x : FVec Ideal S256x1024 .f32) (w : FVec Ideal S512x1024 .bf16) (r : Fin 256) (e : Fin 1024) :
    out0_18 (F := Ideal) a0 a1 a2 a3 l0 b0 b1 b2 b3 l1 c0 c1 c2 c3 l2 s x w (ix2 r e)
      = body (slab l0 l1 l2 a0 b0 c0 0 16 slices_S256x128_o0_0_S256x1 slices_S256x128_o0_16_S256x1)
          (slab l0 l1 l2 a1 b1 c1 32 48 slices_S256x128_o0_32_S256x1 slices_S256x128_o0_48_S256x1)
          (slab l0 l1 l2 a2 b2 c2 64 80 slices_S256x128_o0_64_S256x1 slices_S256x128_o0_80_S256x1)
          (slab l0 l1 l2 a3 b3 c3 96 112 slices_S256x128_o0_96_S256x1 slices_S256x128_o0_112_S256x1) s x w (ix2 r e) := by
  unfold_out out0_18
  canon_tiles y h
  all_goals (idx_vars y; obtain rfl : y0 = r := Fin.ext h0.symm; obtain rfl : y1 = e := Fin.ext h1.symm)
  rw [ldr, ldr, ldr, ldr, ldr, ldr, ldr, ldr, ldr, ldr, ldr, ldr, ldr, ldr, ldr, lds, ldx, ldw]
  rfl

theorem out_at (a : Fin 3 → Fin 4 → FVec Ideal S256x128 .f32) (l : Fin 3 → FVec Ideal S256x128 .f32) (s : FVec Ideal S256x512 .f32)
    (x : FVec Ideal S256x1024 .f32) (w : FVec Ideal S512x1024 .bf16) (r : Fin 256) (e : Fin 1024) :
    out0_18 (F := Ideal) (a 0 0) (a 0 1) (a 0 2) (a 0 3) (l 0) (a 1 0) (a 1 1) (a 1 2) (a 1 3) (l 1) (a 2 0) (a 2 1) (a 2 2) (a 2 3) (l 2) s x w (ix2 r e)
      = x (ix2 r e) + ∑ d, Merge.mixed (fun g => l g (ix2 r ⟨d.val / 64 * 16, by omega⟩))
        (fun g => Merge.part (fun i k => a g i (ix2 r k)) d) * s (ix2 r d) * w (ix2 d e) := by
  rw [out_eq, body_at]
  refine congrArg (x (ix2 r e) + ·) (Finset.sum_congr rfl fun d _ => congrArg (· * s (ix2 r d) * w (ix2 d e)) ?_)
  have hd := d.isLt
  unfold Merge.part
  have key (i : Fin 4) (o o' : ℕ) (ho : o = 32 * i.val) (ho' : o' = 32 * i.val + 16) (sl : S256x128.Slices ![0, o] S256x1)
      (sl' : S256x128.Slices ![0, o'] S256x1) (hi : d.val / 128 = i.val) :
      slab (l 0) (l 1) (l 2) (a 0 i) (a 1 i) (a 2 i) o o' sl sl' (ix2 r ⟨d.val % 128, by omega⟩)
        = Merge.mixed (fun g => l g (ix2 r ⟨d.val / 64 * 16, by omega⟩)) (fun g => a g i (ix2 r ⟨d.val % 128, by omega⟩)) := by
    refine slab_at l (fun g => a g i) o o' sl sl' (by omega) (by omega) r _ _ ?_
    dsimp only
    split <;> omega
  generalize hi : (⟨d.val / 128, by omega⟩ : Fin 4) = i
  have hi : d.val / 128 = i.val := congrArg Fin.val hi
  fin_cases i
  · exact key 0 0 16 rfl rfl slices_S256x128_o0_0_S256x1 slices_S256x128_o0_16_S256x1 hi
  · exact key 1 32 48 rfl rfl slices_S256x128_o0_32_S256x1 slices_S256x128_o0_48_S256x1 hi
  · exact key 2 64 80 rfl rfl slices_S256x128_o0_64_S256x1 slices_S256x128_o0_80_S256x1 hi
  · exact key 3 96 112 rfl rfl slices_S256x128_o0_96_S256x1 slices_S256x128_o0_112_S256x1 hi

variable (m : (ℓ : Loc nD τ sig) → Buf (Elt Ideal) ℓ)

/-- The arguments: the groups' slabs, their log-denominators, the gates, the residual and the weights. -/
abbrev a (c : Dev nD) : Fin 3 → Fin 4 → FVec Ideal S16384x128 .f32 :=
  ![![m ((c : Thread nD τ).loc main_arg0), m ((c : Thread nD τ).loc main_arg1), m ((c : Thread nD τ).loc main_arg2), m ((c : Thread nD τ).loc main_arg3)],
    ![m ((c : Thread nD τ).loc main_arg5), m ((c : Thread nD τ).loc main_arg6), m ((c : Thread nD τ).loc main_arg7), m ((c : Thread nD τ).loc main_arg8)],
    ![m ((c : Thread nD τ).loc main_arg10), m ((c : Thread nD τ).loc main_arg11), m ((c : Thread nD τ).loc main_arg12), m ((c : Thread nD τ).loc main_arg13)]]
abbrev l (c : Dev nD) : Fin 3 → FVec Ideal S16384x128 .f32 :=
  ![m ((c : Thread nD τ).loc main_arg4), m ((c : Thread nD τ).loc main_arg9), m ((c : Thread nD τ).loc main_arg14)]
abbrev s (c : Dev nD) : FVec Ideal S16384x512 .f32 := m ((c : Thread nD τ).loc main_arg15)
abbrev x (c : Dev nD) : FVec Ideal S16384x1024 .f32 := m ((c : Thread nD τ).loc main_arg16)
abbrev w (c : Dev nD) : FVec Ideal S512x1024 .f32 := m ((c : Thread nD τ).loc main_arg17)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![0, 0]
    ∧ win0_18.index t = ![t.val, 0] ∧ t.val < 64 :=
  (by decide +kernel : ∀ t : Fin grid0.N, _)

/-- The row of the whole array a grid point's block has at its row `r`. -/
abbrev here (t : Fin cfg0.N) (r : Fin 256) : Fin 16384 := ⟨256 * t.val + r.val, by have := idx t; omega⟩

/-- The blocks of the groups' slabs and log-denominators at a grid point. -/
abbrev ab (c : Dev nD) (t : Fin cfg0.N) : Fin 3 → Fin 4 → FVec Ideal S256x128 .f32 :=
  ![![iblk m c 0 t, iblk m c 1 t, iblk m c 2 t, iblk m c 3 t], ![iblk m c 5 t, iblk m c 6 t, iblk m c 7 t, iblk m c 8 t],
    ![iblk m c 10 t, iblk m c 11 t, iblk m c 12 t, iblk m c 13 t]]
abbrev lb (c : Dev nD) (t : Fin cfg0.N) : Fin 3 → FVec Ideal S256x128 .f32 := ![iblk m c 4 t, iblk m c 9 t, iblk m c 14 t]

theorem block0 (c : Dev nD) (t : Fin cfg0.N) (r : Fin 256) (d : Fin 128) : (iblk m c 0 t : FVec Ideal S256x128 .f32) (ix2 r d)
    = (m ((c : Thread nD τ).loc main_arg0) : FVec Ideal S16384x128 .f32) (ix2 (here t r) d) := by
  refine Eq.trans ?_ (show (V m c main_arg0 : FVec Ideal S16384x128 .f32) (ix2 (here t r) d) = _ by entry_read; rfl)
  blk_ext [iblk, idx t]
theorem block1 (c : Dev nD) (t : Fin cfg0.N) (r : Fin 256) (d : Fin 128) : (iblk m c 1 t : FVec Ideal S256x128 .f32) (ix2 r d)
    = (m ((c : Thread nD τ).loc main_arg1) : FVec Ideal S16384x128 .f32) (ix2 (here t r) d) := by
  refine Eq.trans ?_ (show (V m c main_arg1 : FVec Ideal S16384x128 .f32) (ix2 (here t r) d) = _ by entry_read; rfl)
  blk_ext [iblk, idx t]
theorem block2 (c : Dev nD) (t : Fin cfg0.N) (r : Fin 256) (d : Fin 128) : (iblk m c 2 t : FVec Ideal S256x128 .f32) (ix2 r d)
    = (m ((c : Thread nD τ).loc main_arg2) : FVec Ideal S16384x128 .f32) (ix2 (here t r) d) := by
  refine Eq.trans ?_ (show (V m c main_arg2 : FVec Ideal S16384x128 .f32) (ix2 (here t r) d) = _ by entry_read; rfl)
  blk_ext [iblk, idx t]
theorem block3 (c : Dev nD) (t : Fin cfg0.N) (r : Fin 256) (d : Fin 128) : (iblk m c 3 t : FVec Ideal S256x128 .f32) (ix2 r d)
    = (m ((c : Thread nD τ).loc main_arg3) : FVec Ideal S16384x128 .f32) (ix2 (here t r) d) := by
  refine Eq.trans ?_ (show (V m c main_arg3 : FVec Ideal S16384x128 .f32) (ix2 (here t r) d) = _ by entry_read; rfl)
  blk_ext [iblk, idx t]
theorem block4 (c : Dev nD) (t : Fin cfg0.N) (r : Fin 256) (d : Fin 128) : (iblk m c 4 t : FVec Ideal S256x128 .f32) (ix2 r d)
    = (m ((c : Thread nD τ).loc main_arg4) : FVec Ideal S16384x128 .f32) (ix2 (here t r) d) := by
  refine Eq.trans ?_ (show (V m c main_arg4 : FVec Ideal S16384x128 .f32) (ix2 (here t r) d) = _ by entry_read; rfl)
  blk_ext [iblk, idx t]
theorem block5 (c : Dev nD) (t : Fin cfg0.N) (r : Fin 256) (d : Fin 128) : (iblk m c 5 t : FVec Ideal S256x128 .f32) (ix2 r d)
    = (m ((c : Thread nD τ).loc main_arg5) : FVec Ideal S16384x128 .f32) (ix2 (here t r) d) := by
  refine Eq.trans ?_ (show (V m c main_arg5 : FVec Ideal S16384x128 .f32) (ix2 (here t r) d) = _ by entry_read; rfl)
  blk_ext [iblk, idx t]
theorem block6 (c : Dev nD) (t : Fin cfg0.N) (r : Fin 256) (d : Fin 128) : (iblk m c 6 t : FVec Ideal S256x128 .f32) (ix2 r d)
    = (m ((c : Thread nD τ).loc main_arg6) : FVec Ideal S16384x128 .f32) (ix2 (here t r) d) := by
  refine Eq.trans ?_ (show (V m c main_arg6 : FVec Ideal S16384x128 .f32) (ix2 (here t r) d) = _ by entry_read; rfl)
  blk_ext [iblk, idx t]
theorem block7 (c : Dev nD) (t : Fin cfg0.N) (r : Fin 256) (d : Fin 128) : (iblk m c 7 t : FVec Ideal S256x128 .f32) (ix2 r d)
    = (m ((c : Thread nD τ).loc main_arg7) : FVec Ideal S16384x128 .f32) (ix2 (here t r) d) := by
  refine Eq.trans ?_ (show (V m c main_arg7 : FVec Ideal S16384x128 .f32) (ix2 (here t r) d) = _ by entry_read; rfl)
  blk_ext [iblk, idx t]
theorem block8 (c : Dev nD) (t : Fin cfg0.N) (r : Fin 256) (d : Fin 128) : (iblk m c 8 t : FVec Ideal S256x128 .f32) (ix2 r d)
    = (m ((c : Thread nD τ).loc main_arg8) : FVec Ideal S16384x128 .f32) (ix2 (here t r) d) := by
  refine Eq.trans ?_ (show (V m c main_arg8 : FVec Ideal S16384x128 .f32) (ix2 (here t r) d) = _ by entry_read; rfl)
  blk_ext [iblk, idx t]
theorem block9 (c : Dev nD) (t : Fin cfg0.N) (r : Fin 256) (d : Fin 128) : (iblk m c 9 t : FVec Ideal S256x128 .f32) (ix2 r d)
    = (m ((c : Thread nD τ).loc main_arg9) : FVec Ideal S16384x128 .f32) (ix2 (here t r) d) := by
  refine Eq.trans ?_ (show (V m c main_arg9 : FVec Ideal S16384x128 .f32) (ix2 (here t r) d) = _ by entry_read; rfl)
  blk_ext [iblk, idx t]
theorem block10 (c : Dev nD) (t : Fin cfg0.N) (r : Fin 256) (d : Fin 128) : (iblk m c 10 t : FVec Ideal S256x128 .f32) (ix2 r d)
    = (m ((c : Thread nD τ).loc main_arg10) : FVec Ideal S16384x128 .f32) (ix2 (here t r) d) := by
  refine Eq.trans ?_ (show (V m c main_arg10 : FVec Ideal S16384x128 .f32) (ix2 (here t r) d) = _ by entry_read; rfl)
  blk_ext [iblk, idx t]
theorem block11 (c : Dev nD) (t : Fin cfg0.N) (r : Fin 256) (d : Fin 128) : (iblk m c 11 t : FVec Ideal S256x128 .f32) (ix2 r d)
    = (m ((c : Thread nD τ).loc main_arg11) : FVec Ideal S16384x128 .f32) (ix2 (here t r) d) := by
  refine Eq.trans ?_ (show (V m c main_arg11 : FVec Ideal S16384x128 .f32) (ix2 (here t r) d) = _ by entry_read; rfl)
  blk_ext [iblk, idx t]
theorem block12 (c : Dev nD) (t : Fin cfg0.N) (r : Fin 256) (d : Fin 128) : (iblk m c 12 t : FVec Ideal S256x128 .f32) (ix2 r d)
    = (m ((c : Thread nD τ).loc main_arg12) : FVec Ideal S16384x128 .f32) (ix2 (here t r) d) := by
  refine Eq.trans ?_ (show (V m c main_arg12 : FVec Ideal S16384x128 .f32) (ix2 (here t r) d) = _ by entry_read; rfl)
  blk_ext [iblk, idx t]
theorem block13 (c : Dev nD) (t : Fin cfg0.N) (r : Fin 256) (d : Fin 128) : (iblk m c 13 t : FVec Ideal S256x128 .f32) (ix2 r d)
    = (m ((c : Thread nD τ).loc main_arg13) : FVec Ideal S16384x128 .f32) (ix2 (here t r) d) := by
  refine Eq.trans ?_ (show (V m c main_arg13 : FVec Ideal S16384x128 .f32) (ix2 (here t r) d) = _ by entry_read; rfl)
  blk_ext [iblk, idx t]
theorem block14 (c : Dev nD) (t : Fin cfg0.N) (r : Fin 256) (d : Fin 128) : (iblk m c 14 t : FVec Ideal S256x128 .f32) (ix2 r d)
    = (m ((c : Thread nD τ).loc main_arg14) : FVec Ideal S16384x128 .f32) (ix2 (here t r) d) := by
  refine Eq.trans ?_ (show (V m c main_arg14 : FVec Ideal S16384x128 .f32) (ix2 (here t r) d) = _ by entry_read; rfl)
  blk_ext [iblk, idx t]
theorem block15 (c : Dev nD) (t : Fin cfg0.N) (r : Fin 256) (d : Fin 512) : (iblk m c 15 t : FVec Ideal S256x512 .f32) (ix2 r d)
    = (m ((c : Thread nD τ).loc main_arg15) : FVec Ideal S16384x512 .f32) (ix2 (here t r) d) := by
  refine Eq.trans ?_ (show (V m c main_arg15 : FVec Ideal S16384x512 .f32) (ix2 (here t r) d) = _ by entry_read; rfl)
  blk_ext [iblk, idx t]
theorem block16 (c : Dev nD) (t : Fin cfg0.N) (r : Fin 256) (d : Fin 1024) : (iblk m c 16 t : FVec Ideal S256x1024 .f32) (ix2 r d)
    = (m ((c : Thread nD τ).loc main_arg16) : FVec Ideal S16384x1024 .f32) (ix2 (here t r) d) := by
  refine Eq.trans ?_ (show (V m c main_arg16 : FVec Ideal S16384x1024 .f32) (ix2 (here t r) d) = _ by entry_read; rfl)
  blk_ext [iblk, idx t]
theorem block17 (c : Dev nD) (t : Fin cfg0.N) (r : Fin 512) (d : Fin 1024) : (iblk m c 17 t : FVec Ideal S512x1024 .bf16) (ix2 r d) = w m c (ix2 r d) := by
  refine Eq.trans ?_ (show (V m c main_v0 : FVec Ideal S512x1024 .bf16) (ix2 r d) = _ by entry_read; pointwise)
  blk_ext [iblk, idx t]

theorem slabs (c : Dev nD) (t : Fin cfg0.N) (r : Fin 256) (k : Fin 128) (g : Fin 3) (i : Fin 4) : ab m c t g i (ix2 r k) = a m c g i (ix2 (here t r) k) := by
  fin_cases g <;> fin_cases i
  · exact block0 m c t r k
  · exact block1 m c t r k
  · exact block2 m c t r k
  · exact block3 m c t r k
  · exact block5 m c t r k
  · exact block6 m c t r k
  · exact block7 m c t r k
  · exact block8 m c t r k
  · exact block10 m c t r k
  · exact block11 m c t r k
  · exact block12 m c t r k
  · exact block13 m c t r k
theorem lses (c : Dev nD) (t : Fin cfg0.N) (r : Fin 256) (k : Fin 128) (g : Fin 3) : lb m c t g (ix2 r k) = l m c g (ix2 (here t r) k) := by
  fin_cases g
  · exact block4 m c t r k
  · exact block9 m c t r k
  · exact block14 m c t r k

theorem final18 (c : Dev nD) : (dats m 0 c).arrAt 18 (cfgs 0).N = Reference3Ideal.At.merged (a m c) (l m c) (s m c) (x m c) (w m c) := by
  refine (dats m 0 c).arrAt_eq_of_covers 18 _ (by decide +kernel) fun t _ y => ?_
  blk_simp
  rw [after0_18]
  idx_vars y
  refine (out_at (ab m c t) (lb m c t) _ _ _ y0 y1).trans (Eq.trans ?_ ((Reference3Ideal.At.merged_at (a m c) (l m c) (s m c) (x m c) (w m c) (here t y0) y1).symm.trans (congrArg _ ?_)))
  · simp only [slabs, lses, block15, block16, block17]
  · blk_ext [idx t]

end Cert.Kernel3Ideal.Final
-- ==== Proof.Final4.lean ====
/- The output projection: the array it leaves, as the reference's result. -/
module

public import proofs.«01_k».proof.Proof.Gen.Kernel4Ideal.Frame
public import proofs.«01_k».proof.Proof.Gen.Kernel4Ideal.Value
public import proofs.«01_k».proof.Proof.Gen.Reference4Ideal.Run
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Reference4Ideal.At

open Cert.Reference4Ideal Cert.Reference4Ideal.Gen

/-- The residual plus the gated rows' product with the weights. -/
def sums (o s x : FVec Ideal S16384x1024 .f32) (w : FVec Ideal S1024x1024 .f32) : FVec Ideal S16384x1024 .f32 :=
  addf x (Host.dotGeneral dot_S16384x1024_S1024x1024_S16384x1024_1_0_0_1_n_n none (mulf o s) w)

theorem sums_at (o s x : FVec Ideal S16384x1024 .f32) (w : FVec Ideal S1024x1024 .f32) (r : Fin 16384) (e : Fin 1024) :
    sums o s x w (ix2 r e) = x (ix2 r e) + ∑ d, o (ix2 r d) * s (ix2 r d) * w (ix2 d e) := by
  pointwise [sums]

end Cert.Reference4Ideal.At

namespace Cert.Kernel4Ideal.Final

open Cert.Kernel4Ideal Cert.Kernel4Ideal.Gen

theorem body_at (o s x : FVec Ideal S256x1024 .f32) (w : FVec Ideal S1024x1024 .bf16) (r : Fin 256) (e : Fin 1024) :
    k0_pay1 (F := Ideal) o s x w (ix2 r e) = x (ix2 r e) + ∑ d, o (ix2 r d) * s (ix2 r d) * w (ix2 d e) := by
  pointwise [k0_pay1]

theorem ldr (x : FVec Ideal S256x1024 .f32) (r : Fin 256) (d : Fin 1024) : View.ld (Val := Elt Ideal) (e' := .f32) x r0_0 (ix2 r d) = x (ix2 r d) := by pointwise
theorem ldw (w : FVec Ideal S1024x1024 .bf16) (r : Fin 1024) (d : Fin 1024) : View.ld (Val := Elt Ideal) (e' := .bf16) w r0_1 (ix2 r d) = w (ix2 r d) := by pointwise

theorem out_at (o s x : FVec Ideal S256x1024 .f32) (w : FVec Ideal S1024x1024 .bf16) (r : Fin 256) (e : Fin 1024) :
    out0_4 (F := Ideal) o s x w (ix2 r e) = x (ix2 r e) + ∑ d, o (ix2 r d) * s (ix2 r d) * w (ix2 d e) := by
  unfold out0_4
  canon_tiles x h
  all_goals (idx_vars x; obtain rfl : x0 = r := Fin.ext h0.symm; obtain rfl : x1 = e := Fin.ext h1.symm)
  refine (body_at _ _ _ _ x0 x1).trans ?_
  exact congrArg₂ (· + ·) (ldr x x0 x1) (Finset.sum_congr rfl fun d _ =>
    congrArg₂ (· * ·) (congrArg₂ (· * ·) (ldr o x0 d) (ldr s x0 d)) (ldw w d x1))

variable (m : (ℓ : Loc nD τ sig) → Buf (Elt Ideal) ℓ)

/-- The arguments. -/
abbrev o (c : Dev nD) : FVec Ideal S16384x1024 .f32 := m ((c : Thread nD τ).loc main_arg0)
abbrev s (c : Dev nD) : FVec Ideal S16384x1024 .f32 := m ((c : Thread nD τ).loc main_arg1)
abbrev x (c : Dev nD) : FVec Ideal S16384x1024 .f32 := m ((c : Thread nD τ).loc main_arg2)
abbrev w (c : Dev nD) : FVec Ideal S1024x1024 .f32 := m ((c : Thread nD τ).loc main_arg3)

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ t.val < 64 :=
  (by decide +kernel : ∀ t : Fin grid0.N, _)

/-- The row of the whole array a grid point's block has at its row `r`. -/
abbrev here (t : Fin cfg0.N) (r : Fin 256) : Fin 16384 := ⟨256 * t.val + r.val, by have := idx t; omega⟩

theorem rows0 (c : Dev nD) (r : Fin 16384) (d : Fin 1024) : (V m c main_arg0 : FVec Ideal S16384x1024 .f32) (ix2 r d) = o m c (ix2 r d) := by
  entry_read
  rfl
theorem rows1 (c : Dev nD) (r : Fin 16384) (d : Fin 1024) : (V m c main_arg1 : FVec Ideal S16384x1024 .f32) (ix2 r d) = s m c (ix2 r d) := by
  entry_read
  rfl
theorem rows2 (c : Dev nD) (r : Fin 16384) (d : Fin 1024) : (V m c main_arg2 : FVec Ideal S16384x1024 .f32) (ix2 r d) = x m c (ix2 r d) := by
  entry_read
  rfl
theorem weights (c : Dev nD) (r : Fin 1024) (d : Fin 1024) : (V m c main_v0 : FVec Ideal S1024x1024 .bf16) (ix2 r d) = w m c (ix2 r d) := by
  entry_read
  pointwise

theorem block0 (c : Dev nD) (t : Fin cfg0.N) (r : Fin 256) (d : Fin 1024) : (iblk m c 0 t : FVec Ideal S256x1024 .f32) (ix2 r d) = o m c (ix2 (here t r) d) := by
  refine Eq.trans ?_ (rows0 m c (here t r) d)
  blk_ext [iblk, idx t]
theorem block1 (c : Dev nD) (t : Fin cfg0.N) (r : Fin 256) (d : Fin 1024) : (iblk m c 1 t : FVec Ideal S256x1024 .f32) (ix2 r d) = s m c (ix2 (here t r) d) := by
  refine Eq.trans ?_ (rows1 m c (here t r) d)
  blk_ext [iblk, idx t]
theorem block2 (c : Dev nD) (t : Fin cfg0.N) (r : Fin 256) (d : Fin 1024) : (iblk m c 2 t : FVec Ideal S256x1024 .f32) (ix2 r d) = x m c (ix2 (here t r) d) := by
  refine Eq.trans ?_ (rows2 m c (here t r) d)
  blk_ext [iblk, idx t]
theorem block3 (c : Dev nD) (t : Fin cfg0.N) (r : Fin 1024) (d : Fin 1024) : (iblk m c 3 t : FVec Ideal S1024x1024 .bf16) (ix2 r d) = w m c (ix2 r d) := by
  refine Eq.trans ?_ (weights m c r d)
  blk_ext [iblk, idx t]

theorem final4 (c : Dev nD) : (dats m 0 c).arrAt 4 (cfgs 0).N = Reference4Ideal.At.sums (o m c) (s m c) (x m c) (w m c) := by
  refine (dats m 0 c).arrAt_eq_of_covers 4 _ (by decide +kernel) fun t _ y => ?_
  blk_simp
  rw [after0_4]
  idx_vars y
  refine (out_at _ _ _ _ y0 y1).trans (Eq.trans ?_ ((Reference4Ideal.At.sums_at (o m c) (s m c) (x m c) (w m c) (here t y0) y1).symm.trans (congrArg _ ?_)))
  · simp only [block0, block1, block2, block3]
  · blk_ext [idx t]

end Cert.Kernel4Ideal.Final
-- ==== Proof.Heads.lean ====
/- The pieces the projections of the block-sparse and the indexed attention layers have in common: what they leave of
   one row, read from what is loaded of it. -/
module

public import proofs.«01_k».proof.Proof.Gen.Kernel5Ideal
public import proofs.«01_k».proof.Proof.Kern2

@[expose] public section

set_option maxRecDepth 16384

noncomputable section

open Idealize.ShloMosaic Idealize.ShloMosaic.TcCoe Idealize.SL.Sem

namespace Cert.Heads

open Cert.Kernel5Ideal Cert.Kernel5Ideal.Gen
open Cert.Kernel2Ideal.Block (normed turned scaled ind tile turned_at rows_at)

/-- Rows times a matrix of 1024 or 256 columns. -/
def wideProd (h : FVec Ideal S256x1024 .bf16) (w : FVec Ideal S1024x1024 .bf16) : FVec Ideal S256x1024 .f32 :=
  matmul dot_S256x1024_S1024x1024_S256x1024_1_0_0_1_n_n none h w (constant S256x1024 .f32 0x00000000#32)
def slimProd (h : FVec Ideal S256x1024 .bf16) (w : FVec Ideal S1024x256 .bf16) : FVec Ideal S256x256 .f32 :=
  matmul dot_S256x1024_S1024x256_S256x256_1_0_0_1_n_n none h w (constant S256x256 .f32 0x00000000#32)

theorem wideProd_at (h : FVec Ideal S256x1024 .bf16) (w : FVec Ideal S1024x1024 .bf16) (r : Fin 256) (l : Fin 1024) :
    wideProd h w (ix2 r l) = ∑ d, h (ix2 r d) * w (ix2 d l) := by
  pointwise [wideProd]
theorem slimProd_at (h : FVec Ideal S256x1024 .bf16) (w : FVec Ideal S1024x256 .bf16) (r : Fin 256) (l : Fin 256) :
    slimProd h w (ix2 r l) = ∑ d, h (ix2 r d) * w (ix2 d l) := by
  pointwise [slimProd]

/-- A number over one plus the exponential of its negation. -/
def quots (z : FVec Ideal S256x1024 .f32) : FVec Ideal S256x1024 .f32 :=
  divf z (addf (broadcast S256x1024 (Scalar.ofBits .f32 0x3F800000#32)) (exp (subf (broadcast S256x1024 (Scalar.ofBits .f32 0x00000000#32)) z)))

theorem quots_at (z : FVec Ideal S256x1024 .f32) (r : Fin 256) (l : Fin 1024) : quots z (ix2 r l) = Proj.quot (z (ix2 r l)) := by
  pointwise [quots, Proj.quot]

/-- The mean over the rows. -/
def means (y : FVec Ideal S256x128 .f32) : FVec Ideal S1x1x128 .f32 :=
  shapeCast S1x1x128 (mulf (shapeCast S1x128 (multiReduction .add [0] S128 y 0x00000000#32 reduces_S256x128_S128 (.inl rfl) rfl) shapeCasts_S128_S1x128)
    (broadcast S1x128 (Scalar.ofBits .f32 0x3B800000#32))) shapeCasts_S1x128_S1x1x128

theorem means_at (y : FVec Ideal S256x128 .f32) (l : Fin 128) :
    means y (ix3 0 0 l) = (∑ r : Fin 256, y (ix2 r l)) * Ideal.ofBits .f32 0x3B800000#32 := by
  pointwise [means]

/-- Two heads side by side turned, without a norm before. -/
theorem turned_heads (z cs sn : FVec Ideal S256x128 .f32) (r : Fin 256) (p : ℕ)
    (hc : ∀ l : Fin 128, cs (ix2 r l) = Ideal.cos (Proj.angle p ⟨l.val % 32, by omega⟩))
    (hs : ∀ l : Fin 128, sn (ix2 r l) = if l.val % 64 < 32 then -Ideal.sin (Proj.angle p ⟨l.val % 32, by omega⟩)
      else Ideal.sin (Proj.angle p ⟨l.val % 32, by omega⟩)) (l : Fin 128) :
    turned z cs sn (ix2 r l) = Proj.turn (fun j => z (ix2 r ⟨64 * (l.val / 64) + j.val, by omega⟩)) (Proj.angle p) ⟨l.val % 64, by omega⟩ := by
  rw [turned_at, Proj.turn_lane (fun l => z (ix2 r l)) (fun l => cs (ix2 r l)) (fun l => sn (ix2 r l)) (Proj.angle p) l (hc l) (hs l)]

/-- What the loaded pieces hold of one row `r`: the normalised row `X` at position `p`, the gains and the weights, and
    the tables of the position. -/
structure Holds {n : ℕ} (h : FVec Ideal S256x1024 .bf16) (wq : FVec Ideal S1024x1024 .bf16) (wk wv : FVec Ideal S1024x256 .bf16)
    (wg : FVec Ideal S1024x1024 .bf16) (cs sn : FVec Ideal S256x128 .f32) (gq gk : FVec Ideal S1x128 .f32) (r : Fin 256)
    (X G : Fin 1024 → EReal) (W : Fin 1024 → Fin n → EReal) (hn : 2560 ≤ n) (Q K : Fin 64 → EReal) (p : ℕ) : Prop where
  hh : ∀ d, h (ix2 r d) = Proj.unit X d * G d
  hwq : ∀ d (e : Fin 1024), wq (ix2 d e) = W d ⟨e.val, by omega⟩
  hwk : ∀ d (e : Fin 256), wk (ix2 d e) = W d ⟨1024 + e.val, by omega⟩
  hwv : ∀ d (e : Fin 256), wv (ix2 d e) = W d ⟨1280 + e.val, by omega⟩
  hwg : ∀ d (e : Fin 1024), wg (ix2 d e) = W d ⟨1536 + e.val, by omega⟩
  hc : ∀ l : Fin 128, cs (ix2 r l) = Ideal.cos (Proj.angle p ⟨l.val % 32, by omega⟩)
  hs : ∀ l : Fin 128, sn (ix2 r l) = if l.val % 64 < 32 then -Ideal.sin (Proj.angle p ⟨l.val % 32, by omega⟩)
    else Ideal.sin (Proj.angle p ⟨l.val % 32, by omega⟩)
  hq : ∀ l : Fin 128, gq (ix2 0 l) = Q ⟨l.val % 64, by omega⟩
  hk : ∀ l : Fin 128, gk (ix2 0 l) = K ⟨l.val % 64, by omega⟩
  fg : ∀ d, Proj.IsFin (G d)
  fw : ∀ d e, Proj.IsFin (W d e)

variable {n : ℕ} {h : FVec Ideal S256x1024 .bf16} {wq : FVec Ideal S1024x1024 .bf16} {wk wv : FVec Ideal S1024x256 .bf16}
  {wg : FVec Ideal S1024x1024 .bf16} {cs sn : FVec Ideal S256x128 .f32} {gq gk : FVec Ideal S1x128 .f32} {r : Fin 256}
  {X G : Fin 1024 → EReal} {W : Fin 1024 → Fin n → EReal} {hn : 2560 ≤ n} {Q K : Fin 64 → EReal} {p : ℕ}
  (H : Holds h wq wk wv wg cs sn gq gk r X G W hn Q K p)
include H

theorem Holds.q (o : ℕ) (ho : o % 64 = 0) (ho' : o + 127 < 1024) (sl : S256x1024.Slices ![0, o] S256x128) (k : Fin 128)
    (l : Fin 1024) (hl : l.val = o + k.val) :
    scaled (normed (extractStridedSlice S256x128 ![0, o] (wideProd h wq) sl) gq ind) cs sn (ix2 r k)
      = Proj.headOf X G (fun j d => W d ⟨l.val / 64 * 64 + j.val, by omega⟩) Q p ⟨l.val % 64, by omega⟩ * Ideal.ofBits .f32 0x3E000000#32 := by
  refine congrArg (· * Ideal.ofBits .f32 0x3E000000#32) ((tile _ _ _ _ r X G W Q p o (by omega) (fun k => ?_) H.hc H.hs H.hq H.fg H.fw k).trans ?_)
  · refine Eq.trans (b := wideProd h wq (ix2 r ⟨o + k.val, by omega⟩)) (by pointwise) ?_
    exact (wideProd_at _ _ r _).trans (Finset.sum_congr rfl fun d _ => congrArg₂ (· * ·) (H.hh d) (H.hwq d _))
  · have e1 : (⟨k.val % 64, by omega⟩ : Fin 64) = ⟨l.val % 64, by omega⟩ := Fin.ext (by simp only; omega)
    rw [e1]
    refine congrArg (fun f => Proj.headOf X G f Q p _) (funext fun j => funext fun d => congrArg (W d) (Fin.ext (by simp only; omega)))

theorem Holds.k (o : ℕ) (ho : o % 64 = 0) (ho' : o + 127 < 256) (sl : S256x256.Slices ![0, o] S256x128) (k : Fin 128)
    (l : Fin 256) (hl : l.val = o + k.val) :
    turned (normed (extractStridedSlice S256x128 ![0, o] (slimProd h wk) sl) gk ind) cs sn (ix2 r k)
      = Proj.headOf X G (fun j d => W d ⟨1024 + (l.val / 64 * 64 + j.val), by omega⟩) K p ⟨l.val % 64, by omega⟩ := by
  refine (tile _ _ _ _ r X G W K p (1024 + o) (by omega) (fun k => ?_) H.hc H.hs H.hk H.fg H.fw k).trans ?_
  · refine Eq.trans (b := slimProd h wk (ix2 r ⟨o + k.val, by omega⟩)) (by pointwise) ?_
    refine (slimProd_at _ _ r _).trans (Finset.sum_congr rfl fun d _ => congrArg₂ (· * ·) (H.hh d) ((H.hwk d _).trans ?_))
    exact congrArg (W d) (Fin.ext (by simp only; omega))
  · have e1 : (⟨k.val % 64, by omega⟩ : Fin 64) = ⟨l.val % 64, by omega⟩ := Fin.ext (by simp only; omega)
    rw [e1]
    refine congrArg (fun f => Proj.headOf X G f K p _) (funext fun j => funext fun d => congrArg (W d) (Fin.ext (by simp only; omega)))

theorem Holds.v (l : Fin 256) : slimProd h wv (ix2 r l) = Proj.proj X G (fun d => W d ⟨1280 + l.val, by omega⟩) :=
  (slimProd_at _ _ r l).trans (Finset.sum_congr rfl fun d _ => congrArg₂ (· * ·) (H.hh d) (H.hwv d l))

theorem Holds.g (l : Fin 1024) : quots (wideProd h wg) (ix2 r l) = Proj.silu (Proj.proj X G (fun d => W d ⟨1536 + l.val, by omega⟩)) := by
  refine (quots_at _ r l).trans ((congrArg Proj.quot ((wideProd_at _ _ r l).trans (Finset.sum_congr rfl fun d _ =>
    congrArg₂ (· * ·) (H.hh d) (H.hwg d l)))).trans ?_)
  exact Proj.quot_eq _ (Proj.proj_fin X G _ H.fg fun d => H.fw d _)

end Cert.Heads
-- ==== Proof.Kern6.lean ====
/- What a grid point of the projection of the indexed attention layer leaves of one row. -/
module

public import proofs.«01_k».proof.Proof.Gen.Kernel6Ideal.Frame
public import proofs.«01_k».proof.Proof.Heads

@[expose] public section

set_option maxRecDepth 16384

noncomputable section

open Idealize.ShloMosaic Idealize.ShloMosaic.TcCoe Idealize.SL.Sem

namespace Cert.Kernel6Ideal.Block

open Cert.Kernel6Ideal Cert.Kernel6Ideal.Gen

variable (m : (ℓ : Loc nD τ sig) → Buf (Elt Ideal) ℓ)

/-- The loaded rows, normalised, and the weights' columns. -/
abbrev hrows (c : Dev nD) (t : Fin cfg0.N) : FVec Ideal S256x1024 .bf16 := k0_pay2 (F := Ideal) (iblk m c 0 t) (iblk m c 1 t)
abbrev wq (c : Dev nD) (t : Fin cfg0.N) : FVec Ideal S1024x1024 .bf16 :=
  shapeCast S1024x1024 (View.ld (Val := Elt Ideal) (e' := .bf16) (iblk m c 2 t) (Rect.unit ![0, 0] ![1024, 1024] inb_S1024x3200_S1024x1024_0_0)) shapeCasts_S1024x1024_S1024x1024
abbrev wk (c : Dev nD) (t : Fin cfg0.N) : FVec Ideal S1024x256 .bf16 :=
  shapeCast S1024x256 (View.ld (Val := Elt Ideal) (e' := .bf16) (iblk m c 2 t) (Rect.unit ![0, 1024] ![1024, 256] inb_S1024x3200_S1024x256_0_1024)) shapeCasts_S1024x256_S1024x256
abbrev wv (c : Dev nD) (t : Fin cfg0.N) : FVec Ideal S1024x256 .bf16 :=
  shapeCast S1024x256 (View.ld (Val := Elt Ideal) (e' := .bf16) (iblk m c 2 t) (Rect.unit ![0, 1280] ![1024, 256] inb_S1024x3200_S1024x256_0_1280)) shapeCasts_S1024x256_S1024x256
abbrev wg (c : Dev nD) (t : Fin cfg0.N) : FVec Ideal S1024x1024 .bf16 :=
  shapeCast S1024x1024 (View.ld (Val := Elt Ideal) (e' := .bf16) (iblk m c 2 t) (Rect.unit ![0, 1536] ![1024, 1024] inb_S1024x3200_S1024x1024_0_1536)) shapeCasts_S1024x1024_S1024x1024
abbrev cs (c : Dev nD) (t : Fin cfg0.N) : FVec Ideal S256x128 .f32 := k0_pay3 (F := Ideal) (iblk m c 3 t)
abbrev sn (c : Dev nD) (t : Fin cfg0.N) : FVec Ideal S256x128 .f32 := k0_pay4 (F := Ideal) (iblk m c 4 t)
abbrev gq (c : Dev nD) (t : Fin cfg0.N) : FVec Ideal S1x128 .f32 := k0_pay5 (F := Ideal) (iblk m c 5 t)
abbrev gk (c : Dev nD) (t : Fin cfg0.N) : FVec Ideal S1x128 .f32 := k0_pay6 (F := Ideal) (iblk m c 6 t)

/-- The index's weights. -/
abbrev wi (c : Dev nD) (t : Fin cfg0.N) : FVec Ideal S1024x512 .bf16 :=
  shapeCast S1024x512 (View.ld (Val := Elt Ideal) (e' := .bf16) (iblk m c 2 t) (Rect.unit ![0, 2560] ![1024, 512] inb_S1024x3200_S1024x512_0_2560)) shapeCasts_S1024x512_S1024x512
abbrev wl (c : Dev nD) (t : Fin cfg0.N) : FVec Ideal S1024x128 .bf16 :=
  shapeCast S1024x128 (View.ld (Val := Elt Ideal) (e' := .bf16) (iblk m c 2 t) (Rect.unit ![0, 3072] ![1024, 128] inb_S1024x3200_S1024x128_0_3072)) shapeCasts_S1024x128_S1024x128

/-- What row `r` of the grid point's blocks holds. -/
abbrev Row (c : Dev nD) (t : Fin cfg0.N) (r : Fin 256) (X G : Fin 1024 → EReal) (W : Fin 1024 → Fin 3144 → EReal)
    (Q K : Fin 64 → EReal) (p : ℕ) : Prop :=
  Heads.Holds (hrows m c t) (wq m c t) (wk m c t) (wv m c t) (wg m c t) (cs m c t) (sn m c t) (gq m c t) (gk m c t) r X G W (by omega) Q K p

variable {m} {c : Dev nD} {t : Fin cfg0.N} {r : Fin 256} {X G : Fin 1024 → EReal} {W : Fin 1024 → Fin 3144 → EReal} {Q K : Fin 64 → EReal} {p : ℕ}

theorem wi_at (d : Fin 1024) (e : Fin 512) : wi m c t (ix2 d e) = iblk m c 2 t (ix2 d ⟨2560 + e.val, by omega⟩) := by
  pointwise
theorem wl_at (d : Fin 1024) (e : Fin 128) : wl m c t (ix2 d e) = iblk m c 2 t (ix2 d ⟨3072 + e.val, by omega⟩) := by
  pointwise
theorem wq_at (d e : Fin 1024) : wq m c t (ix2 d e) = iblk m c 2 t (ix2 d ⟨e.val, by omega⟩) := by
  pointwise
theorem wk_at (d : Fin 1024) (e : Fin 256) : wk m c t (ix2 d e) = iblk m c 2 t (ix2 d ⟨1024 + e.val, by omega⟩) := by
  pointwise
theorem wv_at (d : Fin 1024) (e : Fin 256) : wv m c t (ix2 d e) = iblk m c 2 t (ix2 d ⟨1280 + e.val, by omega⟩) := by
  pointwise
theorem wg_at (d e : Fin 1024) : wg m c t (ix2 d e) = iblk m c 2 t (ix2 d ⟨1536 + e.val, by omega⟩) := by
  pointwise

theorem tables_at (x y : FVec Ideal S256x128 .f32) (u v : FVec Ideal S1x128 .f32) : k0_pay3 (F := Ideal) x = x ∧ k0_pay4 (F := Ideal) y = y
    ∧ k0_pay5 (F := Ideal) u = u ∧ k0_pay6 (F := Ideal) v = v := by
  refine ⟨?_, ?_, ?_, ?_⟩ <;> (funext i; idx_vars i; pointwise [k0_pay3, k0_pay4, k0_pay5, k0_pay6])

theorem row_of (h0 : ∀ d, iblk m c 0 t (ix2 r d) = X d) (h1 : ∀ d, iblk m c 1 t (ix2 0 d) = G d)
    (h2 : ∀ d (e : Fin 3144), iblk m c 2 t (ix2 d ⟨e.val, by omega⟩) = W d e)
    (h3 : ∀ l : Fin 128, iblk m c 3 t (ix2 r l) = Ideal.cos (Proj.angle p ⟨l.val % 32, by omega⟩))
    (h4 : ∀ l : Fin 128, iblk m c 4 t (ix2 r l) = if l.val % 64 < 32 then -Ideal.sin (Proj.angle p ⟨l.val % 32, by omega⟩)
      else Ideal.sin (Proj.angle p ⟨l.val % 32, by omega⟩))
    (h5 : ∀ l : Fin 128, iblk m c 5 t (ix2 0 l) = Q ⟨l.val % 64, by omega⟩)
    (h6 : ∀ l : Fin 128, iblk m c 6 t (ix2 0 l) = K ⟨l.val % 64, by omega⟩)
    (fg : ∀ d, Proj.IsFin (G d)) (fw : ∀ d e, Proj.IsFin (W d e)) : Row m c t r X G W Q K p where
  hh d := by
    refine (Kernel2Ideal.Block.rows_at (iblk m c 0 t) (iblk m c 1 t) r d).trans ?_
    rw [h1]
    exact congrArg (fun f => Proj.unit f d * G d) (funext h0)
  hwq d e := (wq_at d e).trans (h2 d ⟨e.val, by omega⟩)
  hwk d e := (wk_at d e).trans (h2 d ⟨1024 + e.val, by omega⟩)
  hwv d e := (wv_at d e).trans (h2 d ⟨1280 + e.val, by omega⟩)
  hwg d e := (wg_at d e).trans (h2 d ⟨1536 + e.val, by omega⟩)
  hc l := (congrFun (tables_at (iblk m c 3 t) (iblk m c 4 t) (iblk m c 5 t) (iblk m c 6 t)).1 _).trans (h3 l)
  hs l := (congrFun (tables_at (iblk m c 3 t) (iblk m c 4 t) (iblk m c 5 t) (iblk m c 6 t)).2.1 _).trans (h4 l)
  hq l := (congrFun (tables_at (iblk m c 3 t) (iblk m c 4 t) (iblk m c 5 t) (iblk m c 6 t)).2.2.1 _).trans (h5 l)
  hk l := (congrFun (tables_at (iblk m c 3 t) (iblk m c 4 t) (iblk m c 5 t) (iblk m c 6 t)).2.2.2 _).trans (h6 l)
  fg := fg
  fw := fw

theorem out7 (H : Row m c t r X G W Q K p) (l : Fin 1024) : (outsAt0 m c t).1 (ix2 r l)
    = Proj.headOf X G (fun j d => W d ⟨l.val / 64 * 64 + j.val, by omega⟩) Q p ⟨l.val % 64, by omega⟩ * Ideal.ofBits .f32 0x3E000000#32 := by
  unfold outsAt0
  frame_out
  canon_tiles x h
  all_goals (idx_vars x; obtain rfl : x0 = r := Fin.ext h0.symm)
  case piece0 => exact H.q 896 (by omega) (by omega) slices_S256x1024_o0_896_S256x128 x1 l h1
  case piece1 => exact H.q 768 (by omega) (by omega) slices_S256x1024_o0_768_S256x128 x1 l h1
  case piece2 => exact H.q 640 (by omega) (by omega) slices_S256x1024_o0_640_S256x128 x1 l h1
  case piece3 => exact H.q 512 (by omega) (by omega) slices_S256x1024_o0_512_S256x128 x1 l h1
  case piece4 => exact H.q 384 (by omega) (by omega) slices_S256x1024_o0_384_S256x128 x1 l h1
  case piece5 => exact H.q 256 (by omega) (by omega) slices_S256x1024_o0_256_S256x128 x1 l h1
  case piece6 => exact H.q 128 (by omega) (by omega) slices_S256x1024_o0_128_S256x128 x1 l h1
  case piece7 => exact H.q 0 (by omega) (by omega) slices_S256x1024_o0_0_S256x128 x1 l (h1.trans (Nat.zero_add _).symm)

theorem out8 (H : Row m c t r X G W Q K p) (l : Fin 256) : (outsAt0 m c t).2.1 (ix2 r l)
    = Proj.headOf X G (fun j d => W d ⟨1024 + (l.val / 64 * 64 + j.val), by omega⟩) K p ⟨l.val % 64, by omega⟩ := by
  unfold outsAt0
  frame_out
  canon_tiles x h
  all_goals (idx_vars x; obtain rfl : x0 = r := Fin.ext h0.symm)
  case piece0 => exact H.k 128 (by omega) (by omega) slices_S256x256_o0_128_S256x128 x1 l h1
  case piece1 => exact H.k 0 (by omega) (by omega) slices_S256x256_o0_0_S256x128 x1 l (h1.trans (Nat.zero_add _).symm)

theorem out9 (H : Row m c t r X G W Q K p) (l : Fin 256) : (outsAt0 m c t).2.2.1 (ix2 r l)
    = Proj.proj X G (fun d => W d ⟨1280 + l.val, by omega⟩) := by
  unfold outsAt0
  frame_out
  exact H.v l

theorem out12 (H : Row m c t r X G W Q K p) (l : Fin 1024) : (outsAt0 m c t).2.2.2.2.2.1 (ix2 r l)
    = Proj.silu (Proj.proj X G (fun d => W d ⟨1536 + l.val, by omega⟩)) := by
  unfold outsAt0
  frame_out
  exact H.g l

/-- Rows times the index's columns. -/
def idxProd (h : FVec Ideal S256x1024 .bf16) (w : FVec Ideal S1024x512 .bf16) : FVec Ideal S256x512 .f32 :=
  matmul dot_S256x1024_S1024x512_S256x512_1_0_0_1_n_n none h w (constant S256x512 .f32 0x00000000#32)
def lastProd (h : FVec Ideal S256x1024 .bf16) (w : FVec Ideal S1024x128 .bf16) : FVec Ideal S256x128 .f32 :=
  matmul dot_S256x1024_S1024x128_S256x128_1_0_0_1_n_n none h w (constant S256x128 .f32 0x00000000#32)

theorem idxProd_at (h : FVec Ideal S256x1024 .bf16) (w : FVec Ideal S1024x512 .bf16) (r : Fin 256) (l : Fin 512) :
    idxProd h w (ix2 r l) = ∑ d, h (ix2 r d) * w (ix2 d l) := by
  pointwise [idxProd]
theorem lastProd_at (h : FVec Ideal S256x1024 .bf16) (w : FVec Ideal S1024x128 .bf16) (r : Fin 256) (l : Fin 128) :
    lastProd h w (ix2 r l) = ∑ d, h (ix2 r d) * w (ix2 d l) := by
  pointwise [lastProd]

variable (hw : ∀ d (e : Fin 3144), iblk m c 2 t (ix2 d ⟨e.val, by omega⟩) = W d e)
include hw

theorem index (H : Row m c t r X G W Q K p) (o : ℕ) (ho : o % 64 = 0) (ho' : o + 127 < 512) (sl : S256x512.Slices ![0, o] S256x128)
    (k : Fin 128) (l : Fin 512) (hl : l.val = o + k.val) :
    Kernel2Ideal.Block.turned (extractStridedSlice S256x128 ![0, o] (idxProd (hrows m c t) (wi m c t)) sl) (cs m c t) (sn m c t) (ix2 r k)
      = Proj.turn (fun j => Proj.proj X G fun d => W d ⟨2560 + (l.val / 64 * 64 + j.val), by omega⟩) (Proj.angle p) ⟨l.val % 64, by omega⟩ := by
  refine (Heads.turned_heads _ _ _ r p H.hc H.hs k).trans ?_
  have e1 : (⟨k.val % 64, by omega⟩ : Fin 64) = ⟨l.val % 64, by omega⟩ := Fin.ext (by simp only; omega)
  rw [e1]
  refine congrArg (fun f => Proj.turn f (Proj.angle p) ⟨l.val % 64, by omega⟩) (funext fun j => ?_)
  refine Eq.trans (b := idxProd (hrows m c t) (wi m c t) (ix2 r ⟨o + (64 * (k.val / 64) + j.val), by omega⟩)) (by pointwise) ?_
  refine (idxProd_at _ _ r _).trans (Finset.sum_congr rfl fun d _ => congrArg₂ (· * ·) (H.hh d) ((wi_at d _).trans ?_))
  exact (hw d ⟨2560 + (o + (64 * (k.val / 64) + j.val)), by omega⟩).trans (congrArg (W d) (Fin.ext (by simp only; omega)))

theorem last (H : Row m c t r X G W Q K p) (l : Fin 72) : lastProd (hrows m c t) (wl m c t) (ix2 r ⟨l.val, by omega⟩)
    = Proj.proj X G fun d => W d ⟨3072 + l.val, by omega⟩ :=
  (lastProd_at _ _ r _).trans (Finset.sum_congr rfl fun d _ => congrArg₂ (· * ·) (H.hh d) ((wl_at d _).trans (hw d ⟨3072 + l.val, by omega⟩)))

theorem out13 (H : Row m c t r X G W Q K p) (l : Fin 512) : (outsAt0 m c t).2.2.2.2.2.2.1 (ix2 r l)
    = Proj.turn (fun j => Proj.proj X G fun d => W d ⟨2560 + (l.val / 64 * 64 + j.val), by omega⟩) (Proj.angle p) ⟨l.val % 64, by omega⟩ := by
  unfold outsAt0
  frame_out
  canon_tiles x h
  all_goals (idx_vars x; obtain rfl : x0 = r := Fin.ext h0.symm)
  case piece0 => exact index hw H 384 (by omega) (by omega) slices_S256x512_o0_384_S256x128 x1 l h1
  case piece1 => exact index hw H 256 (by omega) (by omega) slices_S256x512_o0_256_S256x128 x1 l h1
  case piece2 => exact index hw H 128 (by omega) (by omega) slices_S256x512_o0_128_S256x128 x1 l h1
  case piece3 => exact index hw H 0 (by omega) (by omega) slices_S256x512_o0_0_S256x128 x1 l (h1.trans (Nat.zero_add _).symm)

omit hw in
/-- The lanes below 64 of the last piece are turned, the others are not. -/
theorem lanes (y z : FVec Ideal S256x128 .f32) (r : Fin 256) (l : Fin 128) :
    (select (cmpi .slt (iota .tc S256x128 32 [1] iota_S256x128_d1_w32) (broadcast S256x128 64#32)) y z : FVec Ideal S256x128 .f32) (ix2 r l)
      = if l.val < 64 then y (ix2 r l) else z (ix2 r l) := by
  pointwise
  have h : ∀ l : Fin 128, IntOp.cmpi .slt (BitVec.ofNat 32 l.val) 64#32 = if l.val < 64 then 1#1 else 0#1 := by decide
  rw [h]
  split <;> rfl

omit hw in
theorem out14_eq (l : Fin 128) : (outsAt0 m c t).2.2.2.2.2.2.2.1 (ix2 r l)
    = if l.val < 64 then Kernel2Ideal.Block.turned (lastProd (hrows m c t) (wl m c t)) (cs m c t) (sn m c t) (ix2 r l)
      else lastProd (hrows m c t) (wl m c t) (ix2 r l) := by
  unfold outsAt0
  frame_out
  exact lanes (Kernel2Ideal.Block.turned (lastProd (hrows m c t) (wl m c t)) (cs m c t) (sn m c t)) (lastProd (hrows m c t) (wl m c t)) r l

theorem out14_key (H : Row m c t r X G W Q K p) (l : Fin 64) : (outsAt0 m c t).2.2.2.2.2.2.2.1 (ix2 r ⟨l.val, by omega⟩)
    = Proj.turn (fun j => Proj.proj X G fun d => W d ⟨3072 + j.val, by omega⟩) (Proj.angle p) l := by
  refine (out14_eq _).trans ((if_pos l.isLt).trans ((Heads.turned_heads _ _ _ r p H.hc H.hs _).trans ?_))
  have e1 : (⟨l.val % 64, by omega⟩ : Fin 64) = l := Fin.ext (by simp only; omega)
  refine (congrArg (Proj.turn _ (Proj.angle p)) e1).trans ?_
  refine congrArg (fun f => Proj.turn f (Proj.angle p) l) (funext fun j => Eq.trans (congrArg _ ?_) (last hw H ⟨j.val, by omega⟩))
  exact congrArg (ix2 r) (Fin.ext (by simp only; omega))

theorem out14_weight (H : Row m c t r X G W Q K p) (l : Fin 8) : (outsAt0 m c t).2.2.2.2.2.2.2.1 (ix2 r ⟨64 + l.val, by omega⟩)
    = Proj.proj X G fun d => W d ⟨3136 + l.val, by omega⟩ := by
  refine (out14_eq _).trans ((if_neg (by simp only; omega)).trans ((last hw H ⟨64 + l.val, by omega⟩).trans ?_))
  exact congrArg (Proj.proj X G) (funext fun d => congrArg (W d) (Fin.ext (by simp only; omega)))

end Cert.Kernel6Ideal.Block
-- ==== Proof.Refv5.lean ====
/- The reference of the projection of the block-sparse attention layer, cut into named pieces, and each piece read at one
   element. -/
module

public import proofs.«01_k».proof.Proof.Gen.Reference5Ideal.Run
public import Idealize.ShloMosaic.Lib.Pipeline.ValueKit
public import proofs.«01_k».proof.Proof.Proj

@[expose] public section

set_option maxRecDepth 16384

noncomputable section

open Idealize.ShloMosaic Idealize.ShloMosaic.TcCoe Idealize.SL.Sem

namespace Cert.Reference5Ideal.At

open Cert.Reference5Ideal Cert.Reference5Ideal.Gen Cert.Reference5Ideal.Value

variable (m : (ℓ : Loc nD τ sig) → Buf (Elt Ideal) ℓ)

/-- The projected rows. -/
def cols (x : FVec Ideal S2x8192x1024 .f32) (g : FVec Ideal S1024 .f32) (w : FVec Ideal S1024x2560 .f32) : FVec Ideal
    S2x8192x2560 .f32 :=
    Host.dotGeneral dot_S2x8192x1024_S1024x2560_S2x8192x2560_2_0_01_1_n_n none (mulf (mulf x (broadcastInDim
    S2x8192x1024 ![0, 1, 2] bcast_S2x8192x1_S2x8192x1024_0_1_2 (Host.rsqrt (addf (Host.divf (broadcastInDim
    S2x8192x1 ![0, 1] bcast_S2x8192_S2x8192x1_0_1 (Host.reduceAdd (mulf x x) (constant S_ .f32 0x00000000#32)
    reducesTo_S2x8192x1024_S2x8192_d2 h_S_)) (broadcastInDim S2x8192x1 ![] bcast_S_S2x8192x1 (constant S_ .f32
    0x44800000#32))) (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2]
    bcast_S1024_S1x1x1024_2 g))) w

theorem cols_at (x : FVec Ideal S2x8192x1024 .f32) (g : FVec Ideal S1024 .f32) (w : FVec Ideal S1024x2560 .f32)
    (b : Fin 2) (t : Fin 8192) (e : Fin 2560) :
    cols x g w (ix3 b t e) = Proj.proj (fun d => x (ix3 b t d)) (fun d => g (ix1 d)) (fun d => w (ix2 d e)) := by
  pointwise [cols, Proj.proj, Proj.unit]

/-- The columns of the queries, the keys, the values and the gate. -/
abbrev qof (z : FVec Ideal S2x8192x2560 .f32) : FVec Ideal S2x8192x1024 .f32 :=
  extractStridedSlice S2x8192x1024 ![0, 0, 0] z slices_S2x8192x2560_S2x8192x1024_0_0_0
abbrev kof (z : FVec Ideal S2x8192x2560 .f32) : FVec Ideal S2x8192x256 .f32 :=
  extractStridedSlice S2x8192x256 ![0, 0, 1024] z slices_S2x8192x2560_S2x8192x256_0_0_1024
abbrev vof (z : FVec Ideal S2x8192x2560 .f32) : FVec Ideal S2x8192x256 .f32 :=
  extractStridedSlice S2x8192x256 ![0, 0, 1280] z slices_S2x8192x2560_S2x8192x256_0_0_1280
abbrev gof (z : FVec Ideal S2x8192x2560 .f32) : FVec Ideal S2x8192x1024 .f32 :=
  extractStridedSlice S2x8192x1024 ![0, 0, 1536] z slices_S2x8192x2560_S2x8192x1024_0_0_1536

/-- The angles. -/
def angles : FVec Ideal S8192x32 .f32 :=
    mulf (broadcastInDim S8192x32 ![0, 1] bcast_S8192x1_S8192x32_0_1 (broadcastInDim S8192x1 ![0]
    bcast_S8192_S8192x1_0 (sitofp .f32 (iotaInDim S8192 32 0)))) (broadcastInDim S8192x32 ![0, 1]
    bcast_S1x32_S8192x32_0_1 (broadcastInDim S1x32 ![1] bcast_S32_S1x32_1 (Host.powf (broadcastInDim S32 ![]
    bcast_S_S32 (constant S_ .f32 0x461C4000#32)) (Host.divf (Host.negf (sitofp .f32 (iotaInDim S32 32 0)))
    (broadcastInDim S32 ![] bcast_S_S32 (constant S_ .f32 0x42000000#32))))))

theorem angles_at (t : Fin 8192) (i : Fin 32) : angles (ix2 t i) = Proj.angle t.val i := by
  pointwise [angles, Proj.angle]

/-- The heads of the queries. -/
def qheads (z : FVec Ideal S2x8192x1024 .f32) : FVec Ideal S2x8192x16x64 .f32 :=
    shapeCast _ z shapeCasts_S2x8192x1024_S2x8192x16x64

theorem qheads_at (z : FVec Ideal S2x8192x1024 .f32) (b : Fin 2) (t : Fin 8192) (n : Fin 16) (j : Fin 64) :
    qheads z (ix4 b t n j) = z (ix3 b t ⟨n.val * 64 + j.val, by omega⟩) := by
  pointwise [qheads]

/-- The heads of the queries turned. -/
def qturn (y : FVec Ideal S2x8192x16x64 .f32) : FVec Ideal S2x8192x16x64 .f32 :=
    concatenate S2x8192x16x64 3 [⟨S2x8192x16x32, (subf (mulf (extractStridedSlice S2x8192x16x32 ![0, 0, 0, 0] y
    slices_S2x8192x16x64_S2x8192x16x32_0_0_0_0) (broadcastInDim S2x8192x16x32 ![0, 1, 2, 3]
    bcast_S1x8192x1x32_S2x8192x16x32_0_1_2_3 (shapeCast _ (Host.cos angles) shapeCasts_S8192x32_S1x8192x1x32)))
    (mulf (extractStridedSlice S2x8192x16x32 ![0, 0, 0, 32] y slices_S2x8192x16x64_S2x8192x16x32_0_0_0_32)
    (broadcastInDim S2x8192x16x32 ![0, 1, 2, 3] bcast_S1x8192x1x32_S2x8192x16x32_0_1_2_3 (shapeCast _ (Host.sin
    angles) shapeCasts_S8192x32_S1x8192x1x32))))⟩, ⟨S2x8192x16x32, (addf (mulf (extractStridedSlice S2x8192x16x32
    ![0, 0, 0, 32] y slices_S2x8192x16x64_S2x8192x16x32_0_0_0_32) (broadcastInDim S2x8192x16x32 ![0, 1, 2, 3]
    bcast_S1x8192x1x32_S2x8192x16x32_0_1_2_3 (shapeCast _ (Host.cos angles) shapeCasts_S8192x32_S1x8192x1x32)))
    (mulf (extractStridedSlice S2x8192x16x32 ![0, 0, 0, 0] y slices_S2x8192x16x64_S2x8192x16x32_0_0_0_0)
    (broadcastInDim S2x8192x16x32 ![0, 1, 2, 3] bcast_S1x8192x1x32_S2x8192x16x32_0_1_2_3 (shapeCast _ (Host.sin
    angles) shapeCasts_S8192x32_S1x8192x1x32))))⟩] concatenates_S2x8192x16x32_S2x8192x16x32_S2x8192x16x64_d3

theorem qturn_at (y : FVec Ideal S2x8192x16x64 .f32) (b : Fin 2) (t : Fin 8192) (n : Fin 16) (j : Fin 64) :
    qturn y (ix4 b t n j) = Proj.turn (fun j => y (ix4 b t n j)) (Proj.angle t.val) j := by
  pointwise [qturn, Proj.turn, angles_at]

/-- The heads of the queries normalised. -/
def qnorm (y : FVec Ideal S2x8192x16x64 .f32) (gain : FVec Ideal S64 .f32) : FVec Ideal S2x8192x16x64 .f32 :=
    mulf (mulf y (broadcastInDim S2x8192x16x64 ![0, 1, 2, 3] bcast_S2x8192x16x1_S2x8192x16x64_0_1_2_3 (Host.rsqrt
    (addf (Host.divf (broadcastInDim S2x8192x16x1 ![0, 1, 2] bcast_S2x8192x16_S2x8192x16x1_0_1_2 (Host.reduceAdd
    (mulf y y) (constant S_ .f32 0x00000000#32) reducesTo_S2x8192x16x64_S2x8192x16_d3 h_S_)) (broadcastInDim
    S2x8192x16x1 ![] bcast_S_S2x8192x16x1 (constant S_ .f32 0x42800000#32))) (broadcastInDim S2x8192x16x1 ![]
    bcast_S_S2x8192x16x1 (constant S_ .f32 0x358637BD#32)))))) (broadcastInDim S2x8192x16x64 ![0, 1, 2, 3]
    bcast_S1x1x1x64_S2x8192x16x64_0_1_2_3 (broadcastInDim S1x1x1x64 ![3] bcast_S64_S1x1x1x64_3 gain))

theorem qnorm_at (y : FVec Ideal S2x8192x16x64 .f32) (gain : FVec Ideal S64 .f32) (b : Fin 2) (t : Fin 8192) (n : Fin 16)
    (j : Fin 64) :
    qnorm y gain (ix4 b t n j) = Proj.norm (fun j => y (ix4 b t n j)) (fun j => gain (ix1 j)) j := by
  pointwise [qnorm, Proj.norm]

/-- The heads of the queries as rows, scaled. -/
def qrows (y : FVec Ideal S2x8192x16x64 .f32) : FVec Ideal S16384x1024 .f32 :=
    shapeCast _ (mulf y (broadcastInDim S2x8192x16x64 ![] bcast_S_S2x8192x16x64 (constant S_ .f32 0x3E000000#32))) shapeCasts_S2x8192x16x64_S16384x1024

theorem qrows_at (y : FVec Ideal S2x8192x16x64 .f32) (r : Fin 16384) (l : Fin 1024) :
    qrows y (ix2 r l) = y (ix4 ⟨r.val / 8192, by omega⟩ ⟨r.val % 8192, by omega⟩ ⟨l.val / 64, by omega⟩
      ⟨l.val % 64, by omega⟩) * Ideal.ofBits .f32 0x3E000000#32 := by
  pointwise [qrows]

/-- The heads of the keys. -/
def kheads (z : FVec Ideal S2x8192x256 .f32) : FVec Ideal S2x8192x4x64 .f32 :=
    shapeCast _ z shapeCasts_S2x8192x256_S2x8192x4x64

theorem kheads_at (z : FVec Ideal S2x8192x256 .f32) (b : Fin 2) (t : Fin 8192) (n : Fin 4) (j : Fin 64) :
    kheads z (ix4 b t n j) = z (ix3 b t ⟨n.val * 64 + j.val, by omega⟩) := by
  pointwise [kheads]

/-- The heads of the keys turned. -/
def kturn (y : FVec Ideal S2x8192x4x64 .f32) : FVec Ideal S2x8192x4x64 .f32 :=
    concatenate S2x8192x4x64 3 [⟨S2x8192x4x32, (subf (mulf (extractStridedSlice S2x8192x4x32 ![0, 0, 0, 0] y
    slices_S2x8192x4x64_S2x8192x4x32_0_0_0_0) (broadcastInDim S2x8192x4x32 ![0, 1, 2, 3]
    bcast_S1x8192x1x32_S2x8192x4x32_0_1_2_3 (shapeCast _ (Host.cos angles) shapeCasts_S8192x32_S1x8192x1x32))) (mulf
    (extractStridedSlice S2x8192x4x32 ![0, 0, 0, 32] y slices_S2x8192x4x64_S2x8192x4x32_0_0_0_32) (broadcastInDim
    S2x8192x4x32 ![0, 1, 2, 3] bcast_S1x8192x1x32_S2x8192x4x32_0_1_2_3 (shapeCast _ (Host.sin angles)
    shapeCasts_S8192x32_S1x8192x1x32))))⟩, ⟨S2x8192x4x32, (addf (mulf (extractStridedSlice S2x8192x4x32 ![0, 0, 0,
    32] y slices_S2x8192x4x64_S2x8192x4x32_0_0_0_32) (broadcastInDim S2x8192x4x32 ![0, 1, 2, 3]
    bcast_S1x8192x1x32_S2x8192x4x32_0_1_2_3 (shapeCast _ (Host.cos angles) shapeCasts_S8192x32_S1x8192x1x32))) (mulf
    (extractStridedSlice S2x8192x4x32 ![0, 0, 0, 0] y slices_S2x8192x4x64_S2x8192x4x32_0_0_0_0) (broadcastInDim
    S2x8192x4x32 ![0, 1, 2, 3] bcast_S1x8192x1x32_S2x8192x4x32_0_1_2_3 (shapeCast _ (Host.sin angles)
    shapeCasts_S8192x32_S1x8192x1x32))))⟩] concatenates_S2x8192x4x32_S2x8192x4x32_S2x8192x4x64_d3

theorem kturn_at (y : FVec Ideal S2x8192x4x64 .f32) (b : Fin 2) (t : Fin 8192) (n : Fin 4) (j : Fin 64) :
    kturn y (ix4 b t n j) = Proj.turn (fun j => y (ix4 b t n j)) (Proj.angle t.val) j := by
  pointwise [kturn, Proj.turn, angles_at]

/-- The heads of the keys normalised. -/
def knorm (y : FVec Ideal S2x8192x4x64 .f32) (gain : FVec Ideal S64 .f32) : FVec Ideal S2x8192x4x64 .f32 :=
    mulf (mulf y (broadcastInDim S2x8192x4x64 ![0, 1, 2, 3] bcast_S2x8192x4x1_S2x8192x4x64_0_1_2_3 (Host.rsqrt (addf
    (Host.divf (broadcastInDim S2x8192x4x1 ![0, 1, 2] bcast_S2x8192x4_S2x8192x4x1_0_1_2 (Host.reduceAdd (mulf y y)
    (constant S_ .f32 0x00000000#32) reducesTo_S2x8192x4x64_S2x8192x4_d3 h_S_)) (broadcastInDim S2x8192x4x1 ![]
    bcast_S_S2x8192x4x1 (constant S_ .f32 0x42800000#32))) (broadcastInDim S2x8192x4x1 ![] bcast_S_S2x8192x4x1
    (constant S_ .f32 0x358637BD#32)))))) (broadcastInDim S2x8192x4x64 ![0, 1, 2, 3]
    bcast_S1x1x1x64_S2x8192x4x64_0_1_2_3 (broadcastInDim S1x1x1x64 ![3] bcast_S64_S1x1x1x64_3 gain))

theorem knorm_at (y : FVec Ideal S2x8192x4x64 .f32) (gain : FVec Ideal S64 .f32) (b : Fin 2) (t : Fin 8192) (n : Fin 4)
    (j : Fin 64) :
    knorm y gain (ix4 b t n j) = Proj.norm (fun j => y (ix4 b t n j)) (fun j => gain (ix1 j)) j := by
  pointwise [knorm, Proj.norm]

/-- The heads of the keys as rows. -/
def krows (y : FVec Ideal S2x8192x4x64 .f32) : FVec Ideal S16384x256 .f32 :=
    shapeCast _ y shapeCasts_S2x8192x4x64_S16384x256

theorem krows_at (y : FVec Ideal S2x8192x4x64 .f32) (r : Fin 16384) (l : Fin 256) :
    krows y (ix2 r l) = y (ix4 ⟨r.val / 8192, by omega⟩ ⟨r.val % 8192, by omega⟩ ⟨l.val / 64, by omega⟩
      ⟨l.val % 64, by omega⟩) := by
  pointwise [krows]

/-- The values as rows. -/
def vrows (v : FVec Ideal S2x8192x256 .f32) : FVec Ideal S16384x256 .f32 :=
    shapeCast _ v shapeCasts_S2x8192x256_S16384x256

theorem vrows_at (v : FVec Ideal S2x8192x256 .f32) (r : Fin 16384) (l : Fin 256) :
    vrows v (ix2 r l) = v (ix3 ⟨r.val / 8192, by omega⟩ ⟨r.val % 8192, by omega⟩ l) := by
  pointwise [vrows]

/-- The gate as rows. -/
def gates (z : FVec Ideal S2x8192x1024 .f32) : FVec Ideal S16384x1024 .f32 :=
    shapeCast _ (mulf z (Host.divf (broadcastInDim S2x8192x1024 ![] bcast_S_S2x8192x1024 (constant S_ .f32 0x3F800000#32))
    (addf (broadcastInDim S2x8192x1024 ![] bcast_S_S2x8192x1024 (constant S_ .f32 0x3F800000#32)) (Host.exp (Host.negf
    z))))) shapeCasts_S2x8192x1024_S16384x1024

theorem gates_at (z : FVec Ideal S2x8192x1024 .f32) (r : Fin 16384) (l : Fin 1024) :
    gates z (ix2 r l) = Proj.silu (z (ix3 ⟨r.val / 8192, by omega⟩ ⟨r.val % 8192, by omega⟩ l)) := by
  pointwise [gates, Proj.silu]

/-- The keys' means over the blocks of 256 positions. -/
def kmean (y : FVec Ideal S2x8192x4x64 .f32) : FVec Ideal S64x1x256 .f32 :=
    shapeCast _ (Host.divf (Host.reduceAdd (shapeCast _ y shapeCasts_S2x8192x4x64_S2x32x256x256) (constant S_ .f32
    0x00000000#32) reducesTo_S2x32x256x256_S2x32x256_d2 h_S_) (broadcastInDim S2x32x256 ![] bcast_S_S2x32x256 (constant S_
    .f32 0x43800000#32))) shapeCasts_S2x32x256_S64x1x256

theorem kmean_at (y : FVec Ideal S2x8192x4x64 .f32) (s : Fin 64) (l : Fin 256) :
    kmean y (ix3 s 0 l) = Ideal.div (∑ k : Fin 256, krows y (ix2 ⟨256 * s.val + k.val, by omega⟩ l)) (Ideal.ofBits .f32 0x43800000#32) := by
  simp only [krows_at]
  pointwise [kmean]
  refine congrArg (fun a => Ideal.div a _) (Finset.sum_congr rfl fun k _ => ?_)
  blk_ext

theorem queries_at (z : FVec Ideal S2x8192x1024 .f32) (gain : FVec Ideal S64 .f32) (r : Fin 16384) (l : Fin 1024) :
    qrows (qturn (qnorm (qheads z) gain)) (ix2 r l) = Proj.turn (Proj.norm (fun j => z (ix3 ⟨r.val / 8192, by omega⟩ ⟨r.val % 8192, by omega⟩
      ⟨l.val / 64 * 64 + j.val, by omega⟩)) fun j => gain (ix1 j))
      (Proj.angle (r.val % 8192)) ⟨l.val % 64, by omega⟩ * Ideal.ofBits .f32 0x3E000000#32 := by
  rw [qrows_at, qturn_at]
  simp only [qnorm_at, qheads_at]

theorem keys_at (z : FVec Ideal S2x8192x256 .f32) (gain : FVec Ideal S64 .f32) (r : Fin 16384) (l : Fin 256) :
    krows (kturn (knorm (kheads z) gain)) (ix2 r l) = Proj.turn (Proj.norm (fun j => z (ix3 ⟨r.val / 8192, by omega⟩ ⟨r.val % 8192, by omega⟩
      ⟨l.val / 64 * 64 + j.val, by omega⟩)) fun j => gain (ix1 j))
      (Proj.angle (r.val % 8192)) ⟨l.val % 64, by omega⟩ := by
  rw [krows_at, kturn_at]
  simp only [knorm_at, kheads_at]

/-- The arguments. -/
abbrev x (c : Dev nD) : FVec Ideal S2x8192x1024 .f32 := m ((c.tc : Thread nD τ).loc main_arg0)
abbrev g (c : Dev nD) : FVec Ideal S1024 .f32 := m ((c.tc : Thread nD τ).loc main_arg1)
abbrev w (c : Dev nD) : FVec Ideal S1024x2560 .f32 := m ((c.tc : Thread nD τ).loc main_arg2)
abbrev qg (c : Dev nD) : FVec Ideal S64 .f32 := m ((c.tc : Thread nD τ).loc main_arg3)
abbrev kg (c : Dev nD) : FVec Ideal S64 .f32 := m ((c.tc : Thread nD τ).loc main_arg4)

theorem out0 (c : Dev nD) : res_out0 m c = qrows (qturn (qnorm (qheads (qof (cols (x m c) (g m c) (w m c)))) (qg m c))) := by
  unfold res_out0 res_main_v107; rfl
theorem out1 (c : Dev nD) : res_out1 m c = krows (kturn (knorm (kheads (kof (cols (x m c) (g m c) (w m c)))) (kg m c))) := by
  unfold res_out1 res_main_v108; rfl
theorem out4 (c : Dev nD) : res_out4 m c = kmean (kturn (knorm (kheads (kof (cols (x m c) (g m c) (w m c)))) (kg m c))) := by
  unfold res_out4 res_main_v116; rfl

/-- The run of the reference, its results in the names above. -/
theorem run (ρ : Dev nD → PrngReg) : θ_run defs (onTc (τ := τ) (main (F := Ideal))) ⟨m, fun _ => 0, ρ⟩ fun r => ∀ c : Dev nD,
      r.2.mem ((c.tc : Thread nD τ).loc main_v107) = qrows (qturn (qnorm (qheads (qof (cols (x m c) (g m c) (w m c)))) (qg m c)))
      ∧ r.2.mem ((c.tc : Thread nD τ).loc main_v108) = krows (kturn (knorm (kheads (kof (cols (x m c) (g m c) (w m c)))) (kg m c)))
      ∧ r.2.mem ((c.tc : Thread nD τ).loc main_v109) = vrows (vof (cols (x m c) (g m c) (w m c)))
      ∧ r.2.mem ((c.tc : Thread nD τ).loc main_v111) = gates (gof (cols (x m c) (g m c) (w m c)))
      ∧ r.2.mem ((c.tc : Thread nD τ).loc main_v116) = kmean (kturn (knorm (kheads (kof (cols (x m c) (g m c) (w m c)))) (kg m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun r h c => by
    obtain ⟨h0, h1, h2, h3, h4, ha⟩ := h c
    exact ⟨h0.trans (out0 m c), h1.trans (out1 m c), h2, h3, h4.trans (out4 m c), ha⟩) (Value.run m ρ)

end Cert.Reference5Ideal.At
-- ==== Proof.Refv6.lean ====
/- The reference of the projection of the indexed attention layer, cut into named pieces, and each piece read at one
   element. -/
module

public import proofs.«01_k».proof.Proof.Gen.Reference6Ideal.Run
public import proofs.«01_k».proof.Proof.Refv5
public import Idealize.ShloMosaic.Lib.Pipeline.ValueKit
public import proofs.«01_k».proof.Proof.Proj

@[expose] public section

set_option maxRecDepth 16384

noncomputable section

open Idealize.ShloMosaic Idealize.ShloMosaic.TcCoe Idealize.SL.Sem

namespace Cert.Reference6Ideal.At

open Cert.Reference6Ideal Cert.Reference6Ideal.Gen Cert.Reference6Ideal.Value

variable (m : (ℓ : Loc nD τ sig) → Buf (Elt Ideal) ℓ)

/-- The projected rows. -/
def cols (x : FVec Ideal S2x8192x1024 .f32) (g : FVec Ideal S1024 .f32) (w : FVec Ideal S1024x3144 .f32) : FVec Ideal
    S2x8192x3144 .f32 :=
    Host.dotGeneral dot_S2x8192x1024_S1024x3144_S2x8192x3144_2_0_01_1_n_n none (mulf (mulf x (broadcastInDim
    S2x8192x1024 ![0, 1, 2] bcast_S2x8192x1_S2x8192x1024_0_1_2 (Host.rsqrt (addf (Host.divf (broadcastInDim
    S2x8192x1 ![0, 1] bcast_S2x8192_S2x8192x1_0_1 (Host.reduceAdd (mulf x x) (constant S_ .f32 0x00000000#32)
    reducesTo_S2x8192x1024_S2x8192_d2 h_S_)) (broadcastInDim S2x8192x1 ![] bcast_S_S2x8192x1 (constant S_ .f32
    0x44800000#32))) (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2]
    bcast_S1024_S1x1x1024_2 g))) w

theorem cols_at (x : FVec Ideal S2x8192x1024 .f32) (g : FVec Ideal S1024 .f32) (w : FVec Ideal S1024x3144 .f32)
    (b : Fin 2) (t : Fin 8192) (e : Fin 3144) :
    cols x g w (ix3 b t e) = Proj.proj (fun d => x (ix3 b t d)) (fun d => g (ix1 d)) (fun d => w (ix2 d e)) := by
  pointwise [cols, Proj.proj, Proj.unit]

/-- The columns of the queries, the keys, the values and the gate. -/
abbrev qof (z : FVec Ideal S2x8192x3144 .f32) : FVec Ideal S2x8192x1024 .f32 :=
  extractStridedSlice S2x8192x1024 ![0, 0, 0] z slices_S2x8192x3144_S2x8192x1024_0_0_0
abbrev kof (z : FVec Ideal S2x8192x3144 .f32) : FVec Ideal S2x8192x256 .f32 :=
  extractStridedSlice S2x8192x256 ![0, 0, 1024] z slices_S2x8192x3144_S2x8192x256_0_0_1024
abbrev vof (z : FVec Ideal S2x8192x3144 .f32) : FVec Ideal S2x8192x256 .f32 :=
  extractStridedSlice S2x8192x256 ![0, 0, 1280] z slices_S2x8192x3144_S2x8192x256_0_0_1280
abbrev gof (z : FVec Ideal S2x8192x3144 .f32) : FVec Ideal S2x8192x1024 .f32 :=
  extractStridedSlice S2x8192x1024 ![0, 0, 1536] z slices_S2x8192x3144_S2x8192x1024_0_0_1536

/-- The columns of the index. -/
abbrev iof (z : FVec Ideal S2x8192x3144 .f32) : FVec Ideal S2x8192x584 .f32 :=
  extractStridedSlice S2x8192x584 ![0, 0, 2560] z slices_S2x8192x3144_S2x8192x584_0_0_2560
abbrev iqof (z : FVec Ideal S2x8192x584 .f32) : FVec Ideal S2x8192x512 .f32 :=
  extractStridedSlice S2x8192x512 ![0, 0, 0] z slices_S2x8192x584_S2x8192x512_0_0_0

/-- The heads of the index queries. -/
def iheads (z : FVec Ideal S2x8192x512 .f32) : FVec Ideal S2x8192x8x64 .f32 :=
    shapeCast _ z shapeCasts_S2x8192x512_S2x8192x8x64

theorem iheads_at (z : FVec Ideal S2x8192x512 .f32) (b : Fin 2) (t : Fin 8192) (n : Fin 8) (j : Fin 64) :
    iheads z (ix4 b t n j) = z (ix3 b t ⟨n.val * 64 + j.val, by omega⟩) := by
  pointwise [iheads]

/-- The heads of the index queries turned. -/
def iturn (y : FVec Ideal S2x8192x8x64 .f32) : FVec Ideal S2x8192x8x64 .f32 :=
    concatenate S2x8192x8x64 3 [⟨S2x8192x8x32, (subf (mulf (extractStridedSlice S2x8192x8x32 ![0, 0, 0, 0] y
    slices_S2x8192x8x64_S2x8192x8x32_0_0_0_0) (broadcastInDim S2x8192x8x32 ![0, 1, 2, 3]
    bcast_S1x8192x1x32_S2x8192x8x32_0_1_2_3 (shapeCast _ (Host.cos Reference5Ideal.At.angles) shapeCasts_S8192x32_S1x8192x1x32))) (mulf
    (extractStridedSlice S2x8192x8x32 ![0, 0, 0, 32] y slices_S2x8192x8x64_S2x8192x8x32_0_0_0_32) (broadcastInDim
    S2x8192x8x32 ![0, 1, 2, 3] bcast_S1x8192x1x32_S2x8192x8x32_0_1_2_3 (shapeCast _ (Host.sin Reference5Ideal.At.angles)
    shapeCasts_S8192x32_S1x8192x1x32))))⟩, ⟨S2x8192x8x32, (addf (mulf (extractStridedSlice S2x8192x8x32 ![0, 0, 0,
    32] y slices_S2x8192x8x64_S2x8192x8x32_0_0_0_32) (broadcastInDim S2x8192x8x32 ![0, 1, 2, 3]
    bcast_S1x8192x1x32_S2x8192x8x32_0_1_2_3 (shapeCast _ (Host.cos Reference5Ideal.At.angles) shapeCasts_S8192x32_S1x8192x1x32))) (mulf
    (extractStridedSlice S2x8192x8x32 ![0, 0, 0, 0] y slices_S2x8192x8x64_S2x8192x8x32_0_0_0_0) (broadcastInDim
    S2x8192x8x32 ![0, 1, 2, 3] bcast_S1x8192x1x32_S2x8192x8x32_0_1_2_3 (shapeCast _ (Host.sin Reference5Ideal.At.angles)
    shapeCasts_S8192x32_S1x8192x1x32))))⟩] concatenates_S2x8192x8x32_S2x8192x8x32_S2x8192x8x64_d3

theorem iturn_at (y : FVec Ideal S2x8192x8x64 .f32) (b : Fin 2) (t : Fin 8192) (n : Fin 8) (j : Fin 64) :
    iturn y (ix4 b t n j) = Proj.turn (fun j => y (ix4 b t n j)) (Proj.angle t.val) j := by
  pointwise [iturn, Proj.turn, Reference5Ideal.At.angles_at]

/-- The heads of the index queries as rows. -/
def irows (y : FVec Ideal S2x8192x8x64 .f32) : FVec Ideal S16384x512 .f32 :=
    shapeCast _ y shapeCasts_S2x8192x8x64_S16384x512

theorem irows_at (y : FVec Ideal S2x8192x8x64 .f32) (r : Fin 16384) (l : Fin 512) :
    irows y (ix2 r l) = y (ix4 ⟨r.val / 8192, by omega⟩ ⟨r.val % 8192, by omega⟩ ⟨l.val / 64, by omega⟩
      ⟨l.val % 64, by omega⟩) := by
  pointwise [irows]

/-- The key of the index. -/
def ikof (z : FVec Ideal S2x8192x584 .f32) : FVec Ideal S2x8192x64 .f32 :=
  extractStridedSlice S2x8192x64 ![0, 0, 512] z slices_S2x8192x584_S2x8192x64_0_0_512

/-- The key of the index turned. -/
def ikturn (y : FVec Ideal S2x8192x64 .f32) : FVec Ideal S2x8192x64 .f32 :=
    concatenate S2x8192x64 2 [⟨S2x8192x32, (subf (mulf (extractStridedSlice S2x8192x32 ![0, 0, 0] y
    slices_S2x8192x64_S2x8192x32_0_0_0) (broadcastInDim S2x8192x32 ![0, 1, 2] bcast_S1x8192x32_S2x8192x32_0_1_2
    (shapeCast _ (Host.cos Reference5Ideal.At.angles) shapeCasts_S8192x32_S1x8192x32))) (mulf (extractStridedSlice
    S2x8192x32 ![0, 0, 32] y slices_S2x8192x64_S2x8192x32_0_0_32) (broadcastInDim S2x8192x32 ![0, 1, 2]
    bcast_S1x8192x32_S2x8192x32_0_1_2 (shapeCast _ (Host.sin Reference5Ideal.At.angles)
    shapeCasts_S8192x32_S1x8192x32))))⟩, ⟨S2x8192x32, (addf (mulf (extractStridedSlice S2x8192x32 ![0, 0, 32] y
    slices_S2x8192x64_S2x8192x32_0_0_32) (broadcastInDim S2x8192x32 ![0, 1, 2] bcast_S1x8192x32_S2x8192x32_0_1_2
    (shapeCast _ (Host.cos Reference5Ideal.At.angles) shapeCasts_S8192x32_S1x8192x32))) (mulf (extractStridedSlice
    S2x8192x32 ![0, 0, 0] y slices_S2x8192x64_S2x8192x32_0_0_0) (broadcastInDim S2x8192x32 ![0, 1, 2]
    bcast_S1x8192x32_S2x8192x32_0_1_2 (shapeCast _ (Host.sin Reference5Ideal.At.angles)
    shapeCasts_S8192x32_S1x8192x32))))⟩] concatenates_S2x8192x32_S2x8192x32_S2x8192x64_d2

theorem ikturn_at (y : FVec Ideal S2x8192x64 .f32) (b : Fin 2) (t : Fin 8192) (j : Fin 64) :
    ikturn y (ix3 b t j) = Proj.turn (fun j => y (ix3 b t j)) (Proj.angle t.val) j := by
  pointwise [ikturn, Proj.turn, Reference5Ideal.At.angles_at]

/-- The weights of the index's heads, as rows. -/
def iwrows (z : FVec Ideal S2x8192x584 .f32) : FVec Ideal S16384x8 .f32 :=
  shapeCast _ (extractStridedSlice S2x8192x8 ![0, 0, 576] z slices_S2x8192x584_S2x8192x8_0_0_576) shapeCasts_S2x8192x8_S16384x8

theorem iwrows_at (z : FVec Ideal S2x8192x584 .f32) (r : Fin 16384) (l : Fin 8) :
    iwrows z (ix2 r l) = z (ix3 ⟨r.val / 8192, by omega⟩ ⟨r.val % 8192, by omega⟩ ⟨576 + l.val, by omega⟩) := by
  pointwise [iwrows]

theorem index_at (z : FVec Ideal S2x8192x512 .f32) (r : Fin 16384) (l : Fin 512) :
    irows (iturn (iheads z)) (ix2 r l) = Proj.turn (fun j => z (ix3 ⟨r.val / 8192, by omega⟩ ⟨r.val % 8192, by omega⟩
      ⟨l.val / 64 * 64 + j.val, by omega⟩))
      (Proj.angle (r.val % 8192)) ⟨l.val % 64, by omega⟩ := by
  rw [irows_at, iturn_at]
  simp only [iheads_at]

/-- The arguments. -/
abbrev x (c : Dev nD) : FVec Ideal S2x8192x1024 .f32 := m ((c.tc : Thread nD τ).loc main_arg0)
abbrev g (c : Dev nD) : FVec Ideal S1024 .f32 := m ((c.tc : Thread nD τ).loc main_arg1)
abbrev w (c : Dev nD) : FVec Ideal S1024x3144 .f32 := m ((c.tc : Thread nD τ).loc main_arg2)
abbrev qg (c : Dev nD) : FVec Ideal S64 .f32 := m ((c.tc : Thread nD τ).loc main_arg3)
abbrev kg (c : Dev nD) : FVec Ideal S64 .f32 := m ((c.tc : Thread nD τ).loc main_arg4)

/-- The projected rows of the arguments. -/
abbrev z (c : Dev nD) : FVec Ideal S2x8192x3144 .f32 := cols (x m c) (g m c) (w m c)

/-- The run of the reference, its results in the names above. -/
theorem run (ρ : Dev nD → PrngReg) : θ_run defs (onTc (τ := τ) (main (F := Ideal))) ⟨m, fun _ => 0, ρ⟩ fun r => ∀ c : Dev nD,
      r.2.mem ((c.tc : Thread nD τ).loc main_v107) = Reference5Ideal.At.qrows (Reference5Ideal.At.qturn
        (Reference5Ideal.At.qnorm (Reference5Ideal.At.qheads (qof (z m c))) (qg m c)))
      ∧ r.2.mem ((c.tc : Thread nD τ).loc main_v108) = Reference5Ideal.At.krows (Reference5Ideal.At.kturn
        (Reference5Ideal.At.knorm (Reference5Ideal.At.kheads (kof (z m c))) (kg m c)))
      ∧ r.2.mem ((c.tc : Thread nD τ).loc main_v109) = Reference5Ideal.At.vrows (vof (z m c))
      ∧ r.2.mem ((c.tc : Thread nD τ).loc main_v111) = Reference5Ideal.At.gates (gof (z m c))
      ∧ r.2.mem ((c.tc : Thread nD τ).loc main_v147) = irows (iturn (iheads (iqof (iof (z m c)))))
      ∧ r.2.mem ((c.tc : Thread nD τ).loc main_v176) = ikturn (ikof (iof (z m c)))
      ∧ r.2.mem ((c.tc : Thread nD τ).loc main_v177) = iwrows (iof (z m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun r h c => by
    obtain ⟨h0, h1, h2, h3, h4, h5, h6, ha⟩ := h c
    exact ⟨h0, h1, h2, h3, h4, h5, h6, ha⟩) (Value.run m ρ)

end Cert.Reference6Ideal.At
-- ==== Proof.Kern5.lean ====
/- What a grid point of the projection of the block-sparse attention layer leaves of one row. -/
module

public import proofs.«01_k».proof.Proof.Gen.Kernel5Ideal.Frame
public import proofs.«01_k».proof.Proof.Heads

@[expose] public section

set_option maxRecDepth 16384

noncomputable section

open Idealize.ShloMosaic Idealize.ShloMosaic.TcCoe Idealize.SL.Sem

namespace Cert.Kernel5Ideal.Block

open Cert.Kernel5Ideal Cert.Kernel5Ideal.Gen

variable (m : (ℓ : Loc nD τ sig) → Buf (Elt Ideal) ℓ)

/-- The loaded rows, normalised, and the weights' columns. -/
abbrev hrows (c : Dev nD) (t : Fin cfg0.N) : FVec Ideal S256x1024 .bf16 := k0_pay2 (F := Ideal) (iblk m c 0 t) (iblk m c 1 t)
abbrev wq (c : Dev nD) (t : Fin cfg0.N) : FVec Ideal S1024x1024 .bf16 :=
  shapeCast S1024x1024 (View.ld (Val := Elt Ideal) (e' := .bf16) (iblk m c 2 t) (Rect.unit ![0, 0] ![1024, 1024] inb_S1024x2560_S1024x1024_0_0)) shapeCasts_S1024x1024_S1024x1024
abbrev wk (c : Dev nD) (t : Fin cfg0.N) : FVec Ideal S1024x256 .bf16 :=
  shapeCast S1024x256 (View.ld (Val := Elt Ideal) (e' := .bf16) (iblk m c 2 t) (Rect.unit ![0, 1024] ![1024, 256] inb_S1024x2560_S1024x256_0_1024)) shapeCasts_S1024x256_S1024x256
abbrev wv (c : Dev nD) (t : Fin cfg0.N) : FVec Ideal S1024x256 .bf16 :=
  shapeCast S1024x256 (View.ld (Val := Elt Ideal) (e' := .bf16) (iblk m c 2 t) (Rect.unit ![0, 1280] ![1024, 256] inb_S1024x2560_S1024x256_0_1280)) shapeCasts_S1024x256_S1024x256
abbrev wg (c : Dev nD) (t : Fin cfg0.N) : FVec Ideal S1024x1024 .bf16 :=
  shapeCast S1024x1024 (View.ld (Val := Elt Ideal) (e' := .bf16) (iblk m c 2 t) (Rect.unit ![0, 1536] ![1024, 1024] inb_S1024x2560_S1024x1024_0_1536)) shapeCasts_S1024x1024_S1024x1024
abbrev cs (c : Dev nD) (t : Fin cfg0.N) : FVec Ideal S256x128 .f32 := k0_pay3 (F := Ideal) (iblk m c 3 t)
abbrev sn (c : Dev nD) (t : Fin cfg0.N) : FVec Ideal S256x128 .f32 := k0_pay4 (F := Ideal) (iblk m c 4 t)
abbrev gq (c : Dev nD) (t : Fin cfg0.N) : FVec Ideal S1x128 .f32 := k0_pay5 (F := Ideal) (iblk m c 5 t)
abbrev gk (c : Dev nD) (t : Fin cfg0.N) : FVec Ideal S1x128 .f32 := k0_pay6 (F := Ideal) (iblk m c 6 t)

/-- What row `r` of the grid point's blocks holds. -/
abbrev Row (c : Dev nD) (t : Fin cfg0.N) (r : Fin 256) (X G : Fin 1024 → EReal) (W : Fin 1024 → Fin 2560 → EReal)
    (Q K : Fin 64 → EReal) (p : ℕ) : Prop :=
  Heads.Holds (hrows m c t) (wq m c t) (wk m c t) (wv m c t) (wg m c t) (cs m c t) (sn m c t) (gq m c t) (gk m c t) r X G W (by omega) Q K p

variable {m} {c : Dev nD} {t : Fin cfg0.N} {r : Fin 256} {X G : Fin 1024 → EReal} {W : Fin 1024 → Fin 2560 → EReal} {Q K : Fin 64 → EReal} {p : ℕ}

theorem wq_at (d e : Fin 1024) : wq m c t (ix2 d e) = iblk m c 2 t (ix2 d ⟨e.val, by omega⟩) := by
  pointwise
theorem wk_at (d : Fin 1024) (e : Fin 256) : wk m c t (ix2 d e) = iblk m c 2 t (ix2 d ⟨1024 + e.val, by omega⟩) := by
  pointwise
theorem wv_at (d : Fin 1024) (e : Fin 256) : wv m c t (ix2 d e) = iblk m c 2 t (ix2 d ⟨1280 + e.val, by omega⟩) := by
  pointwise
theorem wg_at (d e : Fin 1024) : wg m c t (ix2 d e) = iblk m c 2 t (ix2 d ⟨1536 + e.val, by omega⟩) := by
  pointwise

theorem tables_at (x y : FVec Ideal S256x128 .f32) (u v : FVec Ideal S1x128 .f32) : k0_pay3 (F := Ideal) x = x ∧ k0_pay4 (F := Ideal) y = y
    ∧ k0_pay5 (F := Ideal) u = u ∧ k0_pay6 (F := Ideal) v = v := by
  refine ⟨?_, ?_, ?_, ?_⟩ <;> (funext i; idx_vars i; pointwise [k0_pay3, k0_pay4, k0_pay5, k0_pay6])

theorem row_of (h0 : ∀ d, iblk m c 0 t (ix2 r d) = X d) (h1 : ∀ d, iblk m c 1 t (ix2 0 d) = G d)
    (h2 : ∀ d e, iblk m c 2 t (ix2 d e) = W d e)
    (h3 : ∀ l : Fin 128, iblk m c 3 t (ix2 r l) = Ideal.cos (Proj.angle p ⟨l.val % 32, by omega⟩))
    (h4 : ∀ l : Fin 128, iblk m c 4 t (ix2 r l) = if l.val % 64 < 32 then -Ideal.sin (Proj.angle p ⟨l.val % 32, by omega⟩)
      else Ideal.sin (Proj.angle p ⟨l.val % 32, by omega⟩))
    (h5 : ∀ l : Fin 128, iblk m c 5 t (ix2 0 l) = Q ⟨l.val % 64, by omega⟩)
    (h6 : ∀ l : Fin 128, iblk m c 6 t (ix2 0 l) = K ⟨l.val % 64, by omega⟩)
    (fg : ∀ d, Proj.IsFin (G d)) (fw : ∀ d e, Proj.IsFin (W d e)) : Row m c t r X G W Q K p where
  hh d := by
    refine (Kernel2Ideal.Block.rows_at (iblk m c 0 t) (iblk m c 1 t) r d).trans ?_
    rw [h1]
    exact congrArg (fun f => Proj.unit f d * G d) (funext h0)
  hwq d e := (wq_at d e).trans (h2 d _)
  hwk d e := (wk_at d e).trans (h2 d _)
  hwv d e := (wv_at d e).trans (h2 d _)
  hwg d e := (wg_at d e).trans (h2 d _)
  hc l := (congrFun (tables_at (iblk m c 3 t) (iblk m c 4 t) (iblk m c 5 t) (iblk m c 6 t)).1 _).trans (h3 l)
  hs l := (congrFun (tables_at (iblk m c 3 t) (iblk m c 4 t) (iblk m c 5 t) (iblk m c 6 t)).2.1 _).trans (h4 l)
  hq l := (congrFun (tables_at (iblk m c 3 t) (iblk m c 4 t) (iblk m c 5 t) (iblk m c 6 t)).2.2.1 _).trans (h5 l)
  hk l := (congrFun (tables_at (iblk m c 3 t) (iblk m c 4 t) (iblk m c 5 t) (iblk m c 6 t)).2.2.2 _).trans (h6 l)
  fg := fg
  fw := fw

theorem out7 (H : Row m c t r X G W Q K p) (l : Fin 1024) : (outsAt0 m c t).1 (ix2 r l)
    = Proj.headOf X G (fun j d => W d ⟨l.val / 64 * 64 + j.val, by omega⟩) Q p ⟨l.val % 64, by omega⟩ * Ideal.ofBits .f32 0x3E000000#32 := by
  unfold outsAt0
  frame_out
  canon_tiles x h
  all_goals (idx_vars x; obtain rfl : x0 = r := Fin.ext h0.symm)
  case piece0 => exact H.q 896 (by omega) (by omega) slices_S256x1024_o0_896_S256x128 x1 l h1
  case piece1 => exact H.q 768 (by omega) (by omega) slices_S256x1024_o0_768_S256x128 x1 l h1
  case piece2 => exact H.q 640 (by omega) (by omega) slices_S256x1024_o0_640_S256x128 x1 l h1
  case piece3 => exact H.q 512 (by omega) (by omega) slices_S256x1024_o0_512_S256x128 x1 l h1
  case piece4 => exact H.q 384 (by omega) (by omega) slices_S256x1024_o0_384_S256x128 x1 l h1
  case piece5 => exact H.q 256 (by omega) (by omega) slices_S256x1024_o0_256_S256x128 x1 l h1
  case piece6 => exact H.q 128 (by omega) (by omega) slices_S256x1024_o0_128_S256x128 x1 l h1
  case piece7 => exact H.q 0 (by omega) (by omega) slices_S256x1024_o0_0_S256x128 x1 l (h1.trans (Nat.zero_add _).symm)

theorem out8 (H : Row m c t r X G W Q K p) (l : Fin 256) : (outsAt0 m c t).2.1 (ix2 r l)
    = Proj.headOf X G (fun j d => W d ⟨1024 + (l.val / 64 * 64 + j.val), by omega⟩) K p ⟨l.val % 64, by omega⟩ := by
  unfold outsAt0
  frame_out
  canon_tiles x h
  all_goals (idx_vars x; obtain rfl : x0 = r := Fin.ext h0.symm)
  case piece0 => exact H.k 128 (by omega) (by omega) slices_S256x256_o0_128_S256x128 x1 l h1
  case piece1 => exact H.k 0 (by omega) (by omega) slices_S256x256_o0_0_S256x128 x1 l (h1.trans (Nat.zero_add _).symm)

theorem out9 (H : Row m c t r X G W Q K p) (l : Fin 256) : (outsAt0 m c t).2.2.1 (ix2 r l)
    = Proj.proj X G (fun d => W d ⟨1280 + l.val, by omega⟩) := by
  unfold outsAt0
  frame_out
  exact H.v l

theorem out12 (H : Row m c t r X G W Q K p) (l : Fin 1024) : (outsAt0 m c t).2.2.2.2.2.1 (ix2 r l)
    = Proj.silu (Proj.proj X G (fun d => W d ⟨1536 + l.val, by omega⟩)) := by
  unfold outsAt0
  frame_out
  exact H.g l

theorem out13 (X : Fin 256 → Fin 1024 → EReal) (p : Fin 256 → ℕ) (H : ∀ r, Row m c t r (X r) G W Q K (p r)) (l : Fin 256) :
    (outsAt0 m c t).2.2.2.2.2.2.1 (ix3 0 0 l)
    = (∑ r, Proj.headOf (X r) G (fun j d => W d ⟨1024 + (l.val / 64 * 64 + j.val), by omega⟩) K (p r) ⟨l.val % 64, by omega⟩)
      * Ideal.ofBits .f32 0x3B800000#32 := by
  unfold outsAt0
  frame_out
  canon_tiles x h
  all_goals (idx_vars x; obtain rfl : x0 = 0 := Subsingleton.elim _ _; obtain rfl : x1 = 0 := Subsingleton.elim _ _)
  case piece0 => exact (Heads.means_at _ x2).trans (congrArg (· * _) (Finset.sum_congr rfl fun r _ =>
    (H r).k 128 (by omega) (by omega) slices_S256x256_o0_128_S256x128 x2 l h2))
  case piece1 => exact (Heads.means_at _ x2).trans (congrArg (· * _) (Finset.sum_congr rfl fun r _ =>
    (H r).k 0 (by omega) (by omega) slices_S256x256_o0_0_S256x128 x2 l (h2.trans (Nat.zero_add _).symm)))

end Cert.Kernel5Ideal.Block
-- ==== Proof.Final5.lean ====
/- The arrays the projection of the block-sparse attention layer leaves, as the reference's results. -/
module

public import proofs.«01_k».proof.Proof.Kern5
public import proofs.«01_k».proof.Proof.Refv5
public import proofs.«01_k».proof.Proof.Final2
public import Idealize.ShloMosaic.Lib.StableHlo.RunRead
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel5Ideal.Final

open Cert.Kernel5Ideal Cert.Kernel5Ideal.Gen Cert.Kernel5Ideal.Block

variable (m : (ℓ : Loc nD τ sig) → Buf (Elt Ideal) ℓ)

/-- The arguments. -/
abbrev x (c : Dev nD) : FVec Ideal S2x8192x1024 .f32 := m ((c : Thread nD τ).loc main_arg0)
abbrev g (c : Dev nD) : FVec Ideal S1024 .f32 := m ((c : Thread nD τ).loc main_arg1)
abbrev w (c : Dev nD) : FVec Ideal S1024x2560 .f32 := m ((c : Thread nD τ).loc main_arg2)
abbrev qg (c : Dev nD) : FVec Ideal S64 .f32 := m ((c : Thread nD τ).loc main_arg3)
abbrev kg (c : Dev nD) : FVec Ideal S64 .f32 := m ((c : Thread nD τ).loc main_arg4)

theorem V_eq (c : Dev nD) (b : Ref sig .tc) : V m c b = StableHlo.after hostOps0 (fun b => m (c, b)) (Proc.devRef .tc b) := by
  unfold V
  rfl

/-! ## What the host hands over -/

theorem cosines (c : Dev nD) (t : Fin 8192) (l : Fin 128) : (V m c main_v17 : FVec Ideal S8192x128 .f32) (ix2 t l)
    = Ideal.cos (Proj.angle t.val ⟨l.val % 32, by omega⟩) := by
  rw [V_eq]
  entry_read
  pointwise [Proj.angle]

theorem sin_cat (c : Dev nD) : (V m c main_v19 : FVec Ideal S8192x128 .f32) = concatenate S8192x128 1
    [⟨S8192x32, StableHlo.upto hostOps0 (fun b => m (c, b)) 21 (Proc.devRef .tc main_v18)⟩, ⟨S8192x32, StableHlo.upto hostOps0 (fun b => m (c, b)) 21 (Proc.devRef .tc main_v14)⟩,
     ⟨S8192x32, StableHlo.upto hostOps0 (fun b => m (c, b)) 21 (Proc.devRef .tc main_v18)⟩, ⟨S8192x32, StableHlo.upto hostOps0 (fun b => m (c, b)) 21 (Proc.devRef .tc main_v14)⟩]
    concatenates_S8192x32_S8192x32_S8192x32_S8192x32_S8192x128_d1 := by
  rw [V_eq]
  refine (StableHlo.after_last_write (i := 21) [main_v20, main_v21, main_v22, main_v23, main_v24, main_v25, main_v26, main_v27, main_v28, main_v29, main_v30] rfl rfl (by decide) _).trans ?_
  rw [StableHlo.nary_result]
  rfl

theorem sin_at (c : Dev nD) (t : Fin 8192) (i : Fin 32) : (StableHlo.upto hostOps0 (fun b => m (c, b)) 21 (Proc.devRef .tc main_v14) : FVec Ideal S8192x32 .f32) (ix2 t i)
    = Ideal.sin (Proj.angle t.val i) := by
  simp only [StableHlo.upto, List.take_succ_cons, List.take_zero]
  entry_read
  pointwise [Proj.angle]
theorem neg_at (c : Dev nD) (t : Fin 8192) (i : Fin 32) : (StableHlo.upto hostOps0 (fun b => m (c, b)) 21 (Proc.devRef .tc main_v18) : FVec Ideal S8192x32 .f32) (ix2 t i)
    = -Ideal.sin (Proj.angle t.val i) := by
  simp only [StableHlo.upto, List.take_succ_cons, List.take_zero]
  entry_read
  pointwise [Proj.angle]

theorem sines (c : Dev nD) (t : Fin 8192) (l : Fin 128) : (V m c main_v19 : FVec Ideal S8192x128 .f32) (ix2 t l)
    = if l.val % 64 < 32 then -Ideal.sin (Proj.angle t.val ⟨l.val % 32, by omega⟩) else Ideal.sin (Proj.angle t.val ⟨l.val % 32, by omega⟩) := by
  rw [sin_cat]
  refine (Kernel2Ideal.Final.cat _ _ t l).trans ?_
  rw [neg_at, sin_at]

theorem rows (c : Dev nD) (r : Fin 16384) (d : Fin 1024) : (V m c main_v20 : FVec Ideal S16384x1024 .f32) (ix2 r d)
    = x m c (ix3 ⟨r.val / 8192, by omega⟩ ⟨r.val % 8192, by omega⟩ d) := by
  rw [V_eq]
  entry_read
  pointwise
theorem gains (c : Dev nD) (d : Fin 1024) : (V m c main_v21 : FVec Ideal S1x1024 .f32) (ix2 0 d) = g m c (ix1 d) := by
  rw [V_eq]
  entry_read
  pointwise
theorem weights (c : Dev nD) (d : Fin 1024) (e : Fin 2560) : (V m c main_v22 : FVec Ideal S1024x2560 .bf16) (ix2 d e) = w m c (ix2 d e) := by
  rw [V_eq]
  entry_read
  pointwise
theorem qgains (c : Dev nD) (l : Fin 128) : (V m c main_v26 : FVec Ideal S1x128 .f32) (ix2 0 l) = qg m c (ix1 ⟨l.val % 64, by omega⟩) := by
  rw [V_eq]
  entry_read
  pointwise
theorem kgains (c : Dev nD) (l : Fin 128) : (V m c main_v30 : FVec Ideal S1x128 .f32) (ix2 0 l) = kg m c (ix1 ⟨l.val % 64, by omega⟩) := by
  rw [V_eq]
  entry_read
  pointwise

/-! ## The blocks -/

theorem idx : ∀ t : Fin cfg0.N, win0_0.index t = ![t.val, 0] ∧ win0_1.index t = ![0, 0] ∧ win0_2.index t = ![0, 0]
    ∧ win0_3.index t = ![t.val % 32, 0] ∧ win0_4.index t = ![t.val % 32, 0] ∧ win0_5.index t = ![0, 0] ∧ win0_6.index t = ![0, 0]
    ∧ win0_7.index t = ![t.val, 0] ∧ win0_8.index t = ![t.val, 0] ∧ win0_9.index t = ![t.val, 0] ∧ win0_12.index t = ![t.val, 0] ∧ win0_13.index t = ![t.val, 0, 0]
    ∧ t.val < 64 :=
  (by decide +kernel : ∀ t : Fin grid0.N, _)

/-- The row of the whole array a grid point's block has at its row `r`. -/
abbrev here (t : Fin cfg0.N) (r : Fin 256) : Fin 16384 := ⟨256 * t.val + r.val, by have := idx t; omega⟩

theorem block0 (c : Dev nD) (t : Fin cfg0.N) (r : Fin 256) (d : Fin 1024) : (iblk m c 0 t : FVec Ideal S256x1024 .f32) (ix2 r d) = Reference2Ideal.At.rowOf (x m c) (here t r) d := by
  refine Eq.trans ?_ (rows m c (here t r) d)
  blk_ext [iblk, idx t]
theorem block1 (c : Dev nD) (t : Fin cfg0.N) (d : Fin 1024) : (iblk m c 1 t : FVec Ideal S1x1024 .f32) (ix2 0 d) = g m c (ix1 d) := by
  refine Eq.trans ?_ (gains m c d)
  blk_ext [iblk, idx t]
theorem block2 (c : Dev nD) (t : Fin cfg0.N) (d : Fin 1024) (e : Fin 2560) : (iblk m c 2 t : FVec Ideal S1024x2560 .bf16) (ix2 d e) = w m c (ix2 d e) := by
  refine Eq.trans ?_ (weights m c d e)
  blk_ext [iblk, idx t]
theorem block3 (c : Dev nD) (t : Fin cfg0.N) (r : Fin 256) (l : Fin 128) : (iblk m c 3 t : FVec Ideal S256x128 .f32) (ix2 r l)
    = Ideal.cos (Proj.angle ((256 * t.val + r.val) % 8192) ⟨l.val % 32, by omega⟩) := by
  refine Eq.trans ?_ (cosines m c ⟨(256 * t.val + r.val) % 8192, by omega⟩ l)
  blk_ext [iblk, idx t]
theorem block4 (c : Dev nD) (t : Fin cfg0.N) (r : Fin 256) (l : Fin 128) : (iblk m c 4 t : FVec Ideal S256x128 .f32) (ix2 r l)
    = if l.val % 64 < 32 then -Ideal.sin (Proj.angle ((256 * t.val + r.val) % 8192) ⟨l.val % 32, by omega⟩)
      else Ideal.sin (Proj.angle ((256 * t.val + r.val) % 8192) ⟨l.val % 32, by omega⟩) := by
  refine Eq.trans ?_ (sines m c ⟨(256 * t.val + r.val) % 8192, by omega⟩ l)
  blk_ext [iblk, idx t]
theorem block5 (c : Dev nD) (t : Fin cfg0.N) (l : Fin 128) : (iblk m c 5 t : FVec Ideal S1x128 .f32) (ix2 0 l) = qg m c (ix1 ⟨l.val % 64, by omega⟩) := by
  refine Eq.trans ?_ (qgains m c l)
  blk_ext [iblk, idx t]
theorem block6 (c : Dev nD) (t : Fin cfg0.N) (l : Fin 128) : (iblk m c 6 t : FVec Ideal S1x128 .f32) (ix2 0 l) = kg m c (ix1 ⟨l.val % 64, by omega⟩) := by
  refine Eq.trans ?_ (kgains m c l)
  blk_ext [iblk, idx t]

section Finals

/-- The constant of a mean over 256 positions. -/
theorem mean_eq (a : EReal) : Ideal.div a (Ideal.ofBits .f32 0x43800000#32) = a * Ideal.ofBits .f32 0x3B800000#32 := by
  have h1 : Ideal.ofBits .f32 0x43800000#32 = ((256 : ℝ) : EReal) := by
    simp [Ideal.ofBits, Ideal.ieee]; rw [← EReal.coe_mul]; norm_num
  have h2 : Ideal.ofBits .f32 0x3B800000#32 = ((1 / 256 : ℝ) : EReal) := by
    simp [Ideal.ofBits, Ideal.ieee]; rw [← EReal.coe_mul]; norm_num
  rw [h1, h2, Ideal.div_coe (by norm_num)]

open Reference5Ideal.At (cols qof kof vof gof)
open Reference2Ideal.At (rowOf vecOf)

variable (c : Dev nD) (fg : ∀ d, Proj.IsFin (g m c (ix1 d))) (fw : ∀ d e, Proj.IsFin (w m c (ix2 d e)))

/-- The projected columns of the arguments. -/
abbrev z : FVec Ideal Reference5Ideal.S2x8192x2560 .f32 := cols (x m c) (g m c) (w m c)

theorem q_col (b : Fin 2) (t : Fin 8192) (l : Fin 1024) : qof (z m c) (ix3 b t l)
    = Proj.proj (fun d => x m c (ix3 b t d)) (vecOf (g m c)) fun d => w m c (ix2 d ⟨l.val, by omega⟩) :=
  Eq.trans (b := z m c (ix3 b t ⟨l.val, by omega⟩)) (by pointwise) (Reference5Ideal.At.cols_at _ _ _ b t _)
theorem k_col (b : Fin 2) (t : Fin 8192) (l : Fin 256) : kof (z m c) (ix3 b t l)
    = Proj.proj (fun d => x m c (ix3 b t d)) (vecOf (g m c)) fun d => w m c (ix2 d ⟨1024 + l.val, by omega⟩) :=
  Eq.trans (b := z m c (ix3 b t ⟨1024 + l.val, by omega⟩)) (by pointwise) (Reference5Ideal.At.cols_at _ _ _ b t _)
theorem v_col (b : Fin 2) (t : Fin 8192) (l : Fin 256) : vof (z m c) (ix3 b t l)
    = Proj.proj (fun d => x m c (ix3 b t d)) (vecOf (g m c)) fun d => w m c (ix2 d ⟨1280 + l.val, by omega⟩) :=
  Eq.trans (b := z m c (ix3 b t ⟨1280 + l.val, by omega⟩)) (by pointwise) (Reference5Ideal.At.cols_at _ _ _ b t _)
theorem g_col (b : Fin 2) (t : Fin 8192) (l : Fin 1024) : gof (z m c) (ix3 b t l)
    = Proj.proj (fun d => x m c (ix3 b t d)) (vecOf (g m c)) fun d => w m c (ix2 d ⟨1536 + l.val, by omega⟩) :=
  Eq.trans (b := z m c (ix3 b t ⟨1536 + l.val, by omega⟩)) (by pointwise) (Reference5Ideal.At.cols_at _ _ _ b t _)

/-- The results of the reference. -/
abbrev qres : FVec Ideal S16384x1024 .f32 :=
  Reference5Ideal.At.qrows (Reference5Ideal.At.qturn (Reference5Ideal.At.qnorm (Reference5Ideal.At.qheads (qof (z m c))) (qg m c)))
abbrev kres : FVec Ideal Reference5Ideal.S2x8192x4x64 .f32 :=
  Reference5Ideal.At.kturn (Reference5Ideal.At.knorm (Reference5Ideal.At.kheads (kof (z m c))) (kg m c))

theorem qres_at (r : Fin 16384) (l : Fin 1024) : qres m c (ix2 r l) = Proj.headOf (rowOf (x m c) r) (vecOf (g m c))
    (fun j d => w m c (ix2 d ⟨l.val / 64 * 64 + j.val, by omega⟩)) (vecOf (qg m c)) (r.val % 8192) ⟨l.val % 64, by omega⟩ * Ideal.ofBits .f32 0x3E000000#32 := by
  refine (Reference5Ideal.At.queries_at _ _ r l).trans ?_
  simp only [q_col]
  rfl
theorem kres_at (r : Fin 16384) (l : Fin 256) : Reference5Ideal.At.krows (kres m c) (ix2 r l) = Proj.headOf (rowOf (x m c) r) (vecOf (g m c))
    (fun j d => w m c (ix2 d ⟨1024 + (l.val / 64 * 64 + j.val), by omega⟩)) (vecOf (kg m c)) (r.val % 8192) ⟨l.val % 64, by omega⟩ := by
  refine (Reference5Ideal.At.keys_at _ _ r l).trans ?_
  simp only [k_col]
  rfl

include fg fw

theorem holds (t : Fin cfg0.N) (r : Fin 256) : Row m c t r (rowOf (x m c) (here t r)) (vecOf (g m c)) (fun d e => w m c (ix2 d e))
    (vecOf (qg m c)) (vecOf (kg m c)) ((256 * t.val + r.val) % 8192) :=
  row_of (block0 m c t r) (block1 m c t) (block2 m c t) (block3 m c t r) (block4 m c t r) (block5 m c t) (block6 m c t) fg fw

theorem final7 : (dats m 0 c).arrAt 7 (cfgs 0).N = qres m c := by
  refine (dats m 0 c).arrAt_eq_of_covers 7 _ (by decide +kernel) fun t _ y => ?_
  blk_simp
  rw [after0_7]
  idx_vars y
  refine (out7 (holds m c fg fw t y0) y1).trans ((qres_at m c (here t y0) y1).symm.trans (congrArg _ ?_))
  blk_ext [idx t]

theorem final8 : (dats m 0 c).arrAt 8 (cfgs 0).N = Reference5Ideal.At.krows (kres m c) := by
  refine (dats m 0 c).arrAt_eq_of_covers 8 _ (by decide +kernel) fun t _ y => ?_
  blk_simp
  rw [after0_8]
  idx_vars y
  refine (out8 (holds m c fg fw t y0) y1).trans ((kres_at m c (here t y0) y1).symm.trans (congrArg _ ?_))
  blk_ext [idx t]

theorem final9 : (dats m 0 c).arrAt 9 (cfgs 0).N = Reference5Ideal.At.vrows (vof (z m c)) := by
  refine (dats m 0 c).arrAt_eq_of_covers 9 _ (by decide +kernel) fun t _ y => ?_
  blk_simp
  rw [after0_9]
  idx_vars y
  refine (out9 (holds m c fg fw t y0) y1).trans (((Reference5Ideal.At.vrows_at _ (here t y0) y1).trans (v_col m c _ _ y1)).symm.trans (congrArg _ ?_))
  blk_ext [idx t]

theorem final12 : (dats m 0 c).arrAt 12 (cfgs 0).N = Reference5Ideal.At.gates (gof (z m c)) := by
  refine (dats m 0 c).arrAt_eq_of_covers 12 _ (by decide +kernel) fun t _ y => ?_
  blk_simp
  rw [after0_12]
  idx_vars y
  refine (out12 (holds m c fg fw t y0) y1).trans (((Reference5Ideal.At.gates_at _ (here t y0) y1).trans
    (congrArg Proj.silu (g_col m c _ _ y1))).symm.trans (congrArg _ ?_))
  blk_ext [idx t]

theorem final13 : (dats m 0 c).arrAt 13 (cfgs 0).N = Reference5Ideal.At.kmean (kres m c) := by
  refine (dats m 0 c).arrAt_eq_of_covers 13 _ (by decide +kernel) fun t _ y => ?_
  blk_simp
  rw [after0_13]
  idx_vars y
  obtain rfl : y0 = 0 := Subsingleton.elim _ _
  obtain rfl : y1 = 0 := Subsingleton.elim _ _
  refine (out13 _ _ (fun r => holds m c fg fw t r) y2).trans (Eq.symm ?_)
  have hd : Reference5Ideal.At.kmean (kres m c) (ix3 ⟨t.val, by have := idx t; omega⟩ 0 y2) = _ :=
    (Reference5Ideal.At.kmean_at (kres m c) _ y2).trans ((mean_eq _).trans
      (congrArg (· * _) (Finset.sum_congr rfl fun k _ => kres_at m c (here t k) y2)))
  refine Eq.trans (congrArg _ ?_) hd
  blk_ext [idx t]

end Finals

end Cert.Kernel5Ideal.Final
-- ==== Proof.Final6.lean ====
/- The arrays the projection of the indexed attention layer leaves, as the reference's results. -/
module

public import proofs.«01_k».proof.Proof.Kern6
public import proofs.«01_k».proof.Proof.Refv6
public import proofs.«01_k».proof.Proof.Final5
public import Idealize.ShloMosaic.Lib.StableHlo.RunRead
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel6Ideal.Final

open Cert.Kernel6Ideal Cert.Kernel6Ideal.Gen Cert.Kernel6Ideal.Block

variable (m : (ℓ : Loc nD τ sig) → Buf (Elt Ideal) ℓ)

/-- The arguments. -/
abbrev x (c : Dev nD) : FVec Ideal S2x8192x1024 .f32 := m ((c : Thread nD τ).loc main_arg0)
abbrev g (c : Dev nD) : FVec Ideal S1024 .f32 := m ((c : Thread nD τ).loc main_arg1)
abbrev w (c : Dev nD) : FVec Ideal S1024x3144 .f32 := m ((c : Thread nD τ).loc main_arg2)
abbrev qg (c : Dev nD) : FVec Ideal S64 .f32 := m ((c : Thread nD τ).loc main_arg3)
abbrev kg (c : Dev nD) : FVec Ideal S64 .f32 := m ((c : Thread nD τ).loc main_arg4)

theorem V_eq (c : Dev nD) (b : Ref sig .tc) : V m c b = StableHlo.after
    (List.flatten [hostOps0, hostOps0_1, hostOps0_2]) (fun b => m (c, b)) (Proc.devRef .tc b) := by
  unfold V
  rfl

/-! ## What the host hands over -/

theorem cosines (c : Dev nD) (t : Fin 8192) (l : Fin 128) : (V m c main_v17 : FVec Ideal S8192x128 .f32) (ix2 t l)
    = Ideal.cos (Proj.angle t.val ⟨l.val % 32, by omega⟩) := by
  rw [V_eq]
  simp only [hostOps0, hostOps0_1, hostOps0_2, List.flatten_cons, List.flatten_nil, List.append_nil, List.cons_append, List.nil_append]
  entry_read
  pointwise [Proj.angle]

theorem sin_cat (c : Dev nD) : (V m c main_v19 : FVec Ideal S8192x128 .f32) = concatenate S8192x128 1
    [⟨S8192x32, StableHlo.upto hostOps0 (fun b => m (c, b)) 21 (Proc.devRef .tc main_v18)⟩, ⟨S8192x32, StableHlo.upto hostOps0 (fun b => m (c, b)) 21 (Proc.devRef .tc main_v14)⟩,
     ⟨S8192x32, StableHlo.upto hostOps0 (fun b => m (c, b)) 21 (Proc.devRef .tc main_v18)⟩, ⟨S8192x32, StableHlo.upto hostOps0 (fun b => m (c, b)) 21 (Proc.devRef .tc main_v14)⟩]
    concatenates_S8192x32_S8192x32_S8192x32_S8192x32_S8192x128_d1 := by
  rw [V_eq]
  refine (StableHlo.after_last_write (i := 21) [main_c, main_call0_v0, main_v20, main_v21, main_v22, main_v23, main_v24, main_v25, main_v26, main_v27, main_v28, main_v29, main_v30, main_v31] rfl rfl (by decide) _).trans ?_
  rw [StableHlo.nary_result]
  rfl

theorem sin_at (c : Dev nD) (t : Fin 8192) (i : Fin 32) : (StableHlo.upto hostOps0 (fun b => m (c, b)) 21 (Proc.devRef .tc main_v14) : FVec Ideal S8192x32 .f32) (ix2 t i)
    = Ideal.sin (Proj.angle t.val i) := by
  simp only [StableHlo.upto, List.take_succ_cons, List.take_zero]
  entry_read
  pointwise [Proj.angle]
theorem neg_at (c : Dev nD) (t : Fin 8192) (i : Fin 32) : (StableHlo.upto hostOps0 (fun b => m (c, b)) 21 (Proc.devRef .tc main_v18) : FVec Ideal S8192x32 .f32) (ix2 t i)
    = -Ideal.sin (Proj.angle t.val i) := by
  simp only [StableHlo.upto, List.take_succ_cons, List.take_zero]
  entry_read
  pointwise [Proj.angle]

theorem sines (c : Dev nD) (t : Fin 8192) (l : Fin 128) : (V m c main_v19 : FVec Ideal S8192x128 .f32) (ix2 t l)
    = if l.val % 64 < 32 then -Ideal.sin (Proj.angle t.val ⟨l.val % 32, by omega⟩) else Ideal.sin (Proj.angle t.val ⟨l.val % 32, by omega⟩) := by
  rw [sin_cat]
  refine (Kernel2Ideal.Final.cat _ _ t l).trans ?_
  rw [neg_at, sin_at]

theorem rows (c : Dev nD) (r : Fin 16384) (d : Fin 1024) : (V m c main_v22 : FVec Ideal S16384x1024 .f32) (ix2 r d)
    = x m c (ix3 ⟨r.val / 8192, by omega⟩ ⟨r.val % 8192, by omega⟩ d) := by
  rw [V_eq]
  simp only [hostOps0, hostOps0_1, hostOps0_2, List.flatten_cons, List.flatten_nil, List.append_nil, List.cons_append, List.nil_append]
  entry_read
  pointwise
theorem gains (c : Dev nD) (d : Fin 1024) : (V m c main_v23 : FVec Ideal S1x1024 .f32) (ix2 0 d) = g m c (ix1 d) := by
  rw [V_eq]
  simp only [hostOps0, hostOps0_1, hostOps0_2, List.flatten_cons, List.flatten_nil, List.append_nil, List.cons_append, List.nil_append]
  entry_read
  pointwise
theorem padded (w : FVec Ideal S1024x3144 .f32) (z : FVec Ideal S_ .f32) (d : Fin 1024) (e : Fin 3144) :
    pad S1024x3200 ![0, 0] ![0, 56] ![0, 0] w z pads_S1024x3144_S1024x3200_000_0560 h_S_ (ix2 d ⟨e.val, by omega⟩) = w (ix2 d e) := by
  pointwise
theorem weights (c : Dev nD) (d : Fin 1024) (e : Fin 3144) : (V m c main_v21 : FVec Ideal S1024x3200 .bf16) (ix2 d ⟨e.val, by omega⟩) = w m c (ix2 d e) := by
  rw [V_eq]
  simp only [hostOps0, hostOps0_1, hostOps0_2, List.flatten_cons, List.flatten_nil, List.append_nil, List.cons_append, List.nil_append]
  entry_read
  exact padded _ _ d e
theorem qgains (c : Dev nD) (l : Fin 128) : (V m c main_v27 : FVec Ideal S1x128 .f32) (ix2 0 l) = qg m c (ix1 ⟨l.val % 64, by omega⟩) := by
  rw [V_eq]
  simp only [hostOps0, hostOps0_1, hostOps0_2, List.flatten_cons, List.flatten_nil, List.append_nil, List.cons_append, List.nil_append]
  entry_read
  pointwise
theorem kgains (c : Dev nD) (l : Fin 128) : (V m c main_v31 : FVec Ideal S1x128 .f32) (ix2 0 l) = kg m c (ix1 ⟨l.val % 64, by omega⟩) := by
  rw [V_eq]
  simp only [hostOps0, hostOps0_1, hostOps0_2, List.flatten_cons, List.flatten_nil, List.append_nil, List.cons_append, List.nil_append]
  entry_read
  pointwise

/-! ## The blocks -/

theorem idx : ∀ t : Fin cfg0.N, win0_0.index t = ![t.val, 0] ∧ win0_1.index t = ![0, 0] ∧ win0_2.index t = ![0, 0]
    ∧ win0_3.index t = ![t.val % 32, 0] ∧ win0_4.index t = ![t.val % 32, 0] ∧ win0_5.index t = ![0, 0] ∧ win0_6.index t = ![0, 0]
    ∧ win0_7.index t = ![t.val, 0] ∧ win0_8.index t = ![t.val, 0] ∧ win0_9.index t = ![t.val, 0] ∧ win0_12.index t = ![t.val, 0] ∧ win0_13.index t = ![t.val, 0] ∧ win0_14.index t = ![t.val, 0]
    ∧ t.val < 64 :=
  (by decide +kernel : ∀ t : Fin grid0.N, _)

/-- The row of the whole array a grid point's block has at its row `r`. -/
abbrev here (t : Fin cfg0.N) (r : Fin 256) : Fin 16384 := ⟨256 * t.val + r.val, by have := idx t; omega⟩

theorem block0 (c : Dev nD) (t : Fin cfg0.N) (r : Fin 256) (d : Fin 1024) : (iblk m c 0 t : FVec Ideal S256x1024 .f32) (ix2 r d) = Reference2Ideal.At.rowOf (x m c) (here t r) d := by
  refine Eq.trans ?_ (rows m c (here t r) d)
  blk_ext [iblk, idx t]
theorem block1 (c : Dev nD) (t : Fin cfg0.N) (d : Fin 1024) : (iblk m c 1 t : FVec Ideal S1x1024 .f32) (ix2 0 d) = g m c (ix1 d) := by
  refine Eq.trans ?_ (gains m c d)
  blk_ext [iblk, idx t]
theorem block2 (c : Dev nD) (t : Fin cfg0.N) (d : Fin 1024) (e : Fin 3144) : (iblk m c 2 t : FVec Ideal S1024x3200 .bf16) (ix2 d ⟨e.val, by omega⟩) = w m c (ix2 d e) := by
  refine Eq.trans ?_ (weights m c d e)
  blk_ext [iblk, idx t]
theorem block3 (c : Dev nD) (t : Fin cfg0.N) (r : Fin 256) (l : Fin 128) : (iblk m c 3 t : FVec Ideal S256x128 .f32) (ix2 r l)
    = Ideal.cos (Proj.angle ((256 * t.val + r.val) % 8192) ⟨l.val % 32, by omega⟩) := by
  refine Eq.trans ?_ (cosines m c ⟨(256 * t.val + r.val) % 8192, by omega⟩ l)
  blk_ext [iblk, idx t]
theorem block4 (c : Dev nD) (t : Fin cfg0.N) (r : Fin 256) (l : Fin 128) : (iblk m c 4 t : FVec Ideal S256x128 .f32) (ix2 r l)
    = if l.val % 64 < 32 then -Ideal.sin (Proj.angle ((256 * t.val + r.val) % 8192) ⟨l.val % 32, by omega⟩)
      else Ideal.sin (Proj.angle ((256 * t.val + r.val) % 8192) ⟨l.val % 32, by omega⟩) := by
  refine Eq.trans ?_ (sines m c ⟨(256 * t.val + r.val) % 8192, by omega⟩ l)
  blk_ext [iblk, idx t]
theorem block5 (c : Dev nD) (t : Fin cfg0.N) (l : Fin 128) : (iblk m c 5 t : FVec Ideal S1x128 .f32) (ix2 0 l) = qg m c (ix1 ⟨l.val % 64, by omega⟩) := by
  refine Eq.trans ?_ (qgains m c l)
  blk_ext [iblk, idx t]
theorem block6 (c : Dev nD) (t : Fin cfg0.N) (l : Fin 128) : (iblk m c 6 t : FVec Ideal S1x128 .f32) (ix2 0 l) = kg m c (ix1 ⟨l.val % 64, by omega⟩) := by
  refine Eq.trans ?_ (kgains m c l)
  blk_ext [iblk, idx t]

section Finals

open Reference6Ideal.At (cols iof iqof ikof qof kof vof gof)
open Reference2Ideal.At (rowOf vecOf)

variable (c : Dev nD) (fg : ∀ d, Proj.IsFin (g m c (ix1 d))) (fw : ∀ d e, Proj.IsFin (w m c (ix2 d e)))

/-- The projected columns of the arguments. -/
abbrev z : FVec Ideal Reference6Ideal.S2x8192x3144 .f32 := cols (x m c) (g m c) (w m c)

theorem q_col (b : Fin 2) (t : Fin 8192) (l : Fin 1024) : qof (z m c) (ix3 b t l)
    = Proj.proj (fun d => x m c (ix3 b t d)) (vecOf (g m c)) fun d => w m c (ix2 d ⟨l.val, by omega⟩) :=
  Eq.trans (b := z m c (ix3 b t ⟨l.val, by omega⟩)) (by pointwise) (Reference6Ideal.At.cols_at _ _ _ b t _)
theorem k_col (b : Fin 2) (t : Fin 8192) (l : Fin 256) : kof (z m c) (ix3 b t l)
    = Proj.proj (fun d => x m c (ix3 b t d)) (vecOf (g m c)) fun d => w m c (ix2 d ⟨1024 + l.val, by omega⟩) :=
  Eq.trans (b := z m c (ix3 b t ⟨1024 + l.val, by omega⟩)) (by pointwise) (Reference6Ideal.At.cols_at _ _ _ b t _)
theorem v_col (b : Fin 2) (t : Fin 8192) (l : Fin 256) : vof (z m c) (ix3 b t l)
    = Proj.proj (fun d => x m c (ix3 b t d)) (vecOf (g m c)) fun d => w m c (ix2 d ⟨1280 + l.val, by omega⟩) :=
  Eq.trans (b := z m c (ix3 b t ⟨1280 + l.val, by omega⟩)) (by pointwise) (Reference6Ideal.At.cols_at _ _ _ b t _)
theorem g_col (b : Fin 2) (t : Fin 8192) (l : Fin 1024) : gof (z m c) (ix3 b t l)
    = Proj.proj (fun d => x m c (ix3 b t d)) (vecOf (g m c)) fun d => w m c (ix2 d ⟨1536 + l.val, by omega⟩) :=
  Eq.trans (b := z m c (ix3 b t ⟨1536 + l.val, by omega⟩)) (by pointwise) (Reference6Ideal.At.cols_at _ _ _ b t _)

theorem i_col (b : Fin 2) (t : Fin 8192) (l : Fin 512) : iqof (iof (z m c)) (ix3 b t l)
    = Proj.proj (fun d => x m c (ix3 b t d)) (vecOf (g m c)) fun d => w m c (ix2 d ⟨2560 + l.val, by omega⟩) :=
  Eq.trans (b := z m c (ix3 b t ⟨2560 + l.val, by omega⟩)) (by pointwise) (Reference6Ideal.At.cols_at _ _ _ b t _)
theorem l_col (b : Fin 2) (t : Fin 8192) (l : Fin 64) : ikof (iof (z m c)) (ix3 b t l)
    = Proj.proj (fun d => x m c (ix3 b t d)) (vecOf (g m c)) fun d => w m c (ix2 d ⟨3072 + l.val, by omega⟩) := by
  refine Eq.trans (b := z m c (ix3 b t ⟨3072 + l.val, by omega⟩)) ?_ (Reference6Ideal.At.cols_at _ _ _ b t _)
  pointwise [Reference6Ideal.At.ikof]
  exact congrArg (fun e => z m c (ix3 b t e)) (Fin.ext (by simp only; omega))
theorem w_col (b : Fin 2) (t : Fin 8192) (l : Fin 8) : iof (z m c) (ix3 b t ⟨576 + l.val, by omega⟩)
    = Proj.proj (fun d => x m c (ix3 b t d)) (vecOf (g m c)) fun d => w m c (ix2 d ⟨3136 + l.val, by omega⟩) := by
  refine Eq.trans (b := z m c (ix3 b t ⟨3136 + l.val, by omega⟩)) ?_ (Reference6Ideal.At.cols_at _ _ _ b t _)
  pointwise
  exact congrArg (fun e => z m c (ix3 b t e)) (Fin.ext (by simp only; omega))

/-- The results of the reference. -/
abbrev qres : FVec Ideal S16384x1024 .f32 :=
  Reference5Ideal.At.qrows (Reference5Ideal.At.qturn (Reference5Ideal.At.qnorm (Reference5Ideal.At.qheads (qof (z m c))) (qg m c)))
abbrev kres : FVec Ideal Reference5Ideal.S2x8192x4x64 .f32 :=
  Reference5Ideal.At.kturn (Reference5Ideal.At.knorm (Reference5Ideal.At.kheads (kof (z m c))) (kg m c))

theorem qres_at (r : Fin 16384) (l : Fin 1024) : qres m c (ix2 r l) = Proj.headOf (rowOf (x m c) r) (vecOf (g m c))
    (fun j d => w m c (ix2 d ⟨l.val / 64 * 64 + j.val, by omega⟩)) (vecOf (qg m c)) (r.val % 8192) ⟨l.val % 64, by omega⟩ * Ideal.ofBits .f32 0x3E000000#32 := by
  refine (Reference5Ideal.At.queries_at _ _ r l).trans ?_
  simp only [q_col]
  rfl
theorem kres_at (r : Fin 16384) (l : Fin 256) : Reference5Ideal.At.krows (kres m c) (ix2 r l) = Proj.headOf (rowOf (x m c) r) (vecOf (g m c))
    (fun j d => w m c (ix2 d ⟨1024 + (l.val / 64 * 64 + j.val), by omega⟩)) (vecOf (kg m c)) (r.val % 8192) ⟨l.val % 64, by omega⟩ := by
  refine (Reference5Ideal.At.keys_at _ _ r l).trans ?_
  simp only [k_col]
  rfl

include fg fw

theorem holds (t : Fin cfg0.N) (r : Fin 256) : Row m c t r (rowOf (x m c) (here t r)) (vecOf (g m c)) (fun d e => w m c (ix2 d e))
    (vecOf (qg m c)) (vecOf (kg m c)) ((256 * t.val + r.val) % 8192) :=
  row_of (block0 m c t r) (block1 m c t) (block2 m c t) (block3 m c t r) (block4 m c t r) (block5 m c t) (block6 m c t) fg fw

theorem final7 : (dats m 0 c).arrAt 7 (cfgs 0).N = qres m c := by
  refine (dats m 0 c).arrAt_eq_of_covers 7 _ (by decide +kernel) fun t _ y => ?_
  blk_simp
  rw [after0_7]
  idx_vars y
  refine (out7 (holds m c fg fw t y0) y1).trans ((qres_at m c (here t y0) y1).symm.trans (congrArg _ ?_))
  blk_ext [idx t]

theorem final8 : (dats m 0 c).arrAt 8 (cfgs 0).N = Reference5Ideal.At.krows (kres m c) := by
  refine (dats m 0 c).arrAt_eq_of_covers 8 _ (by decide +kernel) fun t _ y => ?_
  blk_simp
  rw [after0_8]
  idx_vars y
  refine (out8 (holds m c fg fw t y0) y1).trans ((kres_at m c (here t y0) y1).symm.trans (congrArg _ ?_))
  blk_ext [idx t]

theorem final9 : (dats m 0 c).arrAt 9 (cfgs 0).N = Reference5Ideal.At.vrows (vof (z m c)) := by
  refine (dats m 0 c).arrAt_eq_of_covers 9 _ (by decide +kernel) fun t _ y => ?_
  blk_simp
  rw [after0_9]
  idx_vars y
  refine (out9 (holds m c fg fw t y0) y1).trans (((Reference5Ideal.At.vrows_at _ (here t y0) y1).trans (v_col m c _ _ y1)).symm.trans (congrArg _ ?_))
  blk_ext [idx t]

theorem final12 : (dats m 0 c).arrAt 12 (cfgs 0).N = Reference5Ideal.At.gates (gof (z m c)) := by
  refine (dats m 0 c).arrAt_eq_of_covers 12 _ (by decide +kernel) fun t _ y => ?_
  blk_simp
  rw [after0_12]
  idx_vars y
  refine (out12 (holds m c fg fw t y0) y1).trans (((Reference5Ideal.At.gates_at _ (here t y0) y1).trans
    (congrArg Proj.silu (g_col m c _ _ y1))).symm.trans (congrArg _ ?_))
  blk_ext [idx t]

theorem final13 : (dats m 0 c).arrAt 13 (cfgs 0).N
    = Reference6Ideal.At.irows (Reference6Ideal.At.iturn (Reference6Ideal.At.iheads (iqof (iof (z m c))))) := by
  refine (dats m 0 c).arrAt_eq_of_covers 13 _ (by decide +kernel) fun t _ y => ?_
  blk_simp
  rw [after0_13]
  idx_vars y
  have hd : Reference6Ideal.At.irows (Reference6Ideal.At.iturn (Reference6Ideal.At.iheads (iqof (iof (z m c))))) (ix2 (here t y0) y1)
      = Proj.turn (fun j => Proj.proj (rowOf (x m c) (here t y0)) (vecOf (g m c)) fun d => w m c (ix2 d ⟨2560 + (y1.val / 64 * 64 + j.val), by omega⟩))
        (Proj.angle ((256 * t.val + y0.val) % 8192)) ⟨y1.val % 64, by omega⟩ := by
    refine (Reference6Ideal.At.index_at _ (here t y0) y1).trans ?_
    simp only [i_col]
  refine (out13 (block2 m c t) (holds m c fg fw t y0) y1).trans (hd.symm.trans (congrArg _ ?_))
  blk_ext [idx t]

omit fg fw in
/-- The last window's array, read from the grid points' blocks. -/
def lastArr : FVec Ideal S16384x128 .f32 := fun y =>
  (outsAt0 m c ⟨(y 0).val / 256, by have h : (y 0).val < 16384 := (y 0).isLt; have e : cfg0.N = 64 := (by decide +kernel : grid0.N = 64); omega⟩).2.2.2.2.2.2.2.1
    (ix2 ⟨(y 0).val % 256, by omega⟩ ⟨(y 1).val, (y 1).isLt⟩)

omit fg fw in
theorem lastArr_at (t : Fin cfg0.N) (r : Fin 256) (l : Fin 128) :
    lastArr m c (ix2 (here t r) l) = (outsAt0 m c t).2.2.2.2.2.2.2.1 (ix2 r l) := by
  have h : t.val < 64 := by have := idx t; omega
  exact congrArg₂ (fun t r => (outsAt0 m c t).2.2.2.2.2.2.2.1 (ix2 r l)) (Fin.ext (show (256 * t.val + r.val) / 256 = t.val by omega))
    (Fin.ext (show (256 * t.val + r.val) % 256 = r.val by omega))

omit fg fw in
theorem final14 : (dats m 0 c).arrAt 14 (cfgs 0).N = lastArr m c := by
  refine (dats m 0 c).arrAt_eq_of_covers 14 _ (by decide +kernel) fun t _ y => ?_
  blk_simp
  rw [after0_14]
  idx_vars y
  refine (lastArr_at m c t y0 y1).symm.trans (congrArg _ ?_)
  blk_ext [idx t]

omit fg fw in
theorem exists_here (R : Fin 16384) : ∃ t r, R = here t r :=
  ⟨⟨R.val / 256, by have e : cfg0.N = 64 := (by decide +kernel : grid0.N = 64); omega⟩, ⟨R.val % 256, by omega⟩, Fin.ext (by simp only; omega)⟩

theorem key_at (R : Fin 16384) (j : Fin 64) : lastArr m c (ix2 R ⟨j.val, by omega⟩)
    = Proj.turn (fun j => Proj.proj (rowOf (x m c) R) (vecOf (g m c)) fun d => w m c (ix2 d ⟨3072 + j.val, by omega⟩)) (Proj.angle (R.val % 8192)) j := by
  obtain ⟨t, r, rfl⟩ := exists_here R
  exact (lastArr_at m c t r _).trans (out14_key (block2 m c t) (holds m c fg fw t r) j)
theorem weight_at (R : Fin 16384) (l : Fin 8) : lastArr m c (ix2 R ⟨64 + l.val, by omega⟩)
    = Proj.proj (rowOf (x m c) R) (vecOf (g m c)) fun d => w m c (ix2 d ⟨3136 + l.val, by omega⟩) := by
  obtain ⟨t, r, rfl⟩ := exists_here R
  exact (lastArr_at m c t r _).trans (out14_weight (block2 m c t) (holds m c fg fw t r) l)

/-! ## What the host cuts from the last window -/

theorem key_cut : extractStridedSlice S2x8192x64 ![0, 0, 0] (shapeCast S2x8192x128 (lastArr m c) shapeCasts_S16384x128_S2x8192x128) slices_S2x8192x128_S2x8192x64_0_0_0
    = Reference6Ideal.At.ikturn (ikof (iof (z m c))) := by
  funext y
  idx_vars y
  obtain ⟨R, rfl, rfl⟩ : ∃ R : Fin 16384, y0 = ⟨R.val / 8192, by omega⟩ ∧ y1 = ⟨R.val % 8192, by omega⟩ :=
    ⟨⟨8192 * y0.val + y1.val, by omega⟩, Fin.ext (by simp only; omega), Fin.ext (by simp only; omega)⟩
  refine Eq.trans (b := lastArr m c (ix2 R ⟨y2.val, by omega⟩)) ?_ ((key_at m c fg fw R y2).trans ?_)
  · pointwise
  · rw [Reference6Ideal.At.ikturn_at]
    simp only [l_col]

theorem weight_cut : extractStridedSlice S16384x8 ![0, 64] (lastArr m c) slices_S16384x128_S16384x8_0_64 = Reference6Ideal.At.iwrows (iof (z m c)) := by
  funext y
  idx_vars y
  refine Eq.trans (b := lastArr m c (ix2 y0 ⟨64 + y1.val, by omega⟩)) (by pointwise) ((weight_at m c fg fw y0 y1).trans ?_)
  rw [Reference6Ideal.At.iwrows_at, w_col]

end Finals

theorem exit14 (c : Dev nD) : Pipeline.withArrays (cfgs 0).spec c (V0 m c) (fun w => (dats m 0 c).arrAt w (cfgs 0).N) (Proc.devRef .tc main_v32_7)
      = lastArr m c :=
  (Pipeline.withArrays_arr (cfgs 0).spec (by decide) c (V0 m c) _ 14).trans (final14 m c)

theorem tail34 (V' : Valuation τ sig (Elt Ideal)) (a : FVec Ideal S16384x128 .f32) (h : V' (Proc.devRef .tc main_v32_7) = a) :
    StableHlo.after (List.flatten [hostOps1]) V' (Proc.devRef .tc main_v34)
      = extractStridedSlice S2x8192x64 ![0, 0, 0] (shapeCast S2x8192x128 a shapeCasts_S16384x128_S2x8192x128) slices_S2x8192x128_S2x8192x64_0_0_0 := by
  rw [List.flatten_singleton]
  after_results
  rw [h]
  rfl
theorem tail35 (V' : Valuation τ sig (Elt Ideal)) (a : FVec Ideal S16384x128 .f32) (h : V' (Proc.devRef .tc main_v32_7) = a) :
    StableHlo.after (List.flatten [hostOps1]) V' (Proc.devRef .tc main_v35) = extractStridedSlice S16384x8 ![0, 64] a slices_S16384x128_S16384x8_0_64 := by
  rw [List.flatten_singleton]
  after_results
  rw [h]

theorem run (hg : ∀ c d, Proj.IsFin (g m c (ix1 d))) (hw : ∀ c d e, Proj.IsFin (w m c (ix2 d e))) (ρ : Dev nD → PrngReg) :
    θ_run defs (onTc (τ := τ) (main (F := Ideal))) ⟨m, fun _ => 0, ρ⟩ fun r => ∀ c : Dev nD,
      r.2.mem ((c.tc : Thread nD τ).loc main_v32_0) = qres m c
      ∧ r.2.mem ((c.tc : Thread nD τ).loc main_v32_1) = Reference5Ideal.At.krows (kres m c)
      ∧ r.2.mem ((c.tc : Thread nD τ).loc main_v32_2) = Reference5Ideal.At.vrows (Reference6Ideal.At.vof (z m c))
      ∧ r.2.mem ((c.tc : Thread nD τ).loc main_v32_5) = Reference5Ideal.At.gates (Reference6Ideal.At.gof (z m c))
      ∧ r.2.mem ((c.tc : Thread nD τ).loc main_v32_6) = Reference6Ideal.At.irows (Reference6Ideal.At.iturn (Reference6Ideal.At.iheads (Reference6Ideal.At.iqof (Reference6Ideal.At.iof (z m c)))))
      ∧ r.2.mem ((c.tc : Thread nD τ).loc main_v34) = Reference6Ideal.At.ikturn (Reference6Ideal.At.ikof (Reference6Ideal.At.iof (z m c)))
      ∧ r.2.mem ((c.tc : Thread nD τ).loc main_v35) = Reference6Ideal.At.iwrows (Reference6Ideal.At.iof (z m c)) :=
  (θ_run _ _ _).mono (fun r h c => ⟨(h.out_eq c 7).trans (final7 m c (hg c) (hw c)), (h.out_eq c 8).trans (final8 m c (hg c) (hw c)),
    (h.out_eq c 9).trans (final9 m c (hg c) (hw c)), (h.out_eq c 12).trans (final12 m c (hg c) (hw c)), (h.out_eq c 13).trans (final13 m c (hg c) (hw c)),
    (h.rest_eq c main_v34 (by decide)).trans ((tail34 _ _ (exit14 m c)).trans (key_cut m c (hg c) (hw c))),
    (h.rest_eq c main_v35 (by decide)).trans ((tail35 _ _ (exit14 m c)).trans (weight_cut m c (hg c) (hw c)))⟩) (run_main m ρ)

end Cert.Kernel6Ideal.Final
-- ==== Proof.Refv7.lean ====
/- The reference of the merging output projection of the sample, layer by layer, and its entries. -/
module

public import proofs.«01_k».proof.Proof.Gen.Reference7Ideal.Run
public import proofs.«01_k».proof.Proof.Refv3

@[expose] public section

set_option maxRecDepth 16384

noncomputable section

open Idealize.ShloMosaic Idealize.ShloMosaic.TcCoe Idealize.SL.Sem

namespace Cert.Reference7Ideal.At

open Cert.Reference7Ideal Cert.Reference7Ideal.Gen Cert.Reference7Ideal.Value

/-- A group's heads, from its four slabs. -/
def heads (a b c d : FVec Ideal S1024x128 .f32) : FVec Ideal S1024x8x64 .f32 :=
  shapeCast _ (concatenate S1024x512 1 [⟨S1024x128, a⟩, ⟨S1024x128, b⟩, ⟨S1024x128, c⟩, ⟨S1024x128, d⟩]
    concatenates_S1024x128_S1024x128_S1024x128_S1024x128_S1024x512_d1) shapeCasts_S1024x512_S1024x8x64

/-- A group's log-denominators, one per row and head. -/
def logs (l : FVec Ideal S1024x128 .f32) : FVec Ideal S1024x8 .f32 :=
  shapeCast _ (extractStridedSlice S1024x8x1 ![0, 0, 0] (shapeCast _ l shapeCasts_S1024x128_S1024x8x16)
    slices_S1024x8x16_S1024x8x1_0_0_0) shapeCasts_S1024x8x1_S1024x8

/-- The three groups' log-denominators. -/
def allLogs (l0 l1 l2 : FVec Ideal S1024x8 .f32) : FVec Ideal S3x1024x8 .f32 :=
  concatenate S3x1024x8 0 [⟨S1x1024x8, broadcastInDim S1x1024x8 ![1, 2] bcast_S1024x8_S1x1024x8_1_2 l0⟩,
    ⟨S1x1024x8, broadcastInDim S1x1024x8 ![1, 2] bcast_S1024x8_S1x1024x8_1_2 l1⟩,
    ⟨S1x1024x8, broadcastInDim S1x1024x8 ![1, 2] bcast_S1024x8_S1x1024x8_1_2 l2⟩]
    concatenates_S1x1024x8_S1x1024x8_S1x1024x8_S3x1024x8_d0

/-- The three groups' heads. -/
def allHeads (o0 o1 o2 : FVec Ideal S1024x8x64 .f32) : FVec Ideal S3x1024x8x64 .f32 :=
  concatenate S3x1024x8x64 0 [⟨S1x1024x8x64, broadcastInDim S1x1024x8x64 ![1, 2, 3] bcast_S1024x8x64_S1x1024x8x64_1_2_3 o0⟩,
    ⟨S1x1024x8x64, broadcastInDim S1x1024x8x64 ![1, 2, 3] bcast_S1024x8x64_S1x1024x8x64_1_2_3 o1⟩,
    ⟨S1x1024x8x64, broadcastInDim S1x1024x8x64 ![1, 2, 3] bcast_S1024x8x64_S1x1024x8x64_1_2_3 o2⟩]
    concatenates_S1x1024x8x64_S1x1024x8x64_S1x1024x8x64_S3x1024x8x64_d0

/-- The exponentials of the log-denominators less their maximum over the groups. -/
def exps (s : FVec Ideal S3x1024x8 .f32) : FVec Ideal S3x1024x8 .f32 :=
  Host.exp (subf s (broadcastInDim S3x1024x8 ![0, 1, 2] bcast_S1x1024x8_S3x1024x8_0_1_2 (broadcastInDim S1x1024x8 ![1, 2]
    bcast_S1024x8_S1x1024x8_1_2 (maximumf (broadcastInDim S1024x8 ![] bcast_S_S1024x8 (constant S_ .f32 0xFF800000#32))
    (Host.reduce FloatOps.maximumf s (constant S_ .f32 0xFF800000#32) reducesTo_S3x1024x8_S1024x8_d0 h_S_)))))

/-- The groups' weights. -/
def wts (e : FVec Ideal S3x1024x8 .f32) : FVec Ideal S3x1024x8 .f32 :=
  Host.divf e (broadcastInDim S3x1024x8 ![0, 1, 2] bcast_S1x1024x8_S3x1024x8_0_1_2 (broadcastInDim S1x1024x8 ![1, 2]
    bcast_S1024x8_S1x1024x8_1_2 (Host.reduceAdd e (constant S_ .f32 0x00000000#32) reducesTo_S3x1024x8_S1024x8_d0 h_S_)))

/-- The mixed heads side by side. -/
def mix (w : FVec Ideal S3x1024x8 .f32) (o : FVec Ideal S3x1024x8x64 .f32) : FVec Ideal S1024x512 .f32 :=
  shapeCast _ (Host.dotGeneral dot_S3x1024x8_S3x1024x8x64_S1024x8x64_0_0_n_3_12_12 none w o) shapeCasts_S1024x8x64_S1024x512

/-- The residual plus the gated rows' product with the weights. -/
def sums (o s : FVec Ideal S1024x512 .f32) (x : FVec Ideal S1024x1024 .f32) (w : FVec Ideal S512x1024 .f32) : FVec Ideal S1024x1024 .f32 :=
  addf x (Host.dotGeneral dot_S1024x512_S512x1024_S1024x1024_1_0_0_1_n_n none (mulf o s) w)

theorem heads_at (a b c d : FVec Ideal S1024x128 .f32) (r : Fin 1024) (l : Fin 512) :
    heads a b c d (ix3 r ⟨l.val / 64, by omega⟩ ⟨l.val % 64, by omega⟩)
      = Merge.part ![fun k => a (ix2 r k), fun k => b (ix2 r k), fun k => c (ix2 r k), fun k => d (ix2 r k)] l := by
  have hl := l.isLt
  have hd : l.val / 64 * 64 + l.val % 64 = l.val := by omega
  refine Eq.trans ?_ (Merge.quarters _ _ _ _ l)
  pointwise [heads]

theorem logs_at (l : FVec Ideal S1024x128 .f32) (r : Fin 1024) (h : Fin 8) :
    logs l (ix2 r h) = l (ix2 r ⟨h.val * 16, by omega⟩) := by
  pointwise [logs]

theorem allLogs_at (l : Fin 3 → FVec Ideal S1024x8 .f32) (g : Fin 3) (r : Fin 1024) (h : Fin 8) :
    allLogs (l 0) (l 1) (l 2) (ix3 g r h) = l g (ix2 r h) := by
  pointwise [allLogs]
  fin_cases g <;> rfl

theorem allHeads_at (o : Fin 3 → FVec Ideal S1024x8x64 .f32) (g : Fin 3) (r : Fin 1024) (h : Fin 8) (d : Fin 64) :
    allHeads (o 0) (o 1) (o 2) (ix4 g r h d) = o g (ix3 r h d) := by
  pointwise [allHeads]
  fin_cases g <;> rfl

theorem exps_at (s : FVec Ideal S3x1024x8 .f32) (g : Fin 3) (r : Fin 1024) (h : Fin 8) :
    exps s (ix3 g r h) = Ideal.exp (s (ix3 g r h) - Soft.top fun g => s (ix3 g r h)) := by
  refine Eq.trans (b := Ideal.exp (s (ix3 g r h) - max Soft.negInf (Soft.top fun g => s (ix3 g r h)))) ?_ ?_
  · pointwise [exps, Soft.top]
  · rw [Soft.negInf_eq, max_eq_right bot_le]

theorem wts_at (e : FVec Ideal S3x1024x8 .f32) (g : Fin 3) (r : Fin 1024) (h : Fin 8) :
    wts e (ix3 g r h) = Ideal.div (e (ix3 g r h)) (∑ g, e (ix3 g r h)) := by
  pointwise [wts]

theorem mix_at (w : FVec Ideal S3x1024x8 .f32) (o : FVec Ideal S3x1024x8x64 .f32) (r : Fin 1024) (l : Fin 512) :
    mix w o (ix2 r l) = ∑ g, w (ix3 g r ⟨l.val / 64, by omega⟩) * o (ix4 g r ⟨l.val / 64, by omega⟩ ⟨l.val % 64, by omega⟩) := by
  pointwise [mix]

theorem sums_at (o s : FVec Ideal S1024x512 .f32) (x : FVec Ideal S1024x1024 .f32) (w : FVec Ideal S512x1024 .f32) (r : Fin 1024) (e : Fin 1024) :
    sums o s x w (ix2 r e) = x (ix2 r e) + ∑ d, o (ix2 r d) * s (ix2 r d) * w (ix2 d e) := by
  pointwise [sums]

/-- The result from the slabs, the log-denominators, the gates, the residual and the weights. -/
def merged (a : Fin 3 → Fin 4 → FVec Ideal S1024x128 .f32) (l : Fin 3 → FVec Ideal S1024x128 .f32)
    (s : FVec Ideal S1024x512 .f32) (x : FVec Ideal S1024x1024 .f32) (w : FVec Ideal S512x1024 .f32) : FVec Ideal S1024x1024 .f32 :=
  sums (mix (wts (exps (allLogs (logs (l 0)) (logs (l 1)) (logs (l 2)))))
    (allHeads (heads (a 0 0) (a 0 1) (a 0 2) (a 0 3)) (heads (a 1 0) (a 1 1) (a 1 2) (a 1 3)) (heads (a 2 0) (a 2 1) (a 2 2) (a 2 3)))) s x w

theorem merged_at (a : Fin 3 → Fin 4 → FVec Ideal S1024x128 .f32) (l : Fin 3 → FVec Ideal S1024x128 .f32)
    (s : FVec Ideal S1024x512 .f32) (x : FVec Ideal S1024x1024 .f32) (w : FVec Ideal S512x1024 .f32) (r : Fin 1024) (e : Fin 1024) :
    merged a l s x w (ix2 r e) = x (ix2 r e) + ∑ d, Merge.mixed (fun g => l g (ix2 r ⟨d.val / 64 * 16, by omega⟩))
      (fun g => Merge.part (fun i k => a g i (ix2 r k)) d) * s (ix2 r d) * w (ix2 d e) := by
  unfold merged
  rw [sums_at]
  refine congrArg (x (ix2 r e) + ·) (Finset.sum_congr rfl fun d _ => congrArg (· * s (ix2 r d) * w (ix2 d e)) ?_)
  rw [mix_at]
  unfold Merge.mixed Soft.den
  refine Finset.sum_congr rfl fun g _ => ?_
  have hl : ∀ g, allLogs (logs (l 0)) (logs (l 1)) (logs (l 2)) (ix3 g r ⟨d.val / 64, by omega⟩) = l g (ix2 r ⟨d.val / 64 * 16, by omega⟩) :=
    fun g => (allLogs_at (fun g => logs (l g)) g r _).trans (logs_at _ _ _)
  have ho := (allHeads_at (fun g => heads (a g 0) (a g 1) (a g 2) (a g 3)) g r ⟨d.val / 64, by omega⟩ ⟨d.val % 64, by omega⟩).trans (heads_at _ _ _ _ r d)
  rw [wts_at]
  simp only [exps_at, hl]
  refine congrArg _ (ho.trans ?_)
  unfold Merge.part
  generalize (⟨d.val / 128, _⟩ : Fin 4) = i
  fin_cases i <;> rfl

variable (m : (ℓ : Loc nD τ sig) → Buf (Elt Ideal) ℓ)

theorem out0 (c : Dev nD) : res_out0 m c = merged
    ![![m ((c : Thread nD τ).loc main_arg0), m ((c : Thread nD τ).loc main_arg1), m ((c : Thread nD τ).loc main_arg2), m ((c : Thread nD τ).loc main_arg3)],
      ![m ((c : Thread nD τ).loc main_arg5), m ((c : Thread nD τ).loc main_arg6), m ((c : Thread nD τ).loc main_arg7), m ((c : Thread nD τ).loc main_arg8)],
      ![m ((c : Thread nD τ).loc main_arg10), m ((c : Thread nD τ).loc main_arg11), m ((c : Thread nD τ).loc main_arg12), m ((c : Thread nD τ).loc main_arg13)]]
    ![m ((c : Thread nD τ).loc main_arg4), m ((c : Thread nD τ).loc main_arg9), m ((c : Thread nD τ).loc main_arg14)]
    (m ((c : Thread nD τ).loc main_arg15)) (m ((c : Thread nD τ).loc main_arg16)) (m ((c : Thread nD τ).loc main_arg17)) := by
  unfold res_out0 res_main_v38
  rfl

end Cert.Reference7Ideal.At
-- ==== Proof.Final7.lean ====
/- The merging output projection of the sample: the array it leaves, as the reference's result. -/
module

public import proofs.«01_k».proof.Proof.Gen.Kernel7Ideal.Frame
public import proofs.«01_k».proof.Proof.Gen.Kernel7Ideal.Value
public import proofs.«01_k».proof.Proof.Refv7
public import proofs.«01_k».proof.Proof.Final3

@[expose] public section

set_option maxRecDepth 16384

noncomputable section

open Idealize.ShloMosaic Idealize.ShloMosaic.TcCoe Idealize.SL.Sem
open Idealize.ShloMosaic.Pipeline (Dat)

namespace Cert.Kernel7Ideal.Final

open Cert.Kernel7Ideal Cert.Kernel7Ideal.Gen

theorem ldr (x : FVec Ideal S256x128 .f32) : View.ld (Val := Elt Ideal) (e' := .f32) x r0_0 = x := Kernel3Ideal.Final.ldr x
theorem lds (x : FVec Ideal S256x512 .f32) : View.ld (Val := Elt Ideal) (e' := .f32) x r0_1 = x := Kernel3Ideal.Final.lds x
theorem ldx (x : FVec Ideal S256x1024 .f32) : View.ld (Val := Elt Ideal) (e' := .f32) x r0_2 = x := Kernel3Ideal.Final.ldx x
theorem ldw (x : FVec Ideal S512x1024 .bf16) : View.ld (Val := Elt Ideal) (e' := .bf16) x r0_3 = x := Kernel3Ideal.Final.ldw x

/-- A grid point leaves what one of the prompt's leaves of the same blocks. -/
theorem same (a0 a1 a2 a3 l0 b0 b1 b2 b3 l1 c0 c1 c2 c3 l2 : FVec Ideal S256x128 .f32) (s : FVec Ideal S256x512 .f32)
    (x : FVec Ideal S256x1024 .f32) (w : FVec Ideal S512x1024 .bf16) (r : Fin 256) (e : Fin 1024) :
    out0_18 (F := Ideal) a0 a1 a2 a3 l0 b0 b1 b2 b3 l1 c0 c1 c2 c3 l2 s x w (ix2 r e)
      = Kernel3Ideal.Gen.out0_18 (F := Ideal) a0 a1 a2 a3 l0 b0 b1 b2 b3 l1 c0 c1 c2 c3 l2 s x w (ix2 r e) := by
  rw [Kernel3Ideal.Final.out_eq]
  unfold_out out0_18
  canon_tiles y h
  all_goals (idx_vars y; obtain rfl : y0 = r := Fin.ext h0.symm; obtain rfl : y1 = e := Fin.ext h1.symm)
  rw [ldr, ldr, ldr, ldr, ldr, ldr, ldr, ldr, ldr, ldr, ldr, ldr, ldr, ldr, ldr, lds, ldx, ldw]
  rfl

variable (m : (ℓ : Loc nD τ sig) → Buf (Elt Ideal) ℓ)

/-- The arguments: the groups' slabs, their log-denominators, the gates, the residual and the weights. -/
abbrev a (c : Dev nD) : Fin 3 → Fin 4 → FVec Ideal S1024x128 .f32 :=
  ![![m ((c : Thread nD τ).loc main_arg0), m ((c : Thread nD τ).loc main_arg1), m ((c : Thread nD τ).loc main_arg2), m ((c : Thread nD τ).loc main_arg3)],
    ![m ((c : Thread nD τ).loc main_arg5), m ((c : Thread nD τ).loc main_arg6), m ((c : Thread nD τ).loc main_arg7), m ((c : Thread nD τ).loc main_arg8)],
    ![m ((c : Thread nD τ).loc main_arg10), m ((c : Thread nD τ).loc main_arg11), m ((c : Thread nD τ).loc main_arg12), m ((c : Thread nD τ).loc main_arg13)]]
abbrev l (c : Dev nD) : Fin 3 → FVec Ideal S1024x128 .f32 :=
  ![m ((c : Thread nD τ).loc main_arg4), m ((c : Thread nD τ).loc main_arg9), m ((c : Thread nD τ).loc main_arg14)]
abbrev s (c : Dev nD) : FVec Ideal S1024x512 .f32 := m ((c : Thread nD τ).loc main_arg15)
abbrev x (c : Dev nD) : FVec Ideal S1024x1024 .f32 := m ((c : Thread nD τ).loc main_arg16)
abbrev w (c : Dev nD) : FVec Ideal S512x1024 .f32 := m ((c : Thread nD τ).loc main_arg17)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![0, 0]
    ∧ win0_18.index t = ![t.val, 0] ∧ t.val < 4 :=
  (by decide +kernel : ∀ t : Fin grid0.N, _)

/-- The row of the whole array a grid point's block has at its row `r`. -/
abbrev here (t : Fin cfg0.N) (r : Fin 256) : Fin 1024 := ⟨256 * t.val + r.val, by have := idx t; omega⟩

/-- The blocks of the groups' slabs and log-denominators at a grid point. -/
abbrev ab (c : Dev nD) (t : Fin cfg0.N) : Fin 3 → Fin 4 → FVec Ideal S256x128 .f32 :=
  ![![iblk m c 0 t, iblk m c 1 t, iblk m c 2 t, iblk m c 3 t], ![iblk m c 5 t, iblk m c 6 t, iblk m c 7 t, iblk m c 8 t],
    ![iblk m c 10 t, iblk m c 11 t, iblk m c 12 t, iblk m c 13 t]]
abbrev lb (c : Dev nD) (t : Fin cfg0.N) : Fin 3 → FVec Ideal S256x128 .f32 := ![iblk m c 4 t, iblk m c 9 t, iblk m c 14 t]

theorem block0 (c : Dev nD) (t : Fin cfg0.N) (r : Fin 256) (d : Fin 128) : (iblk m c 0 t : FVec Ideal S256x128 .f32) (ix2 r d)
    = (m ((c : Thread nD τ).loc main_arg0) : FVec Ideal S1024x128 .f32) (ix2 (here t r) d) := by
  refine Eq.trans ?_ (show (V m c main_arg0 : FVec Ideal S1024x128 .f32) (ix2 (here t r) d) = _ by entry_read; rfl)
  blk_ext [iblk, idx t]
theorem block1 (c : Dev nD) (t : Fin cfg0.N) (r : Fin 256) (d : Fin 128) : (iblk m c 1 t : FVec Ideal S256x128 .f32) (ix2 r d)
    = (m ((c : Thread nD τ).loc main_arg1) : FVec Ideal S1024x128 .f32) (ix2 (here t r) d) := by
  refine Eq.trans ?_ (show (V m c main_arg1 : FVec Ideal S1024x128 .f32) (ix2 (here t r) d) = _ by entry_read; rfl)
  blk_ext [iblk, idx t]
theorem block2 (c : Dev nD) (t : Fin cfg0.N) (r : Fin 256) (d : Fin 128) : (iblk m c 2 t : FVec Ideal S256x128 .f32) (ix2 r d)
    = (m ((c : Thread nD τ).loc main_arg2) : FVec Ideal S1024x128 .f32) (ix2 (here t r) d) := by
  refine Eq.trans ?_ (show (V m c main_arg2 : FVec Ideal S1024x128 .f32) (ix2 (here t r) d) = _ by entry_read; rfl)
  blk_ext [iblk, idx t]
theorem block3 (c : Dev nD) (t : Fin cfg0.N) (r : Fin 256) (d : Fin 128) : (iblk m c 3 t : FVec Ideal S256x128 .f32) (ix2 r d)
    = (m ((c : Thread nD τ).loc main_arg3) : FVec Ideal S1024x128 .f32) (ix2 (here t r) d) := by
  refine Eq.trans ?_ (show (V m c main_arg3 : FVec Ideal S1024x128 .f32) (ix2 (here t r) d) = _ by entry_read; rfl)
  blk_ext [iblk, idx t]
theorem block4 (c : Dev nD) (t : Fin cfg0.N) (r : Fin 256) (d : Fin 128) : (iblk m c 4 t : FVec Ideal S256x128 .f32) (ix2 r d)
    = (m ((c : Thread nD τ).loc main_arg4) : FVec Ideal S1024x128 .f32) (ix2 (here t r) d) := by
  refine Eq.trans ?_ (show (V m c main_arg4 : FVec Ideal S1024x128 .f32) (ix2 (here t r) d) = _ by entry_read; rfl)
  blk_ext [iblk, idx t]
theorem block5 (c : Dev nD) (t : Fin cfg0.N) (r : Fin 256) (d : Fin 128) : (iblk m c 5 t : FVec Ideal S256x128 .f32) (ix2 r d)
    = (m ((c : Thread nD τ).loc main_arg5) : FVec Ideal S1024x128 .f32) (ix2 (here t r) d) := by
  refine Eq.trans ?_ (show (V m c main_arg5 : FVec Ideal S1024x128 .f32) (ix2 (here t r) d) = _ by entry_read; rfl)
  blk_ext [iblk, idx t]
theorem block6 (c : Dev nD) (t : Fin cfg0.N) (r : Fin 256) (d : Fin 128) : (iblk m c 6 t : FVec Ideal S256x128 .f32) (ix2 r d)
    = (m ((c : Thread nD τ).loc main_arg6) : FVec Ideal S1024x128 .f32) (ix2 (here t r) d) := by
  refine Eq.trans ?_ (show (V m c main_arg6 : FVec Ideal S1024x128 .f32) (ix2 (here t r) d) = _ by entry_read; rfl)
  blk_ext [iblk, idx t]
theorem block7 (c : Dev nD) (t : Fin cfg0.N) (r : Fin 256) (d : Fin 128) : (iblk m c 7 t : FVec Ideal S256x128 .f32) (ix2 r d)
    = (m ((c : Thread nD τ).loc main_arg7) : FVec Ideal S1024x128 .f32) (ix2 (here t r) d) := by
  refine Eq.trans ?_ (show (V m c main_arg7 : FVec Ideal S1024x128 .f32) (ix2 (here t r) d) = _ by entry_read; rfl)
  blk_ext [iblk, idx t]
theorem block8 (c : Dev nD) (t : Fin cfg0.N) (r : Fin 256) (d : Fin 128) : (iblk m c 8 t : FVec Ideal S256x128 .f32) (ix2 r d)
    = (m ((c : Thread nD τ).loc main_arg8) : FVec Ideal S1024x128 .f32) (ix2 (here t r) d) := by
  refine Eq.trans ?_ (show (V m c main_arg8 : FVec Ideal S1024x128 .f32) (ix2 (here t r) d) = _ by entry_read; rfl)
  blk_ext [iblk, idx t]
theorem block9 (c : Dev nD) (t : Fin cfg0.N) (r : Fin 256) (d : Fin 128) : (iblk m c 9 t : FVec Ideal S256x128 .f32) (ix2 r d)
    = (m ((c : Thread nD τ).loc main_arg9) : FVec Ideal S1024x128 .f32) (ix2 (here t r) d) := by
  refine Eq.trans ?_ (show (V m c main_arg9 : FVec Ideal S1024x128 .f32) (ix2 (here t r) d) = _ by entry_read; rfl)
  blk_ext [iblk, idx t]
theorem block10 (c : Dev nD) (t : Fin cfg0.N) (r : Fin 256) (d : Fin 128) : (iblk m c 10 t : FVec Ideal S256x128 .f32) (ix2 r d)
    = (m ((c : Thread nD τ).loc main_arg10) : FVec Ideal S1024x128 .f32) (ix2 (here t r) d) := by
  refine Eq.trans ?_ (show (V m c main_arg10 : FVec Ideal S1024x128 .f32) (ix2 (here t r) d) = _ by entry_read; rfl)
  blk_ext [iblk, idx t]
theorem block11 (c : Dev nD) (t : Fin cfg0.N) (r : Fin 256) (d : Fin 128) : (iblk m c 11 t : FVec Ideal S256x128 .f32) (ix2 r d)
    = (m ((c : Thread nD τ).loc main_arg11) : FVec Ideal S1024x128 .f32) (ix2 (here t r) d) := by
  refine Eq.trans ?_ (show (V m c main_arg11 : FVec Ideal S1024x128 .f32) (ix2 (here t r) d) = _ by entry_read; rfl)
  blk_ext [iblk, idx t]
theorem block12 (c : Dev nD) (t : Fin cfg0.N) (r : Fin 256) (d : Fin 128) : (iblk m c 12 t : FVec Ideal S256x128 .f32) (ix2 r d)
    = (m ((c : Thread nD τ).loc main_arg12) : FVec Ideal S1024x128 .f32) (ix2 (here t r) d) := by
  refine Eq.trans ?_ (show (V m c main_arg12 : FVec Ideal S1024x128 .f32) (ix2 (here t r) d) = _ by entry_read; rfl)
  blk_ext [iblk, idx t]
theorem block13 (c : Dev nD) (t : Fin cfg0.N) (r : Fin 256) (d : Fin 128) : (iblk m c 13 t : FVec Ideal S256x128 .f32) (ix2 r d)
    = (m ((c : Thread nD τ).loc main_arg13) : FVec Ideal S1024x128 .f32) (ix2 (here t r) d) := by
  refine Eq.trans ?_ (show (V m c main_arg13 : FVec Ideal S1024x128 .f32) (ix2 (here t r) d) = _ by entry_read; rfl)
  blk_ext [iblk, idx t]
theorem block14 (c : Dev nD) (t : Fin cfg0.N) (r : Fin 256) (d : Fin 128) : (iblk m c 14 t : FVec Ideal S256x128 .f32) (ix2 r d)
    = (m ((c : Thread nD τ).loc main_arg14) : FVec Ideal S1024x128 .f32) (ix2 (here t r) d) := by
  refine Eq.trans ?_ (show (V m c main_arg14 : FVec Ideal S1024x128 .f32) (ix2 (here t r) d) = _ by entry_read; rfl)
  blk_ext [iblk, idx t]
theorem block15 (c : Dev nD) (t : Fin cfg0.N) (r : Fin 256) (d : Fin 512) : (iblk m c 15 t : FVec Ideal S256x512 .f32) (ix2 r d)
    = (m ((c : Thread nD τ).loc main_arg15) : FVec Ideal S1024x512 .f32) (ix2 (here t r) d) := by
  refine Eq.trans ?_ (show (V m c main_arg15 : FVec Ideal S1024x512 .f32) (ix2 (here t r) d) = _ by entry_read; rfl)
  blk_ext [iblk, idx t]
theorem block16 (c : Dev nD) (t : Fin cfg0.N) (r : Fin 256) (d : Fin 1024) : (iblk m c 16 t : FVec Ideal S256x1024 .f32) (ix2 r d)
    = (m ((c : Thread nD τ).loc main_arg16) : FVec Ideal S1024x1024 .f32) (ix2 (here t r) d) := by
  refine Eq.trans ?_ (show (V m c main_arg16 : FVec Ideal S1024x1024 .f32) (ix2 (here t r) d) = _ by entry_read; rfl)
  blk_ext [iblk, idx t]
theorem block17 (c : Dev nD) (t : Fin cfg0.N) (r : Fin 512) (d : Fin 1024) : (iblk m c 17 t : FVec Ideal S512x1024 .bf16) (ix2 r d) = w m c (ix2 r d) := by
  refine Eq.trans ?_ (show (V m c main_v0 : FVec Ideal S512x1024 .bf16) (ix2 r d) = _ by entry_read; pointwise)
  blk_ext [iblk, idx t]

theorem slabs (c : Dev nD) (t : Fin cfg0.N) (r : Fin 256) (k : Fin 128) (g : Fin 3) (i : Fin 4) : ab m c t g i (ix2 r k) = a m c g i (ix2 (here t r) k) := by
  fin_cases g <;> fin_cases i
  · exact block0 m c t r k
  · exact block1 m c t r k
  · exact block2 m c t r k
  · exact block3 m c t r k
  · exact block5 m c t r k
  · exact block6 m c t r k
  · exact block7 m c t r k
  · exact block8 m c t r k
  · exact block10 m c t r k
  · exact block11 m c t r k
  · exact block12 m c t r k
  · exact block13 m c t r k
theorem lses (c : Dev nD) (t : Fin cfg0.N) (r : Fin 256) (k : Fin 128) (g : Fin 3) : lb m c t g (ix2 r k) = l m c g (ix2 (here t r) k) := by
  fin_cases g
  · exact block4 m c t r k
  · exact block9 m c t r k
  · exact block14 m c t r k

theorem final18 (c : Dev nD) : (dats m 0 c).arrAt 18 (cfgs 0).N = Reference7Ideal.At.merged (a m c) (l m c) (s m c) (x m c) (w m c) := by
  refine (dats m 0 c).arrAt_eq_of_covers 18 _ (by decide +kernel) fun t _ y => ?_
  blk_simp
  rw [after0_18]
  idx_vars y
  refine (same _ _ _ _ _ _ _ _ _ _ _ _ _ _ _ _ _ _ _ _).trans ?_
  refine (Kernel3Ideal.Final.out_at (ab m c t) (lb m c t) _ _ _ y0 y1).trans (Eq.trans ?_ ((Reference7Ideal.At.merged_at (a m c) (l m c) (s m c) (x m c) (w m c) (here t y0) y1).symm.trans (congrArg _ ?_)))
  · simp only [slabs, lses, block15, block16, block17]
  · blk_ext [idx t]

end Cert.Kernel7Ideal.Final
-- ==== Proof.Kern9.lean ====
/- What a grid point of the projection of the indexed attention layer over the sample leaves of one row. -/
module

public import proofs.«01_k».proof.Proof.Gen.Kernel9Ideal.Frame
public import proofs.«01_k».proof.Proof.Kern6

@[expose] public section

set_option maxRecDepth 16384

noncomputable section

open Idealize.ShloMosaic Idealize.ShloMosaic.TcCoe Idealize.SL.Sem

namespace Cert.Kernel9Ideal.Block

open Cert.Kernel9Ideal Cert.Kernel9Ideal.Gen
open Cert.Kernel6Ideal.Block (idxProd lastProd idxProd_at lastProd_at)

/-- The loaded rows, normalised, and the weights' columns. -/
abbrev hrows (x0 : FVec Ideal S256x1024 .f32) (x1 : FVec Ideal S1x1024 .f32) : FVec Ideal S256x1024 .bf16 := k0_pay1 (F := Ideal) (View.ld (Val := Elt Ideal) (e' := .f32) x0 r0_0) (View.ld (Val := Elt Ideal) (e' := .f32) x1 r0_1)
abbrev wq (x2 : FVec Ideal S1024x3200 .bf16) : FVec Ideal S1024x1024 .bf16 :=
  shapeCast S1024x1024 (View.ld (Val := Elt Ideal) (e' := .bf16) x2 r0_4) shapeCasts_S1024x1024_S1024x1024
abbrev wk (x2 : FVec Ideal S1024x3200 .bf16) : FVec Ideal S1024x256 .bf16 :=
  shapeCast S1024x256 (View.ld (Val := Elt Ideal) (e' := .bf16) x2 r0_13) shapeCasts_S1024x256_S1024x256
abbrev wv (x2 : FVec Ideal S1024x3200 .bf16) : FVec Ideal S1024x256 .bf16 :=
  shapeCast S1024x256 (View.ld (Val := Elt Ideal) (e' := .bf16) x2 r0_16) shapeCasts_S1024x256_S1024x256
abbrev wg (x2 : FVec Ideal S1024x3200 .bf16) : FVec Ideal S1024x1024 .bf16 :=
  shapeCast S1024x1024 (View.ld (Val := Elt Ideal) (e' := .bf16) x2 r0_18) shapeCasts_S1024x1024_S1024x1024
abbrev cs (x3 : FVec Ideal S256x128 .f32) : FVec Ideal S256x128 .f32 := k0_pay2 (F := Ideal) (View.ld (Val := Elt Ideal) (e' := .f32) x3 r0_2)
abbrev sn (x4 : FVec Ideal S256x128 .f32) : FVec Ideal S256x128 .f32 := k0_pay3 (F := Ideal) (View.ld (Val := Elt Ideal) (e' := .f32) x4 r0_2)
abbrev gq (x5 : FVec Ideal S1x128 .f32) : FVec Ideal S1x128 .f32 := k0_pay4 (F := Ideal) (View.ld (Val := Elt Ideal) (e' := .f32) x5 r0_3)
abbrev gk (x6 : FVec Ideal S1x128 .f32) : FVec Ideal S1x128 .f32 := k0_pay5 (F := Ideal) (View.ld (Val := Elt Ideal) (e' := .f32) x6 r0_3)

/-- The index's weights. -/
abbrev wi (x2 : FVec Ideal S1024x3200 .bf16) : FVec Ideal S1024x512 .bf16 :=
  shapeCast S1024x512 (View.ld (Val := Elt Ideal) (e' := .bf16) x2 r0_19) shapeCasts_S1024x512_S1024x512
abbrev wl (x2 : FVec Ideal S1024x3200 .bf16) : FVec Ideal S1024x128 .bf16 :=
  shapeCast S1024x128 (View.ld (Val := Elt Ideal) (e' := .bf16) x2 r0_24) shapeCasts_S1024x128_S1024x128

/-- What row `r` of the grid point's blocks holds. -/
abbrev Row (x0 : FVec Ideal S256x1024 .f32) (x1 : FVec Ideal S1x1024 .f32) (x2 : FVec Ideal S1024x3200 .bf16) (x3 : FVec Ideal S256x128 .f32) (x4 : FVec Ideal S256x128 .f32) (x5 : FVec Ideal S1x128 .f32) (x6 : FVec Ideal S1x128 .f32)
    (r : Fin 256) (X G : Fin 1024 → EReal) (W : Fin 1024 → Fin 3144 → EReal) (Q K : Fin 64 → EReal) (p : ℕ) : Prop :=
  Heads.Holds (hrows x0 x1) (wq x2) (wk x2) (wv x2) (wg x2) (cs x3) (sn x4) (gq x5) (gk x6) r X G W (by omega) Q K p

variable {x0 : FVec Ideal S256x1024 .f32} {x1 : FVec Ideal S1x1024 .f32} {x2 : FVec Ideal S1024x3200 .bf16} {x3 : FVec Ideal S256x128 .f32} {x4 : FVec Ideal S256x128 .f32} {x5 : FVec Ideal S1x128 .f32} {x6 : FVec Ideal S1x128 .f32} {r : Fin 256} {X G : Fin 1024 → EReal} {W : Fin 1024 → Fin 3144 → EReal} {Q K : Fin 64 → EReal} {p : ℕ}

theorem wi_at (x2 : FVec Ideal S1024x3200 .bf16) (d : Fin 1024) (e : Fin 512) : wi x2 (ix2 d e) = x2 (ix2 d ⟨2560 + e.val, by omega⟩) := by
  pointwise
theorem wl_at (x2 : FVec Ideal S1024x3200 .bf16) (d : Fin 1024) (e : Fin 128) : wl x2 (ix2 d e) = x2 (ix2 d ⟨3072 + e.val, by omega⟩) := by
  pointwise
theorem wq_at (x2 : FVec Ideal S1024x3200 .bf16) (d e : Fin 1024) : wq x2 (ix2 d e) = x2 (ix2 d ⟨e.val, by omega⟩) := by
  pointwise
theorem wk_at (x2 : FVec Ideal S1024x3200 .bf16) (d : Fin 1024) (e : Fin 256) : wk x2 (ix2 d e) = x2 (ix2 d ⟨1024 + e.val, by omega⟩) := by
  pointwise
theorem wv_at (x2 : FVec Ideal S1024x3200 .bf16) (d : Fin 1024) (e : Fin 256) : wv x2 (ix2 d e) = x2 (ix2 d ⟨1280 + e.val, by omega⟩) := by
  pointwise
theorem wg_at (x2 : FVec Ideal S1024x3200 .bf16) (d e : Fin 1024) : wg x2 (ix2 d e) = x2 (ix2 d ⟨1536 + e.val, by omega⟩) := by
  pointwise

theorem ld0 (x : FVec Ideal S256x1024 .f32) : View.ld (Val := Elt Ideal) (e' := .f32) x r0_0 = x := by
  funext y; idx_vars y; pointwise
theorem ld1 (x : FVec Ideal S1x1024 .f32) : View.ld (Val := Elt Ideal) (e' := .f32) x r0_1 = x := by
  funext y; idx_vars y; obtain rfl : y0 = 0 := Subsingleton.elim _ _; pointwise

theorem tables_at (x y : FVec Ideal S256x128 .f32) (u v : FVec Ideal S1x128 .f32) : cs x = x ∧ sn y = y ∧ gq u = u ∧ gk v = v := by
  refine ⟨?_, ?_, ?_, ?_⟩ <;> (funext i; idx_vars i)
  · pointwise [k0_pay2, k0_pay3, k0_pay4, k0_pay5]
  · pointwise [k0_pay2, k0_pay3, k0_pay4, k0_pay5]
  · obtain rfl : i0 = 0 := Subsingleton.elim _ _; pointwise [k0_pay2, k0_pay3, k0_pay4, k0_pay5]
  · obtain rfl : i0 = 0 := Subsingleton.elim _ _; pointwise [k0_pay2, k0_pay3, k0_pay4, k0_pay5]

theorem row_of (h0 : ∀ d, x0 (ix2 r d) = X d) (h1 : ∀ d, x1 (ix2 0 d) = G d)
    (h2 : ∀ d (e : Fin 3144), x2 (ix2 d ⟨e.val, by omega⟩) = W d e)
    (h3 : ∀ l : Fin 128, x3 (ix2 r l) = Ideal.cos (Proj.angle p ⟨l.val % 32, by omega⟩))
    (h4 : ∀ l : Fin 128, x4 (ix2 r l) = if l.val % 64 < 32 then -Ideal.sin (Proj.angle p ⟨l.val % 32, by omega⟩)
      else Ideal.sin (Proj.angle p ⟨l.val % 32, by omega⟩))
    (h5 : ∀ l : Fin 128, x5 (ix2 0 l) = Q ⟨l.val % 64, by omega⟩)
    (h6 : ∀ l : Fin 128, x6 (ix2 0 l) = K ⟨l.val % 64, by omega⟩)
    (fg : ∀ d, Proj.IsFin (G d)) (fw : ∀ d e, Proj.IsFin (W d e)) : Row x0 x1 x2 x3 x4 x5 x6 r X G W Q K p where
  hh d := by
    refine (Kernel2Ideal.Block.rows_at (View.ld (Val := Elt Ideal) (e' := .f32) x0 r0_0) (View.ld (Val := Elt Ideal) (e' := .f32) x1 r0_1) r d).trans ?_
    rw [ld0, ld1, h1]
    exact congrArg (fun f => Proj.unit f d * G d) (funext h0)
  hwq d e := (wq_at x2 d e).trans (h2 d ⟨e.val, by omega⟩)
  hwk d e := (wk_at x2 d e).trans (h2 d ⟨1024 + e.val, by omega⟩)
  hwv d e := (wv_at x2 d e).trans (h2 d ⟨1280 + e.val, by omega⟩)
  hwg d e := (wg_at x2 d e).trans (h2 d ⟨1536 + e.val, by omega⟩)
  hc l := (congrFun (tables_at x3 x4 x5 x6).1 _).trans (h3 l)
  hs l := (congrFun (tables_at x3 x4 x5 x6).2.1 _).trans (h4 l)
  hq l := (congrFun (tables_at x3 x4 x5 x6).2.2.1 _).trans (h5 l)
  hk l := (congrFun (tables_at x3 x4 x5 x6).2.2.2 _).trans (h6 l)
  fg := fg
  fw := fw

theorem out7 (H : Row x0 x1 x2 x3 x4 x5 x6 r X G W Q K p) (l : Fin 1024) : out0_7 (F := Ideal) x0 x1 x2 x3 x4 x5 x6 (ix2 r l)
    = Proj.headOf X G (fun j d => W d ⟨l.val / 64 * 64 + j.val, by omega⟩) Q p ⟨l.val % 64, by omega⟩ * Ideal.ofBits .f32 0x3E000000#32 := by
  unfold_out out0_7
  canon_tiles y h
  all_goals (idx_vars y; obtain rfl : y0 = r := Fin.ext h0.symm)
  case piece0 => exact H.q 896 (by omega) (by omega) slices_S256x1024_o0_896_S256x128 y1 l h1
  case piece1 => exact H.q 768 (by omega) (by omega) slices_S256x1024_o0_768_S256x128 y1 l h1
  case piece2 => exact H.q 640 (by omega) (by omega) slices_S256x1024_o0_640_S256x128 y1 l h1
  case piece3 => exact H.q 512 (by omega) (by omega) slices_S256x1024_o0_512_S256x128 y1 l h1
  case piece4 => exact H.q 384 (by omega) (by omega) slices_S256x1024_o0_384_S256x128 y1 l h1
  case piece5 => exact H.q 256 (by omega) (by omega) slices_S256x1024_o0_256_S256x128 y1 l h1
  case piece6 => exact H.q 128 (by omega) (by omega) slices_S256x1024_o0_128_S256x128 y1 l h1
  case piece7 => exact H.q 0 (by omega) (by omega) slices_S256x1024_o0_0_S256x128 y1 l (h1.trans (Nat.zero_add _).symm)

theorem out8 (H : Row x0 x1 x2 x3 x4 x5 x6 r X G W Q K p) (l : Fin 256) : out0_8 (F := Ideal) x0 x1 x2 x3 x4 x5 x6 (ix2 r l)
    = Proj.headOf X G (fun j d => W d ⟨1024 + (l.val / 64 * 64 + j.val), by omega⟩) K p ⟨l.val % 64, by omega⟩ := by
  unfold_out out0_8
  canon_tiles y h
  all_goals (idx_vars y; obtain rfl : y0 = r := Fin.ext h0.symm)
  case piece0 => exact H.k 128 (by omega) (by omega) slices_S256x256_o0_128_S256x128 y1 l h1
  case piece1 => exact H.k 0 (by omega) (by omega) slices_S256x256_o0_0_S256x128 y1 l (h1.trans (Nat.zero_add _).symm)

theorem out9 (H : Row x0 x1 x2 x3 x4 x5 x6 r X G W Q K p) (l : Fin 256) : out0_9 (F := Ideal) x0 x1 x2 x3 x4 x5 x6 (ix2 r l)
    = Proj.proj X G (fun d => W d ⟨1280 + l.val, by omega⟩) := by
  unfold_out out0_9
  canon_tiles y h
  all_goals (idx_vars y; obtain rfl : y0 = r := Fin.ext h0.symm; obtain rfl : y1 = l := Fin.ext h1.symm)
  exact H.v y1

theorem out12 (H : Row x0 x1 x2 x3 x4 x5 x6 r X G W Q K p) (l : Fin 1024) : out0_12 (F := Ideal) x0 x1 x2 x3 x4 x5 x6 (ix2 r l)
    = Proj.silu (Proj.proj X G (fun d => W d ⟨1536 + l.val, by omega⟩)) := by
  unfold_out out0_12
  canon_tiles y h
  all_goals (idx_vars y; obtain rfl : y0 = r := Fin.ext h0.symm; obtain rfl : y1 = l := Fin.ext h1.symm)
  exact H.g y1

variable (hw : ∀ d (e : Fin 3144), x2 (ix2 d ⟨e.val, by omega⟩) = W d e)
include hw

theorem index (H : Row x0 x1 x2 x3 x4 x5 x6 r X G W Q K p) (o : ℕ) (ho : o % 64 = 0) (ho' : o + 127 < 512) (sl : S256x512.Slices ![0, o] S256x128)
    (k : Fin 128) (l : Fin 512) (hl : l.val = o + k.val) :
    Kernel2Ideal.Block.turned (extractStridedSlice S256x128 ![0, o] (idxProd (hrows x0 x1) (wi x2)) sl) (cs x3) (sn x4) (ix2 r k)
      = Proj.turn (fun j => Proj.proj X G fun d => W d ⟨2560 + (l.val / 64 * 64 + j.val), by omega⟩) (Proj.angle p) ⟨l.val % 64, by omega⟩ := by
  refine (Heads.turned_heads _ _ _ r p H.hc H.hs k).trans ?_
  have e1 : (⟨k.val % 64, by omega⟩ : Fin 64) = ⟨l.val % 64, by omega⟩ := Fin.ext (by simp only; omega)
  rw [e1]
  refine congrArg (fun f => Proj.turn f (Proj.angle p) ⟨l.val % 64, by omega⟩) (funext fun j => ?_)
  refine Eq.trans (b := idxProd (hrows x0 x1) (wi x2) (ix2 r ⟨o + (64 * (k.val / 64) + j.val), by omega⟩)) (by pointwise) ?_
  refine (idxProd_at _ _ r _).trans (Finset.sum_congr rfl fun d _ => congrArg₂ (· * ·) (H.hh d) ((wi_at x2 d _).trans ?_))
  exact (hw d ⟨2560 + (o + (64 * (k.val / 64) + j.val)), by omega⟩).trans (congrArg (W d) (Fin.ext (by simp only; omega)))

theorem last (H : Row x0 x1 x2 x3 x4 x5 x6 r X G W Q K p) (l : Fin 72) : lastProd (hrows x0 x1) (wl x2) (ix2 r ⟨l.val, by omega⟩)
    = Proj.proj X G fun d => W d ⟨3072 + l.val, by omega⟩ :=
  (lastProd_at _ _ r _).trans (Finset.sum_congr rfl fun d _ => congrArg₂ (· * ·) (H.hh d) ((wl_at x2 d _).trans (hw d ⟨3072 + l.val, by omega⟩)))

theorem out13 (H : Row x0 x1 x2 x3 x4 x5 x6 r X G W Q K p) (l : Fin 512) : out0_13 (F := Ideal) x0 x1 x2 x3 x4 x5 x6 (ix2 r l)
    = Proj.turn (fun j => Proj.proj X G fun d => W d ⟨2560 + (l.val / 64 * 64 + j.val), by omega⟩) (Proj.angle p) ⟨l.val % 64, by omega⟩ := by
  unfold_out out0_13
  canon_tiles y h
  all_goals (idx_vars y; obtain rfl : y0 = r := Fin.ext h0.symm)
  case piece0 => exact index hw H 384 (by omega) (by omega) slices_S256x512_o0_384_S256x128 y1 l h1
  case piece1 => exact index hw H 256 (by omega) (by omega) slices_S256x512_o0_256_S256x128 y1 l h1
  case piece2 => exact index hw H 128 (by omega) (by omega) slices_S256x512_o0_128_S256x128 y1 l h1
  case piece3 => exact index hw H 0 (by omega) (by omega) slices_S256x512_o0_0_S256x128 y1 l (h1.trans (Nat.zero_add _).symm)

omit hw in
theorem out14_eq (l : Fin 128) : out0_14 (F := Ideal) x0 x1 x2 x3 x4 x5 x6 (ix2 r l)
    = if l.val < 64 then Kernel2Ideal.Block.turned (lastProd (hrows x0 x1) (wl x2)) (cs x3) (sn x4) (ix2 r l)
      else lastProd (hrows x0 x1) (wl x2) (ix2 r l) := by
  unfold_out out0_14
  canon_tiles y h
  all_goals (idx_vars y; obtain rfl : y0 = r := Fin.ext h0.symm; obtain rfl : y1 = l := Fin.ext h1.symm)
  exact Kernel6Ideal.Block.lanes (Kernel2Ideal.Block.turned (lastProd (hrows x0 x1) (wl x2)) (cs x3) (sn x4)) (lastProd (hrows x0 x1) (wl x2)) y0 y1

theorem out14_key (H : Row x0 x1 x2 x3 x4 x5 x6 r X G W Q K p) (l : Fin 64) : out0_14 (F := Ideal) x0 x1 x2 x3 x4 x5 x6 (ix2 r ⟨l.val, by omega⟩)
    = Proj.turn (fun j => Proj.proj X G fun d => W d ⟨3072 + j.val, by omega⟩) (Proj.angle p) l := by
  refine (out14_eq _).trans ((if_pos l.isLt).trans ((Heads.turned_heads _ _ _ r p H.hc H.hs _).trans ?_))
  have e1 : (⟨l.val % 64, by omega⟩ : Fin 64) = l := Fin.ext (by simp only; omega)
  refine (congrArg (Proj.turn _ (Proj.angle p)) e1).trans ?_
  refine congrArg (fun f => Proj.turn f (Proj.angle p) l) (funext fun j => Eq.trans (congrArg _ ?_) (last hw H ⟨j.val, by omega⟩))
  exact congrArg (ix2 r) (Fin.ext (by simp only; omega))

theorem out14_weight (H : Row x0 x1 x2 x3 x4 x5 x6 r X G W Q K p) (l : Fin 8) : out0_14 (F := Ideal) x0 x1 x2 x3 x4 x5 x6 (ix2 r ⟨64 + l.val, by omega⟩)
    = Proj.proj X G fun d => W d ⟨3136 + l.val, by omega⟩ := by
  refine (out14_eq _).trans ((if_neg (by simp only; omega)).trans ((last hw H ⟨64 + l.val, by omega⟩).trans ?_))
  exact congrArg (Proj.proj X G) (funext fun d => congrArg (W d) (Fin.ext (by simp only; omega)))

end Cert.Kernel9Ideal.Block
-- ==== Proof.Refv8.lean ====
/- The reference of the projection of the block-sparse attention layer over the sample, cut into named pieces, and each piece read at one
   element. -/
module

public import proofs.«01_k».proof.Proof.Gen.Reference8Ideal.Run
public import Idealize.ShloMosaic.Lib.Pipeline.ValueKit
public import proofs.«01_k».proof.Proof.Proj
public import proofs.«01_k».proof.Proof.Words

@[expose] public section

set_option maxRecDepth 16384

noncomputable section

open Idealize.ShloMosaic Idealize.ShloMosaic.TcCoe Idealize.SL.Sem

namespace Cert.Reference8Ideal.At

open Cert.Reference8Ideal Cert.Reference8Ideal.Gen Cert.Reference8Ideal.Value

variable (m : (ℓ : Loc nD τ sig) → Buf (Elt Ideal) ℓ)

/-- The projected rows. -/
def cols (x : FVec Ideal S128x8x1024 .f32) (g : FVec Ideal S1024 .f32) (w : FVec Ideal S1024x2560 .f32) : FVec Ideal
    S128x8x2560 .f32 :=
    Host.dotGeneral dot_S128x8x1024_S1024x2560_S128x8x2560_2_0_01_1_n_n none (mulf (mulf x (broadcastInDim
    S128x8x1024 ![0, 1, 2] bcast_S128x8x1_S128x8x1024_0_1_2 (Host.rsqrt (addf (Host.divf (broadcastInDim
    S128x8x1 ![0, 1] bcast_S128x8_S128x8x1_0_1 (Host.reduceAdd (mulf x x) (constant S_ .f32 0x00000000#32)
    reducesTo_S128x8x1024_S128x8_d2 h_S_)) (broadcastInDim S128x8x1 ![] bcast_S_S128x8x1 (constant S_ .f32
    0x44800000#32))) (broadcastInDim S128x8x1 ![] bcast_S_S128x8x1 (constant S_ .f32 0x358637BD#32))))))
    (broadcastInDim S128x8x1024 ![0, 1, 2] bcast_S1x1x1024_S128x8x1024_0_1_2 (broadcastInDim S1x1x1024 ![2]
    bcast_S1024_S1x1x1024_2 g))) w

theorem cols_at (x : FVec Ideal S128x8x1024 .f32) (g : FVec Ideal S1024 .f32) (w : FVec Ideal S1024x2560 .f32)
    (b : Fin 128) (t : Fin 8) (e : Fin 2560) :
    cols x g w (ix3 b t e) = Proj.proj (fun d => x (ix3 b t d)) (fun d => g (ix1 d)) (fun d => w (ix2 d e)) := by
  pointwise [cols, Proj.proj, Proj.unit]

/-- The columns of the queries, the keys, the values and the gate. -/
abbrev qof (z : FVec Ideal S128x8x2560 .f32) : FVec Ideal S128x8x1024 .f32 :=
  extractStridedSlice S128x8x1024 ![0, 0, 0] z slices_S128x8x2560_S128x8x1024_0_0_0
abbrev kof (z : FVec Ideal S128x8x2560 .f32) : FVec Ideal S128x8x256 .f32 :=
  extractStridedSlice S128x8x256 ![0, 0, 1024] z slices_S128x8x2560_S128x8x256_0_0_1024
abbrev vof (z : FVec Ideal S128x8x2560 .f32) : FVec Ideal S128x8x256 .f32 :=
  extractStridedSlice S128x8x256 ![0, 0, 1280] z slices_S128x8x2560_S128x8x256_0_0_1280
abbrev gof (z : FVec Ideal S128x8x2560 .f32) : FVec Ideal S128x8x1024 .f32 :=
  extractStridedSlice S128x8x1024 ![0, 0, 1536] z slices_S128x8x2560_S128x8x1024_0_0_1536

/-- The angles. -/
def angles : FVec Ideal S8x32 .f32 :=
    mulf (broadcastInDim S8x32 ![0, 1] bcast_S8x1_S8x32_0_1 (broadcastInDim S8x1 ![0]
    bcast_S8_S8x1_0 (sitofp .f32 (addi (broadcastInDim S8 ![]
    bcast_S_S8 (constantI S_ 32 2048#32)) (iotaInDim S8 32 0))))) (broadcastInDim S8x32 ![0, 1]
    bcast_S1x32_S8x32_0_1 (broadcastInDim S1x32 ![1] bcast_S32_S1x32_1 (Host.powf (broadcastInDim S32 ![]
    bcast_S_S32 (constant S_ .f32 0x461C4000#32)) (Host.divf (Host.negf (sitofp .f32 (iotaInDim S32 32 0)))
    (broadcastInDim S32 ![] bcast_S_S32 (constant S_ .f32 0x42000000#32))))))

theorem angles_at (t : Fin 8) (i : Fin 32) : angles (ix2 t i) = Proj.angle (2048 + t.val) i := by
  unfold Proj.angle
  rw [← Cert.Words.addi_ofNat]
  pointwise [angles]

/-- The heads of the queries. -/
def qheads (z : FVec Ideal S128x8x1024 .f32) : FVec Ideal S128x8x16x64 .f32 :=
    shapeCast _ z shapeCasts_S128x8x1024_S128x8x16x64

theorem qheads_at (z : FVec Ideal S128x8x1024 .f32) (b : Fin 128) (t : Fin 8) (n : Fin 16) (j : Fin 64) :
    qheads z (ix4 b t n j) = z (ix3 b t ⟨n.val * 64 + j.val, by omega⟩) := by
  pointwise [qheads]

/-- The heads of the queries turned. -/
def qturn (y : FVec Ideal S128x8x16x64 .f32) : FVec Ideal S128x8x16x64 .f32 :=
    concatenate S128x8x16x64 3 [⟨S128x8x16x32, (subf (mulf (extractStridedSlice S128x8x16x32 ![0, 0, 0, 0] y
    slices_S128x8x16x64_S128x8x16x32_0_0_0_0) (broadcastInDim S128x8x16x32 ![0, 1, 2, 3]
    bcast_S1x8x1x32_S128x8x16x32_0_1_2_3 (shapeCast _ (Host.cos angles) shapeCasts_S8x32_S1x8x1x32)))
    (mulf (extractStridedSlice S128x8x16x32 ![0, 0, 0, 32] y slices_S128x8x16x64_S128x8x16x32_0_0_0_32)
    (broadcastInDim S128x8x16x32 ![0, 1, 2, 3] bcast_S1x8x1x32_S128x8x16x32_0_1_2_3 (shapeCast _ (Host.sin
    angles) shapeCasts_S8x32_S1x8x1x32))))⟩, ⟨S128x8x16x32, (addf (mulf (extractStridedSlice S128x8x16x32
    ![0, 0, 0, 32] y slices_S128x8x16x64_S128x8x16x32_0_0_0_32) (broadcastInDim S128x8x16x32 ![0, 1, 2, 3]
    bcast_S1x8x1x32_S128x8x16x32_0_1_2_3 (shapeCast _ (Host.cos angles) shapeCasts_S8x32_S1x8x1x32)))
    (mulf (extractStridedSlice S128x8x16x32 ![0, 0, 0, 0] y slices_S128x8x16x64_S128x8x16x32_0_0_0_0)
    (broadcastInDim S128x8x16x32 ![0, 1, 2, 3] bcast_S1x8x1x32_S128x8x16x32_0_1_2_3 (shapeCast _ (Host.sin
    angles) shapeCasts_S8x32_S1x8x1x32))))⟩] concatenates_S128x8x16x32_S128x8x16x32_S128x8x16x64_d3

theorem qturn_at (y : FVec Ideal S128x8x16x64 .f32) (b : Fin 128) (t : Fin 8) (n : Fin 16) (j : Fin 64) :
    qturn y (ix4 b t n j) = Proj.turn (fun j => y (ix4 b t n j)) (Proj.angle (2048 + t.val)) j := by
  pointwise [qturn, Proj.turn, angles_at]

/-- The heads of the queries normalised. -/
def qnorm (y : FVec Ideal S128x8x16x64 .f32) (gain : FVec Ideal S64 .f32) : FVec Ideal S128x8x16x64 .f32 :=
    mulf (mulf y (broadcastInDim S128x8x16x64 ![0, 1, 2, 3] bcast_S128x8x16x1_S128x8x16x64_0_1_2_3 (Host.rsqrt
    (addf (Host.divf (broadcastInDim S128x8x16x1 ![0, 1, 2] bcast_S128x8x16_S128x8x16x1_0_1_2 (Host.reduceAdd
    (mulf y y) (constant S_ .f32 0x00000000#32) reducesTo_S128x8x16x64_S128x8x16_d3 h_S_)) (broadcastInDim
    S128x8x16x1 ![] bcast_S_S128x8x16x1 (constant S_ .f32 0x42800000#32))) (broadcastInDim S128x8x16x1 ![]
    bcast_S_S128x8x16x1 (constant S_ .f32 0x358637BD#32)))))) (broadcastInDim S128x8x16x64 ![0, 1, 2, 3]
    bcast_S1x1x1x64_S128x8x16x64_0_1_2_3 (broadcastInDim S1x1x1x64 ![3] bcast_S64_S1x1x1x64_3 gain))

theorem qnorm_at (y : FVec Ideal S128x8x16x64 .f32) (gain : FVec Ideal S64 .f32) (b : Fin 128) (t : Fin 8) (n : Fin 16)
    (j : Fin 64) :
    qnorm y gain (ix4 b t n j) = Proj.norm (fun j => y (ix4 b t n j)) (fun j => gain (ix1 j)) j := by
  pointwise [qnorm, Proj.norm]

/-- The heads of the queries as rows, scaled. -/
def qrows (y : FVec Ideal S128x8x16x64 .f32) : FVec Ideal S1024x1024 .f32 :=
    shapeCast _ (mulf y (broadcastInDim S128x8x16x64 ![] bcast_S_S128x8x16x64 (constant S_ .f32 0x3E000000#32))) shapeCasts_S128x8x16x64_S1024x1024

theorem qrows_at (y : FVec Ideal S128x8x16x64 .f32) (r : Fin 1024) (l : Fin 1024) :
    qrows y (ix2 r l) = y (ix4 ⟨r.val / 8, by omega⟩ ⟨r.val % 8, by omega⟩ ⟨l.val / 64, by omega⟩
      ⟨l.val % 64, by omega⟩) * Ideal.ofBits .f32 0x3E000000#32 := by
  pointwise [qrows]

/-- The heads of the keys. -/
def kheads (z : FVec Ideal S128x8x256 .f32) : FVec Ideal S128x8x4x64 .f32 :=
    shapeCast _ z shapeCasts_S128x8x256_S128x8x4x64

theorem kheads_at (z : FVec Ideal S128x8x256 .f32) (b : Fin 128) (t : Fin 8) (n : Fin 4) (j : Fin 64) :
    kheads z (ix4 b t n j) = z (ix3 b t ⟨n.val * 64 + j.val, by omega⟩) := by
  pointwise [kheads]

/-- The heads of the keys turned. -/
def kturn (y : FVec Ideal S128x8x4x64 .f32) : FVec Ideal S128x8x4x64 .f32 :=
    concatenate S128x8x4x64 3 [⟨S128x8x4x32, (subf (mulf (extractStridedSlice S128x8x4x32 ![0, 0, 0, 0] y
    slices_S128x8x4x64_S128x8x4x32_0_0_0_0) (broadcastInDim S128x8x4x32 ![0, 1, 2, 3]
    bcast_S1x8x1x32_S128x8x4x32_0_1_2_3 (shapeCast _ (Host.cos angles) shapeCasts_S8x32_S1x8x1x32))) (mulf
    (extractStridedSlice S128x8x4x32 ![0, 0, 0, 32] y slices_S128x8x4x64_S128x8x4x32_0_0_0_32) (broadcastInDim
    S128x8x4x32 ![0, 1, 2, 3] bcast_S1x8x1x32_S128x8x4x32_0_1_2_3 (shapeCast _ (Host.sin angles)
    shapeCasts_S8x32_S1x8x1x32))))⟩, ⟨S128x8x4x32, (addf (mulf (extractStridedSlice S128x8x4x32 ![0, 0, 0,
    32] y slices_S128x8x4x64_S128x8x4x32_0_0_0_32) (broadcastInDim S128x8x4x32 ![0, 1, 2, 3]
    bcast_S1x8x1x32_S128x8x4x32_0_1_2_3 (shapeCast _ (Host.cos angles) shapeCasts_S8x32_S1x8x1x32))) (mulf
    (extractStridedSlice S128x8x4x32 ![0, 0, 0, 0] y slices_S128x8x4x64_S128x8x4x32_0_0_0_0) (broadcastInDim
    S128x8x4x32 ![0, 1, 2, 3] bcast_S1x8x1x32_S128x8x4x32_0_1_2_3 (shapeCast _ (Host.sin angles)
    shapeCasts_S8x32_S1x8x1x32))))⟩] concatenates_S128x8x4x32_S128x8x4x32_S128x8x4x64_d3

theorem kturn_at (y : FVec Ideal S128x8x4x64 .f32) (b : Fin 128) (t : Fin 8) (n : Fin 4) (j : Fin 64) :
    kturn y (ix4 b t n j) = Proj.turn (fun j => y (ix4 b t n j)) (Proj.angle (2048 + t.val)) j := by
  pointwise [kturn, Proj.turn, angles_at]

/-- The heads of the keys normalised. -/
def knorm (y : FVec Ideal S128x8x4x64 .f32) (gain : FVec Ideal S64 .f32) : FVec Ideal S128x8x4x64 .f32 :=
    mulf (mulf y (broadcastInDim S128x8x4x64 ![0, 1, 2, 3] bcast_S128x8x4x1_S128x8x4x64_0_1_2_3 (Host.rsqrt (addf
    (Host.divf (broadcastInDim S128x8x4x1 ![0, 1, 2] bcast_S128x8x4_S128x8x4x1_0_1_2 (Host.reduceAdd (mulf y y)
    (constant S_ .f32 0x00000000#32) reducesTo_S128x8x4x64_S128x8x4_d3 h_S_)) (broadcastInDim S128x8x4x1 ![]
    bcast_S_S128x8x4x1 (constant S_ .f32 0x42800000#32))) (broadcastInDim S128x8x4x1 ![] bcast_S_S128x8x4x1
    (constant S_ .f32 0x358637BD#32)))))) (broadcastInDim S128x8x4x64 ![0, 1, 2, 3]
    bcast_S1x1x1x64_S128x8x4x64_0_1_2_3 (broadcastInDim S1x1x1x64 ![3] bcast_S64_S1x1x1x64_3 gain))

theorem knorm_at (y : FVec Ideal S128x8x4x64 .f32) (gain : FVec Ideal S64 .f32) (b : Fin 128) (t : Fin 8) (n : Fin 4)
    (j : Fin 64) :
    knorm y gain (ix4 b t n j) = Proj.norm (fun j => y (ix4 b t n j)) (fun j => gain (ix1 j)) j := by
  pointwise [knorm, Proj.norm]

/-- The heads of the keys as rows. -/
def krows (y : FVec Ideal S128x8x4x64 .f32) : FVec Ideal S1024x256 .f32 :=
    shapeCast _ y shapeCasts_S128x8x4x64_S1024x256

theorem krows_at (y : FVec Ideal S128x8x4x64 .f32) (r : Fin 1024) (l : Fin 256) :
    krows y (ix2 r l) = y (ix4 ⟨r.val / 8, by omega⟩ ⟨r.val % 8, by omega⟩ ⟨l.val / 64, by omega⟩
      ⟨l.val % 64, by omega⟩) := by
  pointwise [krows]

/-- The values as rows. -/
def vrows (v : FVec Ideal S128x8x256 .f32) : FVec Ideal S1024x256 .f32 :=
    shapeCast _ v shapeCasts_S128x8x256_S1024x256

theorem vrows_at (v : FVec Ideal S128x8x256 .f32) (r : Fin 1024) (l : Fin 256) :
    vrows v (ix2 r l) = v (ix3 ⟨r.val / 8, by omega⟩ ⟨r.val % 8, by omega⟩ l) := by
  pointwise [vrows]

/-- The gate as rows. -/
def gates (z : FVec Ideal S128x8x1024 .f32) : FVec Ideal S1024x1024 .f32 :=
    shapeCast _ (mulf z (Host.divf (broadcastInDim S128x8x1024 ![] bcast_S_S128x8x1024 (constant S_ .f32 0x3F800000#32))
    (addf (broadcastInDim S128x8x1024 ![] bcast_S_S128x8x1024 (constant S_ .f32 0x3F800000#32)) (Host.exp (Host.negf
    z))))) shapeCasts_S128x8x1024_S1024x1024

theorem gates_at (z : FVec Ideal S128x8x1024 .f32) (r : Fin 1024) (l : Fin 1024) :
    gates z (ix2 r l) = Proj.silu (z (ix3 ⟨r.val / 8, by omega⟩ ⟨r.val % 8, by omega⟩ l)) := by
  pointwise [gates, Proj.silu]

theorem queries_at (z : FVec Ideal S128x8x1024 .f32) (gain : FVec Ideal S64 .f32) (r : Fin 1024) (l : Fin 1024) :
    qrows (qturn (qnorm (qheads z) gain)) (ix2 r l) = Proj.turn (Proj.norm (fun j => z (ix3 ⟨r.val / 8, by omega⟩ ⟨r.val % 8, by omega⟩
      ⟨l.val / 64 * 64 + j.val, by omega⟩)) fun j => gain (ix1 j))
      (Proj.angle (2048 + r.val % 8)) ⟨l.val % 64, by omega⟩ * Ideal.ofBits .f32 0x3E000000#32 := by
  rw [qrows_at, qturn_at]
  simp only [qnorm_at, qheads_at]

theorem keys_at (z : FVec Ideal S128x8x256 .f32) (gain : FVec Ideal S64 .f32) (r : Fin 1024) (l : Fin 256) :
    krows (kturn (knorm (kheads z) gain)) (ix2 r l) = Proj.turn (Proj.norm (fun j => z (ix3 ⟨r.val / 8, by omega⟩ ⟨r.val % 8, by omega⟩
      ⟨l.val / 64 * 64 + j.val, by omega⟩)) fun j => gain (ix1 j))
      (Proj.angle (2048 + r.val % 8)) ⟨l.val % 64, by omega⟩ := by
  rw [krows_at, kturn_at]
  simp only [knorm_at, kheads_at]

/-- A row of the input. -/
abbrev rowOf (x : FVec Ideal S128x8x1024 .f32) (r : Fin 1024) : Fin 1024 → EReal :=
  fun d => x (ix3 ⟨r.val / 8, by omega⟩ ⟨r.val % 8, by omega⟩ d)

/-- The arguments. -/
abbrev x (c : Dev nD) : FVec Ideal S128x8x1024 .f32 := m ((c.tc : Thread nD τ).loc main_arg0)
abbrev g (c : Dev nD) : FVec Ideal S1024 .f32 := m ((c.tc : Thread nD τ).loc main_arg1)
abbrev w (c : Dev nD) : FVec Ideal S1024x2560 .f32 := m ((c.tc : Thread nD τ).loc main_arg2)
abbrev qg (c : Dev nD) : FVec Ideal S64 .f32 := m ((c.tc : Thread nD τ).loc main_arg3)
abbrev kg (c : Dev nD) : FVec Ideal S64 .f32 := m ((c.tc : Thread nD τ).loc main_arg4)

theorem out0 (c : Dev nD) : res_out0 m c = qrows (qturn (qnorm (qheads (qof (cols (x m c) (g m c) (w m c)))) (qg m c))) := by
  unfold res_out0 res_main_v109; rfl
theorem out1 (c : Dev nD) : res_out1 m c = krows (kturn (knorm (kheads (kof (cols (x m c) (g m c) (w m c)))) (kg m c))) := by
  unfold res_out1 res_main_v110; rfl
/-- The run of the reference, its results in the names above. -/
theorem run (ρ : Dev nD → PrngReg) : θ_run defs (onTc (τ := τ) (main (F := Ideal))) ⟨m, fun _ => 0, ρ⟩ fun r => ∀ c : Dev nD,
      r.2.mem ((c.tc : Thread nD τ).loc main_v109) = qrows (qturn (qnorm (qheads (qof (cols (x m c) (g m c) (w m c)))) (qg m c)))
      ∧ r.2.mem ((c.tc : Thread nD τ).loc main_v110) = krows (kturn (knorm (kheads (kof (cols (x m c) (g m c) (w m c)))) (kg m c)))
      ∧ r.2.mem ((c.tc : Thread nD τ).loc main_v111) = vrows (vof (cols (x m c) (g m c) (w m c)))
      ∧ r.2.mem ((c.tc : Thread nD τ).loc main_v113) = gates (gof (cols (x m c) (g m c) (w m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun r h c => by
    obtain ⟨h0, h1, h2, h3, ha⟩ := h c
    exact ⟨h0.trans (out0 m c), h1.trans (out1 m c), h2, h3, ha⟩) (Value.run m ρ)

end Cert.Reference8Ideal.At
-- ==== Proof.Refv9.lean ====
/- The reference of the projection of the indexed attention layer over the sample, cut into named pieces, and each piece read at one
   element. -/
module

public import proofs.«01_k».proof.Proof.Gen.Reference9Ideal.Run
public import proofs.«01_k».proof.Proof.Refv8
public import Idealize.ShloMosaic.Lib.Pipeline.ValueKit
public import proofs.«01_k».proof.Proof.Proj

@[expose] public section

set_option maxRecDepth 16384

noncomputable section

open Idealize.ShloMosaic Idealize.ShloMosaic.TcCoe Idealize.SL.Sem

namespace Cert.Reference9Ideal.At

open Cert.Reference9Ideal Cert.Reference9Ideal.Gen Cert.Reference9Ideal.Value

variable (m : (ℓ : Loc nD τ sig) → Buf (Elt Ideal) ℓ)

/-- The projected rows. -/
def cols (x : FVec Ideal S128x8x1024 .f32) (g : FVec Ideal S1024 .f32) (w : FVec Ideal S1024x3144 .f32) : FVec Ideal
    S128x8x3144 .f32 :=
    Host.dotGeneral dot_S128x8x1024_S1024x3144_S128x8x3144_2_0_01_1_n_n none (mulf (mulf x (broadcastInDim
    S128x8x1024 ![0, 1, 2] bcast_S128x8x1_S128x8x1024_0_1_2 (Host.rsqrt (addf (Host.divf (broadcastInDim
    S128x8x1 ![0, 1] bcast_S128x8_S128x8x1_0_1 (Host.reduceAdd (mulf x x) (constant S_ .f32 0x00000000#32)
    reducesTo_S128x8x1024_S128x8_d2 h_S_)) (broadcastInDim S128x8x1 ![] bcast_S_S128x8x1 (constant S_ .f32
    0x44800000#32))) (broadcastInDim S128x8x1 ![] bcast_S_S128x8x1 (constant S_ .f32 0x358637BD#32))))))
    (broadcastInDim S128x8x1024 ![0, 1, 2] bcast_S1x1x1024_S128x8x1024_0_1_2 (broadcastInDim S1x1x1024 ![2]
    bcast_S1024_S1x1x1024_2 g))) w

theorem cols_at (x : FVec Ideal S128x8x1024 .f32) (g : FVec Ideal S1024 .f32) (w : FVec Ideal S1024x3144 .f32)
    (b : Fin 128) (t : Fin 8) (e : Fin 3144) :
    cols x g w (ix3 b t e) = Proj.proj (fun d => x (ix3 b t d)) (fun d => g (ix1 d)) (fun d => w (ix2 d e)) := by
  pointwise [cols, Proj.proj, Proj.unit]

/-- The columns of the queries, the keys, the values and the gate. -/
abbrev qof (z : FVec Ideal S128x8x3144 .f32) : FVec Ideal S128x8x1024 .f32 :=
  extractStridedSlice S128x8x1024 ![0, 0, 0] z slices_S128x8x3144_S128x8x1024_0_0_0
abbrev kof (z : FVec Ideal S128x8x3144 .f32) : FVec Ideal S128x8x256 .f32 :=
  extractStridedSlice S128x8x256 ![0, 0, 1024] z slices_S128x8x3144_S128x8x256_0_0_1024
abbrev vof (z : FVec Ideal S128x8x3144 .f32) : FVec Ideal S128x8x256 .f32 :=
  extractStridedSlice S128x8x256 ![0, 0, 1280] z slices_S128x8x3144_S128x8x256_0_0_1280
abbrev gof (z : FVec Ideal S128x8x3144 .f32) : FVec Ideal S128x8x1024 .f32 :=
  extractStridedSlice S128x8x1024 ![0, 0, 1536] z slices_S128x8x3144_S128x8x1024_0_0_1536

/-- The columns of the index. -/
abbrev iof (z : FVec Ideal S128x8x3144 .f32) : FVec Ideal S128x8x584 .f32 :=
  extractStridedSlice S128x8x584 ![0, 0, 2560] z slices_S128x8x3144_S128x8x584_0_0_2560
abbrev iqof (z : FVec Ideal S128x8x584 .f32) : FVec Ideal S128x8x512 .f32 :=
  extractStridedSlice S128x8x512 ![0, 0, 0] z slices_S128x8x584_S128x8x512_0_0_0

/-- The heads of the index queries. -/
def iheads (z : FVec Ideal S128x8x512 .f32) : FVec Ideal S128x8x8x64 .f32 :=
    shapeCast _ z shapeCasts_S128x8x512_S128x8x8x64

theorem iheads_at (z : FVec Ideal S128x8x512 .f32) (b : Fin 128) (t : Fin 8) (n : Fin 8) (j : Fin 64) :
    iheads z (ix4 b t n j) = z (ix3 b t ⟨n.val * 64 + j.val, by omega⟩) := by
  pointwise [iheads]

/-- The heads of the index queries turned. -/
def iturn (y : FVec Ideal S128x8x8x64 .f32) : FVec Ideal S128x8x8x64 .f32 :=
    concatenate S128x8x8x64 3 [⟨S128x8x8x32, (subf (mulf (extractStridedSlice S128x8x8x32 ![0, 0, 0, 0] y
    slices_S128x8x8x64_S128x8x8x32_0_0_0_0) (broadcastInDim S128x8x8x32 ![0, 1, 2, 3]
    bcast_S1x8x1x32_S128x8x8x32_0_1_2_3 (shapeCast _ (Host.cos Reference8Ideal.At.angles) shapeCasts_S8x32_S1x8x1x32))) (mulf
    (extractStridedSlice S128x8x8x32 ![0, 0, 0, 32] y slices_S128x8x8x64_S128x8x8x32_0_0_0_32) (broadcastInDim
    S128x8x8x32 ![0, 1, 2, 3] bcast_S1x8x1x32_S128x8x8x32_0_1_2_3 (shapeCast _ (Host.sin Reference8Ideal.At.angles)
    shapeCasts_S8x32_S1x8x1x32))))⟩, ⟨S128x8x8x32, (addf (mulf (extractStridedSlice S128x8x8x32 ![0, 0, 0,
    32] y slices_S128x8x8x64_S128x8x8x32_0_0_0_32) (broadcastInDim S128x8x8x32 ![0, 1, 2, 3]
    bcast_S1x8x1x32_S128x8x8x32_0_1_2_3 (shapeCast _ (Host.cos Reference8Ideal.At.angles) shapeCasts_S8x32_S1x8x1x32))) (mulf
    (extractStridedSlice S128x8x8x32 ![0, 0, 0, 0] y slices_S128x8x8x64_S128x8x8x32_0_0_0_0) (broadcastInDim
    S128x8x8x32 ![0, 1, 2, 3] bcast_S1x8x1x32_S128x8x8x32_0_1_2_3 (shapeCast _ (Host.sin Reference8Ideal.At.angles)
    shapeCasts_S8x32_S1x8x1x32))))⟩] concatenates_S128x8x8x32_S128x8x8x32_S128x8x8x64_d3

theorem iturn_at (y : FVec Ideal S128x8x8x64 .f32) (b : Fin 128) (t : Fin 8) (n : Fin 8) (j : Fin 64) :
    iturn y (ix4 b t n j) = Proj.turn (fun j => y (ix4 b t n j)) (Proj.angle (2048 + t.val)) j := by
  pointwise [iturn, Proj.turn, Reference8Ideal.At.angles_at]

/-- The heads of the index queries as rows. -/
def irows (y : FVec Ideal S128x8x8x64 .f32) : FVec Ideal S1024x512 .f32 :=
    shapeCast _ y shapeCasts_S128x8x8x64_S1024x512

theorem irows_at (y : FVec Ideal S128x8x8x64 .f32) (r : Fin 1024) (l : Fin 512) :
    irows y (ix2 r l) = y (ix4 ⟨r.val / 8, by omega⟩ ⟨r.val % 8, by omega⟩ ⟨l.val / 64, by omega⟩
      ⟨l.val % 64, by omega⟩) := by
  pointwise [irows]

/-- The key of the index. -/
def ikof (z : FVec Ideal S128x8x584 .f32) : FVec Ideal S128x8x64 .f32 :=
  extractStridedSlice S128x8x64 ![0, 0, 512] z slices_S128x8x584_S128x8x64_0_0_512

/-- The key of the index turned. -/
def ikturn (y : FVec Ideal S128x8x64 .f32) : FVec Ideal S128x8x64 .f32 :=
    concatenate S128x8x64 2 [⟨S128x8x32, (subf (mulf (extractStridedSlice S128x8x32 ![0, 0, 0] y
    slices_S128x8x64_S128x8x32_0_0_0) (broadcastInDim S128x8x32 ![0, 1, 2] bcast_S1x8x32_S128x8x32_0_1_2
    (shapeCast _ (Host.cos Reference8Ideal.At.angles) shapeCasts_S8x32_S1x8x32))) (mulf (extractStridedSlice
    S128x8x32 ![0, 0, 32] y slices_S128x8x64_S128x8x32_0_0_32) (broadcastInDim S128x8x32 ![0, 1, 2]
    bcast_S1x8x32_S128x8x32_0_1_2 (shapeCast _ (Host.sin Reference8Ideal.At.angles)
    shapeCasts_S8x32_S1x8x32))))⟩, ⟨S128x8x32, (addf (mulf (extractStridedSlice S128x8x32 ![0, 0, 32] y
    slices_S128x8x64_S128x8x32_0_0_32) (broadcastInDim S128x8x32 ![0, 1, 2] bcast_S1x8x32_S128x8x32_0_1_2
    (shapeCast _ (Host.cos Reference8Ideal.At.angles) shapeCasts_S8x32_S1x8x32))) (mulf (extractStridedSlice
    S128x8x32 ![0, 0, 0] y slices_S128x8x64_S128x8x32_0_0_0) (broadcastInDim S128x8x32 ![0, 1, 2]
    bcast_S1x8x32_S128x8x32_0_1_2 (shapeCast _ (Host.sin Reference8Ideal.At.angles)
    shapeCasts_S8x32_S1x8x32))))⟩] concatenates_S128x8x32_S128x8x32_S128x8x64_d2

theorem ikturn_at (y : FVec Ideal S128x8x64 .f32) (b : Fin 128) (t : Fin 8) (j : Fin 64) :
    ikturn y (ix3 b t j) = Proj.turn (fun j => y (ix3 b t j)) (Proj.angle (2048 + t.val)) j := by
  pointwise [ikturn, Proj.turn, Reference8Ideal.At.angles_at]

/-- The weights of the index's heads, as rows. -/
def iwrows (z : FVec Ideal S128x8x584 .f32) : FVec Ideal S1024x8 .f32 :=
  shapeCast _ (extractStridedSlice S128x8x8 ![0, 0, 576] z slices_S128x8x584_S128x8x8_0_0_576) shapeCasts_S128x8x8_S1024x8

theorem iwrows_at (z : FVec Ideal S128x8x584 .f32) (r : Fin 1024) (l : Fin 8) :
    iwrows z (ix2 r l) = z (ix3 ⟨r.val / 8, by omega⟩ ⟨r.val % 8, by omega⟩ ⟨576 + l.val, by omega⟩) := by
  pointwise [iwrows]

theorem index_at (z : FVec Ideal S128x8x512 .f32) (r : Fin 1024) (l : Fin 512) :
    irows (iturn (iheads z)) (ix2 r l) = Proj.turn (fun j => z (ix3 ⟨r.val / 8, by omega⟩ ⟨r.val % 8, by omega⟩
      ⟨l.val / 64 * 64 + j.val, by omega⟩))
      (Proj.angle (2048 + r.val % 8)) ⟨l.val % 64, by omega⟩ := by
  rw [irows_at, iturn_at]
  simp only [iheads_at]

/-- The arguments. -/
abbrev x (c : Dev nD) : FVec Ideal S128x8x1024 .f32 := m ((c.tc : Thread nD τ).loc main_arg0)
abbrev g (c : Dev nD) : FVec Ideal S1024 .f32 := m ((c.tc : Thread nD τ).loc main_arg1)
abbrev w (c : Dev nD) : FVec Ideal S1024x3144 .f32 := m ((c.tc : Thread nD τ).loc main_arg2)
abbrev qg (c : Dev nD) : FVec Ideal S64 .f32 := m ((c.tc : Thread nD τ).loc main_arg3)
abbrev kg (c : Dev nD) : FVec Ideal S64 .f32 := m ((c.tc : Thread nD τ).loc main_arg4)

/-- The projected rows of the arguments. -/
abbrev z (c : Dev nD) : FVec Ideal S128x8x3144 .f32 := cols (x m c) (g m c) (w m c)

/-- The run of the reference, its results in the names above. -/
theorem run (ρ : Dev nD → PrngReg) : θ_run defs (onTc (τ := τ) (main (F := Ideal))) ⟨m, fun _ => 0, ρ⟩ fun r => ∀ c : Dev nD,
      r.2.mem ((c.tc : Thread nD τ).loc main_v109) = Reference8Ideal.At.qrows (Reference8Ideal.At.qturn
        (Reference8Ideal.At.qnorm (Reference8Ideal.At.qheads (qof (z m c))) (qg m c)))
      ∧ r.2.mem ((c.tc : Thread nD τ).loc main_v110) = Reference8Ideal.At.krows (Reference8Ideal.At.kturn
        (Reference8Ideal.At.knorm (Reference8Ideal.At.kheads (kof (z m c))) (kg m c)))
      ∧ r.2.mem ((c.tc : Thread nD τ).loc main_v111) = Reference8Ideal.At.vrows (vof (z m c))
      ∧ r.2.mem ((c.tc : Thread nD τ).loc main_v113) = Reference8Ideal.At.gates (gof (z m c))
      ∧ r.2.mem ((c.tc : Thread nD τ).loc main_v151) = irows (iturn (iheads (iqof (iof (z m c)))))
      ∧ r.2.mem ((c.tc : Thread nD τ).loc main_v180) = ikturn (ikof (iof (z m c)))
      ∧ r.2.mem ((c.tc : Thread nD τ).loc main_v181) = iwrows (iof (z m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun r h c => by
    obtain ⟨h0, h1, h2, h3, h4, h5, h6, ha⟩ := h c
    exact ⟨h0, h1, h2, h3, h4, h5, h6, ha⟩) (Value.run m ρ)

end Cert.Reference9Ideal.At
-- ==== Proof.Kern8.lean ====
/- What a grid point of the projection of the block-sparse attention layer over the sample leaves of one row. -/
module

public import proofs.«01_k».proof.Proof.Gen.Kernel8Ideal.Frame
public import proofs.«01_k».proof.Proof.Heads

@[expose] public section

set_option maxRecDepth 16384

noncomputable section

open Idealize.ShloMosaic Idealize.ShloMosaic.TcCoe Idealize.SL.Sem

namespace Cert.Kernel8Ideal.Block

open Cert.Kernel8Ideal Cert.Kernel8Ideal.Gen

/-- The loaded rows, normalised, and the weights' columns. -/
abbrev hrows (x0 : FVec Ideal S256x1024 .f32) (x1 : FVec Ideal S1x1024 .f32) : FVec Ideal S256x1024 .bf16 := k0_pay6 (F := Ideal) (View.ld (Val := Elt Ideal) (e' := .f32) x0 r0_0) (View.ld (Val := Elt Ideal) (e' := .f32) x1 r0_1)
abbrev wq (x2 : FVec Ideal S1024x2560 .bf16) : FVec Ideal S1024x1024 .bf16 :=
  shapeCast S1024x1024 (View.ld (Val := Elt Ideal) (e' := .bf16) x2 r0_4) shapeCasts_S1024x1024_S1024x1024
abbrev wk (x2 : FVec Ideal S1024x2560 .bf16) : FVec Ideal S1024x256 .bf16 :=
  shapeCast S1024x256 (View.ld (Val := Elt Ideal) (e' := .bf16) x2 r0_13) shapeCasts_S1024x256_S1024x256
abbrev wv (x2 : FVec Ideal S1024x2560 .bf16) : FVec Ideal S1024x256 .bf16 :=
  shapeCast S1024x256 (View.ld (Val := Elt Ideal) (e' := .bf16) x2 r0_16) shapeCasts_S1024x256_S1024x256
abbrev wg (x2 : FVec Ideal S1024x2560 .bf16) : FVec Ideal S1024x1024 .bf16 :=
  shapeCast S1024x1024 (View.ld (Val := Elt Ideal) (e' := .bf16) x2 r0_18) shapeCasts_S1024x1024_S1024x1024
abbrev cs (x3 : FVec Ideal S256x128 .f32) : FVec Ideal S256x128 .f32 := k0_pay7 (F := Ideal) (View.ld (Val := Elt Ideal) (e' := .f32) x3 r0_2)
abbrev sn (x4 : FVec Ideal S256x128 .f32) : FVec Ideal S256x128 .f32 := k0_pay8 (F := Ideal) (View.ld (Val := Elt Ideal) (e' := .f32) x4 r0_2)
abbrev gq (x5 : FVec Ideal S1x128 .f32) : FVec Ideal S1x128 .f32 := k0_pay9 (F := Ideal) (View.ld (Val := Elt Ideal) (e' := .f32) x5 r0_3)
abbrev gk (x6 : FVec Ideal S1x128 .f32) : FVec Ideal S1x128 .f32 := k0_pay10 (F := Ideal) (View.ld (Val := Elt Ideal) (e' := .f32) x6 r0_3)

/-- What row `r` of the grid point's blocks holds. -/
abbrev Row (x0 : FVec Ideal S256x1024 .f32) (x1 : FVec Ideal S1x1024 .f32) (x2 : FVec Ideal S1024x2560 .bf16) (x3 : FVec Ideal S256x128 .f32) (x4 : FVec Ideal S256x128 .f32) (x5 : FVec Ideal S1x128 .f32) (x6 : FVec Ideal S1x128 .f32)
    (r : Fin 256) (X G : Fin 1024 → EReal) (W : Fin 1024 → Fin 2560 → EReal) (Q K : Fin 64 → EReal) (p : ℕ) : Prop :=
  Heads.Holds (hrows x0 x1) (wq x2) (wk x2) (wv x2) (wg x2) (cs x3) (sn x4) (gq x5) (gk x6) r X G W (by omega) Q K p

variable {x0 : FVec Ideal S256x1024 .f32} {x1 : FVec Ideal S1x1024 .f32} {x2 : FVec Ideal S1024x2560 .bf16} {x3 : FVec Ideal S256x128 .f32} {x4 : FVec Ideal S256x128 .f32} {x5 : FVec Ideal S1x128 .f32} {x6 : FVec Ideal S1x128 .f32} {r : Fin 256} {X G : Fin 1024 → EReal} {W : Fin 1024 → Fin 2560 → EReal} {Q K : Fin 64 → EReal} {p : ℕ}

theorem wq_at (x2 : FVec Ideal S1024x2560 .bf16) (d e : Fin 1024) : wq x2 (ix2 d e) = x2 (ix2 d ⟨e.val, by omega⟩) := by
  pointwise
theorem wk_at (x2 : FVec Ideal S1024x2560 .bf16) (d : Fin 1024) (e : Fin 256) : wk x2 (ix2 d e) = x2 (ix2 d ⟨1024 + e.val, by omega⟩) := by
  pointwise
theorem wv_at (x2 : FVec Ideal S1024x2560 .bf16) (d : Fin 1024) (e : Fin 256) : wv x2 (ix2 d e) = x2 (ix2 d ⟨1280 + e.val, by omega⟩) := by
  pointwise
theorem wg_at (x2 : FVec Ideal S1024x2560 .bf16) (d e : Fin 1024) : wg x2 (ix2 d e) = x2 (ix2 d ⟨1536 + e.val, by omega⟩) := by
  pointwise

theorem ld0 (x : FVec Ideal S256x1024 .f32) : View.ld (Val := Elt Ideal) (e' := .f32) x r0_0 = x := by
  funext y; idx_vars y; pointwise
theorem ld1 (x : FVec Ideal S1x1024 .f32) : View.ld (Val := Elt Ideal) (e' := .f32) x r0_1 = x := by
  funext y; idx_vars y; obtain rfl : y0 = 0 := Subsingleton.elim _ _; pointwise

theorem tables_at (x y : FVec Ideal S256x128 .f32) (u v : FVec Ideal S1x128 .f32) : cs x = x ∧ sn y = y ∧ gq u = u ∧ gk v = v := by
  refine ⟨?_, ?_, ?_, ?_⟩ <;> (funext i; idx_vars i)
  · pointwise [k0_pay7, k0_pay8, k0_pay9, k0_pay10]
  · pointwise [k0_pay7, k0_pay8, k0_pay9, k0_pay10]
  · obtain rfl : i0 = 0 := Subsingleton.elim _ _; pointwise [k0_pay7, k0_pay8, k0_pay9, k0_pay10]
  · obtain rfl : i0 = 0 := Subsingleton.elim _ _; pointwise [k0_pay7, k0_pay8, k0_pay9, k0_pay10]

theorem row_of (h0 : ∀ d, x0 (ix2 r d) = X d) (h1 : ∀ d, x1 (ix2 0 d) = G d)
    (h2 : ∀ d e, x2 (ix2 d e) = W d e)
    (h3 : ∀ l : Fin 128, x3 (ix2 r l) = Ideal.cos (Proj.angle p ⟨l.val % 32, by omega⟩))
    (h4 : ∀ l : Fin 128, x4 (ix2 r l) = if l.val % 64 < 32 then -Ideal.sin (Proj.angle p ⟨l.val % 32, by omega⟩)
      else Ideal.sin (Proj.angle p ⟨l.val % 32, by omega⟩))
    (h5 : ∀ l : Fin 128, x5 (ix2 0 l) = Q ⟨l.val % 64, by omega⟩)
    (h6 : ∀ l : Fin 128, x6 (ix2 0 l) = K ⟨l.val % 64, by omega⟩)
    (fg : ∀ d, Proj.IsFin (G d)) (fw : ∀ d e, Proj.IsFin (W d e)) : Row x0 x1 x2 x3 x4 x5 x6 r X G W Q K p where
  hh d := by
    refine (Kernel2Ideal.Block.rows_at (View.ld (Val := Elt Ideal) (e' := .f32) x0 r0_0) (View.ld (Val := Elt Ideal) (e' := .f32) x1 r0_1) r d).trans ?_
    rw [ld0, ld1, h1]
    exact congrArg (fun f => Proj.unit f d * G d) (funext h0)
  hwq d e := (wq_at x2 d e).trans (h2 d _)
  hwk d e := (wk_at x2 d e).trans (h2 d _)
  hwv d e := (wv_at x2 d e).trans (h2 d _)
  hwg d e := (wg_at x2 d e).trans (h2 d _)
  hc l := (congrFun (tables_at x3 x4 x5 x6).1 _).trans (h3 l)
  hs l := (congrFun (tables_at x3 x4 x5 x6).2.1 _).trans (h4 l)
  hq l := (congrFun (tables_at x3 x4 x5 x6).2.2.1 _).trans (h5 l)
  hk l := (congrFun (tables_at x3 x4 x5 x6).2.2.2 _).trans (h6 l)
  fg := fg
  fw := fw

theorem out7 (H : Row x0 x1 x2 x3 x4 x5 x6 r X G W Q K p) (l : Fin 1024) : out0_7 (F := Ideal) x0 x1 x2 x3 x4 x5 x6 (ix2 r l)
    = Proj.headOf X G (fun j d => W d ⟨l.val / 64 * 64 + j.val, by omega⟩) Q p ⟨l.val % 64, by omega⟩ * Ideal.ofBits .f32 0x3E000000#32 := by
  unfold_out out0_7
  canon_tiles y h
  all_goals (idx_vars y; obtain rfl : y0 = r := Fin.ext h0.symm)
  case piece0 => exact H.q 896 (by omega) (by omega) slices_S256x1024_o0_896_S256x128 y1 l h1
  case piece1 => exact H.q 768 (by omega) (by omega) slices_S256x1024_o0_768_S256x128 y1 l h1
  case piece2 => exact H.q 640 (by omega) (by omega) slices_S256x1024_o0_640_S256x128 y1 l h1
  case piece3 => exact H.q 512 (by omega) (by omega) slices_S256x1024_o0_512_S256x128 y1 l h1
  case piece4 => exact H.q 384 (by omega) (by omega) slices_S256x1024_o0_384_S256x128 y1 l h1
  case piece5 => exact H.q 256 (by omega) (by omega) slices_S256x1024_o0_256_S256x128 y1 l h1
  case piece6 => exact H.q 128 (by omega) (by omega) slices_S256x1024_o0_128_S256x128 y1 l h1
  case piece7 => exact H.q 0 (by omega) (by omega) slices_S256x1024_o0_0_S256x128 y1 l (h1.trans (Nat.zero_add _).symm)

theorem out8 (H : Row x0 x1 x2 x3 x4 x5 x6 r X G W Q K p) (l : Fin 256) : out0_8 (F := Ideal) x0 x1 x2 x3 x4 x5 x6 (ix2 r l)
    = Proj.headOf X G (fun j d => W d ⟨1024 + (l.val / 64 * 64 + j.val), by omega⟩) K p ⟨l.val % 64, by omega⟩ := by
  unfold_out out0_8
  canon_tiles y h
  all_goals (idx_vars y; obtain rfl : y0 = r := Fin.ext h0.symm)
  case piece0 => exact H.k 128 (by omega) (by omega) slices_S256x256_o0_128_S256x128 y1 l h1
  case piece1 => exact H.k 0 (by omega) (by omega) slices_S256x256_o0_0_S256x128 y1 l (h1.trans (Nat.zero_add _).symm)

theorem out9 (H : Row x0 x1 x2 x3 x4 x5 x6 r X G W Q K p) (l : Fin 256) : out0_9 (F := Ideal) x0 x1 x2 x3 x4 x5 x6 (ix2 r l)
    = Proj.proj X G (fun d => W d ⟨1280 + l.val, by omega⟩) := by
  unfold_out out0_9
  canon_tiles y h
  all_goals (idx_vars y; obtain rfl : y0 = r := Fin.ext h0.symm; obtain rfl : y1 = l := Fin.ext h1.symm)
  exact H.v y1

theorem out12 (H : Row x0 x1 x2 x3 x4 x5 x6 r X G W Q K p) (l : Fin 1024) : out0_12 (F := Ideal) x0 x1 x2 x3 x4 x5 x6 (ix2 r l)
    = Proj.silu (Proj.proj X G (fun d => W d ⟨1536 + l.val, by omega⟩)) := by
  unfold_out out0_12
  canon_tiles y h
  all_goals (idx_vars y; obtain rfl : y0 = r := Fin.ext h0.symm; obtain rfl : y1 = l := Fin.ext h1.symm)
  exact H.g y1

end Cert.Kernel8Ideal.Block
-- ==== Proof.Places.lean ====
/- The tables of the sample's positions: what the host forms for 256 rows whose positions repeat every 8. -/
module

public import proofs.«01_k».proof.Proof.Gen.Kernel8Ideal
public import Idealize.ShloMosaic.Lib.Pipeline.ValueKit
public import proofs.«01_k».proof.Proof.Proj
public import proofs.«01_k».proof.Proof.Words

@[expose] public section

set_option maxRecDepth 16384

noncomputable section

open Idealize.ShloMosaic Idealize.ShloMosaic.TcCoe Idealize.SL.Sem

namespace Cert.Places

open Cert.Kernel8Ideal Cert.Kernel8Ideal.Gen

/-- The divisor of the host's remainder. -/
def eight : IVec S_ 32 :=
  select (cmpi .eq (id (constantI S_ 32 8#32)) (constantI S_ 32 0#32)) (constantI S_ 32 1#32) (id (constantI S_ 32 8#32))

/-- The remainder with the sign of the dividend. -/
def rest : IVec S256 32 := Host.remsi (iotaInDim S256 32 0) (broadcastInDim S256 ![] bcast_S_S256 eight)

/-- The row's number modulo 8, as the host forms it. -/
def place : IVec S256 32 :=
  select (andi (cmpi .ne (cmpi .slt rest (broadcastInDim S256 ![] bcast_S_S256 (constantI S_ 32 0#32)))
      (broadcastInDim S256 ![] bcast_S_S256 (cmpi .slt eight (constantI S_ 32 0#32))))
      (cmpi .ne rest (broadcastInDim S256 ![] bcast_S_S256 (constantI S_ 32 0#32))))
    (addi rest (broadcastInDim S256 ![] bcast_S_S256 eight)) rest

theorem place_at (r : Fin 256) : place (ix1 r) = BitVec.ofNat 32 (r.val % 8) := by
  pointwise [place, rest, eight]
  revert r
  decide +kernel

/-- The angles of the rows. -/
def turns : FVec Ideal S256x32 .f32 :=
  mulf (broadcastInDim S256x32 ![0, 1] bcast_S256x1_S256x32_0_1 (broadcastInDim S256x1 ![0] bcast_S256_S256x1_0
    (sitofp .f32 (addi (broadcastInDim S256 ![] bcast_S_S256 (constantI S_ 32 2048#32)) place))))
    (broadcastInDim S256x32 ![0, 1] bcast_S1x32_S256x32_0_1 (broadcastInDim S1x32 ![1] bcast_S32_S1x32_1 (Host.powf
      (broadcastInDim S32 ![] bcast_S_S32 (constant S_ .f32 0x461C4000#32)) (Host.divf (Host.negf (sitofp .f32 (iotaInDim S32 32 0)))
      (broadcastInDim S32 ![] bcast_S_S32 (constant S_ .f32 0x42000000#32))))))

theorem turns_at (r : Fin 256) (i : Fin 32) : turns (ix2 r i) = Proj.angle (2048 + r.val % 8) i := by
  unfold Proj.angle
  rw [← Words.addi_ofNat, ← place_at]
  pointwise [turns]

theorem cosines_at (r : Fin 256) (l : Fin 128) : shapeCast S256x128 (broadcastInDim S1x256x4x32 ![0, 1, 2, 3] bcast_S1x256x1x32_S1x256x4x32_0_1_2_3
    (shapeCast S1x256x1x32 (Host.cos turns) shapeCasts_S256x32_S1x256x1x32)) shapeCasts_S1x256x4x32_S256x128 (ix2 r l)
    = Ideal.cos (Proj.angle (2048 + r.val % 8) ⟨l.val % 32, by omega⟩) := by
  pointwise [turns_at]

theorem sines_at (r : Fin 256) (i : Fin 32) : (Host.sin turns) (ix2 r i) = Ideal.sin (Proj.angle (2048 + r.val % 8) i) := by
  pointwise [turns_at]
theorem negs_at (r : Fin 256) (i : Fin 32) : (Host.negf (Host.sin turns)) (ix2 r i) = -Ideal.sin (Proj.angle (2048 + r.val % 8) i) := by
  pointwise [turns_at]

theorem cat (a b : FVec Ideal S256x32 .f32) (t : Fin 256) (l : Fin 128) :
    concatenate S256x128 1 [⟨S256x32, a⟩, ⟨S256x32, b⟩, ⟨S256x32, a⟩, ⟨S256x32, b⟩] concatenates_S256x32_S256x32_S256x32_S256x32_S256x128_d1 (ix2 t l)
      = if l.val % 64 < 32 then a (ix2 t ⟨l.val % 32, by omega⟩) else b (ix2 t ⟨l.val % 32, by omega⟩) := by
  have hl := l.isLt
  by_cases h : l.val % 64 < 32
  · rw [if_pos h]
    pointwise
    split
    · exact congrArg (fun e => a (ix2 t e)) (Fin.ext (by show l.val = l.val % 32; omega))
    · split
      · omega
      · split
        · exact congrArg (fun e => a (ix2 t e)) (Fin.ext (by show l.val - 32 - 32 = l.val % 32; omega))
        · omega
  · rw [if_neg h]
    pointwise
    split
    · omega
    · split
      · exact congrArg (fun e => b (ix2 t e)) (Fin.ext (by show l.val - 32 = l.val % 32; omega))
      · split
        · omega
        · exact congrArg (fun e => b (ix2 t e)) (Fin.ext (by show l.val - 32 - 32 - 32 = l.val % 32; omega))

end Cert.Places
-- ==== Proof.Final8.lean ====
/- The arrays the projection of the block-sparse attention layer leaves over the sample, as the reference's results. -/
module

public import proofs.«01_k».proof.Proof.Kern8
public import proofs.«01_k».proof.Proof.Refv8
public import proofs.«01_k».proof.Proof.Refv2
public import proofs.«01_k».proof.Proof.Places
public import Idealize.ShloMosaic.Lib.StableHlo.RunRead
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel8Ideal.Final

open Cert.Kernel8Ideal Cert.Kernel8Ideal.Gen Cert.Kernel8Ideal.Block

variable (m : (ℓ : Loc nD τ sig) → Buf (Elt Ideal) ℓ)

/-- The arguments. -/
abbrev x (c : Dev nD) : FVec Ideal S128x8x1024 .f32 := m ((c : Thread nD τ).loc main_arg0)
abbrev g (c : Dev nD) : FVec Ideal S1024 .f32 := m ((c : Thread nD τ).loc main_arg1)
abbrev w (c : Dev nD) : FVec Ideal S1024x2560 .f32 := m ((c : Thread nD τ).loc main_arg2)
abbrev qg (c : Dev nD) : FVec Ideal S64 .f32 := m ((c : Thread nD τ).loc main_arg3)
abbrev kg (c : Dev nD) : FVec Ideal S64 .f32 := m ((c : Thread nD τ).loc main_arg4)

theorem V_eq (c : Dev nD) (b : Ref sig .tc) : V m c b = StableHlo.after
    (List.flatten [hostOps0, hostOps0_1, hostOps0_2]) (fun b => m (c, b)) (Proc.devRef .tc b) := by
  unfold V
  rfl

/-! ## What the host hands over -/

theorem cosines (c : Dev nD) (t : Fin 256) (l : Fin 128) : (V m c main_v20 : FVec Ideal S256x128 .f32) (ix2 t l)
    = Ideal.cos (Proj.angle (2048 + t.val % 8) ⟨l.val % 32, by omega⟩) := by
  rw [V_eq]
  simp only [hostOps0, hostOps0_1, hostOps0_2, List.flatten_cons, List.flatten_nil, List.append_nil, List.cons_append, List.nil_append]
  entry_read
  exact Places.cosines_at t l

theorem sin_cat (c : Dev nD) : (V m c main_v22 : FVec Ideal S256x128 .f32) = concatenate S256x128 1
    [⟨S256x32, StableHlo.upto (List.flatten [hostOps0, hostOps0_1, hostOps0_2]) (fun b => m (c, b)) 46 (Proc.devRef .tc main_v21)⟩,
     ⟨S256x32, StableHlo.upto (List.flatten [hostOps0, hostOps0_1, hostOps0_2]) (fun b => m (c, b)) 46 (Proc.devRef .tc main_v17)⟩,
     ⟨S256x32, StableHlo.upto (List.flatten [hostOps0, hostOps0_1, hostOps0_2]) (fun b => m (c, b)) 46 (Proc.devRef .tc main_v21)⟩,
     ⟨S256x32, StableHlo.upto (List.flatten [hostOps0, hostOps0_1, hostOps0_2]) (fun b => m (c, b)) 46 (Proc.devRef .tc main_v17)⟩]
    concatenates_S256x32_S256x32_S256x32_S256x32_S256x128_d1 := by
  rw [V_eq]
  refine (StableHlo.after_last_write (i := 46) [main_v23, main_v24, main_v25, main_v26, main_v27, main_v28, main_v29, main_v30, main_v31, main_v32, main_v33] rfl rfl (by decide) _).trans ?_
  rw [StableHlo.nary_result]
  rfl

theorem sin_at (c : Dev nD) (t : Fin 256) (i : Fin 32) : (StableHlo.upto (List.flatten [hostOps0, hostOps0_1, hostOps0_2]) (fun b => m (c, b)) 46 (Proc.devRef .tc main_v17) : FVec Ideal S256x32 .f32) (ix2 t i)
    = Ideal.sin (Proj.angle (2048 + t.val % 8) i) := by
  simp only [StableHlo.upto, hostOps0, hostOps0_1, hostOps0_2, List.flatten_cons, List.flatten_nil, List.append_nil, List.cons_append, List.nil_append, List.take_succ_cons, List.take_zero]
  entry_read
  exact Places.sines_at t i
theorem neg_at (c : Dev nD) (t : Fin 256) (i : Fin 32) : (StableHlo.upto (List.flatten [hostOps0, hostOps0_1, hostOps0_2]) (fun b => m (c, b)) 46 (Proc.devRef .tc main_v21) : FVec Ideal S256x32 .f32) (ix2 t i)
    = -Ideal.sin (Proj.angle (2048 + t.val % 8) i) := by
  simp only [StableHlo.upto, hostOps0, hostOps0_1, hostOps0_2, List.flatten_cons, List.flatten_nil, List.append_nil, List.cons_append, List.nil_append, List.take_succ_cons, List.take_zero]
  entry_read
  exact Places.negs_at t i

theorem sines (c : Dev nD) (t : Fin 256) (l : Fin 128) : (V m c main_v22 : FVec Ideal S256x128 .f32) (ix2 t l)
    = if l.val % 64 < 32 then -Ideal.sin (Proj.angle (2048 + t.val % 8) ⟨l.val % 32, by omega⟩) else Ideal.sin (Proj.angle (2048 + t.val % 8) ⟨l.val % 32, by omega⟩) := by
  rw [sin_cat]
  refine (Places.cat _ _ t l).trans ?_
  rw [neg_at, sin_at]

theorem rows (c : Dev nD) (r : Fin 1024) (d : Fin 1024) : (V m c main_v23 : FVec Ideal S1024x1024 .f32) (ix2 r d)
    = x m c (ix3 ⟨r.val / 8, by omega⟩ ⟨r.val % 8, by omega⟩ d) := by
  rw [V_eq]
  simp only [hostOps0, hostOps0_1, hostOps0_2, List.flatten_cons, List.flatten_nil, List.append_nil, List.cons_append, List.nil_append]
  entry_read
  pointwise
theorem gains (c : Dev nD) (d : Fin 1024) : (V m c main_v24 : FVec Ideal S1x1024 .f32) (ix2 0 d) = g m c (ix1 d) := by
  rw [V_eq]
  simp only [hostOps0, hostOps0_1, hostOps0_2, List.flatten_cons, List.flatten_nil, List.append_nil, List.cons_append, List.nil_append]
  entry_read
  pointwise
theorem weights (c : Dev nD) (d : Fin 1024) (e : Fin 2560) : (V m c main_v25 : FVec Ideal S1024x2560 .bf16) (ix2 d e) = w m c (ix2 d e) := by
  rw [V_eq]
  simp only [hostOps0, hostOps0_1, hostOps0_2, List.flatten_cons, List.flatten_nil, List.append_nil, List.cons_append, List.nil_append]
  entry_read
  pointwise
theorem qgains (c : Dev nD) (l : Fin 128) : (V m c main_v29 : FVec Ideal S1x128 .f32) (ix2 0 l) = qg m c (ix1 ⟨l.val % 64, by omega⟩) := by
  rw [V_eq]
  simp only [hostOps0, hostOps0_1, hostOps0_2, List.flatten_cons, List.flatten_nil, List.append_nil, List.cons_append, List.nil_append]
  entry_read
  pointwise
theorem kgains (c : Dev nD) (l : Fin 128) : (V m c main_v33 : FVec Ideal S1x128 .f32) (ix2 0 l) = kg m c (ix1 ⟨l.val % 64, by omega⟩) := by
  rw [V_eq]
  simp only [hostOps0, hostOps0_1, hostOps0_2, List.flatten_cons, List.flatten_nil, List.append_nil, List.cons_append, List.nil_append]
  entry_read
  pointwise

/-! ## The blocks -/

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] ∧ win0_12.index t = ![t.val, 0]
    ∧ t.val < 4 :=
  (by decide +kernel : ∀ t : Fin grid0.N, _)

/-- The row of the whole array a grid point's block has at its row `r`. -/
abbrev here (t : Fin cfg0.N) (r : Fin 256) : Fin 1024 := ⟨256 * t.val + r.val, by have := idx t; omega⟩

theorem block0 (c : Dev nD) (t : Fin cfg0.N) (r : Fin 256) (d : Fin 1024) : (iblk m c 0 t : FVec Ideal S256x1024 .f32) (ix2 r d) = Reference8Ideal.At.rowOf (x m c) (here t r) d := by
  refine Eq.trans ?_ (rows m c (here t r) d)
  blk_ext [iblk, idx t]
theorem block1 (c : Dev nD) (t : Fin cfg0.N) (d : Fin 1024) : (iblk m c 1 t : FVec Ideal S1x1024 .f32) (ix2 0 d) = g m c (ix1 d) := by
  refine Eq.trans ?_ (gains m c d)
  blk_ext [iblk, idx t]
theorem block2 (c : Dev nD) (t : Fin cfg0.N) (d : Fin 1024) (e : Fin 2560) : (iblk m c 2 t : FVec Ideal S1024x2560 .bf16) (ix2 d e) = w m c (ix2 d e) := by
  refine Eq.trans ?_ (weights m c d e)
  blk_ext [iblk, idx t]
theorem block3 (c : Dev nD) (t : Fin cfg0.N) (r : Fin 256) (l : Fin 128) : (iblk m c 3 t : FVec Ideal S256x128 .f32) (ix2 r l)
    = Ideal.cos (Proj.angle (2048 + (256 * t.val + r.val) % 8) ⟨l.val % 32, by omega⟩) := by
  rw [show (256 * t.val + r.val) % 8 = r.val % 8 by omega]
  refine Eq.trans ?_ (cosines m c r l)
  blk_ext [iblk, idx t]
theorem block4 (c : Dev nD) (t : Fin cfg0.N) (r : Fin 256) (l : Fin 128) : (iblk m c 4 t : FVec Ideal S256x128 .f32) (ix2 r l)
    = if l.val % 64 < 32 then -Ideal.sin (Proj.angle (2048 + (256 * t.val + r.val) % 8) ⟨l.val % 32, by omega⟩)
      else Ideal.sin (Proj.angle (2048 + (256 * t.val + r.val) % 8) ⟨l.val % 32, by omega⟩) := by
  rw [show (256 * t.val + r.val) % 8 = r.val % 8 by omega]
  refine Eq.trans ?_ (sines m c r l)
  blk_ext [iblk, idx t]
theorem block5 (c : Dev nD) (t : Fin cfg0.N) (l : Fin 128) : (iblk m c 5 t : FVec Ideal S1x128 .f32) (ix2 0 l) = qg m c (ix1 ⟨l.val % 64, by omega⟩) := by
  refine Eq.trans ?_ (qgains m c l)
  blk_ext [iblk, idx t]
theorem block6 (c : Dev nD) (t : Fin cfg0.N) (l : Fin 128) : (iblk m c 6 t : FVec Ideal S1x128 .f32) (ix2 0 l) = kg m c (ix1 ⟨l.val % 64, by omega⟩) := by
  refine Eq.trans ?_ (kgains m c l)
  blk_ext [iblk, idx t]

section Finals

open Reference8Ideal.At (cols qof kof vof gof)
open Reference2Ideal.At (vecOf)
open Reference8Ideal.At (rowOf)

variable (c : Dev nD) (fg : ∀ d, Proj.IsFin (g m c (ix1 d))) (fw : ∀ d e, Proj.IsFin (w m c (ix2 d e)))

/-- The projected columns of the arguments. -/
abbrev z : FVec Ideal Reference8Ideal.S128x8x2560 .f32 := cols (x m c) (g m c) (w m c)

theorem q_col (b : Fin 128) (t : Fin 8) (l : Fin 1024) : qof (z m c) (ix3 b t l)
    = Proj.proj (fun d => x m c (ix3 b t d)) (vecOf (g m c)) fun d => w m c (ix2 d ⟨l.val, by omega⟩) :=
  Eq.trans (b := z m c (ix3 b t ⟨l.val, by omega⟩)) (by pointwise) (Reference8Ideal.At.cols_at _ _ _ b t _)
theorem k_col (b : Fin 128) (t : Fin 8) (l : Fin 256) : kof (z m c) (ix3 b t l)
    = Proj.proj (fun d => x m c (ix3 b t d)) (vecOf (g m c)) fun d => w m c (ix2 d ⟨1024 + l.val, by omega⟩) :=
  Eq.trans (b := z m c (ix3 b t ⟨1024 + l.val, by omega⟩)) (by pointwise) (Reference8Ideal.At.cols_at _ _ _ b t _)
theorem v_col (b : Fin 128) (t : Fin 8) (l : Fin 256) : vof (z m c) (ix3 b t l)
    = Proj.proj (fun d => x m c (ix3 b t d)) (vecOf (g m c)) fun d => w m c (ix2 d ⟨1280 + l.val, by omega⟩) :=
  Eq.trans (b := z m c (ix3 b t ⟨1280 + l.val, by omega⟩)) (by pointwise) (Reference8Ideal.At.cols_at _ _ _ b t _)
theorem g_col (b : Fin 128) (t : Fin 8) (l : Fin 1024) : gof (z m c) (ix3 b t l)
    = Proj.proj (fun d => x m c (ix3 b t d)) (vecOf (g m c)) fun d => w m c (ix2 d ⟨1536 + l.val, by omega⟩) :=
  Eq.trans (b := z m c (ix3 b t ⟨1536 + l.val, by omega⟩)) (by pointwise) (Reference8Ideal.At.cols_at _ _ _ b t _)

/-- The results of the reference. -/
abbrev qres : FVec Ideal S1024x1024 .f32 :=
  Reference8Ideal.At.qrows (Reference8Ideal.At.qturn (Reference8Ideal.At.qnorm (Reference8Ideal.At.qheads (qof (z m c))) (qg m c)))
abbrev kres : FVec Ideal Reference8Ideal.S128x8x4x64 .f32 :=
  Reference8Ideal.At.kturn (Reference8Ideal.At.knorm (Reference8Ideal.At.kheads (kof (z m c))) (kg m c))

theorem qres_at (r : Fin 1024) (l : Fin 1024) : qres m c (ix2 r l) = Proj.headOf (rowOf (x m c) r) (vecOf (g m c))
    (fun j d => w m c (ix2 d ⟨l.val / 64 * 64 + j.val, by omega⟩)) (vecOf (qg m c)) (2048 + r.val % 8) ⟨l.val % 64, by omega⟩ * Ideal.ofBits .f32 0x3E000000#32 := by
  refine (Reference8Ideal.At.queries_at _ _ r l).trans ?_
  simp only [q_col]
  rfl
theorem kres_at (r : Fin 1024) (l : Fin 256) : Reference8Ideal.At.krows (kres m c) (ix2 r l) = Proj.headOf (rowOf (x m c) r) (vecOf (g m c))
    (fun j d => w m c (ix2 d ⟨1024 + (l.val / 64 * 64 + j.val), by omega⟩)) (vecOf (kg m c)) (2048 + r.val % 8) ⟨l.val % 64, by omega⟩ := by
  refine (Reference8Ideal.At.keys_at _ _ r l).trans ?_
  simp only [k_col]
  rfl

include fg fw

theorem holds (t : Fin cfg0.N) (r : Fin 256) : Row (iblk m c 0 t) (iblk m c 1 t) (iblk m c 2 t) (iblk m c 3 t) (iblk m c 4 t) (iblk m c 5 t) (iblk m c 6 t) r
    (rowOf (x m c) (here t r)) (vecOf (g m c)) (fun d e => w m c (ix2 d e))
    (vecOf (qg m c)) (vecOf (kg m c)) (2048 + (256 * t.val + r.val) % 8) :=
  row_of (block0 m c t r) (block1 m c t) (block2 m c t) (block3 m c t r) (block4 m c t r) (block5 m c t) (block6 m c t) fg fw

theorem final7 : (dats m 0 c).arrAt 7 (cfgs 0).N = qres m c := by
  refine (dats m 0 c).arrAt_eq_of_covers 7 _ (by decide +kernel) fun t _ y => ?_
  blk_simp
  rw [after0_7]
  idx_vars y
  refine (out7 (holds m c fg fw t y0) y1).trans ((qres_at m c (here t y0) y1).symm.trans (congrArg _ ?_))
  blk_ext [idx t]

theorem final8 : (dats m 0 c).arrAt 8 (cfgs 0).N = Reference8Ideal.At.krows (kres m c) := by
  refine (dats m 0 c).arrAt_eq_of_covers 8 _ (by decide +kernel) fun t _ y => ?_
  blk_simp
  rw [after0_8]
  idx_vars y
  refine (out8 (holds m c fg fw t y0) y1).trans ((kres_at m c (here t y0) y1).symm.trans (congrArg _ ?_))
  blk_ext [idx t]

theorem final9 : (dats m 0 c).arrAt 9 (cfgs 0).N = Reference8Ideal.At.vrows (vof (z m c)) := by
  refine (dats m 0 c).arrAt_eq_of_covers 9 _ (by decide +kernel) fun t _ y => ?_
  blk_simp
  rw [after0_9]
  idx_vars y
  refine (out9 (holds m c fg fw t y0) y1).trans (((Reference8Ideal.At.vrows_at _ (here t y0) y1).trans (v_col m c _ _ y1)).symm.trans (congrArg _ ?_))
  blk_ext [idx t]

theorem final12 : (dats m 0 c).arrAt 12 (cfgs 0).N = Reference8Ideal.At.gates (gof (z m c)) := by
  refine (dats m 0 c).arrAt_eq_of_covers 12 _ (by decide +kernel) fun t _ y => ?_
  blk_simp
  rw [after0_12]
  idx_vars y
  refine (out12 (holds m c fg fw t y0) y1).trans (((Reference8Ideal.At.gates_at _ (here t y0) y1).trans
    (congrArg Proj.silu (g_col m c _ _ y1))).symm.trans (congrArg _ ?_))
  blk_ext [idx t]

end Finals

end Cert.Kernel8Ideal.Final
-- ==== Proof.Final9.lean ====
/- The arrays the projection of the indexed attention layer leaves over the sample, as the reference's results. -/
module

public import proofs.«01_k».proof.Proof.Kern9
public import proofs.«01_k».proof.Proof.Refv9
public import proofs.«01_k».proof.Proof.Final8
public import Idealize.ShloMosaic.Lib.StableHlo.RunRead
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel9Ideal.Final

open Cert.Kernel9Ideal Cert.Kernel9Ideal.Gen Cert.Kernel9Ideal.Block

variable (m : (ℓ : Loc nD τ sig) → Buf (Elt Ideal) ℓ)

/-- The arguments. -/
abbrev x (c : Dev nD) : FVec Ideal S128x8x1024 .f32 := m ((c : Thread nD τ).loc main_arg0)
abbrev g (c : Dev nD) : FVec Ideal S1024 .f32 := m ((c : Thread nD τ).loc main_arg1)
abbrev w (c : Dev nD) : FVec Ideal S1024x3144 .f32 := m ((c : Thread nD τ).loc main_arg2)
abbrev qg (c : Dev nD) : FVec Ideal S64 .f32 := m ((c : Thread nD τ).loc main_arg3)
abbrev kg (c : Dev nD) : FVec Ideal S64 .f32 := m ((c : Thread nD τ).loc main_arg4)

theorem V_eq (c : Dev nD) (b : Ref sig .tc) : V m c b = StableHlo.after
    (List.flatten [hostOps0, hostOps0_1, hostOps0_2, hostOps0_3, hostOps0_4]) (fun b => m (c, b)) (Proc.devRef .tc b) := by
  unfold V
  rfl

/-! ## What the host hands over -/

theorem cosines (c : Dev nD) (t : Fin 256) (l : Fin 128) : (V m c main_v20 : FVec Ideal S256x128 .f32) (ix2 t l)
    = Ideal.cos (Proj.angle (2048 + t.val % 8) ⟨l.val % 32, by omega⟩) := by
  rw [V_eq]
  simp only [hostOps0, hostOps0_1, hostOps0_2, hostOps0_3, hostOps0_4, List.flatten_cons, List.flatten_nil, List.append_nil, List.cons_append, List.nil_append]
  entry_read
  exact Places.cosines_at t l

theorem sin_cat (c : Dev nD) : (V m c main_v22 : FVec Ideal S256x128 .f32) = concatenate S256x128 1
    [⟨S256x32, StableHlo.upto (List.flatten [hostOps0, hostOps0_1, hostOps0_2, hostOps0_3, hostOps0_4]) (fun b => m (c, b)) 46 (Proc.devRef .tc main_v21)⟩,
     ⟨S256x32, StableHlo.upto (List.flatten [hostOps0, hostOps0_1, hostOps0_2, hostOps0_3, hostOps0_4]) (fun b => m (c, b)) 46 (Proc.devRef .tc main_v17)⟩,
     ⟨S256x32, StableHlo.upto (List.flatten [hostOps0, hostOps0_1, hostOps0_2, hostOps0_3, hostOps0_4]) (fun b => m (c, b)) 46 (Proc.devRef .tc main_v21)⟩,
     ⟨S256x32, StableHlo.upto (List.flatten [hostOps0, hostOps0_1, hostOps0_2, hostOps0_3, hostOps0_4]) (fun b => m (c, b)) 46 (Proc.devRef .tc main_v17)⟩]
    concatenates_S256x32_S256x32_S256x32_S256x32_S256x128_d1 := by
  rw [V_eq]
  refine (StableHlo.after_last_write (i := 46) [main_c_2, main_call1_v0, main_v23, main_v24, main_v25, main_v26, main_v27, main_v28, main_v29, main_v30, main_v31, main_v32, main_v33, main_v34] rfl rfl (by decide) _).trans ?_
  rw [StableHlo.nary_result]
  rfl

theorem sin_at (c : Dev nD) (t : Fin 256) (i : Fin 32) : (StableHlo.upto (List.flatten [hostOps0, hostOps0_1, hostOps0_2, hostOps0_3, hostOps0_4]) (fun b => m (c, b)) 46 (Proc.devRef .tc main_v17) : FVec Ideal S256x32 .f32) (ix2 t i)
    = Ideal.sin (Proj.angle (2048 + t.val % 8) i) := by
  simp only [StableHlo.upto, hostOps0, hostOps0_1, hostOps0_2, hostOps0_3, hostOps0_4, List.flatten_cons, List.flatten_nil, List.append_nil, List.cons_append, List.nil_append, List.take_succ_cons, List.take_zero]
  entry_read
  exact Places.sines_at t i
theorem neg_at (c : Dev nD) (t : Fin 256) (i : Fin 32) : (StableHlo.upto (List.flatten [hostOps0, hostOps0_1, hostOps0_2, hostOps0_3, hostOps0_4]) (fun b => m (c, b)) 46 (Proc.devRef .tc main_v21) : FVec Ideal S256x32 .f32) (ix2 t i)
    = -Ideal.sin (Proj.angle (2048 + t.val % 8) i) := by
  simp only [StableHlo.upto, hostOps0, hostOps0_1, hostOps0_2, hostOps0_3, hostOps0_4, List.flatten_cons, List.flatten_nil, List.append_nil, List.cons_append, List.nil_append, List.take_succ_cons, List.take_zero]
  entry_read
  exact Places.negs_at t i

theorem sines (c : Dev nD) (t : Fin 256) (l : Fin 128) : (V m c main_v22 : FVec Ideal S256x128 .f32) (ix2 t l)
    = if l.val % 64 < 32 then -Ideal.sin (Proj.angle (2048 + t.val % 8) ⟨l.val % 32, by omega⟩) else Ideal.sin (Proj.angle (2048 + t.val % 8) ⟨l.val % 32, by omega⟩) := by
  rw [sin_cat]
  refine (Places.cat _ _ t l).trans ?_
  rw [neg_at, sin_at]

theorem rows (c : Dev nD) (r : Fin 1024) (d : Fin 1024) : (V m c main_v25 : FVec Ideal S1024x1024 .f32) (ix2 r d)
    = x m c (ix3 ⟨r.val / 8, by omega⟩ ⟨r.val % 8, by omega⟩ d) := by
  rw [V_eq]
  simp only [hostOps0, hostOps0_1, hostOps0_2, hostOps0_3, hostOps0_4, List.flatten_cons, List.flatten_nil, List.append_nil, List.cons_append, List.nil_append]
  entry_read
  pointwise
theorem gains (c : Dev nD) (d : Fin 1024) : (V m c main_v26 : FVec Ideal S1x1024 .f32) (ix2 0 d) = g m c (ix1 d) := by
  rw [V_eq]
  simp only [hostOps0, hostOps0_1, hostOps0_2, hostOps0_3, hostOps0_4, List.flatten_cons, List.flatten_nil, List.append_nil, List.cons_append, List.nil_append]
  entry_read
  pointwise
theorem padded (w : FVec Ideal S1024x3144 .f32) (z : FVec Ideal S_ .f32) (d : Fin 1024) (e : Fin 3144) :
    pad S1024x3200 ![0, 0] ![0, 56] ![0, 0] w z pads_S1024x3144_S1024x3200_000_0560 h_S_ (ix2 d ⟨e.val, by omega⟩) = w (ix2 d e) := by
  pointwise
theorem weights (c : Dev nD) (d : Fin 1024) (e : Fin 3144) : (V m c main_v24 : FVec Ideal S1024x3200 .bf16) (ix2 d ⟨e.val, by omega⟩) = w m c (ix2 d e) := by
  rw [V_eq]
  simp only [hostOps0, hostOps0_1, hostOps0_2, hostOps0_3, hostOps0_4, List.flatten_cons, List.flatten_nil, List.append_nil, List.cons_append, List.nil_append]
  entry_read
  exact padded _ _ d e
theorem qgains (c : Dev nD) (l : Fin 128) : (V m c main_v30 : FVec Ideal S1x128 .f32) (ix2 0 l) = qg m c (ix1 ⟨l.val % 64, by omega⟩) := by
  rw [V_eq]
  simp only [hostOps0, hostOps0_1, hostOps0_2, hostOps0_3, hostOps0_4, List.flatten_cons, List.flatten_nil, List.append_nil, List.cons_append, List.nil_append]
  entry_read
  pointwise
theorem kgains (c : Dev nD) (l : Fin 128) : (V m c main_v34 : FVec Ideal S1x128 .f32) (ix2 0 l) = kg m c (ix1 ⟨l.val % 64, by omega⟩) := by
  rw [V_eq]
  simp only [hostOps0, hostOps0_1, hostOps0_2, hostOps0_3, hostOps0_4, List.flatten_cons, List.flatten_nil, List.append_nil, List.cons_append, List.nil_append]
  entry_read
  pointwise

/-! ## The blocks -/

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] ∧ win0_12.index t = ![t.val, 0] ∧ win0_13.index t = ![t.val, 0] ∧ win0_14.index t = ![t.val, 0]
    ∧ t.val < 4 :=
  (by decide +kernel : ∀ t : Fin grid0.N, _)

/-- The row of the whole array a grid point's block has at its row `r`. -/
abbrev here (t : Fin cfg0.N) (r : Fin 256) : Fin 1024 := ⟨256 * t.val + r.val, by have := idx t; omega⟩

theorem block0 (c : Dev nD) (t : Fin cfg0.N) (r : Fin 256) (d : Fin 1024) : (iblk m c 0 t : FVec Ideal S256x1024 .f32) (ix2 r d) = Reference8Ideal.At.rowOf (x m c) (here t r) d := by
  refine Eq.trans ?_ (rows m c (here t r) d)
  blk_ext [iblk, idx t]
theorem block1 (c : Dev nD) (t : Fin cfg0.N) (d : Fin 1024) : (iblk m c 1 t : FVec Ideal S1x1024 .f32) (ix2 0 d) = g m c (ix1 d) := by
  refine Eq.trans ?_ (gains m c d)
  blk_ext [iblk, idx t]
theorem block2 (c : Dev nD) (t : Fin cfg0.N) (d : Fin 1024) (e : Fin 3144) : (iblk m c 2 t : FVec Ideal S1024x3200 .bf16) (ix2 d ⟨e.val, by omega⟩) = w m c (ix2 d e) := by
  refine Eq.trans ?_ (weights m c d e)
  blk_ext [iblk, idx t]
theorem block3 (c : Dev nD) (t : Fin cfg0.N) (r : Fin 256) (l : Fin 128) : (iblk m c 3 t : FVec Ideal S256x128 .f32) (ix2 r l)
    = Ideal.cos (Proj.angle (2048 + (256 * t.val + r.val) % 8) ⟨l.val % 32, by omega⟩) := by
  rw [show (256 * t.val + r.val) % 8 = r.val % 8 by omega]
  refine Eq.trans ?_ (cosines m c r l)
  blk_ext [iblk, idx t]
theorem block4 (c : Dev nD) (t : Fin cfg0.N) (r : Fin 256) (l : Fin 128) : (iblk m c 4 t : FVec Ideal S256x128 .f32) (ix2 r l)
    = if l.val % 64 < 32 then -Ideal.sin (Proj.angle (2048 + (256 * t.val + r.val) % 8) ⟨l.val % 32, by omega⟩)
      else Ideal.sin (Proj.angle (2048 + (256 * t.val + r.val) % 8) ⟨l.val % 32, by omega⟩) := by
  rw [show (256 * t.val + r.val) % 8 = r.val % 8 by omega]
  refine Eq.trans ?_ (sines m c r l)
  blk_ext [iblk, idx t]
theorem block5 (c : Dev nD) (t : Fin cfg0.N) (l : Fin 128) : (iblk m c 5 t : FVec Ideal S1x128 .f32) (ix2 0 l) = qg m c (ix1 ⟨l.val % 64, by omega⟩) := by
  refine Eq.trans ?_ (qgains m c l)
  blk_ext [iblk, idx t]
theorem block6 (c : Dev nD) (t : Fin cfg0.N) (l : Fin 128) : (iblk m c 6 t : FVec Ideal S1x128 .f32) (ix2 0 l) = kg m c (ix1 ⟨l.val % 64, by omega⟩) := by
  refine Eq.trans ?_ (kgains m c l)
  blk_ext [iblk, idx t]

section Finals

open Reference9Ideal.At (cols iof iqof ikof qof kof vof gof)
open Reference2Ideal.At (vecOf)
open Reference8Ideal.At (rowOf)

variable (c : Dev nD) (fg : ∀ d, Proj.IsFin (g m c (ix1 d))) (fw : ∀ d e, Proj.IsFin (w m c (ix2 d e)))

/-- The projected columns of the arguments. -/
abbrev z : FVec Ideal Reference9Ideal.S128x8x3144 .f32 := cols (x m c) (g m c) (w m c)

theorem q_col (b : Fin 128) (t : Fin 8) (l : Fin 1024) : qof (z m c) (ix3 b t l)
    = Proj.proj (fun d => x m c (ix3 b t d)) (vecOf (g m c)) fun d => w m c (ix2 d ⟨l.val, by omega⟩) :=
  Eq.trans (b := z m c (ix3 b t ⟨l.val, by omega⟩)) (by pointwise) (Reference9Ideal.At.cols_at _ _ _ b t _)
theorem k_col (b : Fin 128) (t : Fin 8) (l : Fin 256) : kof (z m c) (ix3 b t l)
    = Proj.proj (fun d => x m c (ix3 b t d)) (vecOf (g m c)) fun d => w m c (ix2 d ⟨1024 + l.val, by omega⟩) :=
  Eq.trans (b := z m c (ix3 b t ⟨1024 + l.val, by omega⟩)) (by pointwise) (Reference9Ideal.At.cols_at _ _ _ b t _)
theorem v_col (b : Fin 128) (t : Fin 8) (l : Fin 256) : vof (z m c) (ix3 b t l)
    = Proj.proj (fun d => x m c (ix3 b t d)) (vecOf (g m c)) fun d => w m c (ix2 d ⟨1280 + l.val, by omega⟩) :=
  Eq.trans (b := z m c (ix3 b t ⟨1280 + l.val, by omega⟩)) (by pointwise) (Reference9Ideal.At.cols_at _ _ _ b t _)
theorem g_col (b : Fin 128) (t : Fin 8) (l : Fin 1024) : gof (z m c) (ix3 b t l)
    = Proj.proj (fun d => x m c (ix3 b t d)) (vecOf (g m c)) fun d => w m c (ix2 d ⟨1536 + l.val, by omega⟩) :=
  Eq.trans (b := z m c (ix3 b t ⟨1536 + l.val, by omega⟩)) (by pointwise) (Reference9Ideal.At.cols_at _ _ _ b t _)

theorem i_col (b : Fin 128) (t : Fin 8) (l : Fin 512) : iqof (iof (z m c)) (ix3 b t l)
    = Proj.proj (fun d => x m c (ix3 b t d)) (vecOf (g m c)) fun d => w m c (ix2 d ⟨2560 + l.val, by omega⟩) :=
  Eq.trans (b := z m c (ix3 b t ⟨2560 + l.val, by omega⟩)) (by pointwise) (Reference9Ideal.At.cols_at _ _ _ b t _)
theorem l_col (b : Fin 128) (t : Fin 8) (l : Fin 64) : ikof (iof (z m c)) (ix3 b t l)
    = Proj.proj (fun d => x m c (ix3 b t d)) (vecOf (g m c)) fun d => w m c (ix2 d ⟨3072 + l.val, by omega⟩) := by
  refine Eq.trans (b := z m c (ix3 b t ⟨3072 + l.val, by omega⟩)) ?_ (Reference9Ideal.At.cols_at _ _ _ b t _)
  pointwise [Reference9Ideal.At.ikof]
  exact congrArg (fun e => z m c (ix3 b t e)) (Fin.ext (by simp only; omega))
theorem w_col (b : Fin 128) (t : Fin 8) (l : Fin 8) : iof (z m c) (ix3 b t ⟨576 + l.val, by omega⟩)
    = Proj.proj (fun d => x m c (ix3 b t d)) (vecOf (g m c)) fun d => w m c (ix2 d ⟨3136 + l.val, by omega⟩) := by
  refine Eq.trans (b := z m c (ix3 b t ⟨3136 + l.val, by omega⟩)) ?_ (Reference9Ideal.At.cols_at _ _ _ b t _)
  pointwise
  exact congrArg (fun e => z m c (ix3 b t e)) (Fin.ext (by simp only; omega))

/-- The results of the reference. -/
abbrev qres : FVec Ideal S1024x1024 .f32 :=
  Reference8Ideal.At.qrows (Reference8Ideal.At.qturn (Reference8Ideal.At.qnorm (Reference8Ideal.At.qheads (qof (z m c))) (qg m c)))
abbrev kres : FVec Ideal Reference8Ideal.S128x8x4x64 .f32 :=
  Reference8Ideal.At.kturn (Reference8Ideal.At.knorm (Reference8Ideal.At.kheads (kof (z m c))) (kg m c))

theorem qres_at (r : Fin 1024) (l : Fin 1024) : qres m c (ix2 r l) = Proj.headOf (rowOf (x m c) r) (vecOf (g m c))
    (fun j d => w m c (ix2 d ⟨l.val / 64 * 64 + j.val, by omega⟩)) (vecOf (qg m c)) (2048 + r.val % 8) ⟨l.val % 64, by omega⟩ * Ideal.ofBits .f32 0x3E000000#32 := by
  refine (Reference8Ideal.At.queries_at _ _ r l).trans ?_
  simp only [q_col]
  rfl
theorem kres_at (r : Fin 1024) (l : Fin 256) : Reference8Ideal.At.krows (kres m c) (ix2 r l) = Proj.headOf (rowOf (x m c) r) (vecOf (g m c))
    (fun j d => w m c (ix2 d ⟨1024 + (l.val / 64 * 64 + j.val), by omega⟩)) (vecOf (kg m c)) (2048 + r.val % 8) ⟨l.val % 64, by omega⟩ := by
  refine (Reference8Ideal.At.keys_at _ _ r l).trans ?_
  simp only [k_col]
  rfl

include fg fw

theorem holds (t : Fin cfg0.N) (r : Fin 256) : Row (iblk m c 0 t) (iblk m c 1 t) (iblk m c 2 t) (iblk m c 3 t) (iblk m c 4 t) (iblk m c 5 t) (iblk m c 6 t) r
    (rowOf (x m c) (here t r)) (vecOf (g m c)) (fun d e => w m c (ix2 d e))
    (vecOf (qg m c)) (vecOf (kg m c)) (2048 + (256 * t.val + r.val) % 8) :=
  row_of (block0 m c t r) (block1 m c t) (block2 m c t) (block3 m c t r) (block4 m c t r) (block5 m c t) (block6 m c t) fg fw

theorem final7 : (dats m 0 c).arrAt 7 (cfgs 0).N = qres m c := by
  refine (dats m 0 c).arrAt_eq_of_covers 7 _ (by decide +kernel) fun t _ y => ?_
  blk_simp
  rw [after0_7]
  idx_vars y
  refine (out7 (holds m c fg fw t y0) y1).trans ((qres_at m c (here t y0) y1).symm.trans (congrArg _ ?_))
  blk_ext [idx t]

theorem final8 : (dats m 0 c).arrAt 8 (cfgs 0).N = Reference8Ideal.At.krows (kres m c) := by
  refine (dats m 0 c).arrAt_eq_of_covers 8 _ (by decide +kernel) fun t _ y => ?_
  blk_simp
  rw [after0_8]
  idx_vars y
  refine (out8 (holds m c fg fw t y0) y1).trans ((kres_at m c (here t y0) y1).symm.trans (congrArg _ ?_))
  blk_ext [idx t]

theorem final9 : (dats m 0 c).arrAt 9 (cfgs 0).N = Reference8Ideal.At.vrows (vof (z m c)) := by
  refine (dats m 0 c).arrAt_eq_of_covers 9 _ (by decide +kernel) fun t _ y => ?_
  blk_simp
  rw [after0_9]
  idx_vars y
  refine (out9 (holds m c fg fw t y0) y1).trans (((Reference8Ideal.At.vrows_at _ (here t y0) y1).trans (v_col m c _ _ y1)).symm.trans (congrArg _ ?_))
  blk_ext [idx t]

theorem final12 : (dats m 0 c).arrAt 12 (cfgs 0).N = Reference8Ideal.At.gates (gof (z m c)) := by
  refine (dats m 0 c).arrAt_eq_of_covers 12 _ (by decide +kernel) fun t _ y => ?_
  blk_simp
  rw [after0_12]
  idx_vars y
  refine (out12 (holds m c fg fw t y0) y1).trans (((Reference8Ideal.At.gates_at _ (here t y0) y1).trans
    (congrArg Proj.silu (g_col m c _ _ y1))).symm.trans (congrArg _ ?_))
  blk_ext [idx t]

theorem final13 : (dats m 0 c).arrAt 13 (cfgs 0).N
    = Reference9Ideal.At.irows (Reference9Ideal.At.iturn (Reference9Ideal.At.iheads (iqof (iof (z m c))))) := by
  refine (dats m 0 c).arrAt_eq_of_covers 13 _ (by decide +kernel) fun t _ y => ?_
  blk_simp
  rw [after0_13]
  idx_vars y
  have hd : Reference9Ideal.At.irows (Reference9Ideal.At.iturn (Reference9Ideal.At.iheads (iqof (iof (z m c))))) (ix2 (here t y0) y1)
      = Proj.turn (fun j => Proj.proj (rowOf (x m c) (here t y0)) (vecOf (g m c)) fun d => w m c (ix2 d ⟨2560 + (y1.val / 64 * 64 + j.val), by omega⟩))
        (Proj.angle (2048 + (256 * t.val + y0.val) % 8)) ⟨y1.val % 64, by omega⟩ := by
    refine (Reference9Ideal.At.index_at _ (here t y0) y1).trans ?_
    simp only [i_col]
  refine (out13 (block2 m c t) (holds m c fg fw t y0) y1).trans (hd.symm.trans (congrArg _ ?_))
  blk_ext [idx t]

omit fg fw in
/-- The block of the last window. -/
abbrev lastBlk (t : Fin cfg0.N) : FVec Ideal S256x128 .f32 := out0_14 (F := Ideal) (iblk m c 0 t) (iblk m c 1 t) (iblk m c 2 t) (iblk m c 3 t) (iblk m c 4 t) (iblk m c 5 t) (iblk m c 6 t)

omit fg fw in
/-- The last window's array, read from the grid points' blocks. -/
def lastArr : FVec Ideal S1024x128 .f32 := fun y =>
  lastBlk m c ⟨(y 0).val / 256, by have h : (y 0).val < 1024 := (y 0).isLt; have e : cfg0.N = 4 := (by decide +kernel : grid0.N = 4); omega⟩
    (ix2 ⟨(y 0).val % 256, by omega⟩ ⟨(y 1).val, (y 1).isLt⟩)

omit fg fw in
theorem lastArr_at (t : Fin cfg0.N) (r : Fin 256) (l : Fin 128) :
    lastArr m c (ix2 (here t r) l) = lastBlk m c t (ix2 r l) := by
  have h : t.val < 4 := by have := idx t; omega
  exact congrArg₂ (fun t r => lastBlk m c t (ix2 r l)) (Fin.ext (show (256 * t.val + r.val) / 256 = t.val by omega))
    (Fin.ext (show (256 * t.val + r.val) % 256 = r.val by omega))

omit fg fw in
theorem final14 : (dats m 0 c).arrAt 14 (cfgs 0).N = lastArr m c := by
  refine (dats m 0 c).arrAt_eq_of_covers 14 _ (by decide +kernel) fun t _ y => ?_
  blk_simp
  rw [after0_14]
  idx_vars y
  refine (lastArr_at m c t y0 y1).symm.trans (congrArg _ ?_)
  blk_ext [idx t]

omit fg fw in
theorem exists_here (R : Fin 1024) : ∃ t r, R = here t r :=
  ⟨⟨R.val / 256, by have e : cfg0.N = 4 := (by decide +kernel : grid0.N = 4); omega⟩, ⟨R.val % 256, by omega⟩, Fin.ext (by simp only; omega)⟩

theorem key_at (R : Fin 1024) (j : Fin 64) : lastArr m c (ix2 R ⟨j.val, by omega⟩)
    = Proj.turn (fun j => Proj.proj (rowOf (x m c) R) (vecOf (g m c)) fun d => w m c (ix2 d ⟨3072 + j.val, by omega⟩)) (Proj.angle (2048 + R.val % 8)) j := by
  obtain ⟨t, r, rfl⟩ := exists_here R
  exact (lastArr_at m c t r _).trans (out14_key (block2 m c t) (holds m c fg fw t r) j)
theorem weight_at (R : Fin 1024) (l : Fin 8) : lastArr m c (ix2 R ⟨64 + l.val, by omega⟩)
    = Proj.proj (rowOf (x m c) R) (vecOf (g m c)) fun d => w m c (ix2 d ⟨3136 + l.val, by omega⟩) := by
  obtain ⟨t, r, rfl⟩ := exists_here R
  exact (lastArr_at m c t r _).trans (out14_weight (block2 m c t) (holds m c fg fw t r) l)

/-! ## What the host cuts from the last window -/

theorem key_cut : extractStridedSlice S128x8x64 ![0, 0, 0] (shapeCast S128x8x128 (lastArr m c) shapeCasts_S1024x128_S128x8x128) slices_S128x8x128_S128x8x64_0_0_0
    = Reference9Ideal.At.ikturn (ikof (iof (z m c))) := by
  funext y
  idx_vars y
  obtain ⟨R, rfl, rfl⟩ : ∃ R : Fin 1024, y0 = ⟨R.val / 8, by omega⟩ ∧ y1 = ⟨R.val % 8, by omega⟩ :=
    ⟨⟨8 * y0.val + y1.val, by omega⟩, Fin.ext (by simp only; omega), Fin.ext (by simp only; omega)⟩
  refine Eq.trans (b := lastArr m c (ix2 R ⟨y2.val, by omega⟩)) ?_ ((key_at m c fg fw R y2).trans ?_)
  · pointwise
  · rw [Reference9Ideal.At.ikturn_at]
    simp only [l_col]

theorem weight_cut : extractStridedSlice S1024x8 ![0, 64] (lastArr m c) slices_S1024x128_S1024x8_0_64 = Reference9Ideal.At.iwrows (iof (z m c)) := by
  funext y
  idx_vars y
  refine Eq.trans (b := lastArr m c (ix2 y0 ⟨64 + y1.val, by omega⟩)) (by pointwise) ((weight_at m c fg fw y0 y1).trans ?_)
  rw [Reference9Ideal.At.iwrows_at, w_col]

end Finals

theorem exit14 (c : Dev nD) : Pipeline.withArrays (cfgs 0).spec c (V0 m c) (fun w => (dats m 0 c).arrAt w (cfgs 0).N) (Proc.devRef .tc main_v35_7)
      = lastArr m c :=
  (Pipeline.withArrays_arr (cfgs 0).spec (by decide) c (V0 m c) _ 14).trans (final14 m c)

theorem tail34 (V' : Valuation τ sig (Elt Ideal)) (a : FVec Ideal S1024x128 .f32) (h : V' (Proc.devRef .tc main_v35_7) = a) :
    StableHlo.after (List.flatten [hostOps1]) V' (Proc.devRef .tc main_v37)
      = extractStridedSlice S128x8x64 ![0, 0, 0] (shapeCast S128x8x128 a shapeCasts_S1024x128_S128x8x128) slices_S128x8x128_S128x8x64_0_0_0 := by
  rw [List.flatten_singleton]
  after_results
  rw [h]
  rfl
theorem tail35 (V' : Valuation τ sig (Elt Ideal)) (a : FVec Ideal S1024x128 .f32) (h : V' (Proc.devRef .tc main_v35_7) = a) :
    StableHlo.after (List.flatten [hostOps1]) V' (Proc.devRef .tc main_v38) = extractStridedSlice S1024x8 ![0, 64] a slices_S1024x128_S1024x8_0_64 := by
  rw [List.flatten_singleton]
  after_results
  rw [h]

set_option maxHeartbeats 4000000 in
theorem run (hg : ∀ c d, Proj.IsFin (g m c (ix1 d))) (hw : ∀ c d e, Proj.IsFin (w m c (ix2 d e))) (ρ : Dev nD → PrngReg) :
    θ_run defs (onTc (τ := τ) (main (F := Ideal))) ⟨m, fun _ => 0, ρ⟩ fun r => ∀ c : Dev nD,
      r.2.mem ((c.tc : Thread nD τ).loc main_v35_0) = qres m c
      ∧ r.2.mem ((c.tc : Thread nD τ).loc main_v35_1) = Reference8Ideal.At.krows (kres m c)
      ∧ r.2.mem ((c.tc : Thread nD τ).loc main_v35_2) = Reference8Ideal.At.vrows (Reference9Ideal.At.vof (z m c))
      ∧ r.2.mem ((c.tc : Thread nD τ).loc main_v35_5) = Reference8Ideal.At.gates (Reference9Ideal.At.gof (z m c))
      ∧ r.2.mem ((c.tc : Thread nD τ).loc main_v35_6) = Reference9Ideal.At.irows (Reference9Ideal.At.iturn (Reference9Ideal.At.iheads (Reference9Ideal.At.iqof (Reference9Ideal.At.iof (z m c)))))
      ∧ r.2.mem ((c.tc : Thread nD τ).loc main_v37) = Reference9Ideal.At.ikturn (Reference9Ideal.At.ikof (Reference9Ideal.At.iof (z m c)))
      ∧ r.2.mem ((c.tc : Thread nD τ).loc main_v38) = Reference9Ideal.At.iwrows (Reference9Ideal.At.iof (z m c)) :=
  (θ_run _ _ _).mono (fun r h c => ⟨(h.out_eq c 7).trans (final7 m c (hg c) (hw c)), (h.out_eq c 8).trans (final8 m c (hg c) (hw c)),
    (h.out_eq c 9).trans (final9 m c (hg c) (hw c)), (h.out_eq c 12).trans (final12 m c (hg c) (hw c)), (h.out_eq c 13).trans (final13 m c (hg c) (hw c)),
    (h.rest_eq c main_v37 (by decide)).trans ((tail34 _ _ (exit14 m c)).trans (key_cut m c (hg c) (hw c))),
    (h.rest_eq c main_v38 (by decide)).trans ((tail35 _ _ (exit14 m c)).trans (weight_cut m c (hg c) (hw c)))⟩) (run_main m ρ)

end Cert.Kernel9Ideal.Final
-- ==== Proof.Shift.lean ====
/- The columns a shifted window takes from the new rows. -/
module

public import proofs.«01_k».proof.Proof.Gen.Kernel12Ideal
public import proofs.«01_k».proof.Proof.Gen.Kernel12Ideal.Skeleton
public import Idealize.ShloMosaic.Lib.Pipeline.ValueKit

@[expose] public section

set_option maxRecDepth 16384

noncomputable section

open Idealize.ShloMosaic Idealize.ShloMosaic.TcCoe Idealize.SL.Sem

namespace Cert.Shift

open Cert.Kernel12Ideal Cert.Kernel12Ideal.Gen

/-- Row `r`, column `c` of a window of `W` columns that drops its eight oldest columns and takes eight new ones,
    which are rows of `a` for the keys and rows of `b` for the values. -/
def shifted (W : ℕ) (st : Fin 256 → Fin W → EReal) (a b : Fin 8 → Fin 128 → EReal) (r : Fin 256) (c : Fin W) : EReal :=
  if h : c.val + 8 < W then st r ⟨c.val + 8, h⟩
  else if h' : r.val < 128 then a ⟨c.val + 8 - W, by omega⟩ ⟨r.val, h'⟩
  else b ⟨c.val + 8 - W, by omega⟩ ⟨r.val - 128, by omega⟩

theorem shifted_old {W : ℕ} {st : Fin 256 → Fin W → EReal} {a b : Fin 8 → Fin 128 → EReal} {r : Fin 256} {c : Fin W}
    (d : Fin W) (h : d.val = c.val + 8) : shifted W st a b r c = st r d := by
  have h' : c.val + 8 < W := by omega
  rw [shifted, dif_pos h']
  exact congrArg (st r) (Fin.ext h.symm)

/-- The new rows, padded and turned, the keys' above the values', moved to the last eight columns. -/
abbrev newCols (p q : FVec Ideal S128x128 .f32) : FVec Ideal S256x128 .f32 :=
  dynamicRotate 1 120#32 none
    (concatenate S256x128 0 [⟨S128x128, transpose S128x128 [1, 0] p transposes_S128x128_p1_0_S128x128⟩,
      ⟨S128x128, transpose S128x128 [1, 0] q transposes_S128x128_p1_0_S128x128⟩] concatenates_S128x128_S128x128_S256x128_d0)
    rotates_S256x128_d1

theorem pad6 (x : FVec Ideal S1x8x128 .f32) (i : Fin 128) (l : Fin 128) (h : i.val < 8) :
    k0_pay6 (F := Ideal) x (ix2 i l) = x (ix3 0 ⟨i.val, h⟩ l) := by
  pointwise [k0_pay6, h]

theorem newCols_at (p q : FVec Ideal S128x128 .f32) (r : Fin 256) (l : Fin 128) (h : 120 ≤ l.val) :
    newCols p q (ix2 r l) = if h' : r.val < 128 then p (ix2 ⟨l.val - 120, by omega⟩ ⟨r.val, h'⟩)
      else q (ix2 ⟨l.val - 120, by omega⟩ ⟨r.val - 128, by omega⟩) := by
  have e : (l.val + 128 - 120) % 128 = l.val - 120 := by omega
  pointwise [newCols, e]

/-- The last 128 columns of a shifted window, as the grid points store them: the new columns from column 120 on, and before
    them the columns of `rot`. -/
abbrev lastCols (rot : FVec Ideal S256x128 .f32) (x y : FVec Ideal S1x8x128 .f32) : FVec Ideal S1x256x128 .f32 :=
  shapeCast S1x256x128 (select (cmpi .sge (iota .tc S256x128 32 [1] iota_S256x128_d1_w32) (broadcast S256x128 120#32))
    (newCols (k0_pay6 (F := Ideal) x) (k0_pay6 (F := Ideal) y)) rot) shapeCasts_S256x128_S1x256x128

theorem lastCols_at (rot : FVec Ideal S256x128 .f32) (x y : FVec Ideal S1x8x128 .f32) (r : Fin 256) (l : Fin 128) :
    lastCols rot x y (ix3 0 r l) = if 120 ≤ l.val then newCols (k0_pay6 (F := Ideal) x) (k0_pay6 (F := Ideal) y) (ix2 r l) else rot (ix2 r l) := by
  have h : ∀ l : Fin 128, IntOp.cmpi .sge (BitVec.ofNat 32 l.val) 120#32 = if 120 ≤ l.val then 1#1 else 0#1 := by decide
  pointwise [lastCols, h l]
  split <;> rfl

theorem last_at {W : ℕ} {st : Fin 256 → Fin W → EReal} {rot : FVec Ideal S256x128 .f32} (x y : FVec Ideal S1x8x128 .f32)
    {r : Fin 256} {l : Fin 128} {c : Fin W} (hc : c.val + 128 = W + l.val)
    (hs : l.val < 120 → ∃ d : Fin W, d.val = c.val + 8 ∧ rot (ix2 r l) = st r d) :
    lastCols rot x y (ix3 0 r l) = shifted W st (fun i l => x (ix3 0 i l)) (fun i l => y (ix3 0 i l)) r c := by
  refine (lastCols_at rot x y r l).trans ?_
  by_cases h : 120 ≤ l.val
  · have e : c.val + 8 - W = l.val - 120 := by omega
    rw [if_pos h, newCols_at _ _ r l h, shifted, dif_neg (show ¬ c.val + 8 < W by omega)]
    have f : (⟨c.val + 8 - W, by omega⟩ : Fin 8) = ⟨l.val - 120, by omega⟩ := Fin.ext e
    rw [f]
    split
    · exact pad6 x _ _ _
    · exact pad6 y _ _ _
  · obtain ⟨d, hd, e⟩ := hs (by omega)
    rw [if_neg h, e]
    exact (shifted_old d hd).symm

/-- The shifted window of one sequence with its rows read as a pair, a head and a lane, the new rows lying in their
    arrays from column `g` on. -/
theorem cell {W : ℕ} (g : ℕ) (hg : g + 128 ≤ 384) (s : Fin W → Fin 2 → Fin 2 → Fin 64 → EReal) (k v : Fin 8 → Fin 384 → EReal)
    (c : Fin W) (p h : Fin 2) (d : Fin 64) :
    shifted W (fun r l => s l ⟨r.val / 128, by omega⟩ ⟨r.val / 64 % 2, by omega⟩ ⟨r.val % 64, by omega⟩)
      (fun i l => k i ⟨g + l.val, by omega⟩) (fun i l => v i ⟨g + l.val, by omega⟩) ⟨p.val * 128 + h.val * 64 + d.val, by omega⟩ c
    = if h' : 8 + c.val < W then s ⟨8 + c.val, h'⟩ p h d
      else if hp : p.val < 1 then k ⟨8 + c.val - W, by omega⟩ ⟨g + h.val * 64 + d.val, by omega⟩
      else v ⟨8 + c.val - W, by omega⟩ ⟨g + h.val * 64 + d.val, by omega⟩ := by
  have a1 : (p.val * 128 + h.val * 64 + d.val) / 128 = p.val := by omega
  have a2 : (p.val * 128 + h.val * 64 + d.val) / 64 % 2 = h.val := by omega
  have a3 : (p.val * 128 + h.val * 64 + d.val) % 64 = d.val := by omega
  simp only [shifted, a1, a2, a3, Nat.add_comm 8]
  by_cases h' : c.val + 8 < W
  · rw [dif_pos h', dif_pos h']
  · rw [dif_neg h', dif_neg h']
    by_cases hp : p.val < 1
    · have a4 : g + (p.val * 128 + h.val * 64 + d.val) = g + h.val * 64 + d.val := by omega
      rw [dif_pos hp, dif_pos (show p.val * 128 + h.val * 64 + d.val < 128 by omega)]
      simp only [a4]
    · have a4 : g + (p.val * 128 + h.val * 64 + d.val - 128) = g + h.val * 64 + d.val := by omega
      rw [dif_neg hp, dif_neg (show ¬ p.val * 128 + h.val * 64 + d.val < 128 by omega)]
      simp only [a4]

end Cert.Shift
-- ==== Proof.Win10.lean ====
/- The first group's window after the sample, as the reference's result. -/
module

public import proofs.«01_k».proof.Proof.Shift
public import proofs.«01_k».proof.Proof.Gen.Kernel10Ideal.Frame
public import proofs.«01_k».proof.Proof.Gen.Reference10Ideal.Run
public import Idealize.ShloMosaic.Lib.StableHlo.RunRead
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel10Ideal.Win

open Cert.Kernel10Ideal Cert.Kernel10Ideal.Gen Cert.Shift

variable (m : (ℓ : Loc nD τ sig) → Buf (Elt Ideal) ℓ)

/-- The new keys, the new values and the window. -/
abbrev kn (c : Dev nD) : FVec Ideal S128x8x384 .f32 := m ((c : Thread nD τ).loc main_arg1)
abbrev vn (c : Dev nD) : FVec Ideal S128x8x384 .f32 := m ((c : Thread nD τ).loc main_arg2)
abbrev st (c : Dev nD) : FVec Ideal S128x128x2x2x64 .f32 := m ((c : Thread nD τ).loc main_arg3)

/-- The window, turned one step to the left. -/
theorem later (v : FVec Ideal S1x256x128 .f32) (r : Fin 256) (l : Fin 128) (h : l.val < 120) :
    k0_pay7 (F := Ideal) v (ix2 r l) = v (ix3 0 r ⟨l.val + 8, by omega⟩) := by
  have e : (l.val + 128 - 120) % 128 = l.val + 8 := by omega
  pointwise [k0_pay7, k0_pay4, e]

/-- The block of the sequence `q` of a grid point's eight. -/
theorem piece (q : ℕ) (X : FVec Ideal S8x256x128 .f32) (K V : FVec Ideal S8x8x128 .f32)
    {h3 : ∀ a, (![q, 0, 0] : Fin 3 → ℕ) a + (![1, 256, 128] : Fin 3 → ℕ) a ≤ S8x256x128.size a}
    {h1 h2 : ∀ a, (![q, 0, 0] : Fin 3 → ℕ) a + (![1, 8, 128] : Fin 3 → ℕ) a ≤ S8x8x128.size a} (b : Fin 8) (h : b.val = q) (r : Fin 256) (l : Fin 128) :
    lastCols (k0_pay7 (F := Ideal) (View.ld (Val := Elt Ideal) (e' := .f32) X (Rect.unit ![q, 0, 0] ![1, 256, 128] h3)))
      (View.ld (Val := Elt Ideal) (e' := .f32) K (Rect.unit ![q, 0, 0] ![1, 8, 128] h1))
      (View.ld (Val := Elt Ideal) (e' := .f32) V (Rect.unit ![q, 0, 0] ![1, 8, 128] h2)) (ix3 0 r l)
    = shifted 128 (fun r l => X (ix3 b r l)) (fun i l => K (ix3 b i l)) (fun i l => V (ix3 b i l)) r l := by
  subst h
  refine (last_at (st := fun r l => X (ix3 b r l)) _ _ (Nat.add_comm _ _) fun h => ⟨⟨l.val + 8, by omega⟩, rfl, (later _ r l h).trans ?_⟩).trans ?_
  · pointwise
  · refine congrArg₂ (fun a b' => shifted 128 _ a b' r l) ?_ ?_ <;> (funext i l; pointwise)

/-- A grid point's block of the new window. -/
theorem block (c : Dev nD) (t : Fin cfg0.N) (b : Fin 8) (r : Fin 256) (l : Fin 128) : out0_9 (F := Ideal) (iblk m c 0 t) (iblk m c 1 t) (iblk m c 2 t) (iblk m c 3 t) (ix3 b r l)
    = shifted 128 (fun r l => iblk m c 3 t (ix3 b r l)) (fun i l => iblk m c 1 t (ix3 b i l)) (fun i l => iblk m c 2 t (ix3 b i l)) r l := by
  unfold_out out0_9
  canon_tiles x h
  all_goals (idx_vars x; obtain rfl : x0 = 0 := Subsingleton.elim _ _; obtain rfl : x1 = r := Fin.ext h1.symm; obtain rfl : x2 = l := Fin.ext h2.symm)
  case piece0 => exact piece 7 (iblk m c 3 t) (iblk m c 1 t) (iblk m c 2 t) b (by simpa using h0) x1 x2
  case piece1 => exact piece 6 (iblk m c 3 t) (iblk m c 1 t) (iblk m c 2 t) b (by simpa using h0) x1 x2
  case piece2 => exact piece 5 (iblk m c 3 t) (iblk m c 1 t) (iblk m c 2 t) b (by simpa using h0) x1 x2
  case piece3 => exact piece 4 (iblk m c 3 t) (iblk m c 1 t) (iblk m c 2 t) b (by simpa using h0) x1 x2
  case piece4 => exact piece 3 (iblk m c 3 t) (iblk m c 1 t) (iblk m c 2 t) b (by simpa using h0) x1 x2
  case piece5 => exact piece 2 (iblk m c 3 t) (iblk m c 1 t) (iblk m c 2 t) b (by simpa using h0) x1 x2
  case piece6 => exact piece 1 (iblk m c 3 t) (iblk m c 1 t) (iblk m c 2 t) b (by simpa using h0) x1 x2
  case piece7 => exact piece 0 (iblk m c 3 t) (iblk m c 1 t) (iblk m c 2 t) b (by simpa using h0) x1 x2

theorem V_eq (c : Dev nD) (b : Ref sig .tc) : V m c b = StableHlo.after
    (List.flatten [hostOps0]) (fun b => m (c, b)) (Proc.devRef .tc b) := by
  unfold V
  rfl

theorem window_at (c : Dev nD) (b : Fin 128) (r : Fin 256) (l : Fin 128) : (V m c main_v1 : FVec Ideal S128x256x128 .f32) (ix3 b r l)
    = st m c (ix5 b l ⟨r.val / 128, by omega⟩ ⟨r.val / 64 % 2, by omega⟩ ⟨r.val % 64, by omega⟩) := by
  rw [V_eq]
  simp only [hostOps0, List.flatten_cons, List.flatten_nil, List.append_nil, List.cons_append, List.nil_append]
  entry_read
  pointwise

theorem keys (c : Dev nD) : V m c main_arg1 = kn m c := by
  rw [V_eq]
  simp only [hostOps0, List.flatten_cons, List.flatten_nil, List.append_nil, List.cons_append, List.nil_append]
  entry_read
  rfl
theorem values (c : Dev nD) : V m c main_arg2 = vn m c := by
  rw [V_eq]
  simp only [hostOps0, List.flatten_cons, List.flatten_nil, List.append_nil, List.cons_append, List.nil_append]
  entry_read
  rfl

theorem idx : ∀ t : Fin cfg0.N, win0_1.index t = ![t.val, 0, 0] ∧ win0_2.index t = ![t.val, 0, 0]
    ∧ win0_3.index t = ![t.val, 0, 0] ∧ win0_9.index t = ![t.val, 0, 0] ∧ t.val < 16 :=
  (by decide +kernel : ∀ t : Fin grid0.N, _)

/-- The sequence a grid point works on. -/
abbrev here (t : Fin cfg0.N) (b : Fin 8) : Fin 128 := ⟨8 * t.val + b.val, by have := idx t; omega⟩

theorem block1 (c : Dev nD) (t : Fin cfg0.N) (b : Fin 8) (i : Fin 8) (l : Fin 128) : (iblk m c 1 t : FVec Ideal S8x8x128 .f32) (ix3 b i l)
    = kn m c (ix3 (here t b) i ⟨0 + l.val, by omega⟩) := by
  refine Eq.trans ?_ (congrFun (keys m c) _)
  blk_ext [iblk, idx t]
theorem block2 (c : Dev nD) (t : Fin cfg0.N) (b : Fin 8) (i : Fin 8) (l : Fin 128) : (iblk m c 2 t : FVec Ideal S8x8x128 .f32) (ix3 b i l)
    = vn m c (ix3 (here t b) i ⟨0 + l.val, by omega⟩) := by
  refine Eq.trans ?_ (congrFun (values m c) _)
  blk_ext [iblk, idx t]
theorem block3 (c : Dev nD) (t : Fin cfg0.N) (b : Fin 8) (r : Fin 256) (l : Fin 128) : (iblk m c 3 t : FVec Ideal S8x256x128 .f32) (ix3 b r l)
    = st m c (ix5 (here t b) l ⟨r.val / 128, by omega⟩ ⟨r.val / 64 % 2, by omega⟩ ⟨r.val % 64, by omega⟩) := by
  refine Eq.trans ?_ (window_at m c (here t b) r l)
  blk_ext [iblk, idx t]

/-- The new window's array as the kernel leaves it. -/
def full (k v : FVec Ideal S128x8x384 .f32) (s : FVec Ideal S128x128x2x2x64 .f32) : FVec Ideal S128x256x128 .f32 := fun y =>
  shifted 128 (fun r l => s (ix5 ⟨(y 0).val, (y 0).isLt⟩ l ⟨r.val / 128, by omega⟩ ⟨r.val / 64 % 2, by omega⟩ ⟨r.val % 64, by omega⟩))
    (fun i l => k (ix3 ⟨(y 0).val, (y 0).isLt⟩ i ⟨0 + l.val, by omega⟩)) (fun i l => v (ix3 ⟨(y 0).val, (y 0).isLt⟩ i ⟨0 + l.val, by omega⟩))
    ⟨(y 1).val, (y 1).isLt⟩ ⟨(y 2).val, (y 2).isLt⟩

theorem final9 (c : Dev nD) : (dats m 0 c).arrAt 9 (cfgs 0).N = full (kn m c) (vn m c) (st m c) := by
  refine (dats m 0 c).arrAt_eq_of_covers 9 _ (by decide +kernel) fun t _ y => ?_
  blk_simp
  rw [after0_9]
  idx_vars y
  refine (block m c t y0 y1 y2).trans (Eq.trans (b := full (kn m c) (vn m c) (st m c) (ix3 (here t y0) y1 y2)) ?_ (congrArg _ ?_))
  · simp only [block1, block2, block3]
    rfl
  · blk_ext [idx t]

theorem exit9 (c : Dev nD) : Pipeline.withArrays (cfgs 0).spec c (V0 m c) (fun w => (dats m 0 c).arrAt w (cfgs 0).N) (Proc.devRef .tc main_v2_5)
      = full (kn m c) (vn m c) (st m c) :=
  (Pipeline.withArrays_arr (cfgs 0).spec (by decide) c (V0 m c) _ 9).trans (final9 m c)

/-- The host's new window: the columns turned back into positions. -/
abbrev turnedBack (a : FVec Ideal S128x256x128 .f32) : FVec Ideal S128x128x2x2x64 .f32 :=
  transpose S128x128x2x2x64 [0, 4, 1, 2, 3] (shapeCast S128x2x2x64x128 a shapeCasts_S128x256x128_S128x2x2x64x128)
    transposes_S128x2x2x64x128_S128x128x2x2x64_0_4_1_2_3

theorem tail4 (V' : Valuation τ sig (Elt Ideal)) (a : FVec Ideal S128x256x128 .f32) (h : V' (Proc.devRef .tc main_v2_5) = a) :
    StableHlo.after (List.flatten [hostOps1]) V' (Proc.devRef .tc main_v4) = turnedBack a := by
  rw [List.flatten_singleton]
  after_results
  rw [h]
  rfl

set_option maxHeartbeats 4000000 in
theorem run (ρ : Dev nD → PrngReg) :
    θ_run defs (onTc (τ := τ) (main (F := Ideal))) ⟨m, fun _ => 0, ρ⟩ fun r => ∀ c : Dev nD,
      r.2.mem ((c.tc : Thread nD τ).loc main_v4) = turnedBack (full (kn m c) (vn m c) (st m c)) :=
  (θ_run _ _ _).mono (fun r h c => (h.rest_eq c main_v4 (by decide)).trans (tail4 _ _ (exit9 m c))) (run_main m ρ)

/-! ## The reference -/

/-- The reference's term. -/
abbrev joined (k v : FVec Ideal S128x8x384 .f32) (s : FVec Ideal S128x128x2x2x64 .f32) : FVec Ideal S128x128x2x2x64 .f32 :=
  extractStridedSlice S128x128x2x2x64 ![0, 8, 0, 0, 0] (concatenate Reference10Ideal.S128x136x2x2x64 1 [⟨S128x128x2x2x64, s⟩,
    ⟨Reference10Ideal.S128x8x2x2x64, concatenate Reference10Ideal.S128x8x2x2x64 2
      [⟨Reference10Ideal.S128x8x1x2x64, broadcastInDim Reference10Ideal.S128x8x1x2x64 ![0, 1, 3, 4] Reference10Ideal.Gen.bcast_S128x8x2x64_S128x8x1x2x64_0_1_3_4
        (shapeCast Reference10Ideal.S128x8x2x64 (extractStridedSlice Reference10Ideal.S128x8x1x2x64 ![0, 0, 0, 0, 0]
          (shapeCast Reference10Ideal.S128x8x3x2x64 k Reference10Ideal.Gen.shapeCasts_S128x8x384_S128x8x3x2x64)
          Reference10Ideal.Gen.slices_S128x8x3x2x64_S128x8x1x2x64_0_0_0_0_0) Reference10Ideal.Gen.shapeCasts_S128x8x1x2x64_S128x8x2x64)⟩,
       ⟨Reference10Ideal.S128x8x1x2x64, broadcastInDim Reference10Ideal.S128x8x1x2x64 ![0, 1, 3, 4] Reference10Ideal.Gen.bcast_S128x8x2x64_S128x8x1x2x64_0_1_3_4
        (shapeCast Reference10Ideal.S128x8x2x64 (extractStridedSlice Reference10Ideal.S128x8x1x2x64 ![0, 0, 0, 0, 0]
          (shapeCast Reference10Ideal.S128x8x3x2x64 v Reference10Ideal.Gen.shapeCasts_S128x8x384_S128x8x3x2x64)
          Reference10Ideal.Gen.slices_S128x8x3x2x64_S128x8x1x2x64_0_0_0_0_0) Reference10Ideal.Gen.shapeCasts_S128x8x1x2x64_S128x8x2x64)⟩]
      Reference10Ideal.Gen.concatenates_S128x8x1x2x64_S128x8x1x2x64_S128x8x2x2x64_d2⟩]
    Reference10Ideal.Gen.concatenates_S128x128x2x2x64_S128x8x2x2x64_S128x136x2x2x64_d1) Reference10Ideal.Gen.slices_S128x136x2x2x64_S128x128x2x2x64_0_8_0_0_0

theorem joined_eq (k v : FVec Ideal S128x8x384 .f32) (s : FVec Ideal S128x128x2x2x64 .f32) : turnedBack (full k v s) = joined k v s := by
  funext y
  idx_vars y
  refine Eq.trans ?_ ((cell 0 (by omega) (fun l p h d => s (ix5 y0 l p h d)) (fun i l => k (ix3 y0 i l)) (fun i l => v (ix3 y0 i l)) y1 y2 y3 y4).trans ?_)
  · pointwise [turnedBack, full]
  · pointwise [joined]

end Cert.Kernel10Ideal.Win
-- ==== Proof.Win11.lean ====
/- The second group's window after the sample, as the reference's result. -/
module

public import proofs.«01_k».proof.Proof.Shift
public import proofs.«01_k».proof.Proof.Gen.Kernel11Ideal.Frame
public import proofs.«01_k».proof.Proof.Gen.Reference11Ideal.Run
public import Idealize.ShloMosaic.Lib.StableHlo.RunRead
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel11Ideal.Win

open Cert.Kernel11Ideal Cert.Kernel11Ideal.Gen Cert.Shift

variable (m : (ℓ : Loc nD τ sig) → Buf (Elt Ideal) ℓ)

/-- The new keys, the new values and the window. -/
abbrev kn (c : Dev nD) : FVec Ideal S128x8x384 .f32 := m ((c : Thread nD τ).loc main_arg1)
abbrev vn (c : Dev nD) : FVec Ideal S128x8x384 .f32 := m ((c : Thread nD τ).loc main_arg2)
abbrev st (c : Dev nD) : FVec Ideal S128x512x2x2x64 .f32 := m ((c : Thread nD τ).loc main_arg3)

/-- The window, turned one step to the left, in its first columns and in its last. -/
theorem early (v : FVec Ideal S1x256x512 .f32) (r : Fin 256) (l : Fin 384) :
    k0_pay8 (F := Ideal) (k0_pay7 v) (ix3 0 r l) = v (ix3 0 r ⟨l.val + 8, by omega⟩) := by
  have e : (l.val + 512 - 504) % 512 = l.val + 8 := by omega
  pointwise [k0_pay8, k0_pay7, k0_pay4, e]
theorem later (v : FVec Ideal S1x256x512 .f32) (r : Fin 256) (l : Fin 128) (h : l.val < 120) :
    extractStridedSlice S256x128 ![0, 384] (k0_pay7 (F := Ideal) v) slices_S256x512_o0_384_S256x128 (ix2 r l) = v (ix3 0 r ⟨384 + l.val + 8, by omega⟩) := by
  have e : (384 + l.val + 512 - 504) % 512 = 384 + l.val + 8 := by omega
  pointwise [k0_pay7, k0_pay4, e]

/-- The last columns of the sequence `q` of a grid point's two, and its first columns. -/
theorem last (q : ℕ) (X : FVec Ideal S2x256x512 .f32) (K V : FVec Ideal S2x8x128 .f32)
    {h3 : ∀ a, (![q, 0, 0] : Fin 3 → ℕ) a + (![1, 256, 512] : Fin 3 → ℕ) a ≤ S2x256x512.size a}
    {h1 h2 : ∀ a, (![q, 0, 0] : Fin 3 → ℕ) a + (![1, 8, 128] : Fin 3 → ℕ) a ≤ S2x8x128.size a} (b : Fin 2) (h : b.val = q) (r : Fin 256) (l : Fin 128)
    (c : Fin 512) (hc : c.val = 384 + l.val) :
    lastCols (extractStridedSlice S256x128 ![0, 384] (k0_pay7 (F := Ideal) (View.ld (Val := Elt Ideal) (e' := .f32) X (Rect.unit ![q, 0, 0] ![1, 256, 512] h3)))
        slices_S256x512_o0_384_S256x128)
      (View.ld (Val := Elt Ideal) (e' := .f32) K (Rect.unit ![q, 0, 0] ![1, 8, 128] h1))
      (View.ld (Val := Elt Ideal) (e' := .f32) V (Rect.unit ![q, 0, 0] ![1, 8, 128] h2)) (ix3 0 r l)
    = shifted 512 (fun r l => X (ix3 b r l)) (fun i l => K (ix3 b i l)) (fun i l => V (ix3 b i l)) r c := by
  subst h
  refine (last_at (st := fun r l => X (ix3 b r l)) (c := c) _ _ (by omega) fun h => ⟨⟨384 + l.val + 8, by omega⟩, by simp only; omega, (later _ r l h).trans ?_⟩).trans ?_
  · pointwise
  · refine congrArg₂ (fun a b' => shifted 512 _ a b' r c) ?_ ?_ <;> (funext i l; pointwise)
theorem first (q : ℕ) (X : FVec Ideal S2x256x512 .f32) (a' b' : Fin 8 → Fin 128 → EReal)
    {h3 : ∀ a, (![q, 0, 0] : Fin 3 → ℕ) a + (![1, 256, 512] : Fin 3 → ℕ) a ≤ S2x256x512.size a}
    (b : Fin 2) (h : b.val = q) (r : Fin 256) (l : Fin 384) (c : Fin 512) (hc : c.val = l.val) :
    k0_pay8 (F := Ideal) (k0_pay7 (View.ld (Val := Elt Ideal) (e' := .f32) X (Rect.unit ![q, 0, 0] ![1, 256, 512] h3))) (ix3 0 r l)
    = shifted 512 (fun r l => X (ix3 b r l)) a' b' r c := by
  subst h
  refine (early _ r l).trans (Eq.trans ?_ (shifted_old (st := fun r l => X (ix3 b r l)) ⟨l.val + 8, by omega⟩ (by simp only; omega)).symm)
  pointwise

/-- A grid point's block of the new window. -/
theorem block (c : Dev nD) (t : Fin cfg0.N) (b : Fin 2) (r : Fin 256) (l : Fin 512) : (outsAt0 m c t).2.2.2.2.2 (ix3 b r l)
    = shifted 512 (fun r l => iblk m c 3 t (ix3 b r l)) (fun i l => iblk m c 1 t (ix3 b i l)) (fun i l => iblk m c 2 t (ix3 b i l)) r l := by
  unfold outsAt0
  frame_out
  canon_tiles x h using (View.cover_of_tiledBy _ ![1, 256, 128] (by sl_kernel_rfl) _)
  all_goals (idx_vars x; obtain rfl : x0 = 0 := Subsingleton.elim _ _; obtain rfl : x1 = r := Fin.ext h1.symm)
  case piece0 => exact last 1 (iblk m c 3 t) (iblk m c 1 t) (iblk m c 2 t) b (by simpa using h0) x1 x2 l h2
  case piece1 => exact first 1 (iblk m c 3 t) _ _ b (by simpa using h0) x1 x2 l h2
  case piece2 => exact last 0 (iblk m c 3 t) (iblk m c 1 t) (iblk m c 2 t) b (by simpa using h0) x1 x2 l h2
  case piece3 => exact first 0 (iblk m c 3 t) _ _ b (by simpa using h0) x1 x2 l h2

theorem V_eq (c : Dev nD) (b : Ref sig .tc) : V m c b = StableHlo.after
    (List.flatten [hostOps0]) (fun b => m (c, b)) (Proc.devRef .tc b) := by
  unfold V
  rfl

theorem window_at (c : Dev nD) (b : Fin 128) (r : Fin 256) (l : Fin 512) : (V m c main_v1 : FVec Ideal S128x256x512 .f32) (ix3 b r l)
    = st m c (ix5 b l ⟨r.val / 128, by omega⟩ ⟨r.val / 64 % 2, by omega⟩ ⟨r.val % 64, by omega⟩) := by
  rw [V_eq]
  simp only [hostOps0, List.flatten_cons, List.flatten_nil, List.append_nil, List.cons_append, List.nil_append]
  entry_read
  pointwise

theorem keys (c : Dev nD) : V m c main_arg1 = kn m c := by
  rw [V_eq]
  simp only [hostOps0, List.flatten_cons, List.flatten_nil, List.append_nil, List.cons_append, List.nil_append]
  entry_read
  rfl
theorem values (c : Dev nD) : V m c main_arg2 = vn m c := by
  rw [V_eq]
  simp only [hostOps0, List.flatten_cons, List.flatten_nil, List.append_nil, List.cons_append, List.nil_append]
  entry_read
  rfl

theorem idx : ∀ t : Fin cfg0.N, win0_1.index t = ![t.val, 0, 1] ∧ win0_2.index t = ![t.val, 0, 1]
    ∧ win0_3.index t = ![t.val, 0, 0] ∧ win0_9.index t = ![t.val, 0, 0] ∧ t.val < 64 :=
  (by decide +kernel : ∀ t : Fin grid0.N, _)

/-- The sequence a grid point works on. -/
abbrev here (t : Fin cfg0.N) (b : Fin 2) : Fin 128 := ⟨2 * t.val + b.val, by have := idx t; omega⟩

theorem block1 (c : Dev nD) (t : Fin cfg0.N) (b : Fin 2) (i : Fin 8) (l : Fin 128) : (iblk m c 1 t : FVec Ideal S2x8x128 .f32) (ix3 b i l)
    = kn m c (ix3 (here t b) i ⟨128 + l.val, by omega⟩) := by
  refine Eq.trans ?_ (congrFun (keys m c) _)
  blk_ext [iblk, idx t]
theorem block2 (c : Dev nD) (t : Fin cfg0.N) (b : Fin 2) (i : Fin 8) (l : Fin 128) : (iblk m c 2 t : FVec Ideal S2x8x128 .f32) (ix3 b i l)
    = vn m c (ix3 (here t b) i ⟨128 + l.val, by omega⟩) := by
  refine Eq.trans ?_ (congrFun (values m c) _)
  blk_ext [iblk, idx t]
theorem block3 (c : Dev nD) (t : Fin cfg0.N) (b : Fin 2) (r : Fin 256) (l : Fin 512) : (iblk m c 3 t : FVec Ideal S2x256x512 .f32) (ix3 b r l)
    = st m c (ix5 (here t b) l ⟨r.val / 128, by omega⟩ ⟨r.val / 64 % 2, by omega⟩ ⟨r.val % 64, by omega⟩) := by
  refine Eq.trans ?_ (window_at m c (here t b) r l)
  blk_ext [iblk, idx t]

/-- The new window's array as the kernel leaves it. -/
def full (k v : FVec Ideal S128x8x384 .f32) (s : FVec Ideal S128x512x2x2x64 .f32) : FVec Ideal S128x256x512 .f32 := fun y =>
  shifted 512 (fun r l => s (ix5 ⟨(y 0).val, (y 0).isLt⟩ l ⟨r.val / 128, by omega⟩ ⟨r.val / 64 % 2, by omega⟩ ⟨r.val % 64, by omega⟩))
    (fun i l => k (ix3 ⟨(y 0).val, (y 0).isLt⟩ i ⟨128 + l.val, by omega⟩)) (fun i l => v (ix3 ⟨(y 0).val, (y 0).isLt⟩ i ⟨128 + l.val, by omega⟩))
    ⟨(y 1).val, (y 1).isLt⟩ ⟨(y 2).val, (y 2).isLt⟩

theorem final9 (c : Dev nD) : (dats m 0 c).arrAt 9 (cfgs 0).N = full (kn m c) (vn m c) (st m c) := by
  refine (dats m 0 c).arrAt_eq_of_covers 9 _ (by decide +kernel) fun t _ y => ?_
  blk_simp
  rw [after0_9]
  idx_vars y
  refine (block m c t y0 y1 y2).trans (Eq.trans (b := full (kn m c) (vn m c) (st m c) (ix3 (here t y0) y1 y2)) ?_ (congrArg _ ?_))
  · simp only [block1, block2, block3]
    rfl
  · blk_ext [idx t]

theorem exit9 (c : Dev nD) : Pipeline.withArrays (cfgs 0).spec c (V0 m c) (fun w => (dats m 0 c).arrAt w (cfgs 0).N) (Proc.devRef .tc main_v2_5)
      = full (kn m c) (vn m c) (st m c) :=
  (Pipeline.withArrays_arr (cfgs 0).spec (by decide) c (V0 m c) _ 9).trans (final9 m c)

/-- The host's new window: the columns turned back into positions. -/
abbrev turnedBack (a : FVec Ideal S128x256x512 .f32) : FVec Ideal S128x512x2x2x64 .f32 :=
  transpose S128x512x2x2x64 [0, 4, 1, 2, 3] (shapeCast S128x2x2x64x512 a shapeCasts_S128x256x512_S128x2x2x64x512)
    transposes_S128x2x2x64x512_S128x512x2x2x64_0_4_1_2_3

theorem tail4 (V' : Valuation τ sig (Elt Ideal)) (a : FVec Ideal S128x256x512 .f32) (h : V' (Proc.devRef .tc main_v2_5) = a) :
    StableHlo.after (List.flatten [hostOps1]) V' (Proc.devRef .tc main_v4) = turnedBack a := by
  rw [List.flatten_singleton]
  after_results
  rw [h]
  rfl

set_option maxHeartbeats 4000000 in
theorem run (ρ : Dev nD → PrngReg) :
    θ_run defs (onTc (τ := τ) (main (F := Ideal))) ⟨m, fun _ => 0, ρ⟩ fun r => ∀ c : Dev nD,
      r.2.mem ((c.tc : Thread nD τ).loc main_v4) = turnedBack (full (kn m c) (vn m c) (st m c)) :=
  (θ_run _ _ _).mono (fun r h c => (h.rest_eq c main_v4 (by decide)).trans (tail4 _ _ (exit9 m c))) (run_main m ρ)

/-! ## The reference -/

/-- The reference's term. -/
abbrev joined (k v : FVec Ideal S128x8x384 .f32) (s : FVec Ideal S128x512x2x2x64 .f32) : FVec Ideal S128x512x2x2x64 .f32 :=
  extractStridedSlice S128x512x2x2x64 ![0, 8, 0, 0, 0] (concatenate Reference11Ideal.S128x520x2x2x64 1 [⟨S128x512x2x2x64, s⟩,
    ⟨Reference11Ideal.S128x8x2x2x64, concatenate Reference11Ideal.S128x8x2x2x64 2
      [⟨Reference11Ideal.S128x8x1x2x64, broadcastInDim Reference11Ideal.S128x8x1x2x64 ![0, 1, 3, 4] Reference11Ideal.Gen.bcast_S128x8x2x64_S128x8x1x2x64_0_1_3_4
        (shapeCast Reference11Ideal.S128x8x2x64 (extractStridedSlice Reference11Ideal.S128x8x1x2x64 ![0, 0, 1, 0, 0]
          (shapeCast Reference11Ideal.S128x8x3x2x64 k Reference11Ideal.Gen.shapeCasts_S128x8x384_S128x8x3x2x64)
          Reference11Ideal.Gen.slices_S128x8x3x2x64_S128x8x1x2x64_0_0_1_0_0) Reference11Ideal.Gen.shapeCasts_S128x8x1x2x64_S128x8x2x64)⟩,
       ⟨Reference11Ideal.S128x8x1x2x64, broadcastInDim Reference11Ideal.S128x8x1x2x64 ![0, 1, 3, 4] Reference11Ideal.Gen.bcast_S128x8x2x64_S128x8x1x2x64_0_1_3_4
        (shapeCast Reference11Ideal.S128x8x2x64 (extractStridedSlice Reference11Ideal.S128x8x1x2x64 ![0, 0, 1, 0, 0]
          (shapeCast Reference11Ideal.S128x8x3x2x64 v Reference11Ideal.Gen.shapeCasts_S128x8x384_S128x8x3x2x64)
          Reference11Ideal.Gen.slices_S128x8x3x2x64_S128x8x1x2x64_0_0_1_0_0) Reference11Ideal.Gen.shapeCasts_S128x8x1x2x64_S128x8x2x64)⟩]
      Reference11Ideal.Gen.concatenates_S128x8x1x2x64_S128x8x1x2x64_S128x8x2x2x64_d2⟩]
    Reference11Ideal.Gen.concatenates_S128x512x2x2x64_S128x8x2x2x64_S128x520x2x2x64_d1) Reference11Ideal.Gen.slices_S128x520x2x2x64_S128x512x2x2x64_0_8_0_0_0

theorem joined_eq (k v : FVec Ideal S128x8x384 .f32) (s : FVec Ideal S128x512x2x2x64 .f32) : turnedBack (full k v s) = joined k v s := by
  funext y
  idx_vars y
  refine Eq.trans ?_ ((cell 128 (by omega) (fun l p h d => s (ix5 y0 l p h d)) (fun i l => k (ix3 y0 i l)) (fun i l => v (ix3 y0 i l)) y1 y2 y3 y4).trans ?_)
  · pointwise [turnedBack, full]
  · pointwise [joined]

end Cert.Kernel11Ideal.Win
-- ==== Proof.Win12.lean ====
/- The third group's window after the sample, as the reference's result. -/
module

public import proofs.«01_k».proof.Proof.Shift
public import proofs.«01_k».proof.Proof.Gen.Kernel12Ideal.Frame
public import proofs.«01_k».proof.Proof.Gen.Reference12Ideal.Run
public import Idealize.ShloMosaic.Lib.StableHlo.RunRead
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel12Ideal.Win

open Cert.Kernel12Ideal Cert.Kernel12Ideal.Gen Cert.Shift

variable (m : (ℓ : Loc nD τ sig) → Buf (Elt Ideal) ℓ)

/-- The new keys, the new values and the window. -/
abbrev kn (c : Dev nD) : FVec Ideal S128x8x384 .f32 := m ((c : Thread nD τ).loc main_arg1)
abbrev vn (c : Dev nD) : FVec Ideal S128x8x384 .f32 := m ((c : Thread nD τ).loc main_arg2)
abbrev st (c : Dev nD) : FVec Ideal S128x2048x2x2x64 .f32 := m ((c : Thread nD τ).loc main_arg3)

/-- The window, turned one step to the left, in its first columns and in its last. -/
theorem early (v : FVec Ideal S1x256x2048 .f32) (r : Fin 256) (l : Fin 1920) :
    k0_pay9 (F := Ideal) (k0_pay8 v) (ix3 0 r l) = v (ix3 0 r ⟨l.val + 8, by omega⟩) := by
  have e : (l.val + 2048 - 2040) % 2048 = l.val + 8 := by omega
  pointwise [k0_pay9, k0_pay8, k0_pay5, e]
theorem later (v : FVec Ideal S1x256x2048 .f32) (r : Fin 256) (l : Fin 128) (h : l.val < 120) :
    extractStridedSlice S256x128 ![0, 1920] (k0_pay8 (F := Ideal) v) slices_S256x2048_o0_1920_S256x128 (ix2 r l) = v (ix3 0 r ⟨1920 + l.val + 8, by omega⟩) := by
  have e : (1920 + l.val + 2048 - 2040) % 2048 = 1920 + l.val + 8 := by omega
  pointwise [k0_pay8, k0_pay5, e]

/-- A grid point's block of the new window. -/
theorem block (c : Dev nD) (t : Fin cfg0.N) (r : Fin 256) (l : Fin 2048) : (outsAt0 m c t).2.2.2.2.2 (ix3 0 r l)
    = shifted 2048 (fun r l => iblk m c 3 t (ix3 0 r l)) (fun i l => iblk m c 1 t (ix3 0 i l)) (fun i l => iblk m c 2 t (ix3 0 i l)) r l := by
  unfold outsAt0
  frame_out
  canon_tiles x h using (View.cover_of_tiledBy _ ![1, 256, 128] (by sl_kernel_rfl) _)
  all_goals (idx_vars x; obtain rfl : x0 = 0 := Subsingleton.elim _ _; obtain rfl : x1 = r := Fin.ext h1.symm)
  case piece0 => exact last_at _ _ (by omega) fun h => ⟨⟨1920 + x2.val + 8, by omega⟩, by simp only; omega, later (iblk m c 3 t) x1 x2 h⟩
  case piece1 =>
    exact (early (iblk m c 3 t) x1 x2).trans
      (shifted_old (st := fun r l => iblk m c 3 t (ix3 0 r l)) ⟨x2.val + 8, by omega⟩ (by simp only; omega)).symm

theorem V_eq (c : Dev nD) (b : Ref sig .tc) : V m c b = StableHlo.after
    (List.flatten [hostOps0]) (fun b => m (c, b)) (Proc.devRef .tc b) := by
  unfold V
  rfl

theorem window_at (c : Dev nD) (b : Fin 128) (r : Fin 256) (l : Fin 2048) : (V m c main_v1 : FVec Ideal S128x256x2048 .f32) (ix3 b r l)
    = st m c (ix5 b l ⟨r.val / 128, by omega⟩ ⟨r.val / 64 % 2, by omega⟩ ⟨r.val % 64, by omega⟩) := by
  rw [V_eq]
  simp only [hostOps0, List.flatten_cons, List.flatten_nil, List.append_nil, List.cons_append, List.nil_append]
  entry_read
  pointwise

theorem keys (c : Dev nD) : V m c main_arg1 = kn m c := by
  rw [V_eq]
  simp only [hostOps0, List.flatten_cons, List.flatten_nil, List.append_nil, List.cons_append, List.nil_append]
  entry_read
  rfl
theorem values (c : Dev nD) : V m c main_arg2 = vn m c := by
  rw [V_eq]
  simp only [hostOps0, List.flatten_cons, List.flatten_nil, List.append_nil, List.cons_append, List.nil_append]
  entry_read
  rfl

theorem idx : ∀ t : Fin cfg0.N, win0_1.index t = ![t.val, 0, 2] ∧ win0_2.index t = ![t.val, 0, 2]
    ∧ win0_3.index t = ![t.val, 0, 0] ∧ win0_9.index t = ![t.val, 0, 0] ∧ t.val < 128 :=
  (by decide +kernel : ∀ t : Fin grid0.N, _)

/-- The sequence a grid point works on. -/
abbrev here (t : Fin cfg0.N) : Fin 128 := ⟨t.val, by have := idx t; omega⟩

theorem block1 (c : Dev nD) (t : Fin cfg0.N) (i : Fin 8) (l : Fin 128) : (iblk m c 1 t : FVec Ideal S1x8x128 .f32) (ix3 0 i l)
    = kn m c (ix3 (here t) i ⟨256 + l.val, by omega⟩) := by
  refine Eq.trans ?_ (congrFun (keys m c) _)
  blk_ext [iblk, idx t]
theorem block2 (c : Dev nD) (t : Fin cfg0.N) (i : Fin 8) (l : Fin 128) : (iblk m c 2 t : FVec Ideal S1x8x128 .f32) (ix3 0 i l)
    = vn m c (ix3 (here t) i ⟨256 + l.val, by omega⟩) := by
  refine Eq.trans ?_ (congrFun (values m c) _)
  blk_ext [iblk, idx t]
theorem block3 (c : Dev nD) (t : Fin cfg0.N) (r : Fin 256) (l : Fin 2048) : (iblk m c 3 t : FVec Ideal S1x256x2048 .f32) (ix3 0 r l)
    = st m c (ix5 (here t) l ⟨r.val / 128, by omega⟩ ⟨r.val / 64 % 2, by omega⟩ ⟨r.val % 64, by omega⟩) := by
  refine Eq.trans ?_ (window_at m c (here t) r l)
  blk_ext [iblk, idx t]

/-- The new window's array as the kernel leaves it. -/
def full (k v : FVec Ideal S128x8x384 .f32) (s : FVec Ideal S128x2048x2x2x64 .f32) : FVec Ideal S128x256x2048 .f32 := fun y =>
  shifted 2048 (fun r l => s (ix5 ⟨(y 0).val, (y 0).isLt⟩ l ⟨r.val / 128, by omega⟩ ⟨r.val / 64 % 2, by omega⟩ ⟨r.val % 64, by omega⟩))
    (fun i l => k (ix3 ⟨(y 0).val, (y 0).isLt⟩ i ⟨256 + l.val, by omega⟩)) (fun i l => v (ix3 ⟨(y 0).val, (y 0).isLt⟩ i ⟨256 + l.val, by omega⟩))
    ⟨(y 1).val, (y 1).isLt⟩ ⟨(y 2).val, (y 2).isLt⟩

theorem final9 (c : Dev nD) : (dats m 0 c).arrAt 9 (cfgs 0).N = full (kn m c) (vn m c) (st m c) := by
  refine (dats m 0 c).arrAt_eq_of_covers 9 _ (by decide +kernel) fun t _ y => ?_
  blk_simp
  rw [after0_9]
  idx_vars y
  obtain rfl : y0 = 0 := Subsingleton.elim _ _
  refine (block m c t y1 y2).trans (Eq.trans (b := full (kn m c) (vn m c) (st m c) (ix3 (here t) y1 y2)) ?_ (congrArg _ ?_))
  · simp only [block1, block2, block3]
    rfl
  · blk_ext [idx t]

theorem exit9 (c : Dev nD) : Pipeline.withArrays (cfgs 0).spec c (V0 m c) (fun w => (dats m 0 c).arrAt w (cfgs 0).N) (Proc.devRef .tc main_v2_5)
      = full (kn m c) (vn m c) (st m c) :=
  (Pipeline.withArrays_arr (cfgs 0).spec (by decide) c (V0 m c) _ 9).trans (final9 m c)

/-- The host's new window: the columns turned back into positions. -/
abbrev turnedBack (a : FVec Ideal S128x256x2048 .f32) : FVec Ideal S128x2048x2x2x64 .f32 :=
  transpose S128x2048x2x2x64 [0, 4, 1, 2, 3] (shapeCast S128x2x2x64x2048 a shapeCasts_S128x256x2048_S128x2x2x64x2048)
    transposes_S128x2x2x64x2048_S128x2048x2x2x64_0_4_1_2_3

theorem tail4 (V' : Valuation τ sig (Elt Ideal)) (a : FVec Ideal S128x256x2048 .f32) (h : V' (Proc.devRef .tc main_v2_5) = a) :
    StableHlo.after (List.flatten [hostOps1]) V' (Proc.devRef .tc main_v4) = turnedBack a := by
  rw [List.flatten_singleton]
  after_results
  rw [h]
  rfl

set_option maxHeartbeats 4000000 in
theorem run (ρ : Dev nD → PrngReg) :
    θ_run defs (onTc (τ := τ) (main (F := Ideal))) ⟨m, fun _ => 0, ρ⟩ fun r => ∀ c : Dev nD,
      r.2.mem ((c.tc : Thread nD τ).loc main_v4) = turnedBack (full (kn m c) (vn m c) (st m c)) :=
  (θ_run _ _ _).mono (fun r h c => (h.rest_eq c main_v4 (by decide)).trans (tail4 _ _ (exit9 m c))) (run_main m ρ)

/-! ## The reference -/

/-- The reference's term. -/
abbrev joined (k v : FVec Ideal S128x8x384 .f32) (s : FVec Ideal S128x2048x2x2x64 .f32) : FVec Ideal S128x2048x2x2x64 .f32 :=
  extractStridedSlice S128x2048x2x2x64 ![0, 8, 0, 0, 0] (concatenate Reference12Ideal.S128x2056x2x2x64 1 [⟨S128x2048x2x2x64, s⟩,
    ⟨Reference12Ideal.S128x8x2x2x64, concatenate Reference12Ideal.S128x8x2x2x64 2
      [⟨Reference12Ideal.S128x8x1x2x64, broadcastInDim Reference12Ideal.S128x8x1x2x64 ![0, 1, 3, 4] Reference12Ideal.Gen.bcast_S128x8x2x64_S128x8x1x2x64_0_1_3_4
        (shapeCast Reference12Ideal.S128x8x2x64 (extractStridedSlice Reference12Ideal.S128x8x1x2x64 ![0, 0, 2, 0, 0]
          (shapeCast Reference12Ideal.S128x8x3x2x64 k Reference12Ideal.Gen.shapeCasts_S128x8x384_S128x8x3x2x64)
          Reference12Ideal.Gen.slices_S128x8x3x2x64_S128x8x1x2x64_0_0_2_0_0) Reference12Ideal.Gen.shapeCasts_S128x8x1x2x64_S128x8x2x64)⟩,
       ⟨Reference12Ideal.S128x8x1x2x64, broadcastInDim Reference12Ideal.S128x8x1x2x64 ![0, 1, 3, 4] Reference12Ideal.Gen.bcast_S128x8x2x64_S128x8x1x2x64_0_1_3_4
        (shapeCast Reference12Ideal.S128x8x2x64 (extractStridedSlice Reference12Ideal.S128x8x1x2x64 ![0, 0, 2, 0, 0]
          (shapeCast Reference12Ideal.S128x8x3x2x64 v Reference12Ideal.Gen.shapeCasts_S128x8x384_S128x8x3x2x64)
          Reference12Ideal.Gen.slices_S128x8x3x2x64_S128x8x1x2x64_0_0_2_0_0) Reference12Ideal.Gen.shapeCasts_S128x8x1x2x64_S128x8x2x64)⟩]
      Reference12Ideal.Gen.concatenates_S128x8x1x2x64_S128x8x1x2x64_S128x8x2x2x64_d2⟩]
    Reference12Ideal.Gen.concatenates_S128x2048x2x2x64_S128x8x2x2x64_S128x2056x2x2x64_d1) Reference12Ideal.Gen.slices_S128x2056x2x2x64_S128x2048x2x2x64_0_8_0_0_0

theorem joined_eq (k v : FVec Ideal S128x8x384 .f32) (s : FVec Ideal S128x2048x2x2x64 .f32) : turnedBack (full k v s) = joined k v s := by
  funext y
  idx_vars y
  refine Eq.trans ?_ ((cell 256 (by omega) (fun l p h d => s (ix5 y0 l p h d)) (fun i l => k (ix3 y0 i l)) (fun i l => v (ix3 y0 i l)) y1 y2 y3 y4).trans ?_)
  · pointwise [turnedBack, full]
  · pointwise [joined]

end Cert.Kernel12Ideal.Win
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Final
public import proofs.«01_k».proof.Proof.Tail2
public import proofs.«01_k».proof.Proof.Finite
public import proofs.«01_k».proof.Proof.Final3
public import proofs.«01_k».proof.Proof.Final4
public import proofs.«01_k».proof.Proof.Final6
public import proofs.«01_k».proof.Proof.Final7
public import proofs.«01_k».proof.Proof.Final9
public import proofs.«01_k».proof.Proof.Gen.Kernel7.Frame
public import proofs.«01_k».proof.Proof.Gen.Kernel8.Frame
public import proofs.«01_k».proof.Proof.Gen.Kernel9.Frame
public import proofs.«01_k».proof.Proof.Gen.Kernel5.Frame
public import proofs.«01_k».proof.Proof.Gen.Kernel6.Frame
public import proofs.«01_k».proof.Proof.Gen.Kernel3.Frame
public import proofs.«01_k».proof.Proof.Gen.Kernel4.Frame
public import proofs.«01_k».proof.Proof.Gen.Kernel2.Frame
public import proofs.«01_k».proof.Proof.Win10
public import proofs.«01_k».proof.Proof.Gen.Kernel10.Frame
public import proofs.«01_k».proof.Proof.Win11
public import proofs.«01_k».proof.Proof.Gen.Kernel11.Frame
public import proofs.«01_k».proof.Proof.Win12
public import proofs.«01_k».proof.Proof.Gen.Kernel12.Frame
public import Idealize.ShloMosaic.Lib.Claim
public import Idealize.ShloMosaic.Adequacy
public import Idealize.ShloMosaic.Init

@[expose] public section

noncomputable section

namespace Cert.Proof

open Idealize.ShloMosaic Idealize.SL.Sem Cert.Kernel

theorem quiescent_ri [Cert.ReferenceIdeal.Facts] : Cert.quiescent_ReferenceIdeal := fun m g _ =>
  (θ_run _ _ _).mono (fun r h => ⟨fun c => (h c).2.2.2.2.2, sem_eq_zero_of_no_sems rfl r.2⟩)
    (Cert.ReferenceIdeal.Value.run m g)

theorem algebraic : Cert.algebraic_KernelIdeal_ReferenceIdeal := by
  pair_intro
  · run_from Cert.KernelIdeal.Gen.run_main m g
  · refine (θ_run _ _ _).mono (fun r h c => ?_) (Cert.ReferenceIdeal.Value.run m' g')
    obtain ⟨h0, h1, h2, h3, h4, ha⟩ := h c
    obtain ⟨e0, e1, e2⟩ := hagree c
    refine ⟨h0.trans ?_, h1.trans ?_, h2.trans ?_, h3.trans ?_, h4.trans ?_, ha⟩
    · exact ((Cert.ReferenceIdeal.At.out0 m' c).trans (by rw [e0, e1, e2])).trans (Cert.KernelIdeal.Final.final8 m c).symm
    · exact ((Cert.ReferenceIdeal.At.out1 m' c).trans (by rw [e0, e1, e2])).trans (Cert.KernelIdeal.Final.final9 m c).symm
    · exact ((Cert.ReferenceIdeal.At.out2 m' c).trans (by rw [e0, e1, e2])).trans (Cert.KernelIdeal.Final.final10 m c).symm
    · exact ((Cert.ReferenceIdeal.At.out3 m' c).trans (by rw [e0, e1, e2])).trans (Cert.KernelIdeal.Final.final11 m c).symm
    · exact ((Cert.ReferenceIdeal.At.out4 m' c).trans (by rw [e0, e1])).trans (Cert.KernelIdeal.Final.final12 m c).symm

theorem quiescent_ri2 : Cert.quiescent_Reference2Ideal := fun m g _ =>
  (θ_run _ _ _).mono (fun r h => ⟨fun c => (h c).2.2.2.2.2.2.2, sem_eq_zero_of_no_sems rfl r.2⟩)
    (Cert.Reference2Ideal.Value.run m g)

theorem algebraic2 : Cert.algebraic_Kernel2Ideal_Reference2Ideal_pre_finite_weights := by
  intro m g m' g' hpre hagree
  have hf c := Cert.Pre_finite_weights.fins _ _ _ _ _ (hpre c)
  refine ⟨fun c => Cert.Reference2Ideal.At.qrows (Cert.Reference2Ideal.At.qnorm (Cert.Reference2Ideal.At.qheads
      (Cert.Reference2Ideal.At.cols (Cert.Kernel2Ideal.Final.x m c) (Cert.Kernel2Ideal.Final.g m c) (Cert.Kernel2Ideal.Final.w m c)))
      (Cert.Kernel2Ideal.Final.qg m c)),
    fun c => Cert.Reference2Ideal.At.krows (Cert.Kernel2Ideal.Final.keys m c),
    fun c => Cert.Reference2Ideal.At.krows (Cert.Kernel2Ideal.Final.vals m c),
    fun c => Cert.Reference2Ideal.At.gates
      (Cert.Reference2Ideal.At.cols (Cert.Kernel2Ideal.Final.x m c) (Cert.Kernel2Ideal.Final.g m c) (Cert.Kernel2Ideal.Final.w m c)),
    fun c => Cert.Reference2Ideal.At.win0 (Cert.Kernel2Ideal.Final.keys m c) (Cert.Kernel2Ideal.Final.vals m c),
    fun c => Cert.Reference2Ideal.At.win1 (Cert.Kernel2Ideal.Final.keys m c) (Cert.Kernel2Ideal.Final.vals m c),
    fun c => Cert.Reference2Ideal.At.win2 (Cert.Kernel2Ideal.Final.keys m c) (Cert.Kernel2Ideal.Final.vals m c),
    (θ_run _ _ _).mono (fun r h c => ?_) (θ_run_and (Cert.Kernel2Ideal.Final.run m (fun c => (hf c).1) (fun c => (hf c).2) g)
      (Cert.Kernel2Ideal.Gen.unchanged m g)),
    (θ_run _ _ _).mono (fun r h c => ?_) (Cert.Reference2Ideal.At.run m' g')⟩
  · obtain ⟨h0, h1, h2, h3, h4, h5, h6⟩ := h.1 c
    exact ⟨h0, h1, h2, h3, h4, h5, h6, h.2 c⟩
  · obtain ⟨h0, h1, h2, h3, h4, h5, h6, ha⟩ := h c
    obtain ⟨e0, e1, e2, e3, e4⟩ := hagree c
    have e0 : Cert.Reference2Ideal.At.x m' c = Cert.Kernel2Ideal.Final.x m c := e0
    have e1 : Cert.Reference2Ideal.At.g m' c = Cert.Kernel2Ideal.Final.g m c := e1
    have e2 : Cert.Reference2Ideal.At.w m' c = Cert.Kernel2Ideal.Final.w m c := e2
    have e3 : Cert.Reference2Ideal.At.qg m' c = Cert.Kernel2Ideal.Final.qg m c := e3
    have e4 : Cert.Reference2Ideal.At.kg m' c = Cert.Kernel2Ideal.Final.kg m c := e4
    rw [e0, e1, e2, e3] at h0
    rw [e0, e1, e2, e4] at h1 h4 h5 h6
    rw [e0, e1, e2] at h2 h3
    exact ⟨h0, h1, h2, h3, h4, h5, h6, ha⟩

theorem quiescent_ri3 : Cert.quiescent_Reference3Ideal := fun m g _ =>
  (θ_run _ _ _).mono (fun r h => ⟨fun c => (h c).2, sem_eq_zero_of_no_sems rfl r.2⟩) (Cert.Reference3Ideal.Value.run m g)

theorem algebraic3 : Cert.algebraic_Kernel3Ideal_Reference3Ideal := by
  intro m g m' g' _ hagree
  refine ⟨fun c => Cert.Reference3Ideal.At.merged (Cert.Kernel3Ideal.Final.a m c) (Cert.Kernel3Ideal.Final.l m c)
      (Cert.Kernel3Ideal.Final.s m c) (Cert.Kernel3Ideal.Final.x m c) (Cert.Kernel3Ideal.Final.w m c),
    (θ_run _ _ _).mono (fun r h c => ⟨(h.1.out_eq c 18).trans (Cert.Kernel3Ideal.Final.final18 m c), h.2 c⟩)
      (θ_run_and (Cert.Kernel3Ideal.Gen.run_main m g) (Cert.Kernel3Ideal.Gen.unchanged m g)),
    (θ_run _ _ _).mono (fun r h c => ⟨(h c).1.trans ((Cert.Reference3Ideal.At.out0 m' c).trans ?_), (h c).2⟩)
      (Cert.Reference3Ideal.Value.run m' g')⟩
  obtain ⟨e0, e1, e2, e3, e4, e5, e6, e7, e8, e9, e10, e11, e12, e13, e14, e15, e16, e17⟩ := hagree c
  rw [e0, e1, e2, e3, e4, e5, e6, e7, e8, e9, e10, e11, e12, e13, e14, e15, e16, e17]

theorem quiescent_ri4 : Cert.quiescent_Reference4Ideal := fun m g _ =>
  (θ_run _ _ _).mono (fun r h => ⟨fun c => (h c).2, sem_eq_zero_of_no_sems rfl r.2⟩) (Cert.Reference4Ideal.Value.run m g)

theorem algebraic4 : Cert.algebraic_Kernel4Ideal_Reference4Ideal := by
  pair_intro
  · run_from Cert.Kernel4Ideal.Gen.run_main m g
  · refine (θ_run _ _ _).mono (fun r h c => ?_) (Cert.Reference4Ideal.Value.run m' g')
    obtain ⟨h0, ha⟩ := h c
    obtain ⟨e0, e1, e2, e3⟩ := hagree c
    refine ⟨h0.trans (Eq.trans ?_ (Cert.Kernel4Ideal.Final.final4 m c).symm), ha⟩
    rw [e0, e1, e2, e3]
    rfl

theorem quiescent_ri5 : Cert.quiescent_Reference5Ideal := fun m g _ =>
  (θ_run _ _ _).mono (fun r h => ⟨fun c => (h c).2.2.2.2.2, sem_eq_zero_of_no_sems rfl r.2⟩) (Cert.Reference5Ideal.Value.run m g)

theorem algebraic5 : Cert.algebraic_Kernel5Ideal_Reference5Ideal_pre_finite_weights5 := by
  intro m g m' g' hpre hagree
  have hf c := Cert.Pre_finite_weights5.fins _ _ _ _ _ (hpre c)
  refine ⟨fun c => Cert.Kernel5Ideal.Final.qres m c, fun c => Cert.Reference5Ideal.At.krows (Cert.Kernel5Ideal.Final.kres m c),
    fun c => Cert.Reference5Ideal.At.vrows (Cert.Reference5Ideal.At.vof (Cert.Kernel5Ideal.Final.z m c)),
    fun c => Cert.Reference5Ideal.At.gates (Cert.Reference5Ideal.At.gof (Cert.Kernel5Ideal.Final.z m c)),
    fun c => Cert.Reference5Ideal.At.kmean (Cert.Kernel5Ideal.Final.kres m c),
    (θ_run _ _ _).mono (fun r h c => ⟨(h.1.out_eq c 7).trans (Cert.Kernel5Ideal.Final.final7 m c (hf c).1 (hf c).2),
        (h.1.out_eq c 8).trans (Cert.Kernel5Ideal.Final.final8 m c (hf c).1 (hf c).2),
        (h.1.out_eq c 9).trans (Cert.Kernel5Ideal.Final.final9 m c (hf c).1 (hf c).2),
        (h.1.out_eq c 12).trans (Cert.Kernel5Ideal.Final.final12 m c (hf c).1 (hf c).2),
        (h.1.out_eq c 13).trans (Cert.Kernel5Ideal.Final.final13 m c (hf c).1 (hf c).2), h.2 c⟩)
      (θ_run_and (Cert.Kernel5Ideal.Gen.run_main m g) (Cert.Kernel5Ideal.Gen.unchanged m g)),
    (θ_run _ _ _).mono (fun r h c => ?_) (Cert.Reference5Ideal.At.run m' g')⟩
  obtain ⟨h0, h1, h2, h3, h4, ha⟩ := h c
  obtain ⟨e0, e1, e2, e3, e4⟩ := hagree c
  have e0 : Cert.Reference5Ideal.At.x m' c = Cert.Kernel5Ideal.Final.x m c := e0
  have e1 : Cert.Reference5Ideal.At.g m' c = Cert.Kernel5Ideal.Final.g m c := e1
  have e2 : Cert.Reference5Ideal.At.w m' c = Cert.Kernel5Ideal.Final.w m c := e2
  have e3 : Cert.Reference5Ideal.At.qg m' c = Cert.Kernel5Ideal.Final.qg m c := e3
  have e4 : Cert.Reference5Ideal.At.kg m' c = Cert.Kernel5Ideal.Final.kg m c := e4
  rw [e0, e1, e2, e3] at h0
  rw [e0, e1, e2, e4] at h1 h4
  rw [e0, e1, e2] at h2 h3
  exact ⟨h0, h1, h2, h3, h4, ha⟩

theorem quiescent_ri6 : Cert.quiescent_Reference6Ideal := fun m g _ =>
  (θ_run _ _ _).mono (fun r h => ⟨fun c => (h c).2.2.2.2.2.2.2, sem_eq_zero_of_no_sems rfl r.2⟩) (Cert.Reference6Ideal.Value.run m g)

theorem algebraic6 : Cert.algebraic_Kernel6Ideal_Reference6Ideal_pre_finite_weights6 := by
  intro m g m' g' hpre hagree
  have hf c := Cert.Pre_finite_weights6.fins _ _ _ _ _ (hpre c)
  refine ⟨fun c => Cert.Kernel6Ideal.Final.qres m c, fun c => Cert.Reference5Ideal.At.krows (Cert.Kernel6Ideal.Final.kres m c),
    fun c => Cert.Reference5Ideal.At.vrows (Cert.Reference6Ideal.At.vof (Cert.Kernel6Ideal.Final.z m c)),
    fun c => Cert.Reference5Ideal.At.gates (Cert.Reference6Ideal.At.gof (Cert.Kernel6Ideal.Final.z m c)),
    fun c => Cert.Reference6Ideal.At.irows (Cert.Reference6Ideal.At.iturn (Cert.Reference6Ideal.At.iheads
      (Cert.Reference6Ideal.At.iqof (Cert.Reference6Ideal.At.iof (Cert.Kernel6Ideal.Final.z m c))))),
    fun c => Cert.Reference6Ideal.At.ikturn (Cert.Reference6Ideal.At.ikof (Cert.Reference6Ideal.At.iof (Cert.Kernel6Ideal.Final.z m c))),
    fun c => Cert.Reference6Ideal.At.iwrows (Cert.Reference6Ideal.At.iof (Cert.Kernel6Ideal.Final.z m c)),
    (θ_run _ _ _).mono (fun r h c => ?_) (θ_run_and (Cert.Kernel6Ideal.Final.run m (fun c => (hf c).1) (fun c => (hf c).2) g)
      (Cert.Kernel6Ideal.Gen.unchanged m g)),
    (θ_run _ _ _).mono (fun r h c => ?_) (Cert.Reference6Ideal.At.run m' g')⟩
  · obtain ⟨h0, h1, h2, h3, h4, h5, h6⟩ := h.1 c
    exact ⟨h0, h1, h2, h3, h4, h5, h6, h.2 c⟩
  · obtain ⟨h0, h1, h2, h3, h4, h5, h6, ha⟩ := h c
    obtain ⟨e0, e1, e2, e3, e4⟩ := hagree c
    have ez : Cert.Reference6Ideal.At.z m' c = Cert.Kernel6Ideal.Final.z m c := by
      have e0 : Cert.Reference6Ideal.At.x m' c = Cert.Kernel6Ideal.Final.x m c := e0
      have e1 : Cert.Reference6Ideal.At.g m' c = Cert.Kernel6Ideal.Final.g m c := e1
      have e2 : Cert.Reference6Ideal.At.w m' c = Cert.Kernel6Ideal.Final.w m c := e2
      show Cert.Reference6Ideal.At.cols _ _ _ = _
      rw [e0, e1, e2]
    have e3 : Cert.Reference6Ideal.At.qg m' c = Cert.Kernel6Ideal.Final.qg m c := e3
    have e4 : Cert.Reference6Ideal.At.kg m' c = Cert.Kernel6Ideal.Final.kg m c := e4
    rw [ez, e3] at h0
    rw [ez, e4] at h1
    rw [ez] at h2 h3 h4 h5 h6
    exact ⟨h0, h1, h2, h3, h4, h5, h6, ha⟩

theorem quiescent_ri7 : Cert.quiescent_Reference7Ideal := fun m g _ =>
  (θ_run _ _ _).mono (fun r h => ⟨fun c => (h c).2, sem_eq_zero_of_no_sems rfl r.2⟩) (Cert.Reference7Ideal.Value.run m g)

theorem algebraic7 : Cert.algebraic_Kernel7Ideal_Reference7Ideal := by
  intro m g m' g' _ hagree
  refine ⟨fun c => Cert.Reference7Ideal.At.merged (Cert.Kernel7Ideal.Final.a m c) (Cert.Kernel7Ideal.Final.l m c)
      (Cert.Kernel7Ideal.Final.s m c) (Cert.Kernel7Ideal.Final.x m c) (Cert.Kernel7Ideal.Final.w m c),
    (θ_run _ _ _).mono (fun r h c => ⟨(h.1.out_eq c 18).trans (Cert.Kernel7Ideal.Final.final18 m c), h.2 c⟩)
      (θ_run_and (Cert.Kernel7Ideal.Gen.run_main m g) (Cert.Kernel7Ideal.Gen.unchanged m g)),
    (θ_run _ _ _).mono (fun r h c => ⟨(h c).1.trans ((Cert.Reference7Ideal.At.out0 m' c).trans ?_), (h c).2⟩)
      (Cert.Reference7Ideal.Value.run m' g')⟩
  obtain ⟨e0, e1, e2, e3, e4, e5, e6, e7, e8, e9, e10, e11, e12, e13, e14, e15, e16, e17⟩ := hagree c
  rw [e0, e1, e2, e3, e4, e5, e6, e7, e8, e9, e10, e11, e12, e13, e14, e15, e16, e17]

theorem quiescent_ri8 : Cert.quiescent_Reference8Ideal := fun m g _ =>
  (θ_run _ _ _).mono (fun r h => ⟨fun c => (h c).2.2.2.2, sem_eq_zero_of_no_sems rfl r.2⟩) (Cert.Reference8Ideal.Value.run m g)

theorem algebraic8 : Cert.algebraic_Kernel8Ideal_Reference8Ideal_pre_finite_weights8 := by
  intro m g m' g' hpre hagree
  have hf c := Cert.Pre_finite_weights8.fins _ _ _ _ _ (hpre c)
  refine ⟨fun c => Cert.Kernel8Ideal.Final.qres m c, fun c => Cert.Reference8Ideal.At.krows (Cert.Kernel8Ideal.Final.kres m c),
    fun c => Cert.Reference8Ideal.At.vrows (Cert.Reference8Ideal.At.vof (Cert.Kernel8Ideal.Final.z m c)),
    fun c => Cert.Reference8Ideal.At.gates (Cert.Reference8Ideal.At.gof (Cert.Kernel8Ideal.Final.z m c)),
    (θ_run _ _ _).mono (fun r h c => ⟨(h.1.out_eq c 7).trans (Cert.Kernel8Ideal.Final.final7 m c (hf c).1 (hf c).2),
        (h.1.out_eq c 8).trans (Cert.Kernel8Ideal.Final.final8 m c (hf c).1 (hf c).2),
        (h.1.out_eq c 9).trans (Cert.Kernel8Ideal.Final.final9 m c (hf c).1 (hf c).2),
        (h.1.out_eq c 12).trans (Cert.Kernel8Ideal.Final.final12 m c (hf c).1 (hf c).2), h.2 c⟩)
      (θ_run_and (Cert.Kernel8Ideal.Gen.run_main m g) (Cert.Kernel8Ideal.Gen.unchanged m g)),
    (θ_run _ _ _).mono (fun r h c => ?_) (Cert.Reference8Ideal.At.run m' g')⟩
  obtain ⟨h0, h1, h2, h3, ha⟩ := h c
  obtain ⟨e0, e1, e2, e3, e4⟩ := hagree c
  have e0 : Cert.Reference8Ideal.At.x m' c = Cert.Kernel8Ideal.Final.x m c := e0
  have e1 : Cert.Reference8Ideal.At.g m' c = Cert.Kernel8Ideal.Final.g m c := e1
  have e2 : Cert.Reference8Ideal.At.w m' c = Cert.Kernel8Ideal.Final.w m c := e2
  have e3 : Cert.Reference8Ideal.At.qg m' c = Cert.Kernel8Ideal.Final.qg m c := e3
  have e4 : Cert.Reference8Ideal.At.kg m' c = Cert.Kernel8Ideal.Final.kg m c := e4
  rw [e0, e1, e2, e3] at h0
  rw [e0, e1, e2, e4] at h1
  rw [e0, e1, e2] at h2 h3
  exact ⟨h0, h1, h2, h3, ha⟩

theorem quiescent_ri9 : Cert.quiescent_Reference9Ideal := fun m g _ =>
  (θ_run _ _ _).mono (fun r h => ⟨fun c => (h c).2.2.2.2.2.2.2, sem_eq_zero_of_no_sems rfl r.2⟩) (Cert.Reference9Ideal.Value.run m g)

theorem algebraic9 : Cert.algebraic_Kernel9Ideal_Reference9Ideal_pre_finite_weights9 := by
  intro m g m' g' hpre hagree
  have hf c := Cert.Pre_finite_weights9.fins _ _ _ _ _ (hpre c)
  refine ⟨fun c => Cert.Kernel9Ideal.Final.qres m c, fun c => Cert.Reference8Ideal.At.krows (Cert.Kernel9Ideal.Final.kres m c),
    fun c => Cert.Reference8Ideal.At.vrows (Cert.Reference9Ideal.At.vof (Cert.Kernel9Ideal.Final.z m c)),
    fun c => Cert.Reference8Ideal.At.gates (Cert.Reference9Ideal.At.gof (Cert.Kernel9Ideal.Final.z m c)),
    fun c => Cert.Reference9Ideal.At.irows (Cert.Reference9Ideal.At.iturn (Cert.Reference9Ideal.At.iheads
      (Cert.Reference9Ideal.At.iqof (Cert.Reference9Ideal.At.iof (Cert.Kernel9Ideal.Final.z m c))))),
    fun c => Cert.Reference9Ideal.At.ikturn (Cert.Reference9Ideal.At.ikof (Cert.Reference9Ideal.At.iof (Cert.Kernel9Ideal.Final.z m c))),
    fun c => Cert.Reference9Ideal.At.iwrows (Cert.Reference9Ideal.At.iof (Cert.Kernel9Ideal.Final.z m c)),
    (θ_run _ _ _).mono (fun r h c => ?_) (θ_run_and (Cert.Kernel9Ideal.Final.run m (fun c => (hf c).1) (fun c => (hf c).2) g)
      (Cert.Kernel9Ideal.Gen.unchanged m g)),
    (θ_run _ _ _).mono (fun r h c => ?_) (Cert.Reference9Ideal.At.run m' g')⟩
  · obtain ⟨h0, h1, h2, h3, h4, h5, h6⟩ := h.1 c
    exact ⟨h0, h1, h2, h3, h4, h5, h6, h.2 c⟩
  · obtain ⟨h0, h1, h2, h3, h4, h5, h6, ha⟩ := h c
    obtain ⟨e0, e1, e2, e3, e4⟩ := hagree c
    have ez : Cert.Reference9Ideal.At.z m' c = Cert.Kernel9Ideal.Final.z m c := by
      have e0 : Cert.Reference9Ideal.At.x m' c = Cert.Kernel9Ideal.Final.x m c := e0
      have e1 : Cert.Reference9Ideal.At.g m' c = Cert.Kernel9Ideal.Final.g m c := e1
      have e2 : Cert.Reference9Ideal.At.w m' c = Cert.Kernel9Ideal.Final.w m c := e2
      show Cert.Reference9Ideal.At.cols _ _ _ = _
      rw [e0, e1, e2]
    have e3 : Cert.Reference9Ideal.At.qg m' c = Cert.Kernel9Ideal.Final.qg m c := e3
    have e4 : Cert.Reference9Ideal.At.kg m' c = Cert.Kernel9Ideal.Final.kg m c := e4
    rw [ez, e3] at h0
    rw [ez, e4] at h1
    rw [ez] at h2 h3 h4 h5 h6
    exact ⟨h0, h1, h2, h3, h4, h5, h6, ha⟩

theorem quiescent_ri10 : Cert.quiescent_Reference10Ideal := fun m g _ =>
  (θ_run _ _ _).mono (fun r h => ⟨fun c => (h c).2, sem_eq_zero_of_no_sems rfl r.2⟩) (Cert.Reference10Ideal.Value.run m g)

theorem algebraic10 : Cert.algebraic_Kernel10Ideal_Reference10Ideal := by
  intro m g m' g' _ hagree
  refine ⟨fun c => Cert.Kernel10Ideal.Win.joined (Cert.Kernel10Ideal.Win.kn m c) (Cert.Kernel10Ideal.Win.vn m c) (Cert.Kernel10Ideal.Win.st m c),
    (θ_run _ _ _).mono (fun r h c => ⟨(h.1 c).trans (Cert.Kernel10Ideal.Win.joined_eq _ _ _), h.2 c⟩)
      (θ_run_and (Cert.Kernel10Ideal.Win.run m g) (Cert.Kernel10Ideal.Gen.unchanged m g)),
    (θ_run _ _ _).mono (fun r h c => ⟨(h c).1.trans ?_, (h c).2⟩) (Cert.Reference10Ideal.Value.run m' g')⟩
  obtain ⟨e0, e1, e2, e3⟩ := hagree c
  rw [e1, e2, e3]

theorem quiescent_ri11 : Cert.quiescent_Reference11Ideal := fun m g _ =>
  (θ_run _ _ _).mono (fun r h => ⟨fun c => (h c).2, sem_eq_zero_of_no_sems rfl r.2⟩) (Cert.Reference11Ideal.Value.run m g)

theorem algebraic11 : Cert.algebraic_Kernel11Ideal_Reference11Ideal := by
  intro m g m' g' _ hagree
  refine ⟨fun c => Cert.Kernel11Ideal.Win.joined (Cert.Kernel11Ideal.Win.kn m c) (Cert.Kernel11Ideal.Win.vn m c) (Cert.Kernel11Ideal.Win.st m c),
    (θ_run _ _ _).mono (fun r h c => ⟨(h.1 c).trans (Cert.Kernel11Ideal.Win.joined_eq _ _ _), h.2 c⟩)
      (θ_run_and (Cert.Kernel11Ideal.Win.run m g) (Cert.Kernel11Ideal.Gen.unchanged m g)),
    (θ_run _ _ _).mono (fun r h c => ⟨(h c).1.trans ?_, (h c).2⟩) (Cert.Reference11Ideal.Value.run m' g')⟩
  obtain ⟨e0, e1, e2, e3⟩ := hagree c
  rw [e1, e2, e3]

theorem quiescent_ri12 : Cert.quiescent_Reference12Ideal := fun m g _ =>
  (θ_run _ _ _).mono (fun r h => ⟨fun c => (h c).2, sem_eq_zero_of_no_sems rfl r.2⟩) (Cert.Reference12Ideal.Value.run m g)

theorem algebraic12 : Cert.algebraic_Kernel12Ideal_Reference12Ideal := by
  intro m g m' g' _ hagree
  refine ⟨fun c => Cert.Kernel12Ideal.Win.joined (Cert.Kernel12Ideal.Win.kn m c) (Cert.Kernel12Ideal.Win.vn m c) (Cert.Kernel12Ideal.Win.st m c),
    (θ_run _ _ _).mono (fun r h c => ⟨(h.1 c).trans (Cert.Kernel12Ideal.Win.joined_eq _ _ _), h.2 c⟩)
      (θ_run_and (Cert.Kernel12Ideal.Win.run m g) (Cert.Kernel12Ideal.Gen.unchanged m g)),
    (θ_run _ _ _).mono (fun r h c => ⟨(h c).1.trans ?_, (h c).2⟩) (Cert.Reference12Ideal.Value.run m' g')⟩
  obtain ⟨e0, e1, e2, e3⟩ := hagree c
  rw [e1, e2, e3]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Pre_finite_weights.facts, Cert.Pre_finite_weights5.facts, Cert.Pre_finite_weights6.facts,
  Cert.Pre_finite_weights8.facts, Cert.Pre_finite_weights9.facts,
  fun m ρ _ => Cert.Kernel.Gen.frame m ρ, fun m ρ _ => Cert.KernelIdeal.Gen.frame m ρ, quiescent_ri,
  fun m ρ _ => Cert.Kernel2.Gen.frame m ρ, fun m ρ _ => Cert.Kernel2Ideal.Gen.frame m ρ, fun m ρ _ => Cert.Kernel2Ideal.Gen.frame m ρ,
  quiescent_ri2, fun m ρ _ => quiescent_ri2 m ρ trivial,
  fun m ρ _ => Cert.Kernel3.Gen.frame m ρ, fun m ρ _ => Cert.Kernel3Ideal.Gen.frame m ρ, quiescent_ri3,
  fun m ρ _ => Cert.Kernel4.Gen.frame m ρ, fun m ρ _ => Cert.Kernel4Ideal.Gen.frame m ρ, quiescent_ri4,
  fun m ρ _ => Cert.Kernel5.Gen.frame m ρ, fun m ρ _ => Cert.Kernel5Ideal.Gen.frame m ρ, fun m ρ _ => Cert.Kernel5Ideal.Gen.frame m ρ,
  quiescent_ri5, fun m ρ _ => quiescent_ri5 m ρ trivial,
  fun m ρ _ => Cert.Kernel6.Gen.frame m ρ, fun m ρ _ => Cert.Kernel6Ideal.Gen.frame m ρ, fun m ρ _ => Cert.Kernel6Ideal.Gen.frame m ρ,
  quiescent_ri6, fun m ρ _ => quiescent_ri6 m ρ trivial,
  fun m ρ _ => Cert.Kernel7.Gen.frame m ρ, fun m ρ _ => Cert.Kernel7Ideal.Gen.frame m ρ, quiescent_ri7,
  fun m ρ _ => Cert.Kernel8.Gen.frame m ρ, fun m ρ _ => Cert.Kernel8Ideal.Gen.frame m ρ, fun m ρ _ => Cert.Kernel8Ideal.Gen.frame m ρ,
  quiescent_ri8, fun m ρ _ => quiescent_ri8 m ρ trivial,
  fun m ρ _ => Cert.Kernel9.Gen.frame m ρ, fun m ρ _ => Cert.Kernel9Ideal.Gen.frame m ρ, fun m ρ _ => Cert.Kernel9Ideal.Gen.frame m ρ,
  quiescent_ri9, fun m ρ _ => quiescent_ri9 m ρ trivial,
  fun m ρ _ => Cert.Kernel10.Gen.frame m ρ, fun m ρ _ => Cert.Kernel10Ideal.Gen.frame m ρ, quiescent_ri10,
  fun m ρ _ => Cert.Kernel11.Gen.frame m ρ, fun m ρ _ => Cert.Kernel11Ideal.Gen.frame m ρ, quiescent_ri11,
  fun m ρ _ => Cert.Kernel12.Gen.frame m ρ, fun m ρ _ => Cert.Kernel12Ideal.Gen.frame m ρ, quiescent_ri12,
  trivial, algebraic, trivial, algebraic2, trivial, algebraic3, trivial, algebraic4, trivial, algebraic5, trivial, algebraic6,
  trivial, algebraic7, trivial, algebraic8, trivial, algebraic9,
  trivial, algebraic10, trivial, algebraic11, trivial, algebraic12⟩
end Cert.Proof

end
